-- ==== Defs.lean ====
def Pre_Kernel [hPre_named_states : Cert.Pre_named_states.Facts] (m : (ℓ : Loc Cert.Kernel.nD Cert.Kernel.τ Cert.Kernel.sig) → Buf (Elt Bits) ℓ) : Prop :=
  ∀ c : Dev Cert.Kernel.nD,
    (Cert.Pre_named_states.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_named_states : Cert.Pre_named_states.Facts] (m : (ℓ : Loc Cert.KernelIdeal.nD Cert.KernelIdeal.τ Cert.KernelIdeal.sig) → Buf (Elt Ideal) ℓ) : Prop :=
  ∀ c : Dev Cert.KernelIdeal.nD,
    (Cert.Pre_named_states.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_named_states_finite [hPre_named_states_finite : Cert.Pre_named_states_finite.Facts] (m : (ℓ : Loc Cert.KernelIdeal.nD Cert.KernelIdeal.τ Cert.KernelIdeal.sig) → Buf (Elt Ideal) ℓ) : Prop :=
  ∀ c : Dev Cert.KernelIdeal.nD,
    (Cert.Pre_named_states_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_named_states_finite [hPre_named_states_finite : Cert.Pre_named_states_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_named_states_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsReferenceIdeal (m : (ℓ : Loc Cert.InputsReferenceIdeal.nD Cert.InputsReferenceIdeal.τ Cert.InputsReferenceIdeal.sig) → Buf (Elt Ideal) ℓ) : Prop :=
  True

def Pre_Index (m : (ℓ : Loc Cert.Index.nD Cert.Index.τ Cert.Index.sig) → Buf (Elt Bits) ℓ) : Prop :=
  True

def Pre_IndexIdeal (m : (ℓ : Loc Cert.IndexIdeal.nD Cert.IndexIdeal.τ Cert.IndexIdeal.sig) → Buf (Elt Ideal) ℓ) : Prop :=
  True

def Pre_IndexIdeal_finite_inputs [hPre_finite_inputs : Cert.Pre_finite_inputs.Facts] (m : (ℓ : Loc Cert.IndexIdeal.nD Cert.IndexIdeal.τ Cert.IndexIdeal.sig) → Buf (Elt Ideal) ℓ) : Prop :=
  ∀ c : Dev Cert.IndexIdeal.nD,
    (Cert.Pre_finite_inputs.fn (F := Ideal) (m ((c.tc : Thread Cert.IndexIdeal.nD Cert.IndexIdeal.τ).loc Cert.IndexIdeal.main_arg0)) (m ((c.tc : Thread Cert.IndexIdeal.nD Cert.IndexIdeal.τ).loc Cert.IndexIdeal.main_arg1)) (m ((c.tc : Thread Cert.IndexIdeal.nD Cert.IndexIdeal.τ).loc Cert.IndexIdeal.main_arg2)) (m ((c.tc : Thread Cert.IndexIdeal.nD Cert.IndexIdeal.τ).loc Cert.IndexIdeal.main_arg3)) (m ((c.tc : Thread Cert.IndexIdeal.nD Cert.IndexIdeal.τ).loc Cert.IndexIdeal.main_arg4)) (m ((c.tc : Thread Cert.IndexIdeal.nD Cert.IndexIdeal.τ).loc Cert.IndexIdeal.main_arg5)) (m ((c.tc : Thread Cert.IndexIdeal.nD Cert.IndexIdeal.τ).loc Cert.IndexIdeal.main_arg6)) (m ((c.tc : Thread Cert.IndexIdeal.nD Cert.IndexIdeal.τ).loc Cert.IndexIdeal.main_arg7)) (m ((c.tc : Thread Cert.IndexIdeal.nD Cert.IndexIdeal.τ).loc Cert.IndexIdeal.main_arg8))) = (fun _ => 1#1)

def Pre_IndexReferenceIdeal (m : (ℓ : Loc Cert.IndexReferenceIdeal.nD Cert.IndexReferenceIdeal.τ Cert.IndexReferenceIdeal.sig) → Buf (Elt Ideal) ℓ) : Prop :=
  True

def Pre_IndexReferenceIdeal_finite_inputs [hPre_finite_inputs : Cert.Pre_finite_inputs.Facts] (m : (ℓ : Loc Cert.IndexReferenceIdeal.nD Cert.IndexReferenceIdeal.τ Cert.IndexReferenceIdeal.sig) → Buf (Elt Ideal) ℓ) : Prop :=
  ∀ c : Dev Cert.IndexReferenceIdeal.nD,
    (Cert.Pre_finite_inputs.fn (F := Ideal) (m ((c.tc : Thread Cert.IndexReferenceIdeal.nD Cert.IndexReferenceIdeal.τ).loc Cert.IndexReferenceIdeal.main_arg0)) (m ((c.tc : Thread Cert.IndexReferenceIdeal.nD Cert.IndexReferenceIdeal.τ).loc Cert.IndexReferenceIdeal.main_arg1)) (m ((c.tc : Thread Cert.IndexReferenceIdeal.nD Cert.IndexReferenceIdeal.τ).loc Cert.IndexReferenceIdeal.main_arg2)) (m ((c.tc : Thread Cert.IndexReferenceIdeal.nD Cert.IndexReferenceIdeal.τ).loc Cert.IndexReferenceIdeal.main_arg3)) (m ((c.tc : Thread Cert.IndexReferenceIdeal.nD Cert.IndexReferenceIdeal.τ).loc Cert.IndexReferenceIdeal.main_arg4)) (m ((c.tc : Thread Cert.IndexReferenceIdeal.nD Cert.IndexReferenceIdeal.τ).loc Cert.IndexReferenceIdeal.main_arg5)) (m ((c.tc : Thread Cert.IndexReferenceIdeal.nD Cert.IndexReferenceIdeal.τ).loc Cert.IndexReferenceIdeal.main_arg6)) (m ((c.tc : Thread Cert.IndexReferenceIdeal.nD Cert.IndexReferenceIdeal.τ).loc Cert.IndexReferenceIdeal.main_arg7)) (m ((c.tc : Thread Cert.IndexReferenceIdeal.nD Cert.IndexReferenceIdeal.τ).loc Cert.IndexReferenceIdeal.main_arg8))) = (fun _ => 1#1)

def quiescent_Kernel [hKernel : Cert.Kernel.Facts] [hPre_named_states : Cert.Pre_named_states.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_named_states : Cert.Pre_named_states.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_named_states_finite [hKernelIdeal : Cert.KernelIdeal.Facts] [hPre_named_states_finite : Cert.Pre_named_states_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_named_states_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_named_states_finite [hReferenceIdeal : Cert.ReferenceIdeal.Facts] [hPre_named_states_finite : Cert.Pre_named_states_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_named_states_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1)
      ∧ r.2.mem ((c.tc : Thread Cert.Inputs.nD Cert.Inputs.τ).loc Cert.Inputs.main_arg2) = m ((c.tc : Thread Cert.Inputs.nD Cert.Inputs.τ).loc Cert.Inputs.main_arg2)
      ∧ r.2.mem ((c.tc : Thread Cert.Inputs.nD Cert.Inputs.τ).loc Cert.Inputs.main_arg3) = m ((c.tc : Thread Cert.Inputs.nD Cert.Inputs.τ).loc Cert.Inputs.main_arg3)
      ∧ r.2.mem ((c.tc : Thread Cert.Inputs.nD Cert.Inputs.τ).loc Cert.Inputs.main_arg4) = m ((c.tc : Thread Cert.Inputs.nD Cert.Inputs.τ).loc Cert.Inputs.main_arg4)
      ∧ r.2.mem ((c.tc : Thread Cert.Inputs.nD Cert.Inputs.τ).loc Cert.Inputs.main_arg5) = m ((c.tc : Thread Cert.Inputs.nD Cert.Inputs.τ).loc Cert.Inputs.main_arg5)
      ∧ r.2.mem ((c.tc : Thread Cert.Inputs.nD Cert.Inputs.τ).loc Cert.Inputs.main_arg6) = m ((c.tc : Thread Cert.Inputs.nD Cert.Inputs.τ).loc Cert.Inputs.main_arg6)
      ∧ r.2.mem ((c.tc : Thread Cert.Inputs.nD Cert.Inputs.τ).loc Cert.Inputs.main_arg7) = m ((c.tc : Thread Cert.Inputs.nD Cert.Inputs.τ).loc Cert.Inputs.main_arg7)
      ∧ r.2.mem ((c.tc : Thread Cert.Inputs.nD Cert.Inputs.τ).loc Cert.Inputs.main_arg8) = m ((c.tc : Thread Cert.Inputs.nD Cert.Inputs.τ).loc Cert.Inputs.main_arg8))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
      ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
      ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
      ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
      ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
      ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
      ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8))
      ∧ r.2.sem = fun _ => 0)

def quiescent_InputsReferenceIdeal [hInputsReferenceIdeal : Cert.InputsReferenceIdeal.Facts] : Prop :=
  ∀ (m : (ℓ : Loc Cert.InputsReferenceIdeal.nD Cert.InputsReferenceIdeal.τ Cert.InputsReferenceIdeal.sig) → Buf (Elt Ideal) ℓ) (g : Dev Cert.InputsReferenceIdeal.nD → PrngReg), Pre_InputsReferenceIdeal m →
    θ_run (Cert.InputsReferenceIdeal.defs (F := Ideal)) (onTc (τ := Cert.InputsReferenceIdeal.τ) (Cert.InputsReferenceIdeal.main (F := Ideal))) ⟨m, fun _ => 0, g⟩ (fun r => (∀ c : Dev Cert.InputsReferenceIdeal.nD,
      r.2.mem ((c.tc : Thread Cert.InputsReferenceIdeal.nD Cert.InputsReferenceIdeal.τ).loc Cert.InputsReferenceIdeal.main_arg0) = m ((c.tc : Thread Cert.InputsReferenceIdeal.nD Cert.InputsReferenceIdeal.τ).loc Cert.InputsReferenceIdeal.main_arg0)
      ∧ r.2.mem ((c.tc : Thread Cert.InputsReferenceIdeal.nD Cert.InputsReferenceIdeal.τ).loc Cert.InputsReferenceIdeal.main_arg1) = m ((c.tc : Thread Cert.InputsReferenceIdeal.nD Cert.InputsReferenceIdeal.τ).loc Cert.InputsReferenceIdeal.main_arg1)
      ∧ r.2.mem ((c.tc : Thread Cert.InputsReferenceIdeal.nD Cert.InputsReferenceIdeal.τ).loc Cert.InputsReferenceIdeal.main_arg2) = m ((c.tc : Thread Cert.InputsReferenceIdeal.nD Cert.InputsReferenceIdeal.τ).loc Cert.InputsReferenceIdeal.main_arg2)
      ∧ r.2.mem ((c.tc : Thread Cert.InputsReferenceIdeal.nD Cert.InputsReferenceIdeal.τ).loc Cert.InputsReferenceIdeal.main_arg3) = m ((c.tc : Thread Cert.InputsReferenceIdeal.nD Cert.InputsReferenceIdeal.τ).loc Cert.InputsReferenceIdeal.main_arg3)
      ∧ r.2.mem ((c.tc : Thread Cert.InputsReferenceIdeal.nD Cert.InputsReferenceIdeal.τ).loc Cert.InputsReferenceIdeal.main_arg4) = m ((c.tc : Thread Cert.InputsReferenceIdeal.nD Cert.InputsReferenceIdeal.τ).loc Cert.InputsReferenceIdeal.main_arg4)
      ∧ r.2.mem ((c.tc : Thread Cert.InputsReferenceIdeal.nD Cert.InputsReferenceIdeal.τ).loc Cert.InputsReferenceIdeal.main_arg5) = m ((c.tc : Thread Cert.InputsReferenceIdeal.nD Cert.InputsReferenceIdeal.τ).loc Cert.InputsReferenceIdeal.main_arg5)
      ∧ r.2.mem ((c.tc : Thread Cert.InputsReferenceIdeal.nD Cert.InputsReferenceIdeal.τ).loc Cert.InputsReferenceIdeal.main_arg6) = m ((c.tc : Thread Cert.InputsReferenceIdeal.nD Cert.InputsReferenceIdeal.τ).loc Cert.InputsReferenceIdeal.main_arg6)
      ∧ r.2.mem ((c.tc : Thread Cert.InputsReferenceIdeal.nD Cert.InputsReferenceIdeal.τ).loc Cert.InputsReferenceIdeal.main_arg7) = m ((c.tc : Thread Cert.InputsReferenceIdeal.nD Cert.InputsReferenceIdeal.τ).loc Cert.InputsReferenceIdeal.main_arg7)
      ∧ r.2.mem ((c.tc : Thread Cert.InputsReferenceIdeal.nD Cert.InputsReferenceIdeal.τ).loc Cert.InputsReferenceIdeal.main_arg8) = m ((c.tc : Thread Cert.InputsReferenceIdeal.nD Cert.InputsReferenceIdeal.τ).loc Cert.InputsReferenceIdeal.main_arg8))
      ∧ r.2.sem = fun _ => 0)

def quiescent_Index [hIndex : Cert.Index.Facts] : Prop :=
  ∀ (m : (ℓ : Loc Cert.Index.nD Cert.Index.τ Cert.Index.sig) → Buf (Elt Bits) ℓ) (g : Dev Cert.Index.nD → PrngReg), Pre_Index m →
    θ_run (Cert.Index.defs (F := Bits)) (onTc (τ := Cert.Index.τ) (Cert.Index.main (F := Bits))) ⟨m, fun _ => 0, g⟩ (fun r => (∀ c : Dev Cert.Index.nD,
      r.2.mem ((c.tc : Thread Cert.Index.nD Cert.Index.τ).loc Cert.Index.main_arg0) = m ((c.tc : Thread Cert.Index.nD Cert.Index.τ).loc Cert.Index.main_arg0)
      ∧ r.2.mem ((c.tc : Thread Cert.Index.nD Cert.Index.τ).loc Cert.Index.main_arg1) = m ((c.tc : Thread Cert.Index.nD Cert.Index.τ).loc Cert.Index.main_arg1)
      ∧ r.2.mem ((c.tc : Thread Cert.Index.nD Cert.Index.τ).loc Cert.Index.main_arg2) = m ((c.tc : Thread Cert.Index.nD Cert.Index.τ).loc Cert.Index.main_arg2)
      ∧ r.2.mem ((c.tc : Thread Cert.Index.nD Cert.Index.τ).loc Cert.Index.main_arg3) = m ((c.tc : Thread Cert.Index.nD Cert.Index.τ).loc Cert.Index.main_arg3)
      ∧ r.2.mem ((c.tc : Thread Cert.Index.nD Cert.Index.τ).loc Cert.Index.main_arg4) = m ((c.tc : Thread Cert.Index.nD Cert.Index.τ).loc Cert.Index.main_arg4)
      ∧ r.2.mem ((c.tc : Thread Cert.Index.nD Cert.Index.τ).loc Cert.Index.main_arg5) = m ((c.tc : Thread Cert.Index.nD Cert.Index.τ).loc Cert.Index.main_arg5)
      ∧ r.2.mem ((c.tc : Thread Cert.Index.nD Cert.Index.τ).loc Cert.Index.main_arg6) = m ((c.tc : Thread Cert.Index.nD Cert.Index.τ).loc Cert.Index.main_arg6)
      ∧ r.2.mem ((c.tc : Thread Cert.Index.nD Cert.Index.τ).loc Cert.Index.main_arg7) = m ((c.tc : Thread Cert.Index.nD Cert.Index.τ).loc Cert.Index.main_arg7)
      ∧ r.2.mem ((c.tc : Thread Cert.Index.nD Cert.Index.τ).loc Cert.Index.main_arg8) = m ((c.tc : Thread Cert.Index.nD Cert.Index.τ).loc Cert.Index.main_arg8))
      ∧ r.2.sem = fun _ => 0)

def quiescent_IndexIdeal [hIndexIdeal : Cert.IndexIdeal.Facts] : Prop :=
  ∀ (m : (ℓ : Loc Cert.IndexIdeal.nD Cert.IndexIdeal.τ Cert.IndexIdeal.sig) → Buf (Elt Ideal) ℓ) (g : Dev Cert.IndexIdeal.nD → PrngReg), Pre_IndexIdeal m →
    θ_run (Cert.IndexIdeal.defs (F := Ideal)) (onTc (τ := Cert.IndexIdeal.τ) (Cert.IndexIdeal.main (F := Ideal))) ⟨m, fun _ => 0, g⟩ (fun r => (∀ c : Dev Cert.IndexIdeal.nD,
      r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
      ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1)
      ∧ r.2.mem ((c.tc : Thread Cert.IndexIdeal.nD Cert.IndexIdeal.τ).loc Cert.IndexIdeal.main_arg2) = m ((c.tc : Thread Cert.IndexIdeal.nD Cert.IndexIdeal.τ).loc Cert.IndexIdeal.main_arg2)
      ∧ r.2.mem ((c.tc : Thread Cert.IndexIdeal.nD Cert.IndexIdeal.τ).loc Cert.IndexIdeal.main_arg3) = m ((c.tc : Thread Cert.IndexIdeal.nD Cert.IndexIdeal.τ).loc Cert.IndexIdeal.main_arg3)
      ∧ r.2.mem ((c.tc : Thread Cert.IndexIdeal.nD Cert.IndexIdeal.τ).loc Cert.IndexIdeal.main_arg4) = m ((c.tc : Thread Cert.IndexIdeal.nD Cert.IndexIdeal.τ).loc Cert.IndexIdeal.main_arg4)
      ∧ r.2.mem ((c.tc : Thread Cert.IndexIdeal.nD Cert.IndexIdeal.τ).loc Cert.IndexIdeal.main_arg5) = m ((c.tc : Thread Cert.IndexIdeal.nD Cert.IndexIdeal.τ).loc Cert.IndexIdeal.main_arg5)
      ∧ r.2.mem ((c.tc : Thread Cert.IndexIdeal.nD Cert.IndexIdeal.τ).loc Cert.IndexIdeal.main_arg6) = m ((c.tc : Thread Cert.IndexIdeal.nD Cert.IndexIdeal.τ).loc Cert.IndexIdeal.main_arg6)
      ∧ r.2.mem ((c.tc : Thread Cert.IndexIdeal.nD Cert.IndexIdeal.τ).loc Cert.IndexIdeal.main_arg7) = m ((c.tc : Thread Cert.IndexIdeal.nD Cert.IndexIdeal.τ).loc Cert.IndexIdeal.main_arg7)
      ∧ r.2.mem ((c.tc : Thread Cert.IndexIdeal.nD Cert.IndexIdeal.τ).loc Cert.IndexIdeal.main_arg8) = m ((c.tc : Thread Cert.IndexIdeal.nD Cert.IndexIdeal.τ).loc Cert.IndexIdeal.main_arg8))
      ∧ r.2.sem = fun _ => 0)

def quiescent_IndexIdeal_pre_finite_inputs [hIndexIdeal : Cert.IndexIdeal.Facts] [hPre_finite_inputs : Cert.Pre_finite_inputs.Facts] : Prop :=
  ∀ (m : (ℓ : Loc Cert.IndexIdeal.nD Cert.IndexIdeal.τ Cert.IndexIdeal.sig) → Buf (Elt Ideal) ℓ) (g : Dev Cert.IndexIdeal.nD → PrngReg), Pre_IndexIdeal_finite_inputs m →
    θ_run (Cert.IndexIdeal.defs (F := Ideal)) (onTc (τ := Cert.IndexIdeal.τ) (Cert.IndexIdeal.main (F := Ideal))) ⟨m, fun _ => 0, g⟩ (fun r => (∀ c : Dev Cert.IndexIdeal.nD,
      r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
      ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1)
      ∧ r.2.mem ((c.tc : Thread Cert.IndexIdeal.nD Cert.IndexIdeal.τ).loc Cert.IndexIdeal.main_arg2) = m ((c.tc : Thread Cert.IndexIdeal.nD Cert.IndexIdeal.τ).loc Cert.IndexIdeal.main_arg2)
      ∧ r.2.mem ((c.tc : Thread Cert.IndexIdeal.nD Cert.IndexIdeal.τ).loc Cert.IndexIdeal.main_arg3) = m ((c.tc : Thread Cert.IndexIdeal.nD Cert.IndexIdeal.τ).loc Cert.IndexIdeal.main_arg3)
      ∧ r.2.mem ((c.tc : Thread Cert.IndexIdeal.nD Cert.IndexIdeal.τ).loc Cert.IndexIdeal.main_arg4) = m ((c.tc : Thread Cert.IndexIdeal.nD Cert.IndexIdeal.τ).loc Cert.IndexIdeal.main_arg4)
      ∧ r.2.mem ((c.tc : Thread Cert.IndexIdeal.nD Cert.IndexIdeal.τ).loc Cert.IndexIdeal.main_arg5) = m ((c.tc : Thread Cert.IndexIdeal.nD Cert.IndexIdeal.τ).loc Cert.IndexIdeal.main_arg5)
      ∧ r.2.mem ((c.tc : Thread Cert.IndexIdeal.nD Cert.IndexIdeal.τ).loc Cert.IndexIdeal.main_arg6) = m ((c.tc : Thread Cert.IndexIdeal.nD Cert.IndexIdeal.τ).loc Cert.IndexIdeal.main_arg6)
      ∧ r.2.mem ((c.tc : Thread Cert.IndexIdeal.nD Cert.IndexIdeal.τ).loc Cert.IndexIdeal.main_arg7) = m ((c.tc : Thread Cert.IndexIdeal.nD Cert.IndexIdeal.τ).loc Cert.IndexIdeal.main_arg7)
      ∧ r.2.mem ((c.tc : Thread Cert.IndexIdeal.nD Cert.IndexIdeal.τ).loc Cert.IndexIdeal.main_arg8) = m ((c.tc : Thread Cert.IndexIdeal.nD Cert.IndexIdeal.τ).loc Cert.IndexIdeal.main_arg8))
      ∧ r.2.sem = fun _ => 0)

def quiescent_IndexReferenceIdeal [hIndexReferenceIdeal : Cert.IndexReferenceIdeal.Facts] : Prop :=
  ∀ (m : (ℓ : Loc Cert.IndexReferenceIdeal.nD Cert.IndexReferenceIdeal.τ Cert.IndexReferenceIdeal.sig) → Buf (Elt Ideal) ℓ) (g : Dev Cert.IndexReferenceIdeal.nD → PrngReg), Pre_IndexReferenceIdeal m →
    θ_run (Cert.IndexReferenceIdeal.defs (F := Ideal)) (onTc (τ := Cert.IndexReferenceIdeal.τ) (Cert.IndexReferenceIdeal.main (F := Ideal))) ⟨m, fun _ => 0, g⟩ (fun r => (∀ c : Dev Cert.IndexReferenceIdeal.nD,
      r.2.mem ((c.tc : Thread Cert.IndexReferenceIdeal.nD Cert.IndexReferenceIdeal.τ).loc Cert.IndexReferenceIdeal.main_arg0) = m ((c.tc : Thread Cert.IndexReferenceIdeal.nD Cert.IndexReferenceIdeal.τ).loc Cert.IndexReferenceIdeal.main_arg0)
      ∧ r.2.mem ((c.tc : Thread Cert.IndexReferenceIdeal.nD Cert.IndexReferenceIdeal.τ).loc Cert.IndexReferenceIdeal.main_arg1) = m ((c.tc : Thread Cert.IndexReferenceIdeal.nD Cert.IndexReferenceIdeal.τ).loc Cert.IndexReferenceIdeal.main_arg1)
      ∧ r.2.mem ((c.tc : Thread Cert.IndexReferenceIdeal.nD Cert.IndexReferenceIdeal.τ).loc Cert.IndexReferenceIdeal.main_arg2) = m ((c.tc : Thread Cert.IndexReferenceIdeal.nD Cert.IndexReferenceIdeal.τ).loc Cert.IndexReferenceIdeal.main_arg2)
      ∧ r.2.mem ((c.tc : Thread Cert.IndexReferenceIdeal.nD Cert.IndexReferenceIdeal.τ).loc Cert.IndexReferenceIdeal.main_arg3) = m ((c.tc : Thread Cert.IndexReferenceIdeal.nD Cert.IndexReferenceIdeal.τ).loc Cert.IndexReferenceIdeal.main_arg3)
      ∧ r.2.mem ((c.tc : Thread Cert.IndexReferenceIdeal.nD Cert.IndexReferenceIdeal.τ).loc Cert.IndexReferenceIdeal.main_arg4) = m ((c.tc : Thread Cert.IndexReferenceIdeal.nD Cert.IndexReferenceIdeal.τ).loc Cert.IndexReferenceIdeal.main_arg4)
      ∧ r.2.mem ((c.tc : Thread Cert.IndexReferenceIdeal.nD Cert.IndexReferenceIdeal.τ).loc Cert.IndexReferenceIdeal.main_arg5) = m ((c.tc : Thread Cert.IndexReferenceIdeal.nD Cert.IndexReferenceIdeal.τ).loc Cert.IndexReferenceIdeal.main_arg5)
      ∧ r.2.mem ((c.tc : Thread Cert.IndexReferenceIdeal.nD Cert.IndexReferenceIdeal.τ).loc Cert.IndexReferenceIdeal.main_arg6) = m ((c.tc : Thread Cert.IndexReferenceIdeal.nD Cert.IndexReferenceIdeal.τ).loc Cert.IndexReferenceIdeal.main_arg6)
      ∧ r.2.mem ((c.tc : Thread Cert.IndexReferenceIdeal.nD Cert.IndexReferenceIdeal.τ).loc Cert.IndexReferenceIdeal.main_arg7) = m ((c.tc : Thread Cert.IndexReferenceIdeal.nD Cert.IndexReferenceIdeal.τ).loc Cert.IndexReferenceIdeal.main_arg7)
      ∧ r.2.mem ((c.tc : Thread Cert.IndexReferenceIdeal.nD Cert.IndexReferenceIdeal.τ).loc Cert.IndexReferenceIdeal.main_arg8) = m ((c.tc : Thread Cert.IndexReferenceIdeal.nD Cert.IndexReferenceIdeal.τ).loc Cert.IndexReferenceIdeal.main_arg8))
      ∧ r.2.sem = fun _ => 0)

def quiescent_IndexReferenceIdeal_pre_finite_inputs [hIndexReferenceIdeal : Cert.IndexReferenceIdeal.Facts] [hPre_finite_inputs : Cert.Pre_finite_inputs.Facts] : Prop :=
  ∀ (m : (ℓ : Loc Cert.IndexReferenceIdeal.nD Cert.IndexReferenceIdeal.τ Cert.IndexReferenceIdeal.sig) → Buf (Elt Ideal) ℓ) (g : Dev Cert.IndexReferenceIdeal.nD → PrngReg), Pre_IndexReferenceIdeal_finite_inputs m →
    θ_run (Cert.IndexReferenceIdeal.defs (F := Ideal)) (onTc (τ := Cert.IndexReferenceIdeal.τ) (Cert.IndexReferenceIdeal.main (F := Ideal))) ⟨m, fun _ => 0, g⟩ (fun r => (∀ c : Dev Cert.IndexReferenceIdeal.nD,
      r.2.mem ((c.tc : Thread Cert.IndexReferenceIdeal.nD Cert.IndexReferenceIdeal.τ).loc Cert.IndexReferenceIdeal.main_arg0) = m ((c.tc : Thread Cert.IndexReferenceIdeal.nD Cert.IndexReferenceIdeal.τ).loc Cert.IndexReferenceIdeal.main_arg0)
      ∧ r.2.mem ((c.tc : Thread Cert.IndexReferenceIdeal.nD Cert.IndexReferenceIdeal.τ).loc Cert.IndexReferenceIdeal.main_arg1) = m ((c.tc : Thread Cert.IndexReferenceIdeal.nD Cert.IndexReferenceIdeal.τ).loc Cert.IndexReferenceIdeal.main_arg1)
      ∧ r.2.mem ((c.tc : Thread Cert.IndexReferenceIdeal.nD Cert.IndexReferenceIdeal.τ).loc Cert.IndexReferenceIdeal.main_arg2) = m ((c.tc : Thread Cert.IndexReferenceIdeal.nD Cert.IndexReferenceIdeal.τ).loc Cert.IndexReferenceIdeal.main_arg2)
      ∧ r.2.mem ((c.tc : Thread Cert.IndexReferenceIdeal.nD Cert.IndexReferenceIdeal.τ).loc Cert.IndexReferenceIdeal.main_arg3) = m ((c.tc : Thread Cert.IndexReferenceIdeal.nD Cert.IndexReferenceIdeal.τ).loc Cert.IndexReferenceIdeal.main_arg3)
      ∧ r.2.mem ((c.tc : Thread Cert.IndexReferenceIdeal.nD Cert.IndexReferenceIdeal.τ).loc Cert.IndexReferenceIdeal.main_arg4) = m ((c.tc : Thread Cert.IndexReferenceIdeal.nD Cert.IndexReferenceIdeal.τ).loc Cert.IndexReferenceIdeal.main_arg4)
      ∧ r.2.mem ((c.tc : Thread Cert.IndexReferenceIdeal.nD Cert.IndexReferenceIdeal.τ).loc Cert.IndexReferenceIdeal.main_arg5) = m ((c.tc : Thread Cert.IndexReferenceIdeal.nD Cert.IndexReferenceIdeal.τ).loc Cert.IndexReferenceIdeal.main_arg5)
      ∧ r.2.mem ((c.tc : Thread Cert.IndexReferenceIdeal.nD Cert.IndexReferenceIdeal.τ).loc Cert.IndexReferenceIdeal.main_arg6) = m ((c.tc : Thread Cert.IndexReferenceIdeal.nD Cert.IndexReferenceIdeal.τ).loc Cert.IndexReferenceIdeal.main_arg6)
      ∧ r.2.mem ((c.tc : Thread Cert.IndexReferenceIdeal.nD Cert.IndexReferenceIdeal.τ).loc Cert.IndexReferenceIdeal.main_arg7) = m ((c.tc : Thread Cert.IndexReferenceIdeal.nD Cert.IndexReferenceIdeal.τ).loc Cert.IndexReferenceIdeal.main_arg7)
      ∧ r.2.mem ((c.tc : Thread Cert.IndexReferenceIdeal.nD Cert.IndexReferenceIdeal.τ).loc Cert.IndexReferenceIdeal.main_arg8) = m ((c.tc : Thread Cert.IndexReferenceIdeal.nD Cert.IndexReferenceIdeal.τ).loc Cert.IndexReferenceIdeal.main_arg8))
      ∧ r.2.sem = fun _ => 0)

def preserves_Kernel_KernelIdeal : Prop :=
  True

def algebraic_KernelIdeal_ReferenceIdeal_pre_named_states_finite [hKernelIdeal : Cert.KernelIdeal.Facts] [hReferenceIdeal : Cert.ReferenceIdeal.Facts] [hPre_named_states_finite : Cert.Pre_named_states_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_named_states_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Inputs_InputsIdeal : Prop :=
  True

def algebraic_InputsIdeal_InputsReferenceIdeal [hInputsIdeal : Cert.InputsIdeal.Facts] [hInputsReferenceIdeal : Cert.InputsReferenceIdeal.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsReferenceIdeal.nD Cert.InputsReferenceIdeal.τ Cert.InputsReferenceIdeal.sig) → Buf (Elt Ideal) ℓ) (g' : Dev Cert.InputsReferenceIdeal.nD → PrngReg), Pre_InputsIdeal m →
    (∀ c : Dev Cert.InputsIdeal.nD,
      m' ((c.tc : Thread Cert.InputsReferenceIdeal.nD Cert.InputsReferenceIdeal.τ).loc Cert.InputsReferenceIdeal.main_arg0) = m ((c.tc : Thread Cert.InputsIdeal.nD Cert.InputsIdeal.τ).loc Cert.InputsIdeal.main_arg0)
      ∧ m' ((c.tc : Thread Cert.InputsReferenceIdeal.nD Cert.InputsReferenceIdeal.τ).loc Cert.InputsReferenceIdeal.main_arg1) = m ((c.tc : Thread Cert.InputsIdeal.nD Cert.InputsIdeal.τ).loc Cert.InputsIdeal.main_arg1)
      ∧ m' ((c.tc : Thread Cert.InputsReferenceIdeal.nD Cert.InputsReferenceIdeal.τ).loc Cert.InputsReferenceIdeal.main_arg2) = m ((c.tc : Thread Cert.InputsIdeal.nD Cert.InputsIdeal.τ).loc Cert.InputsIdeal.main_arg2)
      ∧ m' ((c.tc : Thread Cert.InputsReferenceIdeal.nD Cert.InputsReferenceIdeal.τ).loc Cert.InputsReferenceIdeal.main_arg3) = m ((c.tc : Thread Cert.InputsIdeal.nD Cert.InputsIdeal.τ).loc Cert.InputsIdeal.main_arg3)
      ∧ m' ((c.tc : Thread Cert.InputsReferenceIdeal.nD Cert.InputsReferenceIdeal.τ).loc Cert.InputsReferenceIdeal.main_arg4) = m ((c.tc : Thread Cert.InputsIdeal.nD Cert.InputsIdeal.τ).loc Cert.InputsIdeal.main_arg4)
      ∧ m' ((c.tc : Thread Cert.InputsReferenceIdeal.nD Cert.InputsReferenceIdeal.τ).loc Cert.InputsReferenceIdeal.main_arg5) = m ((c.tc : Thread Cert.InputsIdeal.nD Cert.InputsIdeal.τ).loc Cert.InputsIdeal.main_arg5)
      ∧ m' ((c.tc : Thread Cert.InputsReferenceIdeal.nD Cert.InputsReferenceIdeal.τ).loc Cert.InputsReferenceIdeal.main_arg6) = m ((c.tc : Thread Cert.InputsIdeal.nD Cert.InputsIdeal.τ).loc Cert.InputsIdeal.main_arg6)
      ∧ m' ((c.tc : Thread Cert.InputsReferenceIdeal.nD Cert.InputsReferenceIdeal.τ).loc Cert.InputsReferenceIdeal.main_arg7) = m ((c.tc : Thread Cert.InputsIdeal.nD Cert.InputsIdeal.τ).loc Cert.InputsIdeal.main_arg7)
      ∧ m' ((c.tc : Thread Cert.InputsReferenceIdeal.nD Cert.InputsReferenceIdeal.τ).loc Cert.InputsReferenceIdeal.main_arg8) = m ((c.tc : Thread Cert.InputsIdeal.nD Cert.InputsIdeal.τ).loc Cert.InputsIdeal.main_arg8)) →
    ∃ (v0 : (c : Dev Cert.InputsIdeal.nD) → Buf (Elt Ideal) ((c.tc : Thread Cert.InputsIdeal.nD Cert.InputsIdeal.τ).loc Cert.InputsIdeal.main_v4_0)) (v1 : (c : Dev Cert.InputsIdeal.nD) → Buf (Elt Ideal) ((c.tc : Thread Cert.InputsIdeal.nD Cert.InputsIdeal.τ).loc Cert.InputsIdeal.main_v4_1)) (v2 : (c : Dev Cert.InputsIdeal.nD) → Buf (Elt Ideal) ((c.tc : Thread Cert.InputsIdeal.nD Cert.InputsIdeal.τ).loc Cert.InputsIdeal.main_v4_2)) (v3 : (c : Dev Cert.InputsIdeal.nD) → Buf (Elt Ideal) ((c.tc : Thread Cert.InputsIdeal.nD Cert.InputsIdeal.τ).loc Cert.InputsIdeal.main_v4_3)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v4_0) = v0 c
          ∧ r.2.mem ((c.tc : Thread Cert.InputsIdeal.nD Cert.InputsIdeal.τ).loc Cert.InputsIdeal.main_v4_1) = v1 c
          ∧ r.2.mem ((c.tc : Thread Cert.InputsIdeal.nD Cert.InputsIdeal.τ).loc Cert.InputsIdeal.main_v4_2) = v2 c
          ∧ r.2.mem ((c.tc : Thread Cert.InputsIdeal.nD Cert.InputsIdeal.τ).loc Cert.InputsIdeal.main_v4_3) = v3 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
          ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
          ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3)
          ∧ r.2.mem ((c.tc : Thread Cert.InputsIdeal.nD Cert.InputsIdeal.τ).loc Cert.InputsIdeal.main_arg4) = m ((c.tc : Thread Cert.InputsIdeal.nD Cert.InputsIdeal.τ).loc Cert.InputsIdeal.main_arg4)
          ∧ r.2.mem ((c.tc : Thread Cert.InputsIdeal.nD Cert.InputsIdeal.τ).loc Cert.InputsIdeal.main_arg5) = m ((c.tc : Thread Cert.InputsIdeal.nD Cert.InputsIdeal.τ).loc Cert.InputsIdeal.main_arg5)
          ∧ r.2.mem ((c.tc : Thread Cert.InputsIdeal.nD Cert.InputsIdeal.τ).loc Cert.InputsIdeal.main_arg6) = m ((c.tc : Thread Cert.InputsIdeal.nD Cert.InputsIdeal.τ).loc Cert.InputsIdeal.main_arg6)
          ∧ r.2.mem ((c.tc : Thread Cert.InputsIdeal.nD Cert.InputsIdeal.τ).loc Cert.InputsIdeal.main_arg7) = m ((c.tc : Thread Cert.InputsIdeal.nD Cert.InputsIdeal.τ).loc Cert.InputsIdeal.main_arg7)
          ∧ r.2.mem ((c.tc : Thread Cert.InputsIdeal.nD Cert.InputsIdeal.τ).loc Cert.InputsIdeal.main_arg8) = m ((c.tc : Thread Cert.InputsIdeal.nD Cert.InputsIdeal.τ).loc Cert.InputsIdeal.main_arg8))
      ∧ θ_run (Cert.InputsReferenceIdeal.defs (F := Ideal)) (onTc (τ := Cert.InputsReferenceIdeal.τ) (Cert.InputsReferenceIdeal.main (F := Ideal))) ⟨m', fun _ => 0, g'⟩ (fun r => ∀ c : Dev Cert.InputsReferenceIdeal.nD,
          r.2.mem ((c.tc : Thread Cert.InputsReferenceIdeal.nD Cert.InputsReferenceIdeal.τ).loc Cert.InputsReferenceIdeal.main_v26) = v0 c
          ∧ r.2.mem ((c.tc : Thread Cert.InputsReferenceIdeal.nD Cert.InputsReferenceIdeal.τ).loc Cert.InputsReferenceIdeal.main_v29) = v1 c
          ∧ r.2.mem ((c.tc : Thread Cert.InputsReferenceIdeal.nD Cert.InputsReferenceIdeal.τ).loc Cert.InputsReferenceIdeal.main_v32) = v2 c
          ∧ r.2.mem ((c.tc : Thread Cert.InputsReferenceIdeal.nD Cert.InputsReferenceIdeal.τ).loc Cert.InputsReferenceIdeal.main_v35) = v3 c
          ∧ r.2.mem ((c.tc : Thread Cert.InputsReferenceIdeal.nD Cert.InputsReferenceIdeal.τ).loc Cert.InputsReferenceIdeal.main_arg0) = m' ((c.tc : Thread Cert.InputsReferenceIdeal.nD Cert.InputsReferenceIdeal.τ).loc Cert.InputsReferenceIdeal.main_arg0)
          ∧ r.2.mem ((c.tc : Thread Cert.InputsReferenceIdeal.nD Cert.InputsReferenceIdeal.τ).loc Cert.InputsReferenceIdeal.main_arg1) = m' ((c.tc : Thread Cert.InputsReferenceIdeal.nD Cert.InputsReferenceIdeal.τ).loc Cert.InputsReferenceIdeal.main_arg1)
          ∧ r.2.mem ((c.tc : Thread Cert.InputsReferenceIdeal.nD Cert.InputsReferenceIdeal.τ).loc Cert.InputsReferenceIdeal.main_arg2) = m' ((c.tc : Thread Cert.InputsReferenceIdeal.nD Cert.InputsReferenceIdeal.τ).loc Cert.InputsReferenceIdeal.main_arg2)
          ∧ r.2.mem ((c.tc : Thread Cert.InputsReferenceIdeal.nD Cert.InputsReferenceIdeal.τ).loc Cert.InputsReferenceIdeal.main_arg3) = m' ((c.tc : Thread Cert.InputsReferenceIdeal.nD Cert.InputsReferenceIdeal.τ).loc Cert.InputsReferenceIdeal.main_arg3)
          ∧ r.2.mem ((c.tc : Thread Cert.InputsReferenceIdeal.nD Cert.InputsReferenceIdeal.τ).loc Cert.InputsReferenceIdeal.main_arg4) = m' ((c.tc : Thread Cert.InputsReferenceIdeal.nD Cert.InputsReferenceIdeal.τ).loc Cert.InputsReferenceIdeal.main_arg4)
          ∧ r.2.mem ((c.tc : Thread Cert.InputsReferenceIdeal.nD Cert.InputsReferenceIdeal.τ).loc Cert.InputsReferenceIdeal.main_arg5) = m' ((c.tc : Thread Cert.InputsReferenceIdeal.nD Cert.InputsReferenceIdeal.τ).loc Cert.InputsReferenceIdeal.main_arg5)
          ∧ r.2.mem ((c.tc : Thread Cert.InputsReferenceIdeal.nD Cert.InputsReferenceIdeal.τ).loc Cert.InputsReferenceIdeal.main_arg6) = m' ((c.tc : Thread Cert.InputsReferenceIdeal.nD Cert.InputsReferenceIdeal.τ).loc Cert.InputsReferenceIdeal.main_arg6)
          ∧ r.2.mem ((c.tc : Thread Cert.InputsReferenceIdeal.nD Cert.InputsReferenceIdeal.τ).loc Cert.InputsReferenceIdeal.main_arg7) = m' ((c.tc : Thread Cert.InputsReferenceIdeal.nD Cert.InputsReferenceIdeal.τ).loc Cert.InputsReferenceIdeal.main_arg7)
          ∧ r.2.mem ((c.tc : Thread Cert.InputsReferenceIdeal.nD Cert.InputsReferenceIdeal.τ).loc Cert.InputsReferenceIdeal.main_arg8) = m' ((c.tc : Thread Cert.InputsReferenceIdeal.nD Cert.InputsReferenceIdeal.τ).loc Cert.InputsReferenceIdeal.main_arg8))

def preserves_Index_IndexIdeal : Prop :=
  True

def algebraic_IndexIdeal_IndexReferenceIdeal_pre_finite_inputs [hIndexIdeal : Cert.IndexIdeal.Facts] [hIndexReferenceIdeal : Cert.IndexReferenceIdeal.Facts] [hPre_finite_inputs : Cert.Pre_finite_inputs.Facts] : Prop :=
  ∀ (m : (ℓ : Loc Cert.IndexIdeal.nD Cert.IndexIdeal.τ Cert.IndexIdeal.sig) → Buf (Elt Ideal) ℓ) (g : Dev Cert.IndexIdeal.nD → PrngReg)
    (m' : (ℓ : Loc Cert.IndexReferenceIdeal.nD Cert.IndexReferenceIdeal.τ Cert.IndexReferenceIdeal.sig) → Buf (Elt Ideal) ℓ) (g' : Dev Cert.IndexReferenceIdeal.nD → PrngReg), Pre_IndexIdeal_finite_inputs m →
    (∀ c : Dev Cert.IndexIdeal.nD,
      m' ((c.tc : Thread Cert.IndexReferenceIdeal.nD Cert.IndexReferenceIdeal.τ).loc Cert.IndexReferenceIdeal.main_arg0) = m ((c.tc : Thread Cert.IndexIdeal.nD Cert.IndexIdeal.τ).loc Cert.IndexIdeal.main_arg0)
      ∧ m' ((c.tc : Thread Cert.IndexReferenceIdeal.nD Cert.IndexReferenceIdeal.τ).loc Cert.IndexReferenceIdeal.main_arg1) = m ((c.tc : Thread Cert.IndexIdeal.nD Cert.IndexIdeal.τ).loc Cert.IndexIdeal.main_arg1)
      ∧ m' ((c.tc : Thread Cert.IndexReferenceIdeal.nD Cert.IndexReferenceIdeal.τ).loc Cert.IndexReferenceIdeal.main_arg2) = m ((c.tc : Thread Cert.IndexIdeal.nD Cert.IndexIdeal.τ).loc Cert.IndexIdeal.main_arg2)
      ∧ m' ((c.tc : Thread Cert.IndexReferenceIdeal.nD Cert.IndexReferenceIdeal.τ).loc Cert.IndexReferenceIdeal.main_arg3) = m ((c.tc : Thread Cert.IndexIdeal.nD Cert.IndexIdeal.τ).loc Cert.IndexIdeal.main_arg3)
      ∧ m' ((c.tc : Thread Cert.IndexReferenceIdeal.nD Cert.IndexReferenceIdeal.τ).loc Cert.IndexReferenceIdeal.main_arg4) = m ((c.tc : Thread Cert.IndexIdeal.nD Cert.IndexIdeal.τ).loc Cert.IndexIdeal.main_arg4)
      ∧ m' ((c.tc : Thread Cert.IndexReferenceIdeal.nD Cert.IndexReferenceIdeal.τ).loc Cert.IndexReferenceIdeal.main_arg5) = m ((c.tc : Thread Cert.IndexIdeal.nD Cert.IndexIdeal.τ).loc Cert.IndexIdeal.main_arg5)
      ∧ m' ((c.tc : Thread Cert.IndexReferenceIdeal.nD Cert.IndexReferenceIdeal.τ).loc Cert.IndexReferenceIdeal.main_arg6) = m ((c.tc : Thread Cert.IndexIdeal.nD Cert.IndexIdeal.τ).loc Cert.IndexIdeal.main_arg6)
      ∧ m' ((c.tc : Thread Cert.IndexReferenceIdeal.nD Cert.IndexReferenceIdeal.τ).loc Cert.IndexReferenceIdeal.main_arg7) = m ((c.tc : Thread Cert.IndexIdeal.nD Cert.IndexIdeal.τ).loc Cert.IndexIdeal.main_arg7)
      ∧ m' ((c.tc : Thread Cert.IndexReferenceIdeal.nD Cert.IndexReferenceIdeal.τ).loc Cert.IndexReferenceIdeal.main_arg8) = m ((c.tc : Thread Cert.IndexIdeal.nD Cert.IndexIdeal.τ).loc Cert.IndexIdeal.main_arg8)) →
    ∃ (v0 : (c : Dev Cert.IndexIdeal.nD) → Buf (Elt Ideal) ((c.tc : Thread Cert.IndexIdeal.nD Cert.IndexIdeal.τ).loc Cert.IndexIdeal.main_v4_4)),
      θ_run (Cert.IndexIdeal.defs (F := Ideal)) (onTc (τ := Cert.IndexIdeal.τ) (Cert.IndexIdeal.main (F := Ideal))) ⟨m, fun _ => 0, g⟩ (fun r => ∀ c : Dev Cert.IndexIdeal.nD,
          r.2.mem ((c.tc : Thread Cert.IndexIdeal.nD Cert.IndexIdeal.τ).loc Cert.IndexIdeal.main_v4_4) = v0 c
          ∧ r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
          ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1)
          ∧ r.2.mem ((c.tc : Thread Cert.IndexIdeal.nD Cert.IndexIdeal.τ).loc Cert.IndexIdeal.main_arg2) = m ((c.tc : Thread Cert.IndexIdeal.nD Cert.IndexIdeal.τ).loc Cert.IndexIdeal.main_arg2)
          ∧ r.2.mem ((c.tc : Thread Cert.IndexIdeal.nD Cert.IndexIdeal.τ).loc Cert.IndexIdeal.main_arg3) = m ((c.tc : Thread Cert.IndexIdeal.nD Cert.IndexIdeal.τ).loc Cert.IndexIdeal.main_arg3)
          ∧ r.2.mem ((c.tc : Thread Cert.IndexIdeal.nD Cert.IndexIdeal.τ).loc Cert.IndexIdeal.main_arg4) = m ((c.tc : Thread Cert.IndexIdeal.nD Cert.IndexIdeal.τ).loc Cert.IndexIdeal.main_arg4)
          ∧ r.2.mem ((c.tc : Thread Cert.IndexIdeal.nD Cert.IndexIdeal.τ).loc Cert.IndexIdeal.main_arg5) = m ((c.tc : Thread Cert.IndexIdeal.nD Cert.IndexIdeal.τ).loc Cert.IndexIdeal.main_arg5)
          ∧ r.2.mem ((c.tc : Thread Cert.IndexIdeal.nD Cert.IndexIdeal.τ).loc Cert.IndexIdeal.main_arg6) = m ((c.tc : Thread Cert.IndexIdeal.nD Cert.IndexIdeal.τ).loc Cert.IndexIdeal.main_arg6)
          ∧ r.2.mem ((c.tc : Thread Cert.IndexIdeal.nD Cert.IndexIdeal.τ).loc Cert.IndexIdeal.main_arg7) = m ((c.tc : Thread Cert.IndexIdeal.nD Cert.IndexIdeal.τ).loc Cert.IndexIdeal.main_arg7)
          ∧ r.2.mem ((c.tc : Thread Cert.IndexIdeal.nD Cert.IndexIdeal.τ).loc Cert.IndexIdeal.main_arg8) = m ((c.tc : Thread Cert.IndexIdeal.nD Cert.IndexIdeal.τ).loc Cert.IndexIdeal.main_arg8))
      ∧ θ_run (Cert.IndexReferenceIdeal.defs (F := Ideal)) (onTc (τ := Cert.IndexReferenceIdeal.τ) (Cert.IndexReferenceIdeal.main (F := Ideal))) ⟨m', fun _ => 0, g'⟩ (fun r => ∀ c : Dev Cert.IndexReferenceIdeal.nD,
          r.2.mem ((c.tc : Thread Cert.IndexReferenceIdeal.nD Cert.IndexReferenceIdeal.τ).loc Cert.IndexReferenceIdeal.main_v32) = v0 c
          ∧ r.2.mem ((c.tc : Thread Cert.IndexReferenceIdeal.nD Cert.IndexReferenceIdeal.τ).loc Cert.IndexReferenceIdeal.main_arg0) = m' ((c.tc : Thread Cert.IndexReferenceIdeal.nD Cert.IndexReferenceIdeal.τ).loc Cert.IndexReferenceIdeal.main_arg0)
          ∧ r.2.mem ((c.tc : Thread Cert.IndexReferenceIdeal.nD Cert.IndexReferenceIdeal.τ).loc Cert.IndexReferenceIdeal.main_arg1) = m' ((c.tc : Thread Cert.IndexReferenceIdeal.nD Cert.IndexReferenceIdeal.τ).loc Cert.IndexReferenceIdeal.main_arg1)
          ∧ r.2.mem ((c.tc : Thread Cert.IndexReferenceIdeal.nD Cert.IndexReferenceIdeal.τ).loc Cert.IndexReferenceIdeal.main_arg2) = m' ((c.tc : Thread Cert.IndexReferenceIdeal.nD Cert.IndexReferenceIdeal.τ).loc Cert.IndexReferenceIdeal.main_arg2)
          ∧ r.2.mem ((c.tc : Thread Cert.IndexReferenceIdeal.nD Cert.IndexReferenceIdeal.τ).loc Cert.IndexReferenceIdeal.main_arg3) = m' ((c.tc : Thread Cert.IndexReferenceIdeal.nD Cert.IndexReferenceIdeal.τ).loc Cert.IndexReferenceIdeal.main_arg3)
          ∧ r.2.mem ((c.tc : Thread Cert.IndexReferenceIdeal.nD Cert.IndexReferenceIdeal.τ).loc Cert.IndexReferenceIdeal.main_arg4) = m' ((c.tc : Thread Cert.IndexReferenceIdeal.nD Cert.IndexReferenceIdeal.τ).loc Cert.IndexReferenceIdeal.main_arg4)
          ∧ r.2.mem ((c.tc : Thread Cert.IndexReferenceIdeal.nD Cert.IndexReferenceIdeal.τ).loc Cert.IndexReferenceIdeal.main_arg5) = m' ((c.tc : Thread Cert.IndexReferenceIdeal.nD Cert.IndexReferenceIdeal.τ).loc Cert.IndexReferenceIdeal.main_arg5)
          ∧ r.2.mem ((c.tc : Thread Cert.IndexReferenceIdeal.nD Cert.IndexReferenceIdeal.τ).loc Cert.IndexReferenceIdeal.main_arg6) = m' ((c.tc : Thread Cert.IndexReferenceIdeal.nD Cert.IndexReferenceIdeal.τ).loc Cert.IndexReferenceIdeal.main_arg6)
          ∧ r.2.mem ((c.tc : Thread Cert.IndexReferenceIdeal.nD Cert.IndexReferenceIdeal.τ).loc Cert.IndexReferenceIdeal.main_arg7) = m' ((c.tc : Thread Cert.IndexReferenceIdeal.nD Cert.IndexReferenceIdeal.τ).loc Cert.IndexReferenceIdeal.main_arg7)
          ∧ r.2.mem ((c.tc : Thread Cert.IndexReferenceIdeal.nD Cert.IndexReferenceIdeal.τ).loc Cert.IndexReferenceIdeal.main_arg8) = m' ((c.tc : Thread Cert.IndexReferenceIdeal.nD Cert.IndexReferenceIdeal.τ).loc Cert.IndexReferenceIdeal.main_arg8))

def Claim : Prop :=
  ∃ (hKernel : Cert.Kernel.Facts) (hKernelIdeal : Cert.KernelIdeal.Facts) (hReferenceIdeal : Cert.ReferenceIdeal.Facts) (hInputs : Cert.Inputs.Facts) (hInputsIdeal : Cert.InputsIdeal.Facts) (hInputsReferenceIdeal : Cert.InputsReferenceIdeal.Facts) (hIndex : Cert.Index.Facts) (hIndexIdeal : Cert.IndexIdeal.Facts) (hIndexReferenceIdeal : Cert.IndexReferenceIdeal.Facts) (hPre_named_states : Cert.Pre_named_states.Facts) (hPre_named_states_finite : Cert.Pre_named_states_finite.Facts) (hPre_finite_inputs : Cert.Pre_finite_inputs.Facts),
    quiescent_Kernel (hKernel := hKernel) (hPre_named_states := hPre_named_states)
    ∧ quiescent_KernelIdeal (hKernelIdeal := hKernelIdeal) (hPre_named_states := hPre_named_states)
    ∧ quiescent_KernelIdeal_pre_named_states_finite (hKernelIdeal := hKernelIdeal) (hPre_named_states_finite := hPre_named_states_finite)
    ∧ quiescent_ReferenceIdeal (hReferenceIdeal := hReferenceIdeal)
    ∧ quiescent_ReferenceIdeal_pre_named_states_finite (hReferenceIdeal := hReferenceIdeal) (hPre_named_states_finite := hPre_named_states_finite)
    ∧ quiescent_Inputs (hInputs := hInputs)
    ∧ quiescent_InputsIdeal (hInputsIdeal := hInputsIdeal)
    ∧ quiescent_InputsReferenceIdeal (hInputsReferenceIdeal := hInputsReferenceIdeal)
    ∧ quiescent_Index (hIndex := hIndex)
    ∧ quiescent_IndexIdeal (hIndexIdeal := hIndexIdeal)
    ∧ quiescent_IndexIdeal_pre_finite_inputs (hIndexIdeal := hIndexIdeal) (hPre_finite_inputs := hPre_finite_inputs)
    ∧ quiescent_IndexReferenceIdeal (hIndexReferenceIdeal := hIndexReferenceIdeal)
    ∧ quiescent_IndexReferenceIdeal_pre_finite_inputs (hIndexReferenceIdeal := hIndexReferenceIdeal) (hPre_finite_inputs := hPre_finite_inputs)
    ∧ preserves_Kernel_KernelIdeal
    ∧ algebraic_KernelIdeal_ReferenceIdeal_pre_named_states_finite (hKernelIdeal := hKernelIdeal) (hReferenceIdeal := hReferenceIdeal) (hPre_named_states_finite := hPre_named_states_finite)
    ∧ preserves_Inputs_InputsIdeal
    ∧ algebraic_InputsIdeal_InputsReferenceIdeal (hInputsIdeal := hInputsIdeal) (hInputsReferenceIdeal := hInputsReferenceIdeal)
    ∧ preserves_Index_IndexIdeal
    ∧ algebraic_IndexIdeal_IndexReferenceIdeal_pre_finite_inputs (hIndexIdeal := hIndexIdeal) (hIndexReferenceIdeal := hIndexReferenceIdeal) (hPre_finite_inputs := hPre_finite_inputs)
-- ==== Pre_finite_inputs.lean ====
abbrev S4096x1024 : Shape := ⟨2, ![4096, 1024]⟩
abbrev S64x1024 : Shape := ⟨2, ![64, 1024]⟩
abbrev S6x64x64 : Shape := ⟨3, ![6, 64, 64]⟩
abbrev S6x1024 : Shape := ⟨2, ![6, 1024]⟩
abbrev S64 : Shape := ⟨1, ![64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S6x64x64 : S_.BroadcastsInDim S6x64x64 (![] : Fin 0 → Fin S6x64x64.rank)
  reducesTo_S6x64x64_S_d0_1_2 : S6x64x64.ReducesTo [0, 1, 2] S_
  bcast_S_S6x1024 : S_.BroadcastsInDim S6x1024 (![] : Fin 0 → Fin S6x1024.rank)
  reducesTo_S6x1024_S_d0_1 : S6x1024.ReducesTo [0, 1] S_

variable [Facts]

def fn {F : FTy → Type} [FloatOps F] (main_arg0 : FVec F S4096x1024 .f32) (main_arg1 : FVec F S64x1024 .f32) (main_arg2 : FVec F S64x1024 .f32) (main_arg3 : FVec F S6x64x64 .f32) (main_arg4 : FVec F S6x1024 .f32) (main_arg5 : FVec F S64x1024 .f32) (main_arg6 : FVec F S64 .f32) (main_arg7 : FVec F S64x1024 .f32) (main_arg8 : FVec F S64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S6x64x64 .f32 := Host.absf main_arg3
  let main_cst_0 : FVec F S_ .f32 := constant S_ .f32 0x7F800000#32
  let main_v5 : FVec F S6x64x64 .f32 := broadcastInDim S6x64x64 ![] bcast_S_S6x64x64 main_cst_0
  let main_v6 : IVec S6x64x64 1 := cmpf .olt main_v4 main_v5
  let main_c_1 : IVec S_ 1 := constantI S_ 1 1#1
  let main_v7 : IVec S_ 1 := (fun x v => Host.reduce IntOp.andi x v reducesTo_S6x64x64_S_d0_1_2 h_S_) main_v6 main_c_1
  let main_v8 : IVec S_ 1 := andi main_v3 main_v7
  let main_v9 : FVec F S6x1024 .f32 := Host.absf main_arg4
  let main_cst_2 : FVec F S_ .f32 := constant S_ .f32 0x7F800000#32
  let main_v10 : FVec F S6x1024 .f32 := broadcastInDim S6x1024 ![] bcast_S_S6x1024 main_cst_2
  let main_v11 : IVec S6x1024 1 := cmpf .olt main_v9 main_v10
  let main_c_3 : IVec S_ 1 := constantI S_ 1 1#1
  let main_v12 : IVec S_ 1 := (fun x v => Host.reduce IntOp.andi x v reducesTo_S6x1024_S_d0_1 h_S_) main_v11 main_c_3
  let main_v13 : IVec S_ 1 := andi main_v8 main_v12
  main_v13
-- ==== Pre_named_states.lean ====
abbrev S32x128x64 : Shape := ⟨3, ![32, 128, 64]⟩
abbrev S4096x1024 : Shape := ⟨2, ![4096, 1024]⟩
abbrev S1024x64 : Shape := ⟨2, ![1024, 64]⟩
abbrev S1024 : Shape := ⟨1, ![1024]⟩
abbrev S_ : Shape := ⟨0, ![]⟩

class Facts : Prop where
  bcast_S_S32x128x64 : S_.BroadcastsInDim S32x128x64 (![] : Fin 0 → Fin S32x128x64.rank)

variable [Facts]

def fn {F : FTy → Type} [FloatOps F] (main_arg0 : IVec S32x128x64 32) (main_arg1 : FVec F S32x128x64 .f32) (main_arg2 : FVec F S32x128x64 .f32) (main_arg3 : FVec F S32x128x64 .f32) (main_arg4 : FVec F S32x128x64 .f32) (main_arg5 : FVec F S4096x1024 .f32) (main_arg6 : FVec F S1024x64 .f32) (main_arg7 : FVec F S1024x64 .f32) (main_arg8 : FVec F S1024 .f32) : IVec S32x128x64 1 :=
  let main_c : IVec S_ 32 := constantI S_ 32 0#32
  let main_v0 : IVec S32x128x64 32 := broadcastInDim S32x128x64 ![] bcast_S_S32x128x64 main_c
  let main_v1 : IVec S32x128x64 1 := cmpi .sge main_arg0 main_v0
  let main_c_0 : IVec S_ 32 := constantI S_ 32 64#32
  let main_v2 : IVec S32x128x64 32 := broadcastInDim S32x128x64 ![] bcast_S_S32x128x64 main_c_0
  let main_v3 : IVec S32x128x64 1 := cmpi .slt main_arg0 main_v2
  let main_v4 : IVec S32x128x64 1 := andi main_v1 main_v3
  main_v4
-- ==== Pre_named_states_finite.lean ====
abbrev S32x128x64 : Shape := ⟨3, ![32, 128, 64]⟩
abbrev S4096x1024 : Shape := ⟨2, ![4096, 1024]⟩
abbrev S1024x64 : Shape := ⟨2, ![1024, 64]⟩
abbrev S1024 : Shape := ⟨1, ![1024]⟩
abbrev S_ : Shape := ⟨0, ![]⟩

class Facts : Prop where
  bcast_S_S32x128x64 : S_.BroadcastsInDim S32x128x64 (![] : Fin 0 → Fin S32x128x64.rank)

variable [Facts]

def fn_part1 {F : FTy → Type} [FloatOps F] (main_arg0 : IVec S32x128x64 32) (main_v14 : IVec S32x128x64 1) (main_v16 : IVec S32x128x64 1) (main_v17 : IVec S32x128x64 32) : IVec S32x128x64 1 :=
  let main_v18 : IVec S32x128x64 1 := cmpi .slt main_arg0 main_v17
  let main_v19 : IVec S32x128x64 1 := andi main_v16 main_v18
  let main_v20 : IVec S32x128x64 1 := andi main_v19 main_v14
  main_v20

def fn {F : FTy → Type} [FloatOps F] (main_arg0 : IVec S32x128x64 32) (main_arg1 : FVec F S32x128x64 .f32) (main_arg2 : FVec F S32x128x64 .f32) (main_arg3 : FVec F S32x128x64 .f32) (main_arg4 : FVec F S32x128x64 .f32) (main_arg5 : FVec F S4096x1024 .f32) (main_arg6 : FVec F S1024x64 .f32) (main_arg7 : FVec F S1024x64 .f32) (main_arg8 : FVec F S1024 .f32) : IVec S32x128x64 1 :=
  let main_v0 : FVec F S32x128x64 .f32 := Host.absf main_arg1
  let main_cst : FVec F S_ .f32 := constant S_ .f32 0x7F800000#32
  let main_v1 : FVec F S32x128x64 .f32 := broadcastInDim S32x128x64 ![] bcast_S_S32x128x64 main_cst
  let main_v2 : IVec S32x128x64 1 := cmpf .olt main_v0 main_v1
  let main_v3 : FVec F S32x128x64 .f32 := Host.absf main_arg2
  let main_cst_0 : FVec F S_ .f32 := constant S_ .f32 0x7F800000#32
  let main_v4 : FVec F S32x128x64 .f32 := broadcastInDim S32x128x64 ![] bcast_S_S32x128x64 main_cst_0
  let main_v5 : IVec S32x128x64 1 := cmpf .olt main_v3 main_v4
  let main_v6 : IVec S32x128x64 1 := andi main_v2 main_v5
  let main_v7 : FVec F S32x128x64 .f32 := Host.absf main_arg3
  let main_cst_1 : FVec F S_ .f32 := constant S_ .f32 0x7F800000#32
  let main_v8 : FVec F S32x128x64 .f32 := broadcastInDim S32x128x64 ![] bcast_S_S32x128x64 main_cst_1
  let main_v9 : IVec S32x128x64 1 := cmpf .olt main_v7 main_v8
  let main_v10 : IVec S32x128x64 1 := andi main_v6 main_v9
  let main_v11 : FVec F S32x128x64 .f32 := Host.absf main_arg4
  let main_cst_2 : FVec F S_ .f32 := constant S_ .f32 0x7F800000#32
  let main_v12 : FVec F S32x128x64 .f32 := broadcastInDim S32x128x64 ![] bcast_S_S32x128x64 main_cst_2
  let main_v13 : IVec S32x128x64 1 := cmpf .olt main_v11 main_v12
  let main_v14 : IVec S32x128x64 1 := andi main_v10 main_v13
  let main_c : IVec S_ 32 := constantI S_ 32 0#32
  let main_v15 : IVec S32x128x64 32 := broadcastInDim S32x128x64 ![] bcast_S_S32x128x64 main_c
  let main_v16 : IVec S32x128x64 1 := cmpi .sge main_arg0 main_v15
  let main_c_3 : IVec S_ 32 := constantI S_ 32 64#32
  let main_v17 : IVec S32x128x64 32 := broadcastInDim S32x128x64 ![] bcast_S_S32x128x64 main_c_3
  fn_part1 (F := F) main_arg0 main_v14 main_v16 main_v17
-- ==== Kernel.lean ====
abbrev S32x128x64 : Shape := ⟨3, ![32, 128, 64]⟩
abbrev S4096x1024 : Shape := ⟨2, ![4096, 1024]⟩
abbrev S1024x64 : Shape := ⟨2, ![1024, 64]⟩
abbrev S1024 : Shape := ⟨1, ![1024]⟩
abbrev S32x64 : Shape := ⟨2, ![32, 64]⟩
abbrev S128x64 : Shape := ⟨2, ![128, 64]⟩
abbrev S64 : Shape := ⟨1, ![64]⟩
abbrev S_ : Shape := ⟨0, ![]⟩
abbrev S1x128x64 : Shape := ⟨3, ![1, 128, 64]⟩
abbrev S16 : Shape := ⟨1, ![16]⟩
abbrev S1x16 : Shape := ⟨2, ![1, 16]⟩
abbrev S1x64 : Shape := ⟨2, ![1, 64]⟩
abbrev S1x1024 : Shape := ⟨2, ![1, 1024]⟩
abbrev S4x128x64 : Shape := ⟨3, ![4, 128, 64]⟩
abbrev S512x1024 : Shape := ⟨2, ![512, 1024]⟩
abbrev S512x64 : Shape := ⟨2, ![512, 64]⟩

abbrev nBuf : Table → Nat
  | .hbm => 23
  | .local .tc .vmem => 11
  | .local .scVector .vmem => 35
  | _ => 0

abbrev bufTy : (tb : Table) → Fin (nBuf tb) → BufTy
  | .hbm, ⟨0, _⟩ => ⟨S32x128x64, .i32⟩
  | .hbm, ⟨1, _⟩ => ⟨S32x128x64, .f32⟩
  | .hbm, ⟨2, _⟩ => ⟨S32x128x64, .f32⟩
  | .hbm, ⟨3, _⟩ => ⟨S32x128x64, .f32⟩
  | .hbm, ⟨4, _⟩ => ⟨S32x128x64, .f32⟩
  | .hbm, ⟨5, _⟩ => ⟨S4096x1024, .f32⟩
  | .hbm, ⟨6, _⟩ => ⟨S1024x64, .f32⟩
  | .hbm, ⟨7, _⟩ => ⟨S1024x64, .f32⟩
  | .hbm, ⟨8, _⟩ => ⟨S1024, .f32⟩
  | .hbm, ⟨9, _⟩ => ⟨S32x128x64, .i32⟩
  | .hbm, ⟨10, _⟩ => ⟨S32x128x64, .f32⟩
  | .hbm, ⟨11, _⟩ => ⟨S32x128x64, .f32⟩
  | .hbm, ⟨12, _⟩ => ⟨S32x128x64, .f32⟩
  | .hbm, ⟨13, _⟩ => ⟨S32x128x64, .f32⟩
  | .hbm, ⟨14, _⟩ => ⟨S32x64, .i32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x128x64, .f32⟩
  | .hbm, ⟨20, _⟩ => ⟨S32x128x64, .f32⟩
  | .hbm, ⟨21, _⟩ => ⟨S1x1024, .f32⟩
  | .hbm, ⟨22, _⟩ => ⟨S4096x1024, .f32⟩
  | .local .tc .vmem, ⟨0, _⟩ => ⟨S4x128x64, .f32⟩
  | .local .tc .vmem, ⟨1, _⟩ => ⟨S4x128x64, .f32⟩
  | .local .tc .vmem, ⟨2, _⟩ => ⟨S4x128x64, .f32⟩
  | .local .tc .vmem, ⟨3, _⟩ => ⟨S4x128x64, .f32⟩
  | .local .tc .vmem, ⟨4, _⟩ => ⟨S512x1024, .f32⟩
  | .local .tc .vmem, ⟨5, _⟩ => ⟨S512x1024, .f32⟩
  | .local .tc .vmem, ⟨6, _⟩ => ⟨S1024x64, .f32⟩
  | .local .tc .vmem, ⟨7, _⟩ => ⟨S1024x64, .f32⟩
  | .local .tc .vmem, ⟨8, _⟩ => ⟨S1x1024, .f32⟩
  | .local .tc .vmem, ⟨9, _⟩ => ⟨S512x1024, .f32⟩
  | .local .tc .vmem, ⟨10, _⟩ => ⟨S512x1024, .f32⟩
  | .local .scVector .vmem, ⟨0, _⟩ => ⟨S128x64, .i32⟩
  | .local .scVector .vmem, ⟨1, _⟩ => ⟨S128x64, .f32⟩
  | .local .scVector .vmem, ⟨2, _⟩ => ⟨S128x64, .f32⟩
  | .local .scVector .vmem, ⟨3, _⟩ => ⟨S128x64, .f32⟩
  | .local .scVector .vmem, ⟨4, _⟩ => ⟨S128x64, .f32⟩
  | .local .scVector .vmem, ⟨5, _⟩ => ⟨S64, .f32⟩
  | .local .scVector .vmem, ⟨6, _⟩ => ⟨S64, .f32⟩
  | .local .scVector .vmem, ⟨7, _⟩ => ⟨S64, .f32⟩
  | .local .scVector .vmem, ⟨8, _⟩ => ⟨S64, .f32⟩
  | .local .scVector .vmem, ⟨9, _⟩ => ⟨S64, .f32⟩
  | .local .scVector .vmem, ⟨10, _⟩ => ⟨S64, .f32⟩
  | .local .scVector .vmem, ⟨11, _⟩ => ⟨S64, .f32⟩
  | .local .scVector .vmem, ⟨12, _⟩ => ⟨S64, .f32⟩
  | .local .scVector .vmem, ⟨13, _⟩ => ⟨S32x64, .i32⟩
  | .local .scVector .vmem, ⟨14, _⟩ => ⟨S32x64, .f32⟩
  | .local .scVector .vmem, ⟨15, _⟩ => ⟨S32x64, .f32⟩
  | .local .scVector .vmem, ⟨16, _⟩ => ⟨S32x64, .f32⟩
  | .local .scVector .vmem, ⟨17, _⟩ => ⟨S32x64, .f32⟩
  | .local .scVector .vmem, ⟨18, _⟩ => ⟨S128x64, .i32⟩
  | .local .scVector .vmem, ⟨19, _⟩ => ⟨S128x64, .f32⟩
  | .local .scVector .vmem, ⟨20, _⟩ => ⟨S128x64, .f32⟩
  | .local .scVector .vmem, ⟨21, _⟩ => ⟨S128x64, .f32⟩
  | .local .scVector .vmem, ⟨22, _⟩ => ⟨S128x64, .f32⟩
  | .local .scVector .vmem, ⟨23, _⟩ => ⟨S64, .f32⟩
  | .local .scVector .vmem, ⟨24, _⟩ => ⟨S64, .f32⟩
  | .local .scVector .vmem, ⟨25, _⟩ => ⟨S64, .f32⟩
  | .local .scVector .vmem, ⟨26, _⟩ => ⟨S64, .f32⟩
  | .local .scVector .vmem, ⟨27, _⟩ => ⟨S64, .f32⟩
  | .local .scVector .vmem, ⟨28, _⟩ => ⟨S64, .f32⟩
  | .local .scVector .vmem, ⟨29, _⟩ => ⟨S64, .f32⟩
  | .local .scVector .vmem, ⟨30, _⟩ => ⟨S64, .f32⟩
  | .local .scVector .vmem, ⟨31, _⟩ => ⟨S64, .f32⟩
  | .local .scVector .vmem, ⟨32, _⟩ => ⟨S64, .f32⟩
  | .local .scVector .vmem, ⟨33, _⟩ => ⟨S64, .f32⟩
  | .local .scVector .vmem, ⟨34, _⟩ => ⟨S64, .f32⟩
  | _, _ => ⟨S32x128x64, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v1_0 : Ref sig .tc := ⟨.hbm, 19, rfl⟩
abbrev main_v1_1 : Ref sig .tc := ⟨.hbm, 20, rfl⟩
abbrev main_v2 : Ref sig .tc := ⟨.hbm, 21, rfl⟩
abbrev main_v3 : Ref sig .tc := ⟨.hbm, 22, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 9, rfl⟩
abbrev main_v0_1_scv : Ref sig .scVector := ⟨.hbm, 10, rfl⟩
abbrev main_v0_2_scv : Ref sig .scVector := ⟨.hbm, 11, rfl⟩
abbrev main_v0_3_scv : Ref sig .scVector := ⟨.hbm, 12, rfl⟩
abbrev main_v0_4_scv : Ref sig .scVector := ⟨.hbm, 13, rfl⟩
abbrev main_v0_5_scv : Ref sig .scVector := ⟨.hbm, 14, rfl⟩
abbrev main_v0_6_scv : Ref sig .scVector := ⟨.hbm, 15, rfl⟩
abbrev main_v0_7_scv : Ref sig .scVector := ⟨.hbm, 16, rfl⟩
abbrev main_v0_8_scv : Ref sig .scVector := ⟨.hbm, 17, rfl⟩
abbrev main_v0_9_scv : Ref sig .scVector := ⟨.hbm, 18, rfl⟩
abbrev main_v1_0_scv : Ref sig .scVector := ⟨.hbm, 19, rfl⟩
abbrev main_v1_1_scv : Ref sig .scVector := ⟨.hbm, 20, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_stg6_0 : Ref sig .tc := ⟨.vmem, 9, rfl⟩
abbrev cc2_stg6_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc1_scratch0 : Ref sig .scVector := ⟨.vmem, 13, rfl⟩
abbrev cc1_scratch1 : Ref sig .scVector := ⟨.vmem, 14, rfl⟩
abbrev cc1_scratch2 : Ref sig .scVector := ⟨.vmem, 15, rfl⟩
abbrev cc1_scratch3 : Ref sig .scVector := ⟨.vmem, 16, rfl⟩
abbrev cc1_scratch4 : Ref sig .scVector := ⟨.vmem, 17, rfl⟩
abbrev cc1_scratch5 : Ref sig .scVector := ⟨.vmem, 18, rfl⟩
abbrev cc1_scratch6 : Ref sig .scVector := ⟨.vmem, 19, rfl⟩
abbrev cc1_scratch7 : Ref sig .scVector := ⟨.vmem, 20, rfl⟩
abbrev cc1_scratch8 : Ref sig .scVector := ⟨.vmem, 21, rfl⟩
abbrev cc1_scratch9 : Ref sig .scVector := ⟨.vmem, 22, rfl⟩
abbrev cc1_scratch10 : Ref sig .scVector := ⟨.vmem, 23, rfl⟩
abbrev cc1_scratch11 : Ref sig .scVector := ⟨.vmem, 24, rfl⟩
abbrev cc1_scratch12 : Ref sig .scVector := ⟨.vmem, 25, rfl⟩
abbrev cc1_scratch13 : Ref sig .scVector := ⟨.vmem, 26, rfl⟩
abbrev cc1_scratch14 : Ref sig .scVector := ⟨.vmem, 27, rfl⟩
abbrev cc1_scratch15 : Ref sig .scVector := ⟨.vmem, 28, rfl⟩
abbrev cc1_scratch16 : Ref sig .scVector := ⟨.vmem, 29, rfl⟩
abbrev cc1_scratch17 : Ref sig .scVector := ⟨.vmem, 30, rfl⟩
abbrev cc1_scratch18 : Ref sig .scVector := ⟨.vmem, 31, rfl⟩
abbrev cc1_scratch19 : Ref sig .scVector := ⟨.vmem, 32, rfl⟩
abbrev cc1_scratch20 : Ref sig .scVector := ⟨.vmem, 33, rfl⟩
abbrev cc1_scratch21 : Ref sig .scVector := ⟨.vmem, 34, rfl⟩
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem6_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
@[reducible] def k0_t1_loop : Scf.Loop 32 :=
  let c0_i32_42 : BitVec 32 := 0#32
  let c128_i32 : BitVec 32 := 128#32
  let v54 : BitVec 32 := Scalar.addi c0_i32_42 c128_i32
  let c1_i32 : BitVec 32 := 1#32
  ⟨c0_i32_42, v54, c1_i32⟩
def k0_off2 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v208 : Index := Scalar.indexCast arg33
  let c0_161 : Index := 0#32
  ![v208.toNat, 0]

def k0_chk1 (v219 : IVec S16 32) : Prop :=
  (∀ a x, ((![v219] : Fin 1 → IVec S16 32) a x).toNat < S64.size a) ∧
  (∀ a x, ((![v219] : Fin 1 → IVec S16 32) a x).toNat < S64.size a)
theorem k0_idx1_inb : ∀ (v219 : IVec S16 32) (k0_hw1 : k0_chk1 v219), ∀ a x, ((![v219] : Fin 1 → IVec S16 32) a x).toNat < S64.size a := fun v219 k0_hw1 => k0_hw1.1
theorem k0_idx2_inb : ∀ (v219 : IVec S16 32) (k0_hw1 : k0_chk1 v219), ∀ a x, ((![v219] : Fin 1 → IVec S16 32) a x).toNat < S64.size a := fun v219 k0_hw1 => k0_hw1.2
def k0_off3 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v220 : Index := Scalar.indexCast arg33
  let c16_164 : Index := 16#32
  ![v220.toNat, 16]

def k0_chk2 (v231 : IVec S16 32) : Prop :=
  (∀ a x, ((![v231] : Fin 1 → IVec S16 32) a x).toNat < S64.size a) ∧
  (∀ a x, ((![v231] : Fin 1 → IVec S16 32) a x).toNat < S64.size a)
theorem k0_idx3_inb : ∀ (v231 : IVec S16 32) (k0_hw2 : k0_chk2 v231), ∀ a x, ((![v231] : Fin 1 → IVec S16 32) a x).toNat < S64.size a := fun v231 k0_hw2 => k0_hw2.1
theorem k0_idx4_inb : ∀ (v231 : IVec S16 32) (k0_hw2 : k0_chk2 v231), ∀ a x, ((![v231] : Fin 1 → IVec S16 32) a x).toNat < S64.size a := fun v231 k0_hw2 => k0_hw2.2
def k0_off4 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v232 : Index := Scalar.indexCast arg33
  let c32_167 : Index := 32#32
  ![v232.toNat, 32]

def k0_chk3 (v243 : IVec S16 32) : Prop :=
  (∀ a x, ((![v243] : Fin 1 → IVec S16 32) a x).toNat < S64.size a) ∧
  (∀ a x, ((![v243] : Fin 1 → IVec S16 32) a x).toNat < S64.size a)
theorem k0_idx5_inb : ∀ (v243 : IVec S16 32) (k0_hw3 : k0_chk3 v243), ∀ a x, ((![v243] : Fin 1 → IVec S16 32) a x).toNat < S64.size a := fun v243 k0_hw3 => k0_hw3.1
theorem k0_idx6_inb : ∀ (v243 : IVec S16 32) (k0_hw3 : k0_chk3 v243), ∀ a x, ((![v243] : Fin 1 → IVec S16 32) a x).toNat < S64.size a := fun v243 k0_hw3 => k0_hw3.2
def k0_off5 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v244 : Index := Scalar.indexCast arg33
  let c48_170 : Index := 48#32
  ![v244.toNat, 48]

def k0_chk4 (v255 : IVec S16 32) : Prop :=
  (∀ a x, ((![v255] : Fin 1 → IVec S16 32) a x).toNat < S64.size a) ∧
  (∀ a x, ((![v255] : Fin 1 → IVec S16 32) a x).toNat < S64.size a)
theorem k0_idx7_inb : ∀ (v255 : IVec S16 32) (k0_hw4 : k0_chk4 v255), ∀ a x, ((![v255] : Fin 1 → IVec S16 32) a x).toNat < S64.size a := fun v255 k0_hw4 => k0_hw4.1
theorem k0_idx8_inb : ∀ (v255 : IVec S16 32) (k0_hw4 : k0_chk4 v255), ∀ a x, ((![v255] : Fin 1 → IVec S16 32) a x).toNat < S64.size a := fun v255 k0_hw4 => k0_hw4.2

def k0_chk5 (arg34 : IVec S16 32) (arg35 : IVec S16 32) (arg36 : IVec S16 32) (arg37 : IVec S16 32) (v256 : IVec S16 32) : Prop :=
  (∀ a x, ((![v256, arg34] : Fin 2 → IVec S16 32) a x).toNat < S128x64.size a) ∧
  (∀ a x, ((![v256, arg34] : Fin 2 → IVec S16 32) a x).toNat < S128x64.size a) ∧
  (∀ a x, ((![v256, arg34] : Fin 2 → IVec S16 32) a x).toNat < S128x64.size a) ∧
  (∀ a x, ((![v256, arg35] : Fin 2 → IVec S16 32) a x).toNat < S128x64.size a) ∧
  (∀ a x, ((![v256, arg35] : Fin 2 → IVec S16 32) a x).toNat < S128x64.size a) ∧
  (∀ a x, ((![v256, arg35] : Fin 2 → IVec S16 32) a x).toNat < S128x64.size a) ∧
  (∀ a x, ((![v256, arg36] : Fin 2 → IVec S16 32) a x).toNat < S128x64.size a) ∧
  (∀ a x, ((![v256, arg36] : Fin 2 → IVec S16 32) a x).toNat < S128x64.size a) ∧
  (∀ a x, ((![v256, arg36] : Fin 2 → IVec S16 32) a x).toNat < S128x64.size a) ∧
  (∀ a x, ((![v256, arg37] : Fin 2 → IVec S16 32) a x).toNat < S128x64.size a) ∧
  (∀ a x, ((![v256, arg37] : Fin 2 → IVec S16 32) a x).toNat < S128x64.size a) ∧
  (∀ a x, ((![v256, arg37] : Fin 2 → IVec S16 32) a x).toNat < S128x64.size a)
theorem k0_idx9_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg34] : Fin 2 → IVec S16 32) a x).toNat < S128x64.size a := fun arg34 arg35 arg36 arg37 v256 k0_hw5 => k0_hw5.1
theorem k0_idx10_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg34] : Fin 2 → IVec S16 32) a x).toNat < S128x64.size a := fun arg34 arg35 arg36 arg37 v256 k0_hw5 => k0_hw5.2.1
theorem k0_idx11_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg34] : Fin 2 → IVec S16 32) a x).toNat < S128x64.size a := fun arg34 arg35 arg36 arg37 v256 k0_hw5 => k0_hw5.2.2.1
theorem k0_idx12_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg35] : Fin 2 → IVec S16 32) a x).toNat < S128x64.size a := fun arg34 arg35 arg36 arg37 v256 k0_hw5 => k0_hw5.2.2.2.1
theorem k0_idx13_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg35] : Fin 2 → IVec S16 32) a x).toNat < S128x64.size a := fun arg34 arg35 arg36 arg37 v256 k0_hw5 => k0_hw5.2.2.2.2.1
theorem k0_idx14_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg35] : Fin 2 → IVec S16 32) a x).toNat < S128x64.size a := fun arg34 arg35 arg36 arg37 v256 k0_hw5 => k0_hw5.2.2.2.2.2.1
theorem k0_idx15_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg36] : Fin 2 → IVec S16 32) a x).toNat < S128x64.size a := fun arg34 arg35 arg36 arg37 v256 k0_hw5 => k0_hw5.2.2.2.2.2.2.1
theorem k0_idx16_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg36] : Fin 2 → IVec S16 32) a x).toNat < S128x64.size a := fun arg34 arg35 arg36 arg37 v256 k0_hw5 => k0_hw5.2.2.2.2.2.2.2.1
theorem k0_idx17_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg36] : Fin 2 → IVec S16 32) a x).toNat < S128x64.size a := fun arg34 arg35 arg36 arg37 v256 k0_hw5 => k0_hw5.2.2.2.2.2.2.2.2.1
theorem k0_idx18_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg37] : Fin 2 → IVec S16 32) a x).toNat < S128x64.size a := fun arg34 arg35 arg36 arg37 v256 k0_hw5 => k0_hw5.2.2.2.2.2.2.2.2.2.1
theorem k0_idx19_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg37] : Fin 2 → IVec S16 32) a x).toNat < S128x64.size a := fun arg34 arg35 arg36 arg37 v256 k0_hw5 => k0_hw5.2.2.2.2.2.2.2.2.2.2.1
theorem k0_idx20_inb : ∀ (arg34 : IVec S16 32) (arg35 : IVec S16 32) (arg36 : IVec S16 32) (arg37 : IVec S16 32) (v256 : IVec S16 32) (k0_hw5 : k0_chk5 arg34 arg35 arg36 arg37 v256), ∀ a x, ((![v256, arg37] : Fin 2 → IVec S16 32) a x).toNat < S128x64.size a := fun arg34 arg35 arg36 arg37 v256 k0_hw5 => k0_hw5.2.2.2.2.2.2.2.2.2.2.2
def k0_off6 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v293 : Index := Scalar.indexCast arg33
  let c0_173 : Index := 0#32
  ![v293.toNat, 0]
def k0_off7 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v323 : Index := Scalar.indexCast arg33
  let c16_188 : Index := 16#32
  ![v323.toNat, 16]
def k0_off8 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v353 : Index := Scalar.indexCast arg33
  let c32_203 : Index := 32#32
  ![v353.toNat, 32]
def k0_off9 (k0_t1 : Fin k0_t1_loop.trips) : Fin 2 → Nat :=
  let c0_i32_42 : BitVec 32 := 0#32
  let c1_i32 : BitVec 32 := 1#32
  let arg33 : BitVec 32 := Scf.iv c0_i32_42 c1_i32 k0_t1
  let v383 : Index := Scalar.indexCast arg33
  let c48_218 : Index := 48#32
  ![v383.toNat, 48]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  ![v1.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
@[reducible] def k1_t1_loop : Scf.Loop 32 :=
  let c0_i32_19 : BitVec 32 := 0#32
  let c31_i32 : BitVec 32 := 31#32
  let v23 : BitVec 32 := Scalar.addi c0_i32_19 c31_i32
  let c1_i32 : BitVec 32 := 1#32
  ⟨c0_i32_19, v23, c1_i32⟩
def k1_off2 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v96 : Index := Scalar.indexCast arg39
  let c0_89 : Index := 0#32
  ![v96.toNat, 0]

def k1_chk1 (v107 : IVec S16 32) : Prop :=
  (∀ a x, ((![v107] : Fin 1 → IVec S16 32) a x).toNat < S64.size a) ∧
  (∀ a x, ((![v107] : Fin 1 → IVec S16 32) a x).toNat < S64.size a)
theorem k1_idx1_inb : ∀ (v107 : IVec S16 32) (k1_hw1 : k1_chk1 v107), ∀ a x, ((![v107] : Fin 1 → IVec S16 32) a x).toNat < S64.size a := fun v107 k1_hw1 => k1_hw1.1
theorem k1_idx2_inb : ∀ (v107 : IVec S16 32) (k1_hw1 : k1_chk1 v107), ∀ a x, ((![v107] : Fin 1 → IVec S16 32) a x).toNat < S64.size a := fun v107 k1_hw1 => k1_hw1.2
def k1_off3 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v108 : Index := Scalar.indexCast arg39
  let c16_92 : Index := 16#32
  ![v108.toNat, 16]

def k1_chk2 (v119 : IVec S16 32) : Prop :=
  (∀ a x, ((![v119] : Fin 1 → IVec S16 32) a x).toNat < S64.size a) ∧
  (∀ a x, ((![v119] : Fin 1 → IVec S16 32) a x).toNat < S64.size a)
theorem k1_idx3_inb : ∀ (v119 : IVec S16 32) (k1_hw2 : k1_chk2 v119), ∀ a x, ((![v119] : Fin 1 → IVec S16 32) a x).toNat < S64.size a := fun v119 k1_hw2 => k1_hw2.1
theorem k1_idx4_inb : ∀ (v119 : IVec S16 32) (k1_hw2 : k1_chk2 v119), ∀ a x, ((![v119] : Fin 1 → IVec S16 32) a x).toNat < S64.size a := fun v119 k1_hw2 => k1_hw2.2
def k1_off4 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v120 : Index := Scalar.indexCast arg39
  let c32_95 : Index := 32#32
  ![v120.toNat, 32]

def k1_chk3 (v131 : IVec S16 32) : Prop :=
  (∀ a x, ((![v131] : Fin 1 → IVec S16 32) a x).toNat < S64.size a) ∧
  (∀ a x, ((![v131] : Fin 1 → IVec S16 32) a x).toNat < S64.size a)
theorem k1_idx5_inb : ∀ (v131 : IVec S16 32) (k1_hw3 : k1_chk3 v131), ∀ a x, ((![v131] : Fin 1 → IVec S16 32) a x).toNat < S64.size a := fun v131 k1_hw3 => k1_hw3.1
theorem k1_idx6_inb : ∀ (v131 : IVec S16 32) (k1_hw3 : k1_chk3 v131), ∀ a x, ((![v131] : Fin 1 → IVec S16 32) a x).toNat < S64.size a := fun v131 k1_hw3 => k1_hw3.2
def k1_off5 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v132 : Index := Scalar.indexCast arg39
  let c48_98 : Index := 48#32
  ![v132.toNat, 48]

def k1_chk4 (v143 : IVec S16 32) : Prop :=
  (∀ a x, ((![v143] : Fin 1 → IVec S16 32) a x).toNat < S64.size a) ∧
  (∀ a x, ((![v143] : Fin 1 → IVec S16 32) a x).toNat < S64.size a)
theorem k1_idx7_inb : ∀ (v143 : IVec S16 32) (k1_hw4 : k1_chk4 v143), ∀ a x, ((![v143] : Fin 1 → IVec S16 32) a x).toNat < S64.size a := fun v143 k1_hw4 => k1_hw4.1
theorem k1_idx8_inb : ∀ (v143 : IVec S16 32) (k1_hw4 : k1_chk4 v143), ∀ a x, ((![v143] : Fin 1 → IVec S16 32) a x).toNat < S64.size a := fun v143 k1_hw4 => k1_hw4.2
def k1_off6 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v144 : Index := Scalar.indexCast arg39
  let c0_101 : Index := 0#32
  ![v144.toNat, 0]
def k1_off7 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v166 : Index := Scalar.indexCast arg39
  let c16_111 : Index := 16#32
  ![v166.toNat, 16]
def k1_off8 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v188 : Index := Scalar.indexCast arg39
  let c32_121 : Index := 32#32
  ![v188.toNat, 32]
def k1_off9 (k1_t1 : Fin k1_t1_loop.trips) : Fin 2 → Nat :=
  let c0_i32_19 : BitVec 32 := 0#32
  let c1_i32 : BitVec 32 := 1#32
  let arg39 : BitVec 32 := Scf.iv c0_i32_19 c1_i32 k1_t1
  let v210 : Index := Scalar.indexCast arg39
  let c48_131 : Index := 48#32
  ![v210.toNat, 48]
@[reducible] def k1_t2_loop : Scf.Loop 32 :=
  let c0_i32_42 : BitVec 32 := 0#32
  let c32_i32 : BitVec 32 := 32#32
  let v45 : BitVec 32 := Scalar.addi c0_i32_42 c32_i32
  let c1_i32_43 : BitVec 32 := 1#32
  ⟨c0_i32_42, v45, c1_i32_43⟩
def k1_off10 (k1_t2 : Fin k1_t2_loop.trips) : Fin 2 → Nat :=
  let c4_i32 : BitVec 32 := 4#32
  let c0_i32_42 : BitVec 32 := 0#32
  let c1_i32_43 : BitVec 32 := 1#32
  let arg39 : BitVec 32 := Scf.iv c0_i32_42 c1_i32_43 k1_t2
  let v62 : BitVec 32 := Scalar.muli c4_i32 arg39
  let c0_i32_61 : BitVec 32 := 0#32
  let v63 : BitVec 32 := Scalar.addi v62 c0_i32_61
  let v64 : Index := Scalar.indexCast v63
  let c0 : Index := 0#32
  ![v64.toNat, 0]
def k1_off11 (k1_t2 : Fin k1_t2_loop.trips) : Fin 2 → Nat :=
  let c4_i32 : BitVec 32 := 4#32
  let c0_i32_42 : BitVec 32 := 0#32
  let c1_i32_43 : BitVec 32 := 1#32
  let arg39 : BitVec 32 := Scf.iv c0_i32_42 c1_i32_43 k1_t2
  let v62 : BitVec 32 := Scalar.muli c4_i32 arg39
  let c0_i32_61 : BitVec 32 := 0#32
  let v63 : BitVec 32 := Scalar.addi v62 c0_i32_61
  let v70 : Index := Scalar.indexCast v63
  let c16 : Index := 16#32
  ![v70.toNat, 16]
def k1_off12 (k1_t2 : Fin k1_t2_loop.trips) : Fin 2 → Nat :=
  let c4_i32 : BitVec 32 := 4#32
  let c0_i32_42 : BitVec 32 := 0#32
  let c1_i32_43 : BitVec 32 := 1#32
  let arg39 : BitVec 32 := Scf.iv c0_i32_42 c1_i32_43 k1_t2
  let v62 : BitVec 32 := Scalar.muli c4_i32 arg39
  let c0_i32_61 : BitVec 32 := 0#32
  let v63 : BitVec 32 := Scalar.addi v62 c0_i32_61
  let v76 : Index := Scalar.indexCast v63
  let c32 : Index := 32#32
  ![v76.toNat, 32]
def k1_off13 (k1_t2 : Fin k1_t2_loop.trips) : Fin 2 → Nat :=
  let c4_i32 : BitVec 32 := 4#32
  let c0_i32_42 : BitVec 32 := 0#32
  let c1_i32_43 : BitVec 32 := 1#32
  let arg39 : BitVec 32 := Scf.iv c0_i32_42 c1_i32_43 k1_t2
  let v62 : BitVec 32 := Scalar.muli c4_i32 arg39
  let c0_i32_61 : BitVec 32 := 0#32
  let v63 : BitVec 32 := Scalar.addi v62 c0_i32_61
  let v82 : Index := Scalar.indexCast v63
  let c48 : Index := 48#32
  ![v82.toNat, 48]

def k1_chk5 (v99 : IVec S16 32) : Prop :=
  (∀ a x, ((![v99] : Fin 1 → IVec S16 32) a x).toNat < S64.size a) ∧
  (∀ a x, ((![v99] : Fin 1 → IVec S16 32) a x).toNat < S64.size a)
theorem k1_idx9_inb : ∀ (v99 : IVec S16 32) (k1_hw5 : k1_chk5 v99), ∀ a x, ((![v99] : Fin 1 → IVec S16 32) a x).toNat < S64.size a := fun v99 k1_hw5 => k1_hw5.1
theorem k1_idx10_inb : ∀ (v99 : IVec S16 32) (k1_hw5 : k1_chk5 v99), ∀ a x, ((![v99] : Fin 1 → IVec S16 32) a x).toNat < S64.size a := fun v99 k1_hw5 => k1_hw5.2
def k1_off14 (k1_t2 : Fin k1_t2_loop.trips) : Fin 2 → Nat :=
  let c4_i32 : BitVec 32 := 4#32
  let c0_i32_42 : BitVec 32 := 0#32
  let c1_i32_43 : BitVec 32 := 1#32
  let arg39 : BitVec 32 := Scf.iv c0_i32_42 c1_i32_43 k1_t2
  let v62 : BitVec 32 := Scalar.muli c4_i32 arg39
  let c0_i32_61 : BitVec 32 := 0#32
  let v63 : BitVec 32 := Scalar.addi v62 c0_i32_61
  let v100 : Index := Scalar.indexCast v63
  let c16_77 : Index := 16#32
  ![v100.toNat, 16]

def k1_chk6 (v111 : IVec S16 32) : Prop :=
  (∀ a x, ((![v111] : Fin 1 → IVec S16 32) a x).toNat < S64.size a) ∧
  (∀ a x, ((![v111] : Fin 1 → IVec S16 32) a x).toNat < S64.size a)
theorem k1_idx11_inb : ∀ (v111 : IVec S16 32) (k1_hw6 : k1_chk6 v111), ∀ a x, ((![v111] : Fin 1 → IVec S16 32) a x).toNat < S64.size a := fun v111 k1_hw6 => k1_hw6.1
theorem k1_idx12_inb : ∀ (v111 : IVec S16 32) (k1_hw6 : k1_chk6 v111), ∀ a x, ((![v111] : Fin 1 → IVec S16 32) a x).toNat < S64.size a := fun v111 k1_hw6 => k1_hw6.2
def k1_off15 (k1_t2 : Fin k1_t2_loop.trips) : Fin 2 → Nat :=
  let c4_i32 : BitVec 32 := 4#32
  let c0_i32_42 : BitVec 32 := 0#32
  let c1_i32_43 : BitVec 32 := 1#32
  let arg39 : BitVec 32 := Scf.iv c0_i32_42 c1_i32_43 k1_t2
  let v62 : BitVec 32 := Scalar.muli c4_i32 arg39
  let c0_i32_61 : BitVec 32 := 0#32
  let v63 : BitVec 32 := Scalar.addi v62 c0_i32_61
  let v112 : Index := Scalar.indexCast v63
  let c32_80 : Index := 32#32
  ![v112.toNat, 32]

def k1_chk7 (v123 : IVec S16 32) : Prop :=
  (∀ a x, ((![v123] : Fin 1 → IVec S16 32) a x).toNat < S64.size a) ∧
  (∀ a x, ((![v123] : Fin 1 → IVec S16 32) a x).toNat < S64.size a)
theorem k1_idx13_inb : ∀ (v123 : IVec S16 32) (k1_hw7 : k1_chk7 v123), ∀ a x, ((![v123] : Fin 1 → IVec S16 32) a x).toNat < S64.size a := fun v123 k1_hw7 => k1_hw7.1
theorem k1_idx14_inb : ∀ (v123 : IVec S16 32) (k1_hw7 : k1_chk7 v123), ∀ a x, ((![v123] : Fin 1 → IVec S16 32) a x).toNat < S64.size a := fun v123 k1_hw7 => k1_hw7.2
def k1_off16 (k1_t2 : Fin k1_t2_loop.trips) : Fin 2 → Nat :=
  let c4_i32 : BitVec 32 := 4#32
  let c0_i32_42 : BitVec 32 := 0#32
  let c1_i32_43 : BitVec 32 := 1#32
  let arg39 : BitVec 32 := Scf.iv c0_i32_42 c1_i32_43 k1_t2
  let v62 : BitVec 32 := Scalar.muli c4_i32 arg39
  let c0_i32_61 : BitVec 32 := 0#32
  let v63 : BitVec 32 := Scalar.addi v62 c0_i32_61
  let v124 : Index := Scalar.indexCast v63
  let c48_83 : Index := 48#32
  ![v124.toNat, 48]

def k1_chk8 (v135 : IVec S16 32) : Prop :=
  (∀ a x, ((![v135] : Fin 1 → IVec S16 32) a x).toNat < S64.size a) ∧
  (∀ a x, ((![v135] : Fin 1 → IVec S16 32) a x).toNat < S64.size a)
theorem k1_idx15_inb : ∀ (v135 : IVec S16 32) (k1_hw8 : k1_chk8 v135), ∀ a x, ((![v135] : Fin 1 → IVec S16 32) a x).toNat < S64.size a := fun v135 k1_hw8 => k1_hw8.1
theorem k1_idx16_inb : ∀ (v135 : IVec S16 32) (k1_hw8 : k1_chk8 v135), ∀ a x, ((![v135] : Fin 1 → IVec S16 32) a x).toNat < S64.size a := fun v135 k1_hw8 => k1_hw8.2
def k1_off17 (k1_t2 : Fin k1_t2_loop.trips) : Fin 2 → Nat :=
  let c4_i32_86 : BitVec 32 := 4#32
  let c0_i32_42 : BitVec 32 := 0#32
  let c1_i32_43 : BitVec 32 := 1#32
  let arg39 : BitVec 32 := Scf.iv c0_i32_42 c1_i32_43 k1_t2
  let v136 : BitVec 32 := Scalar.muli c4_i32_86 arg39
  let c1_i32_87 : BitVec 32 := 1#32
  let v137 : BitVec 32 := Scalar.addi v136 c1_i32_87
  let v138 : Index := Scalar.indexCast v137
  let c0_88 : Index := 0#32
  ![v138.toNat, 0]
def k1_off18 (k1_t2 : Fin k1_t2_loop.trips) : Fin 2 → Nat :=
  let c4_i32_86 : BitVec 32 := 4#32
  let c0_i32_42 : BitVec 32 := 0#32
  let c1_i32_43 : BitVec 32 := 1#32
  let arg39 : BitVec 32 := Scf.iv c0_i32_42 c1_i32_43 k1_t2
  let v136 : BitVec 32 := Scalar.muli c4_i32_86 arg39
  let c1_i32_87 : BitVec 32 := 1#32
  let v137 : BitVec 32 := Scalar.addi v136 c1_i32_87
  let v144 : Index := Scalar.indexCast v137
  let c16_92 : Index := 16#32
  ![v144.toNat, 16]
def k1_off19 (k1_t2 : Fin k1_t2_loop.trips) : Fin 2 → Nat :=
  let c4_i32_86 : BitVec 32 := 4#32
  let c0_i32_42 : BitVec 32 := 0#32
  let c1_i32_43 : BitVec 32 := 1#32
  let arg39 : BitVec 32 := Scf.iv c0_i32_42 c1_i32_43 k1_t2
  let v136 : BitVec 32 := Scalar.muli c4_i32_86 arg39
  let c1_i32_87 : BitVec 32 := 1#32
  let v137 : BitVec 32 := Scalar.addi v136 c1_i32_87
  let v150 : Index := Scalar.indexCast v137
  let c32_96 : Index := 32#32
  ![v150.toNat, 32]
def k1_off20 (k1_t2 : Fin k1_t2_loop.trips) : Fin 2 → Nat :=
  let c4_i32_86 : BitVec 32 := 4#32
  let c0_i32_42 : BitVec 32 := 0#32
  let c1_i32_43 : BitVec 32 := 1#32
  let arg39 : BitVec 32 := Scf.iv c0_i32_42 c1_i32_43 k1_t2
  let v136 : BitVec 32 := Scalar.muli c4_i32_86 arg39
  let c1_i32_87 : BitVec 32 := 1#32
  let v137 : BitVec 32 := Scalar.addi v136 c1_i32_87
  let v156 : Index := Scalar.indexCast v137
  let c48_100 : Index := 48#32
  ![v156.toNat, 48]

def k1_chk9 (v173 : IVec S16 32) : Prop :=
  (∀ a x, ((![v173] : Fin 1 → IVec S16 32) a x).toNat < S64.size a) ∧
  (∀ a x, ((![v173] : Fin 1 → IVec S16 32) a x).toNat < S64.size a)
theorem k1_idx17_inb : ∀ (v173 : IVec S16 32) (k1_hw9 : k1_chk9 v173), ∀ a x, ((![v173] : Fin 1 → IVec S16 32) a x).toNat < S64.size a := fun v173 k1_hw9 => k1_hw9.1
theorem k1_idx18_inb : ∀ (v173 : IVec S16 32) (k1_hw9 : k1_chk9 v173), ∀ a x, ((![v173] : Fin 1 → IVec S16 32) a x).toNat < S64.size a := fun v173 k1_hw9 => k1_hw9.2
def k1_off21 (k1_t2 : Fin k1_t2_loop.trips) : Fin 2 → Nat :=
  let c4_i32_86 : BitVec 32 := 4#32
  let c0_i32_42 : BitVec 32 := 0#32
  let c1_i32_43 : BitVec 32 := 1#32
  let arg39 : BitVec 32 := Scf.iv c0_i32_42 c1_i32_43 k1_t2
  let v136 : BitVec 32 := Scalar.muli c4_i32_86 arg39
  let c1_i32_87 : BitVec 32 := 1#32
  let v137 : BitVec 32 := Scalar.addi v136 c1_i32_87
  let v174 : Index := Scalar.indexCast v137
  let c16_107 : Index := 16#32
  ![v174.toNat, 16]

def k1_chk10 (v185 : IVec S16 32) : Prop :=
  (∀ a x, ((![v185] : Fin 1 → IVec S16 32) a x).toNat < S64.size a) ∧
  (∀ a x, ((![v185] : Fin 1 → IVec S16 32) a x).toNat < S64.size a)
theorem k1_idx19_inb : ∀ (v185 : IVec S16 32) (k1_hw10 : k1_chk10 v185), ∀ a x, ((![v185] : Fin 1 → IVec S16 32) a x).toNat < S64.size a := fun v185 k1_hw10 => k1_hw10.1
theorem k1_idx20_inb : ∀ (v185 : IVec S16 32) (k1_hw10 : k1_chk10 v185), ∀ a x, ((![v185] : Fin 1 → IVec S16 32) a x).toNat < S64.size a := fun v185 k1_hw10 => k1_hw10.2
def k1_off22 (k1_t2 : Fin k1_t2_loop.trips) : Fin 2 → Nat :=
  let c4_i32_86 : BitVec 32 := 4#32
  let c0_i32_42 : BitVec 32 := 0#32
  let c1_i32_43 : BitVec 32 := 1#32
  let arg39 : BitVec 32 := Scf.iv c0_i32_42 c1_i32_43 k1_t2
  let v136 : BitVec 32 := Scalar.muli c4_i32_86 arg39
  let c1_i32_87 : BitVec 32 := 1#32
  let v137 : BitVec 32 := Scalar.addi v136 c1_i32_87
  let v186 : Index := Scalar.indexCast v137
  let c32_110 : Index := 32#32
  ![v186.toNat, 32]

def k1_chk11 (v197 : IVec S16 32) : Prop :=
  (∀ a x, ((![v197] : Fin 1 → IVec S16 32) a x).toNat < S64.size a) ∧
  (∀ a x, ((![v197] : Fin 1 → IVec S16 32) a x).toNat < S64.size a)
theorem k1_idx21_inb : ∀ (v197 : IVec S16 32) (k1_hw11 : k1_chk11 v197), ∀ a x, ((![v197] : Fin 1 → IVec S16 32) a x).toNat < S64.size a := fun v197 k1_hw11 => k1_hw11.1
theorem k1_idx22_inb : ∀ (v197 : IVec S16 32) (k1_hw11 : k1_chk11 v197), ∀ a x, ((![v197] : Fin 1 → IVec S16 32) a x).toNat < S64.size a := fun v197 k1_hw11 => k1_hw11.2
def k1_off23 (k1_t2 : Fin k1_t2_loop.trips) : Fin 2 → Nat :=
  let c4_i32_86 : BitVec 32 := 4#32
  let c0_i32_42 : BitVec 32 := 0#32
  let c1_i32_43 : BitVec 32 := 1#32
  let arg39 : BitVec 32 := Scf.iv c0_i32_42 c1_i32_43 k1_t2
  let v136 : BitVec 32 := Scalar.muli c4_i32_86 arg39
  let c1_i32_87 : BitVec 32 := 1#32
  let v137 : BitVec 32 := Scalar.addi v136 c1_i32_87
  let v198 : Index := Scalar.indexCast v137
  let c48_113 : Index := 48#32
  ![v198.toNat, 48]

def k1_chk12 (v209 : IVec S16 32) : Prop :=
  (∀ a x, ((![v209] : Fin 1 → IVec S16 32) a x).toNat < S64.size a) ∧
  (∀ a x, ((![v209] : Fin 1 → IVec S16 32) a x).toNat < S64.size a)
theorem k1_idx23_inb : ∀ (v209 : IVec S16 32) (k1_hw12 : k1_chk12 v209), ∀ a x, ((![v209] : Fin 1 → IVec S16 32) a x).toNat < S64.size a := fun v209 k1_hw12 => k1_hw12.1
theorem k1_idx24_inb : ∀ (v209 : IVec S16 32) (k1_hw12 : k1_chk12 v209), ∀ a x, ((![v209] : Fin 1 → IVec S16 32) a x).toNat < S64.size a := fun v209 k1_hw12 => k1_hw12.2
def k1_off24 (k1_t2 : Fin k1_t2_loop.trips) : Fin 2 → Nat :=
  let c4_i32_116 : BitVec 32 := 4#32
  let c0_i32_42 : BitVec 32 := 0#32
  let c1_i32_43 : BitVec 32 := 1#32
  let arg39 : BitVec 32 := Scf.iv c0_i32_42 c1_i32_43 k1_t2
  let v210 : BitVec 32 := Scalar.muli c4_i32_116 arg39
  let c2_i32_117 : BitVec 32 := 2#32
  let v211 : BitVec 32 := Scalar.addi v210 c2_i32_117
  let v212 : Index := Scalar.indexCast v211
  let c0_118 : Index := 0#32
  ![v212.toNat, 0]
def k1_off25 (k1_t2 : Fin k1_t2_loop.trips) : Fin 2 → Nat :=
  let c4_i32_116 : BitVec 32 := 4#32
  let c0_i32_42 : BitVec 32 := 0#32
  let c1_i32_43 : BitVec 32 := 1#32
  let arg39 : BitVec 32 := Scf.iv c0_i32_42 c1_i32_43 k1_t2
  let v210 : BitVec 32 := Scalar.muli c4_i32_116 arg39
  let c2_i32_117 : BitVec 32 := 2#32
  let v211 : BitVec 32 := Scalar.addi v210 c2_i32_117
  let v218 : Index := Scalar.indexCast v211
  let c16_122 : Index := 16#32
  ![v218.toNat, 16]
def k1_off26 (k1_t2 : Fin k1_t2_loop.trips) : Fin 2 → Nat :=
  let c4_i32_116 : BitVec 32 := 4#32
  let c0_i32_42 : BitVec 32 := 0#32
  let c1_i32_43 : BitVec 32 := 1#32
  let arg39 : BitVec 32 := Scf.iv c0_i32_42 c1_i32_43 k1_t2
  let v210 : BitVec 32 := Scalar.muli c4_i32_116 arg39
  let c2_i32_117 : BitVec 32 := 2#32
  let v211 : BitVec 32 := Scalar.addi v210 c2_i32_117
  let v224 : Index := Scalar.indexCast v211
  let c32_126 : Index := 32#32
  ![v224.toNat, 32]
def k1_off27 (k1_t2 : Fin k1_t2_loop.trips) : Fin 2 → Nat :=
  let c4_i32_116 : BitVec 32 := 4#32
  let c0_i32_42 : BitVec 32 := 0#32
  let c1_i32_43 : BitVec 32 := 1#32
  let arg39 : BitVec 32 := Scf.iv c0_i32_42 c1_i32_43 k1_t2
  let v210 : BitVec 32 := Scalar.muli c4_i32_116 arg39
  let c2_i32_117 : BitVec 32 := 2#32
  let v211 : BitVec 32 := Scalar.addi v210 c2_i32_117
  let v230 : Index := Scalar.indexCast v211
  let c48_130 : Index := 48#32
  ![v230.toNat, 48]

def k1_chk13 (v247 : IVec S16 32) : Prop :=
  (∀ a x, ((![v247] : Fin 1 → IVec S16 32) a x).toNat < S64.size a) ∧
  (∀ a x, ((![v247] : Fin 1 → IVec S16 32) a x).toNat < S64.size a)
theorem k1_idx25_inb : ∀ (v247 : IVec S16 32) (k1_hw13 : k1_chk13 v247), ∀ a x, ((![v247] : Fin 1 → IVec S16 32) a x).toNat < S64.size a := fun v247 k1_hw13 => k1_hw13.1
theorem k1_idx26_inb : ∀ (v247 : IVec S16 32) (k1_hw13 : k1_chk13 v247), ∀ a x, ((![v247] : Fin 1 → IVec S16 32) a x).toNat < S64.size a := fun v247 k1_hw13 => k1_hw13.2
def k1_off28 (k1_t2 : Fin k1_t2_loop.trips) : Fin 2 → Nat :=
  let c4_i32_116 : BitVec 32 := 4#32
  let c0_i32_42 : BitVec 32 := 0#32
  let c1_i32_43 : BitVec 32 := 1#32
  let arg39 : BitVec 32 := Scf.iv c0_i32_42 c1_i32_43 k1_t2
  let v210 : BitVec 32 := Scalar.muli c4_i32_116 arg39
  let c2_i32_117 : BitVec 32 := 2#32
  let v211 : BitVec 32 := Scalar.addi v210 c2_i32_117
  let v248 : Index := Scalar.indexCast v211
  let c16_137 : Index := 16#32
  ![v248.toNat, 16]

def k1_chk14 (v259 : IVec S16 32) : Prop :=
  (∀ a x, ((![v259] : Fin 1 → IVec S16 32) a x).toNat < S64.size a) ∧
  (∀ a x, ((![v259] : Fin 1 → IVec S16 32) a x).toNat < S64.size a)
theorem k1_idx27_inb : ∀ (v259 : IVec S16 32) (k1_hw14 : k1_chk14 v259), ∀ a x, ((![v259] : Fin 1 → IVec S16 32) a x).toNat < S64.size a := fun v259 k1_hw14 => k1_hw14.1
theorem k1_idx28_inb : ∀ (v259 : IVec S16 32) (k1_hw14 : k1_chk14 v259), ∀ a x, ((![v259] : Fin 1 → IVec S16 32) a x).toNat < S64.size a := fun v259 k1_hw14 => k1_hw14.2
def k1_off29 (k1_t2 : Fin k1_t2_loop.trips) : Fin 2 → Nat :=
  let c4_i32_116 : BitVec 32 := 4#32
  let c0_i32_42 : BitVec 32 := 0#32
  let c1_i32_43 : BitVec 32 := 1#32
  let arg39 : BitVec 32 := Scf.iv c0_i32_42 c1_i32_43 k1_t2
  let v210 : BitVec 32 := Scalar.muli c4_i32_116 arg39
  let c2_i32_117 : BitVec 32 := 2#32
  let v211 : BitVec 32 := Scalar.addi v210 c2_i32_117
  let v260 : Index := Scalar.indexCast v211
  let c32_140 : Index := 32#32
  ![v260.toNat, 32]

def k1_chk15 (v271 : IVec S16 32) : Prop :=
  (∀ a x, ((![v271] : Fin 1 → IVec S16 32) a x).toNat < S64.size a) ∧
  (∀ a x, ((![v271] : Fin 1 → IVec S16 32) a x).toNat < S64.size a)
theorem k1_idx29_inb : ∀ (v271 : IVec S16 32) (k1_hw15 : k1_chk15 v271), ∀ a x, ((![v271] : Fin 1 → IVec S16 32) a x).toNat < S64.size a := fun v271 k1_hw15 => k1_hw15.1
theorem k1_idx30_inb : ∀ (v271 : IVec S16 32) (k1_hw15 : k1_chk15 v271), ∀ a x, ((![v271] : Fin 1 → IVec S16 32) a x).toNat < S64.size a := fun v271 k1_hw15 => k1_hw15.2
def k1_off30 (k1_t2 : Fin k1_t2_loop.trips) : Fin 2 → Nat :=
  let c4_i32_116 : BitVec 32 := 4#32
  let c0_i32_42 : BitVec 32 := 0#32
  let c1_i32_43 : BitVec 32 := 1#32
  let arg39 : BitVec 32 := Scf.iv c0_i32_42 c1_i32_43 k1_t2
  let v210 : BitVec 32 := Scalar.muli c4_i32_116 arg39
  let c2_i32_117 : BitVec 32 := 2#32
  let v211 : BitVec 32 := Scalar.addi v210 c2_i32_117
  let v272 : Index := Scalar.indexCast v211
  let c48_143 : Index := 48#32
  ![v272.toNat, 48]

def k1_chk16 (v283 : IVec S16 32) : Prop :=
  (∀ a x, ((![v283] : Fin 1 → IVec S16 32) a x).toNat < S64.size a) ∧
  (∀ a x, ((![v283] : Fin 1 → IVec S16 32) a x).toNat < S64.size a)
theorem k1_idx31_inb : ∀ (v283 : IVec S16 32) (k1_hw16 : k1_chk16 v283), ∀ a x, ((![v283] : Fin 1 → IVec S16 32) a x).toNat < S64.size a := fun v283 k1_hw16 => k1_hw16.1
theorem k1_idx32_inb : ∀ (v283 : IVec S16 32) (k1_hw16 : k1_chk16 v283), ∀ a x, ((![v283] : Fin 1 → IVec S16 32) a x).toNat < S64.size a := fun v283 k1_hw16 => k1_hw16.2
def k1_off31 (k1_t2 : Fin k1_t2_loop.trips) : Fin 2 → Nat :=
  let c4_i32_146 : BitVec 32 := 4#32
  let c0_i32_42 : BitVec 32 := 0#32
  let c1_i32_43 : BitVec 32 := 1#32
  let arg39 : BitVec 32 := Scf.iv c0_i32_42 c1_i32_43 k1_t2
  let v284 : BitVec 32 := Scalar.muli c4_i32_146 arg39
  let c3_i32 : BitVec 32 := 3#32
  let v285 : BitVec 32 := Scalar.addi v284 c3_i32
  let v286 : Index := Scalar.indexCast v285
  let c0_147 : Index := 0#32
  ![v286.toNat, 0]
def k1_off32 (k1_t2 : Fin k1_t2_loop.trips) : Fin 2 → Nat :=
  let c4_i32_146 : BitVec 32 := 4#32
  let c0_i32_42 : BitVec 32 := 0#32
  let c1_i32_43 : BitVec 32 := 1#32
  let arg39 : BitVec 32 := Scf.iv c0_i32_42 c1_i32_43 k1_t2
  let v284 : BitVec 32 := Scalar.muli c4_i32_146 arg39
  let c3_i32 : BitVec 32 := 3#32
  let v285 : BitVec 32 := Scalar.addi v284 c3_i32
  let v292 : Index := Scalar.indexCast v285
  let c16_151 : Index := 16#32
  ![v292.toNat, 16]
def k1_off33 (k1_t2 : Fin k1_t2_loop.trips) : Fin 2 → Nat :=
  let c4_i32_146 : BitVec 32 := 4#32
  let c0_i32_42 : BitVec 32 := 0#32
  let c1_i32_43 : BitVec 32 := 1#32
  let arg39 : BitVec 32 := Scf.iv c0_i32_42 c1_i32_43 k1_t2
  let v284 : BitVec 32 := Scalar.muli c4_i32_146 arg39
  let c3_i32 : BitVec 32 := 3#32
  let v285 : BitVec 32 := Scalar.addi v284 c3_i32
  let v298 : Index := Scalar.indexCast v285
  let c32_155 : Index := 32#32
  ![v298.toNat, 32]
def k1_off34 (k1_t2 : Fin k1_t2_loop.trips) : Fin 2 → Nat :=
  let c4_i32_146 : BitVec 32 := 4#32
  let c0_i32_42 : BitVec 32 := 0#32
  let c1_i32_43 : BitVec 32 := 1#32
  let arg39 : BitVec 32 := Scf.iv c0_i32_42 c1_i32_43 k1_t2
  let v284 : BitVec 32 := Scalar.muli c4_i32_146 arg39
  let c3_i32 : BitVec 32 := 3#32
  let v285 : BitVec 32 := Scalar.addi v284 c3_i32
  let v304 : Index := Scalar.indexCast v285
  let c48_159 : Index := 48#32
  ![v304.toNat, 48]

def k1_chk17 (v321 : IVec S16 32) : Prop :=
  (∀ a x, ((![v321] : Fin 1 → IVec S16 32) a x).toNat < S64.size a) ∧
  (∀ a x, ((![v321] : Fin 1 → IVec S16 32) a x).toNat < S64.size a)
theorem k1_idx33_inb : ∀ (v321 : IVec S16 32) (k1_hw17 : k1_chk17 v321), ∀ a x, ((![v321] : Fin 1 → IVec S16 32) a x).toNat < S64.size a := fun v321 k1_hw17 => k1_hw17.1
theorem k1_idx34_inb : ∀ (v321 : IVec S16 32) (k1_hw17 : k1_chk17 v321), ∀ a x, ((![v321] : Fin 1 → IVec S16 32) a x).toNat < S64.size a := fun v321 k1_hw17 => k1_hw17.2
def k1_off35 (k1_t2 : Fin k1_t2_loop.trips) : Fin 2 → Nat :=
  let c4_i32_146 : BitVec 32 := 4#32
  let c0_i32_42 : BitVec 32 := 0#32
  let c1_i32_43 : BitVec 32 := 1#32
  let arg39 : BitVec 32 := Scf.iv c0_i32_42 c1_i32_43 k1_t2
  let v284 : BitVec 32 := Scalar.muli c4_i32_146 arg39
  let c3_i32 : BitVec 32 := 3#32
  let v285 : BitVec 32 := Scalar.addi v284 c3_i32
  let v322 : Index := Scalar.indexCast v285
  let c16_166 : Index := 16#32
  ![v322.toNat, 16]

def k1_chk18 (v333 : IVec S16 32) : Prop :=
  (∀ a x, ((![v333] : Fin 1 → IVec S16 32) a x).toNat < S64.size a) ∧
  (∀ a x, ((![v333] : Fin 1 → IVec S16 32) a x).toNat < S64.size a)
theorem k1_idx35_inb : ∀ (v333 : IVec S16 32) (k1_hw18 : k1_chk18 v333), ∀ a x, ((![v333] : Fin 1 → IVec S16 32) a x).toNat < S64.size a := fun v333 k1_hw18 => k1_hw18.1
theorem k1_idx36_inb : ∀ (v333 : IVec S16 32) (k1_hw18 : k1_chk18 v333), ∀ a x, ((![v333] : Fin 1 → IVec S16 32) a x).toNat < S64.size a := fun v333 k1_hw18 => k1_hw18.2
def k1_off36 (k1_t2 : Fin k1_t2_loop.trips) : Fin 2 → Nat :=
  let c4_i32_146 : BitVec 32 := 4#32
  let c0_i32_42 : BitVec 32 := 0#32
  let c1_i32_43 : BitVec 32 := 1#32
  let arg39 : BitVec 32 := Scf.iv c0_i32_42 c1_i32_43 k1_t2
  let v284 : BitVec 32 := Scalar.muli c4_i32_146 arg39
  let c3_i32 : BitVec 32 := 3#32
  let v285 : BitVec 32 := Scalar.addi v284 c3_i32
  let v334 : Index := Scalar.indexCast v285
  let c32_169 : Index := 32#32
  ![v334.toNat, 32]

def k1_chk19 (v345 : IVec S16 32) : Prop :=
  (∀ a x, ((![v345] : Fin 1 → IVec S16 32) a x).toNat < S64.size a) ∧
  (∀ a x, ((![v345] : Fin 1 → IVec S16 32) a x).toNat < S64.size a)
theorem k1_idx37_inb : ∀ (v345 : IVec S16 32) (k1_hw19 : k1_chk19 v345), ∀ a x, ((![v345] : Fin 1 → IVec S16 32) a x).toNat < S64.size a := fun v345 k1_hw19 => k1_hw19.1
theorem k1_idx38_inb : ∀ (v345 : IVec S16 32) (k1_hw19 : k1_chk19 v345), ∀ a x, ((![v345] : Fin 1 → IVec S16 32) a x).toNat < S64.size a := fun v345 k1_hw19 => k1_hw19.2
def k1_off37 (k1_t2 : Fin k1_t2_loop.trips) : Fin 2 → Nat :=
  let c4_i32_146 : BitVec 32 := 4#32
  let c0_i32_42 : BitVec 32 := 0#32
  let c1_i32_43 : BitVec 32 := 1#32
  let arg39 : BitVec 32 := Scf.iv c0_i32_42 c1_i32_43 k1_t2
  let v284 : BitVec 32 := Scalar.muli c4_i32_146 arg39
  let c3_i32 : BitVec 32 := 3#32
  let v285 : BitVec 32 := Scalar.addi v284 c3_i32
  let v346 : Index := Scalar.indexCast v285
  let c48_172 : Index := 48#32
  ![v346.toNat, 48]

def k1_chk20 (v357 : IVec S16 32) : Prop :=
  (∀ a x, ((![v357] : Fin 1 → IVec S16 32) a x).toNat < S64.size a) ∧
  (∀ a x, ((![v357] : Fin 1 → IVec S16 32) a x).toNat < S64.size a)
theorem k1_idx39_inb : ∀ (v357 : IVec S16 32) (k1_hw20 : k1_chk20 v357), ∀ a x, ((![v357] : Fin 1 → IVec S16 32) a x).toNat < S64.size a := fun v357 k1_hw20 => k1_hw20.1
theorem k1_idx40_inb : ∀ (v357 : IVec S16 32) (k1_hw20 : k1_chk20 v357), ∀ a x, ((![v357] : Fin 1 → IVec S16 32) a x).toNat < S64.size a := fun v357 k1_hw20 => k1_hw20.2
def k1_off38 (k1_t2 : Fin k1_t2_loop.trips) (c0_i32_176 : BitVec 32) : Fin 2 → Nat :=
  let c4_i32_175 : BitVec 32 := 4#32
  let c0_i32_42 : BitVec 32 := 0#32
  let c1_i32_43 : BitVec 32 := 1#32
  let arg39 : BitVec 32 := Scf.iv c0_i32_42 c1_i32_43 k1_t2
  let v358 : BitVec 32 := Scalar.muli c4_i32_175 arg39
  let v359 : BitVec 32 := Scalar.addi v358 c0_i32_176
  let v361 : Index := Scalar.indexCast v359
  let c0_178 : Index := 0#32
  ![v361.toNat, 0]
def k1_off39 (k1_t2 : Fin k1_t2_loop.trips) (c0_i32_176 : BitVec 32) : Fin 2 → Nat :=
  let c4_i32_175 : BitVec 32 := 4#32
  let c0_i32_42 : BitVec 32 := 0#32
  let c1_i32_43 : BitVec 32 := 1#32
  let arg39 : BitVec 32 := Scf.iv c0_i32_42 c1_i32_43 k1_t2
  let v358 : BitVec 32 := Scalar.muli c4_i32_175 arg39
  let v359 : BitVec 32 := Scalar.addi v358 c0_i32_176
  let v367 : Index := Scalar.indexCast v359
  let c16_182 : Index := 16#32
  ![v367.toNat, 16]
def k1_off40 (k1_t2 : Fin k1_t2_loop.trips) (c0_i32_176 : BitVec 32) : Fin 2 → Nat :=
  let c4_i32_175 : BitVec 32 := 4#32
  let c0_i32_42 : BitVec 32 := 0#32
  let c1_i32_43 : BitVec 32 := 1#32
  let arg39 : BitVec 32 := Scf.iv c0_i32_42 c1_i32_43 k1_t2
  let v358 : BitVec 32 := Scalar.muli c4_i32_175 arg39
  let v359 : BitVec 32 := Scalar.addi v358 c0_i32_176
  let v373 : Index := Scalar.indexCast v359
  let c32_186 : Index := 32#32
  ![v373.toNat, 32]
def k1_off41 (k1_t2 : Fin k1_t2_loop.trips) (c0_i32_176 : BitVec 32) : Fin 2 → Nat :=
  let c4_i32_175 : BitVec 32 := 4#32
  let c0_i32_42 : BitVec 32 := 0#32
  let c1_i32_43 : BitVec 32 := 1#32
  let arg39 : BitVec 32 := Scf.iv c0_i32_42 c1_i32_43 k1_t2
  let v358 : BitVec 32 := Scalar.muli c4_i32_175 arg39
  let v359 : BitVec 32 := Scalar.addi v358 c0_i32_176
  let v379 : Index := Scalar.indexCast v359
  let c48_190 : Index := 48#32
  ![v379.toNat, 48]
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S32x128x64 : Shape := ⟨3, ![32, 128, 64]⟩
abbrev S4096x1024 : Shape := ⟨2, ![4096, 1024]⟩
abbrev S1024x64 : Shape := ⟨2, ![1024, 64]⟩
abbrev S1024 : Shape := ⟨1, ![1024]⟩
abbrev S4096x64 : Shape := ⟨2, ![4096, 64]⟩
abbrev S_ : Shape := ⟨0, ![]⟩
abbrev S64 : Shape := ⟨1, ![64]⟩
abbrev S1x64 : Shape := ⟨2, ![1, 64]⟩
abbrev S64x1 : Shape := ⟨2, ![64, 1]⟩
abbrev S64x1024 : Shape := ⟨2, ![64, 1024]⟩
abbrev S1x1024 : Shape := ⟨2, ![1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32x128x64, .i32⟩
  | .hbm, ⟨1, _⟩ => ⟨S32x128x64, .f32⟩
  | .hbm, ⟨2, _⟩ => ⟨S32x128x64, .f32⟩
  | .hbm, ⟨3, _⟩ => ⟨S32x128x64, .f32⟩
  | .hbm, ⟨4, _⟩ => ⟨S32x128x64, .f32⟩
  | .hbm, ⟨5, _⟩ => ⟨S4096x1024, .f32⟩
  | .hbm, ⟨6, _⟩ => ⟨S1024x64, .f32⟩
  | .hbm, ⟨7, _⟩ => ⟨S1024x64, .f32⟩
  | .hbm, ⟨8, _⟩ => ⟨S1024, .f32⟩
  | .hbm, ⟨9, _⟩ => ⟨S4096x64, .i32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S4096x64, .f32⟩
  | .hbm, ⟨18, _⟩ => ⟨S_, .f32⟩
  | .hbm, ⟨19, _⟩ => ⟨S4096x64, .f32⟩
  | .hbm, ⟨20, _⟩ => ⟨S_, .i32⟩
  | .hbm, ⟨21, _⟩ => ⟨S4096x64, .i32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S_, .i32⟩
  | .hbm, ⟨27, _⟩ => ⟨S64, .f32⟩
  | .hbm, ⟨28, _⟩ => ⟨S64, .f32⟩
  | .hbm, ⟨29, _⟩ => ⟨S4096x64, .f32⟩
  | .hbm, ⟨30, _⟩ => ⟨S4096x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S1x64, .i32⟩
  | .hbm, ⟨35, _⟩ => ⟨S64, .i32⟩
  | .hbm, ⟨36, _⟩ => ⟨S_, .i32⟩
  | .hbm, ⟨37, _⟩ => ⟨S1x64, .f32⟩
  | .hbm, ⟨38, _⟩ => ⟨S64, .f32⟩
  | .hbm, ⟨39, _⟩ => ⟨S_, .i32⟩
  | .hbm, ⟨40, _⟩ => ⟨S1x64, .f32⟩
  | .hbm, ⟨41, _⟩ => ⟨S64, .f32⟩
  | .hbm, ⟨42, _⟩ => ⟨S_, .i32⟩
  | .hbm, ⟨43, _⟩ => ⟨S1x64, .f32⟩
  | .hbm, ⟨44, _⟩ => ⟨S64, .f32⟩
  | .hbm, ⟨45, _⟩ => ⟨S_, .i32⟩
  | .hbm, ⟨46, _⟩ => ⟨S1x64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S64x1, .i32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S_, .i32⟩
  | .hbm, ⟨69, _⟩ => ⟨S64, .i32⟩
  | .hbm, ⟨70, _⟩ => ⟨S64, .i1⟩
  | .hbm, ⟨71, _⟩ => ⟨S_, .i32⟩
  | .hbm, ⟨72, _⟩ => ⟨S64, .i32⟩
  | .hbm, ⟨73, _⟩ => ⟨S64, .i32⟩
  | .hbm, ⟨74, _⟩ => ⟨S64, .i32⟩
  | .hbm, ⟨75, _⟩ => ⟨S64x1, .i32⟩
  | .hbm, ⟨76, _⟩ => ⟨S64, .f32⟩
  | .hbm, ⟨77, _⟩ => ⟨S64, .f32⟩
  | .hbm, ⟨78, _⟩ => ⟨S1x64, .f32⟩
  | .hbm, ⟨79, _⟩ => ⟨S_, .i32⟩
  | .hbm, ⟨80, _⟩ => ⟨S4096x64, .f32⟩
  | .hbm, ⟨81, _⟩ => ⟨S1x64, .f32⟩
  | .hbm, ⟨82, _⟩ => ⟨S_, .i32⟩
  | .hbm, ⟨83, _⟩ => ⟨S4096x64, .f32⟩
  | .hbm, ⟨84, _⟩ => ⟨S_, .i32⟩
  | .hbm, ⟨85, _⟩ => ⟨S_, .i32⟩
  | .hbm, ⟨86, _⟩ => ⟨S64x1024, .f32⟩
  | .hbm, ⟨87, _⟩ => ⟨S4096x1024, .f32⟩
  | .hbm, ⟨88, _⟩ => ⟨S64x1024, .f32⟩
  | .hbm, ⟨89, _⟩ => ⟨S4096x1024, .f32⟩
  | .hbm, ⟨90, _⟩ => ⟨S4096x1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S4096x1024, .f32⟩
  | _, _ => ⟨S32x128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_c : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev main_v8_7 : Ref sig .tc := ⟨.hbm, 28, rfl⟩
abbrev main_v8_8 : Ref sig .tc := ⟨.hbm, 29, rfl⟩
abbrev main_v8_9 : Ref sig .tc := ⟨.hbm, 30, rfl⟩
abbrev main_while0c_c_11 : Ref sig .tc := ⟨.hbm, 31, rfl⟩
abbrev main_while0c_v18 : Ref sig .tc := ⟨.hbm, 32, rfl⟩
abbrev main_while0b_call0_c : Ref sig .tc := ⟨.hbm, 33, rfl⟩
abbrev main_while0b_call0_v0 : Ref sig .tc := ⟨.hbm, 34, rfl⟩
abbrev main_while0b_v18 : Ref sig .tc := ⟨.hbm, 35, rfl⟩
abbrev main_while0b_call1_c : Ref sig .tc := ⟨.hbm, 36, rfl⟩
abbrev main_while0b_call1_v0 : Ref sig .tc := ⟨.hbm, 37, rfl⟩
abbrev main_while0b_v19 : Ref sig .tc := ⟨.hbm, 38, rfl⟩
abbrev main_while0b_call2_c : Ref sig .tc := ⟨.hbm, 39, rfl⟩
abbrev main_while0b_call2_v0 : Ref sig .tc := ⟨.hbm, 40, rfl⟩
abbrev main_while0b_v20 : Ref sig .tc := ⟨.hbm, 41, rfl⟩
abbrev main_while0b_call3_c : Ref sig .tc := ⟨.hbm, 42, rfl⟩
abbrev main_while0b_call3_v0 : Ref sig .tc := ⟨.hbm, 43, rfl⟩
abbrev main_while0b_v21 : Ref sig .tc := ⟨.hbm, 44, rfl⟩
abbrev main_while0b_call4_c : Ref sig .tc := ⟨.hbm, 45, rfl⟩
abbrev main_while0b_call4_v0 : Ref sig .tc := ⟨.hbm, 46, rfl⟩
abbrev main_while0b_v22 : Ref sig .tc := ⟨.hbm, 47, rfl⟩
abbrev main_while0b_cst_11 : Ref sig .tc := ⟨.hbm, 48, rfl⟩
abbrev main_while0b_v23 : Ref sig .tc := ⟨.hbm, 49, rfl⟩
abbrev main_while0b_v24 : Ref sig .tc := ⟨.hbm, 50, rfl⟩
abbrev main_while0b_v25 : Ref sig .tc := ⟨.hbm, 51, rfl⟩
abbrev main_while0b_v26 : Ref sig .tc := ⟨.hbm, 52, rfl⟩
abbrev main_while0b_c_12 : Ref sig .tc := ⟨.hbm, 53, rfl⟩
abbrev main_while0b_v27 : Ref sig .tc := ⟨.hbm, 54, rfl⟩
abbrev main_while0b_v28 : Ref sig .tc := ⟨.hbm, 55, rfl⟩
abbrev main_while0b_c_13 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_cst_14 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_c_15 : Ref sig .tc := ⟨.hbm, 68, rfl⟩
abbrev main_while0b_v39 : Ref sig .tc := ⟨.hbm, 69, rfl⟩
abbrev main_while0b_v40 : Ref sig .tc := ⟨.hbm, 70, rfl⟩
abbrev main_while0b_c_16 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_call5_v0 : Ref sig .tc := ⟨.hbm, 78, rfl⟩
abbrev main_while0b_call5_c : Ref sig .tc := ⟨.hbm, 79, rfl⟩
abbrev main_while0b_v47 : Ref sig .tc := ⟨.hbm, 80, rfl⟩
abbrev main_while0b_call6_v0 : Ref sig .tc := ⟨.hbm, 81, rfl⟩
abbrev main_while0b_call6_c : Ref sig .tc := ⟨.hbm, 82, rfl⟩
abbrev main_while0b_v48 : Ref sig .tc := ⟨.hbm, 83, rfl⟩
abbrev main_while0b_c_17 : Ref sig .tc := ⟨.hbm, 84, rfl⟩
abbrev main_while0b_v49 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩

abbrev nD : Nat := 1
abbrev τ : Topo := Topo.v7x

variable {F : FTy → Type} [FloatOps F]

abbrev main_while0_count : Scf.Loop 32 := ⟨0#32, 4096#32, 1#32⟩
-- ==== Inputs.lean ====
abbrev S4096x1024 : Shape := ⟨2, ![4096, 1024]⟩
abbrev S64x1024 : Shape := ⟨2, ![64, 1024]⟩
abbrev S6x64x64 : Shape := ⟨3, ![6, 64, 64]⟩
abbrev S6x1024 : Shape := ⟨2, ![6, 1024]⟩
abbrev S64 : Shape := ⟨1, ![64]⟩
abbrev S1x64 : Shape := ⟨2, ![1, 64]⟩
abbrev S6x4096 : Shape := ⟨2, ![6, 4096]⟩
abbrev S4096x6 : Shape := ⟨2, ![4096, 6]⟩
abbrev S32x128x64 : Shape := ⟨3, ![32, 128, 64]⟩
abbrev S512x1024 : Shape := ⟨2, ![512, 1024]⟩
abbrev S4x128x64 : Shape := ⟨3, ![4, 128, 64]⟩
abbrev S512x64 : Shape := ⟨2, ![512, 64]⟩
abbrev S512x6 : Shape := ⟨2, ![512, 6]⟩
abbrev S512 : Shape := ⟨1, ![512]⟩
abbrev S512x1 : Shape := ⟨2, ![512, 1]⟩
abbrev S4096x512 : Shape := ⟨2, ![4096, 512]⟩
abbrev S64x64x512 : Shape := ⟨3, ![64, 64, 512]⟩
abbrev S1x64x512 : Shape := ⟨3, ![1, 64, 512]⟩
abbrev S64x512 : Shape := ⟨2, ![64, 512]⟩

abbrev nBuf : Space → Nat
  | .hbm => 18
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S64x1024, .f32⟩
  | .hbm, ⟨2, _⟩ => ⟨S64x1024, .f32⟩
  | .hbm, ⟨3, _⟩ => ⟨S6x64x64, .f32⟩
  | .hbm, ⟨4, _⟩ => ⟨S6x1024, .f32⟩
  | .hbm, ⟨5, _⟩ => ⟨S64x1024, .f32⟩
  | .hbm, ⟨6, _⟩ => ⟨S64, .f32⟩
  | .hbm, ⟨7, _⟩ => ⟨S64x1024, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S6x4096, .f32⟩
  | .hbm, ⟨12, _⟩ => ⟨S4096x6, .f32⟩
  | .hbm, ⟨13, _⟩ => ⟨S32x128x64, .f32⟩
  | .hbm, ⟨14, _⟩ => ⟨S32x128x64, .f32⟩
  | .hbm, ⟨15, _⟩ => ⟨S32x128x64, .f32⟩
  | .hbm, ⟨16, _⟩ => ⟨S32x128x64, .f32⟩
  | .hbm, ⟨17, _⟩ => ⟨S32x128x64, .i32⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x64, .f32⟩
  | .local _ .vmem, ⟨7, _⟩ => ⟨S1x64, .f32⟩
  | .local _ .vmem, ⟨8, _⟩ => ⟨S6x1024, .f32⟩
  | .local _ .vmem, ⟨9, _⟩ => ⟨S4096x6, .f32⟩
  | .local _ .vmem, ⟨10, _⟩ => ⟨S4x128x64, .f32⟩
  | .local _ .vmem, ⟨11, _⟩ => ⟨S4x128x64, .f32⟩
  | .local _ .vmem, ⟨12, _⟩ => ⟨S4x128x64, .f32⟩
  | .local _ .vmem, ⟨13, _⟩ => ⟨S4x128x64, .f32⟩
  | .local _ .vmem, ⟨14, _⟩ => ⟨S4x128x64, .f32⟩
  | .local _ .vmem, ⟨15, _⟩ => ⟨S4x128x64, .f32⟩
  | .local _ .vmem, ⟨16, _⟩ => ⟨S4x128x64, .f32⟩
  | .local _ .vmem, ⟨17, _⟩ => ⟨S4x128x64, .f32⟩
  | .local _ .vmem, ⟨18, _⟩ => ⟨S4x128x64, .i32⟩
  | .local _ .vmem, ⟨19, _⟩ => ⟨S4x128x64, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x64 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InputsReferenceIdeal.lean ====
abbrev S4096x1024 : Shape := ⟨2, ![4096, 1024]⟩
abbrev S64x1024 : Shape := ⟨2, ![64, 1024]⟩
abbrev S6x64x64 : Shape := ⟨3, ![6, 64, 64]⟩
abbrev S6x1024 : Shape := ⟨2, ![6, 1024]⟩
abbrev S64 : Shape := ⟨1, ![64]⟩
abbrev S1024x64 : Shape := ⟨2, ![1024, 64]⟩
abbrev S4096x64 : Shape := ⟨2, ![4096, 64]⟩
abbrev S1x64 : Shape := ⟨2, ![1, 64]⟩
abbrev S_ : Shape := ⟨0, ![]⟩
abbrev S32x128x64 : Shape := ⟨3, ![32, 128, 64]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64x1024, .f32⟩
  | .hbm, ⟨2, _⟩ => ⟨S64x1024, .f32⟩
  | .hbm, ⟨3, _⟩ => ⟨S6x64x64, .f32⟩
  | .hbm, ⟨4, _⟩ => ⟨S6x1024, .f32⟩
  | .hbm, ⟨5, _⟩ => ⟨S64x1024, .f32⟩
  | .hbm, ⟨6, _⟩ => ⟨S64, .f32⟩
  | .hbm, ⟨7, _⟩ => ⟨S64x1024, .f32⟩
  | .hbm, ⟨8, _⟩ => ⟨S64, .f32⟩
  | .hbm, ⟨9, _⟩ => ⟨S1024x64, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S_, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S1024x64, .f32⟩
  | .hbm, ⟨23, _⟩ => ⟨S4096x64, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S_, .f32⟩
  | .hbm, ⟨30, _⟩ => ⟨S4096x64, .f32⟩
  | .hbm, ⟨31, _⟩ => ⟨S4096x64, .f32⟩
  | .hbm, ⟨32, _⟩ => ⟨S_, .f32⟩
  | .hbm, ⟨33, _⟩ => ⟨S4096x64, .f32⟩
  | .hbm, ⟨34, _⟩ => ⟨S4096x64, .f32⟩
  | .hbm, ⟨35, _⟩ => ⟨S_, .f32⟩
  | .hbm, ⟨36, _⟩ => ⟨S4096x64, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S32x128x64, .f32⟩
  | .hbm, ⟨41, _⟩ => ⟨S4096x64, .f32⟩
  | .hbm, ⟨42, _⟩ => ⟨S4096x64, .f32⟩
  | .hbm, ⟨43, _⟩ => ⟨S32x128x64, .f32⟩
  | .hbm, ⟨44, _⟩ => ⟨S1024x64, .f32⟩
  | .hbm, ⟨45, _⟩ => ⟨S4096x64, .f32⟩
  | .hbm, ⟨46, _⟩ => ⟨S32x128x64, .f32⟩
  | .hbm, ⟨47, _⟩ => ⟨S1024x64, .f32⟩
  | .hbm, ⟨48, _⟩ => ⟨S4096x64, .f32⟩
  | .hbm, ⟨49, _⟩ => ⟨S32x128x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Index.lean ====
abbrev S4096x1024 : Shape := ⟨2, ![4096, 1024]⟩
abbrev S64x1024 : Shape := ⟨2, ![64, 1024]⟩
abbrev S6x64x64 : Shape := ⟨3, ![6, 64, 64]⟩
abbrev S6x1024 : Shape := ⟨2, ![6, 1024]⟩
abbrev S64 : Shape := ⟨1, ![64]⟩
abbrev S1x64 : Shape := ⟨2, ![1, 64]⟩
abbrev S6x4096 : Shape := ⟨2, ![6, 4096]⟩
abbrev S4096x6 : Shape := ⟨2, ![4096, 6]⟩
abbrev S32x128x64 : Shape := ⟨3, ![32, 128, 64]⟩
abbrev S512x1024 : Shape := ⟨2, ![512, 1024]⟩
abbrev S4x128x64 : Shape := ⟨3, ![4, 128, 64]⟩
abbrev S512x64 : Shape := ⟨2, ![512, 64]⟩
abbrev S512x6 : Shape := ⟨2, ![512, 6]⟩
abbrev S512 : Shape := ⟨1, ![512]⟩
abbrev S512x1 : Shape := ⟨2, ![512, 1]⟩
abbrev S4096x512 : Shape := ⟨2, ![4096, 512]⟩
abbrev S64x64x512 : Shape := ⟨3, ![64, 64, 512]⟩
abbrev S1x64x512 : Shape := ⟨3, ![1, 64, 512]⟩
abbrev S64x512 : Shape := ⟨2, ![64, 512]⟩

abbrev nBuf : Space → Nat
  | .hbm => 18
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S64x1024, .f32⟩
  | .hbm, ⟨2, _⟩ => ⟨S64x1024, .f32⟩
  | .hbm, ⟨3, _⟩ => ⟨S6x64x64, .f32⟩
  | .hbm, ⟨4, _⟩ => ⟨S6x1024, .f32⟩
  | .hbm, ⟨5, _⟩ => ⟨S64x1024, .f32⟩
  | .hbm, ⟨6, _⟩ => ⟨S64, .f32⟩
  | .hbm, ⟨7, _⟩ => ⟨S64x1024, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S6x4096, .f32⟩
  | .hbm, ⟨12, _⟩ => ⟨S4096x6, .f32⟩
  | .hbm, ⟨13, _⟩ => ⟨S32x128x64, .f32⟩
  | .hbm, ⟨14, _⟩ => ⟨S32x128x64, .f32⟩
  | .hbm, ⟨15, _⟩ => ⟨S32x128x64, .f32⟩
  | .hbm, ⟨16, _⟩ => ⟨S32x128x64, .f32⟩
  | .hbm, ⟨17, _⟩ => ⟨S32x128x64, .i32⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x64, .f32⟩
  | .local _ .vmem, ⟨7, _⟩ => ⟨S1x64, .f32⟩
  | .local _ .vmem, ⟨8, _⟩ => ⟨S6x1024, .f32⟩
  | .local _ .vmem, ⟨9, _⟩ => ⟨S4096x6, .f32⟩
  | .local _ .vmem, ⟨10, _⟩ => ⟨S4x128x64, .f32⟩
  | .local _ .vmem, ⟨11, _⟩ => ⟨S4x128x64, .f32⟩
  | .local _ .vmem, ⟨12, _⟩ => ⟨S4x128x64, .f32⟩
  | .local _ .vmem, ⟨13, _⟩ => ⟨S4x128x64, .f32⟩
  | .local _ .vmem, ⟨14, _⟩ => ⟨S4x128x64, .f32⟩
  | .local _ .vmem, ⟨15, _⟩ => ⟨S4x128x64, .f32⟩
  | .local _ .vmem, ⟨16, _⟩ => ⟨S4x128x64, .f32⟩
  | .local _ .vmem, ⟨17, _⟩ => ⟨S4x128x64, .f32⟩
  | .local _ .vmem, ⟨18, _⟩ => ⟨S4x128x64, .i32⟩
  | .local _ .vmem, ⟨19, _⟩ => ⟨S4x128x64, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x64 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== IndexReferenceIdeal.lean ====
abbrev S4096x1024 : Shape := ⟨2, ![4096, 1024]⟩
abbrev S64x1024 : Shape := ⟨2, ![64, 1024]⟩
abbrev S6x64x64 : Shape := ⟨3, ![6, 64, 64]⟩
abbrev S6x1024 : Shape := ⟨2, ![6, 1024]⟩
abbrev S64 : Shape := ⟨1, ![64]⟩
abbrev S1024x6 : Shape := ⟨2, ![1024, 6]⟩
abbrev S4096x6 : Shape := ⟨2, ![4096, 6]⟩
abbrev S_ : Shape := ⟨0, ![]⟩
abbrev S4096 : Shape := ⟨1, ![4096]⟩
abbrev S4096x1 : Shape := ⟨2, ![4096, 1]⟩
abbrev S4096x64x64 : Shape := ⟨3, ![4096, 64, 64]⟩
abbrev S4096x64 : Shape := ⟨2, ![4096, 64]⟩
abbrev S4096x1x64 : Shape := ⟨3, ![4096, 1, 64]⟩
abbrev S32x128x64 : Shape := ⟨3, ![32, 128, 64]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64x1024, .f32⟩
  | .hbm, ⟨2, _⟩ => ⟨S64x1024, .f32⟩
  | .hbm, ⟨3, _⟩ => ⟨S6x64x64, .f32⟩
  | .hbm, ⟨4, _⟩ => ⟨S6x1024, .f32⟩
  | .hbm, ⟨5, _⟩ => ⟨S64x1024, .f32⟩
  | .hbm, ⟨6, _⟩ => ⟨S64, .f32⟩
  | .hbm, ⟨7, _⟩ => ⟨S64x1024, .f32⟩
  | .hbm, ⟨8, _⟩ => ⟨S64, .f32⟩
  | .hbm, ⟨9, _⟩ => ⟨S1024x6, .f32⟩
  | .hbm, ⟨10, _⟩ => ⟨S4096x6, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x6, .f32⟩
  | .hbm, ⟨18, _⟩ => ⟨S4096x6, .f32⟩
  | .hbm, ⟨19, _⟩ => ⟨S4096x6, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x6, .f32⟩
  | .hbm, ⟨24, _⟩ => ⟨S4096x6, .f32⟩
  | .hbm, ⟨25, _⟩ => ⟨S4096x64x64, .f32⟩
  | .hbm, ⟨26, _⟩ => ⟨S_, .f32⟩
  | .hbm, ⟨27, _⟩ => ⟨S4096x64, .f32⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S4096x1x64, .f32⟩
  | .hbm, ⟨32, _⟩ => ⟨S4096x64x64, .f32⟩
  | .hbm, ⟨33, _⟩ => ⟨S4096x64x64, .f32⟩
  | .hbm, ⟨34, _⟩ => ⟨S4096x64x64, .f32⟩
  | .hbm, ⟨35, _⟩ => ⟨S_, .f32⟩
  | .hbm, ⟨36, _⟩ => ⟨S4096x64, .f32⟩
  | .hbm, ⟨37, _⟩ => ⟨S4096x1x64, .f32⟩
  | .hbm, ⟨38, _⟩ => ⟨S4096x64x64, .f32⟩
  | .hbm, ⟨39, _⟩ => ⟨S4096x64x64, .f32⟩
  | .hbm, ⟨40, _⟩ => ⟨S_, .f32⟩
  | .hbm, ⟨41, _⟩ => ⟨S4096x64, .f32⟩
  | .hbm, ⟨42, _⟩ => ⟨S4096x1x64, .f32⟩
  | .hbm, ⟨43, _⟩ => ⟨S4096x64x64, .f32⟩
  | .hbm, ⟨44, _⟩ => ⟨S4096x64x64, .i1⟩
  | .hbm, ⟨45, _⟩ => ⟨S4096x64x64, .i32⟩
  | .hbm, ⟨46, _⟩ => ⟨S_, .i32⟩
  | .hbm, ⟨47, _⟩ => ⟨S_, .i32⟩
  | .hbm, ⟨48, _⟩ => ⟨S4096x64x64, .i32⟩
  | .hbm, ⟨49, _⟩ => ⟨S4096x64x64, .i32⟩
  | .hbm, ⟨50, _⟩ => ⟨S_, .i32⟩
  | .hbm, ⟨51, _⟩ => ⟨S4096x64, .i32⟩
  | .hbm, ⟨52, _⟩ => ⟨S32x128x64, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Proof.Rules.lean ====
/-
  Rows of sixteen-lane vectors, for any signature: what a load of sixteen lanes of a row reads, what four stores of
  sixteen lanes leave of a row, and the rules of the indexed load and of the indexed adding store of a whole buffer
  told by what the buffer reads.
-/
module

public import Idealize.ShloMosaic.Lib.SparseCore.Ops
public import Idealize.ShloMosaic.Lib.Writes
public import Idealize.ShloMosaic.Lib.ValueIdxCore
public import Idealize.ShloMosaic.Lib.Pipeline.Value
public import Idealize.ShloMosaic.Lib.Tactic

@[expose] public section

noncomputable section

namespace Cert.Proof.Rows

open Idealize.ShloMosaic
open Idealize.SL Idealize.SL.RA Idealize.SL.BI
open scoped Idealize.SL.BI
open Idealize.SL.BI.BIBase Idealize.SL.BI.Laws Idealize.SL.ProofMode Idealize.SL.Sem

/-- Sixteen lanes, a row of sixteen, the states, rows of states. -/
abbrev H16 : Shape := ⟨1, ![16]⟩
abbrev H1x16 : Shape := ⟨2, ![1, 16]⟩
abbrev H64 : Shape := ⟨1, ![64]⟩
abbrev HRows (n : ℕ) : Shape := ⟨2, ![n, 64]⟩

open Idealize.ShloMosaic.ValueIdx (ix1 ix2 eq_ix1 eq_ix2)

/-- State `16 g + x`: lane `x` of group `g`. -/
abbrev st (g : Fin 4) (x : H16.Idx) : Fin 64 := ⟨16 * g.val + (x 0).val, by have h : (x 0).val < 16 := (x 0).isLt; have := g.isLt; omega⟩

/-- Group `g` of a row as a vector of sixteen lanes. -/
def lanes {α : Type} (g : Fin 4) (f : Fin 64 → α) : H16.Idx → α := fun x => f (st g x)

theorem lanes_apply {α : Type} (g : Fin 4) (f : Fin 64 → α) (x : H16.Idx) : lanes g f x = f (st g x) := rfl

/-- The row `r` of some rows, a vector of 64 as a function of the state, and rows with row `r` replaced. -/
def row {α : Type} {n : ℕ} (f : (HRows n).Idx → α) (r : Fin n) : Fin 64 → α := fun k => f (ix2 r k)
def vec {α : Type} (f : H64.Idx → α) : Fin 64 → α := fun k => f (ix1 k)
def setRow {α : Type} {n : ℕ} (f : (HRows n).Idx → α) (r : Fin n) (new : Fin 64 → α) : (HRows n).Idx → α :=
  fun i => if (i 0).val = r.val then new (i 1) else f i

section Values

variable {sig : RefSig} {κ : Kind} {sp : Space} {e : EltTy} {Val : EltTy → Type}

theorem cast16_apply {α : Type} (v : H1x16.Idx → α) (h : H1x16.ShapeCasts H16) (x : H16.Idx) :
    shapeCast H16 v h x = v (ix2 (0 : Fin 1) (x 0)) := by
  refine shapeCast_apply v h x _ ?_
  rw [Shape.rowMajor_val_one, Shape.rowMajor_val_two]
  simp

theorem cast1x16_apply {α : Type} (v : H16.Idx → α) (h : H16.ShapeCasts H1x16) (x : H1x16.Idx) :
    shapeCast H1x16 v h x = v (ix1 (x 1)) := by
  refine shapeCast_apply v h x _ ?_
  rw [Shape.rowMajor_val_one, Shape.rowMajor_val_two]
  have h0 : (x 0).val < 1 := (x 0).isLt
  have h0' : (x 0).val = 0 := by omega
  rw [h0']; simp

/-- A load of lanes `16 g …` of row `r`, its unit axis dropped. -/
theorem load_row {n : ℕ} (v : View sig κ sp (HRows n) e) (f : v.ty.Contents Val) {off : Fin 2 → ℕ} {inb} (h : H1x16.ShapeCasts H16)
    (r : Fin n) (g : Fin 4) (hoff : off = ![r.val, 16 * g.val]) :
    shapeCast H16 (v.readAt Val (Rect.unit (s := HRows n) off H1x16.size inb).toLoadRect f) h = lanes g (row (v.read Val f) r) := by
  subst hoff
  funext x
  rw [cast16_apply, View.readAt_apply, lanes_apply]
  refine congrArg (v.read Val f) (funext fun a => Fin.ext ?_)
  match a with
  | ⟨0, _⟩ => show r.val + 1 * 0 = r.val; omega
  | ⟨1, _⟩ => show 16 * g.val + 1 * (x 0).val = 16 * g.val + (x 0).val; omega

/-- A load of lanes `16 g …` of a vector of 64. -/
theorem load_vec (v : View sig κ sp H64 e) (f : v.ty.Contents Val) {off : Fin 1 → ℕ} {inb}
    (g : Fin 4) (hoff : off = ![16 * g.val]) :
    v.readAt Val (Rect.unit (s := H64) off H16.size inb).toLoadRect f = lanes g (vec (v.read Val f)) := by
  subst hoff
  funext x
  rw [View.readAt_apply, lanes_apply]
  refine congrArg (v.read Val f) (funext fun a => Fin.ext ?_)
  match a with
  | ⟨0, _⟩ => show 16 * g.val + 1 * (x 0).val = 16 * g.val + (x 0).val; omega

/-- What four stores of the four groups of row `r` leave. -/
theorem read_row4 {n : ℕ} (v : View sig κ sp (HRows n) e) (f : v.ty.Contents Val) {o0 o1 o2 o3 : Fin 2 → ℕ} {i0 i1 i2 i3}
    (w0 w1 w2 w3 : H1x16.Idx → Val e) (r : Fin n) (new : Fin 64 → Val e)
    (h0 : o0 = ![r.val, 0]) (h1 : o1 = ![r.val, 16]) (h2 : o2 = ![r.val, 32]) (h3 : o3 = ![r.val, 48])
    (e0 : ∀ x : H1x16.Idx, w0 x = lanes 0 new (ix1 (x 1))) (e1 : ∀ x : H1x16.Idx, w1 x = lanes 1 new (ix1 (x 1)))
    (e2 : ∀ x : H1x16.Idx, w2 x = lanes 2 new (ix1 (x 1))) (e3 : ∀ x : H1x16.Idx, w3 x = lanes 3 new (ix1 (x 1))) :
    v.read Val (v.writes Val f [⟨Rect.unit (s := HRows n) o3 H1x16.size i3, w3⟩, ⟨Rect.unit (s := HRows n) o2 H1x16.size i2, w2⟩,
      ⟨Rect.unit (s := HRows n) o1 H1x16.size i1, w1⟩, ⟨Rect.unit (s := HRows n) o0 H1x16.size i0, w0⟩]) = setRow (v.read Val f) r new := by
  subst h0 h1 h2 h3
  funext y
  by_cases hy : (y 0).val = r.val
  · have hG : setRow (v.read Val f) r new y = new (y 1) := if_pos hy
    rw [hG]
    refine View.read_writes_apply_of_pieces v f (fun y => new (y 1)) _ ?_ y ?_
    · intro p hp x
      simp only [List.mem_cons, List.not_mem_nil, _root_.or_false] at hp
      rcases hp with rfl | rfl | rfl | rfl
      · refine (e3 x).trans (congrArg new (Fin.ext ?_)); show 16 * 3 + (x 1).val = 48 + 1 * (x 1).val; omega
      · refine (e2 x).trans (congrArg new (Fin.ext ?_)); show 16 * 2 + (x 1).val = 32 + 1 * (x 1).val; omega
      · refine (e1 x).trans (congrArg new (Fin.ext ?_)); show 16 * 1 + (x 1).val = 16 + 1 * (x 1).val; omega
      · refine (e0 x).trans (congrArg new (Fin.ext ?_)); show 16 * 0 + (x 1).val = 0 + 1 * (x 1).val; omega
    · have hk : (y 1).val < 64 := (y 1).isLt
      simp only [List.mem_cons, List.not_mem_nil, _root_.or_false, exists_eq_or_imp, exists_eq_left, Rect.mem_set_unit, Fin.forall_fin_two]
      simp only [Matrix.cons_val_zero, Matrix.cons_val_one, H1x16]
      omega
  · have hG : setRow (v.read Val f) r new y = v.read Val f y := if_neg hy
    rw [hG]
    refine View.read_writes_apply_of_forall_not_mem v f y _ ?_
    intro p hp
    simp only [List.mem_cons, List.not_mem_nil, _root_.or_false] at hp
    rcases hp with rfl | rfl | rfl | rfl <;>
    · rw [Rect.mem_set_unit]; intro h; have := h 0; simp at this; omega

/-- What four stores of the four groups leave of a vector of 64. -/
theorem read_vec4 (v : View sig κ sp H64 e) (f : v.ty.Contents Val) {o0 o1 o2 o3 : Fin 1 → ℕ} {i0 i1 i2 i3}
    (w0 w1 w2 w3 : H16.Idx → Val e) (new : Fin 64 → Val e)
    (h0 : o0 = ![0]) (h1 : o1 = ![16]) (h2 : o2 = ![32]) (h3 : o3 = ![48])
    (e0 : w0 = lanes 0 new) (e1 : w1 = lanes 1 new) (e2 : w2 = lanes 2 new) (e3 : w3 = lanes 3 new) :
    v.read Val (v.writes Val f [⟨Rect.unit (s := H64) o3 H16.size i3, w3⟩, ⟨Rect.unit (s := H64) o2 H16.size i2, w2⟩,
      ⟨Rect.unit (s := H64) o1 H16.size i1, w1⟩, ⟨Rect.unit (s := H64) o0 H16.size i0, w0⟩]) = fun y => new (y 0) := by
  subst h0 h1 h2 h3 e0 e1 e2 e3
  funext y
  refine View.read_writes_apply_of_pieces v f (fun y => new (y 0)) _ ?_ y ?_
  · intro p hp x
    simp only [List.mem_cons, List.not_mem_nil, _root_.or_false] at hp
    rcases hp with rfl | rfl | rfl | rfl
    · refine congrArg new (Fin.ext ?_); show 16 * 3 + (x 0).val = 48 + 1 * (x 0).val; omega
    · refine congrArg new (Fin.ext ?_); show 16 * 2 + (x 0).val = 32 + 1 * (x 0).val; omega
    · refine congrArg new (Fin.ext ?_); show 16 * 1 + (x 0).val = 16 + 1 * (x 0).val; omega
    · refine congrArg new (Fin.ext ?_); show 16 * 0 + (x 0).val = 0 + 1 * (x 0).val; omega
  · have hk : (y 0).val < 64 := (y 0).isLt
    simp only [List.mem_cons, List.not_mem_nil, _root_.or_false, exists_eq_or_imp, exists_eq_left, Rect.mem_set_unit, Fin.forall_fin_one]
    simp only [Matrix.cons_val_zero, H16]
    omega

end Values

/-! ## The indexed operations -/

section Indexed

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s t : Shape} {e : EltTy} {α : Type} {Q : α → sProp (MT nD τ sig Ix (Elt F) Name U Lvl)}

/-- The view of the whole rectangle reads what the view reads. -/
theorem read_access_whole (m : Memref sig c.2.kind .vmem s e) (f : m.view.ty.Contents (Elt F)) :
    (m.access (.whole s)).read (Elt F) f = m.view.read (Elt F) f := by
  funext x
  show m.view.read (Elt F) f ((Rect.whole s).emb x) = _
  rw [Rect.emb_whole_apply]

theorem set_access_whole (m : Memref sig c.2.kind .vmem s e) (hm : m.IsWhole) : (m.access (.whole s)).set = Finset.univ := by
  rw [← hm.set_eq_univ]
  ext i
  simp only [View.set, Finset.mem_map, Finset.mem_univ, true_and]
  refine ⟨fun ⟨x, hx⟩ => ⟨x, ?_⟩, fun ⟨x, hx⟩ => ⟨x, ?_⟩⟩
  · rw [← hx]; show _ = m.view.emb ((Rect.whole s).emb x); rw [Rect.emb_whole_apply]
  · rw [← hx]; show m.view.emb ((Rect.whole s).emb x) = _; rw [Rect.emb_whole_apply]

/-- An indexed load of a whole buffer, told by what the buffer reads. -/
theorem wp_gather (m : Memref sig c.2.kind .vmem s e) {idxs : Fin s.rank → IVec t 32}
    {h : ∀ a x, (idxs a x).toNat < s.size a} {hl : m.view.Loads} {k : Vec F t e → Prog (TpuEff nD τ sig (Elt F) Λ c.2) α}
    {q : PosShare TreeShare} {f : Buf (Elt F) (m.view.loc c)} (g : Vec F s e) (hg : m.view.read (Elt F) f = g) :
    (m.view.loc c ↦{q} f)
      ⊢ iprop((∀ w : Vec F t e, ⌜w = loadIdx g idxs h⌝ -∗ (m.view.loc c ↦{q} f) -∗ wp frame (wpE defs 𝒱 c bd) E (k w) Q)
        -∗ wp frame (wpE defs 𝒱 c bd) E (SparseCore.vectorLoadIdx m idxs h hl >>= k) Q) := by
  subst hg
  have := SparseCore.wp_vectorLoadIdx (defs := defs) 𝒱 c bd E (Q := Q) (base := m) (idxs := idxs) (h := h) (hl := hl) (k := k)
    (S := Finset.univ) (q := q) (f := f) (Finset.subset_univ _)
  rw [read_access_whole] at this
  iintro Hf Hk
  iapply this $$ Hf
  iintro Hf
  iapply Hk $$ [] Hf
  ipureintro
  rfl

/-- An indexed adding store into a whole buffer, told by what the buffer reads before and after. -/
theorem wp_scatter {d : Fin 1 → Nat} (m : Memref sig c.2.kind .vmem s e) (hm : m.IsWhole) {idxs : Fin s.rank → IVec ⟨1, d⟩ 32}
    {v : Vec F ⟨1, d⟩ e} {mask : IVec ⟨1, d⟩ 1} {add : Bool} {h : ∀ a x, (idxs a x).toNat < s.size a}
    {hs : (m.access (.whole s)).Stores Finset.univ} {k : PUnit → Prog (TpuEff nD τ sig (Elt F) Λ c.2) α}
    {f : Buf (Elt F) (m.view.loc c)} (g : Vec F s e) (hg : m.view.read (Elt F) f = g) :
    (m.view.loc c ↦{fullShare} f)
      ⊢ iprop((∀ f' : Buf (Elt F) (m.view.loc c), ⌜m.view.read (Elt F) f' = storeIdx g idxs v mask add h⌝ -∗
            (m.view.loc c ↦{fullShare} f') -∗ wp frame (wpE defs 𝒱 c bd) E (k ⟨⟩) Q)
        -∗ wp frame (wpE defs 𝒱 c bd) E (SparseCore.vectorStoreIdx m idxs v mask add h hs >>= k) Q) := by
  subst hg
  have H := SparseCore.wp_vectorStoreIdx (defs := defs) 𝒱 c bd E (Q := Q) (base := m) (idxs := idxs) (h := h) (hs := hs) (k := k)
    (v := v) (mask := mask) (add := add) (f := f)
  rw [read_access_whole, set_access_whole c m hm] at H
  iintro Hf Hk
  iapply H $$ Hf
  iintro Hf
  iapply Hk $$ [] Hf
  ipureintro
  rw [← read_access_whole, View.read_write_univ]

end Indexed

end Cert.Proof.Rows
end
-- ==== Proof.Model.lean ====
/-
  What the first kernel computes, one tile at a time, over any float instance: a step of the chunk's prefix recurrence
  (`step`). Values are functions of the state; a row's group of sixteen lanes is `lanes g`.
-/
module

public import proofs.«01_k».proof.Proof.Rules

@[expose] public section

noncomputable section

namespace Cert.Proof.Rows

open Idealize.ShloMosaic
open Idealize.ShloMosaic.ValueIdx (ix1 ix2 eq_ix1 eq_ix2)

variable {F : FTy → Type} [FloatOps F]

abbrev zeroF : F .f32 := Scalar.ofBits .f32 0x00000000#32
abbrev oneF : F .f32 := Scalar.ofBits .f32 0x3F800000#32

/-- A row read at the state that a word names. -/
def at' {α : Type} (f : Fin 64 → α) (p : BitVec 32) : α := f ⟨p.toNat % 64, Nat.mod_lt _ (by decide)⟩

/-- Group `g` of the values `v` added, lane by lane, each at the state its word names, onto `z`. -/
def scat (z : Fin 64 → F .f32) (g : Fin 4) (idx : Fin 64 → BitVec 32) (v : Fin 64 → F .f32) : Fin 64 → F .f32 :=
  (List.finRange 16).foldl (fun a k => fun j =>
    if j.val = (idx (st g (ix1 k))).toNat then Elt.idxAdd (F := F) .f32 (a (at' id (idx (st g (ix1 k))))) (v (st g (ix1 k))) else a j) z

theorem storeIdx_scat (z : H64.Idx → F .f32) (g : Fin 4) (idx : Fin 64 → BitVec 32) (v : Fin 64 → F .f32) (h) :
    storeIdx (F := F) (s := H64) (d := ![16]) (e := .f32) z ![lanes g idx] (lanes g v) (fun _ => 1#1) true h
      = fun y => scat (vec z) g idx v (y 0) := by
  have hz : z = (fun (b : Fin 64 → F .f32) (y : H64.Idx) => b (y 0)) (vec z) := by funext y; exact congrArg z (eq_ix1 y)
  unfold storeIdx scat
  conv_lhs => rw [hz]
  refine List.foldl_hom (fun (b : Fin 64 → F .f32) (y : H64.Idx) => b (y 0)) ?_
  intro a k
  have hk : Shape.ofLane (d := ![16]) k = (ix1 k : H16.Idx) := by funext b; match b with | ⟨0, _⟩ => rfl
  have hlt : (idx (st g (ix1 k))).toNat < 64 := h 0 (ix1 k)
  funext y
  dsimp only
  rw [if_pos rfl, hk]
  have hi : (idxAt (s := H64) (![lanes g idx] : Fin 1 → IVec H16 32) h (ix1 k)) = ix1 (at' id (idx (st g (ix1 k)))) := by
    funext b; match b with
    | ⟨0, _⟩ => exact Fin.ext (Nat.mod_eq_of_lt hlt).symm
  rw [hi]
  have hall : (∀ b : Fin 1, (y b).val = ((ix1 (at' id (idx (st g (ix1 k)))) : H64.Idx) b).val) ↔ (y 0).val = (idx (st g (ix1 k))).toNat := by
    constructor
    · intro hh; exact (hh 0).trans (Nat.mod_eq_of_lt hlt)
    · intro hh b; match b with | ⟨0, _⟩ => exact hh.trans (Nat.mod_eq_of_lt hlt).symm
  by_cases hj : (y 0).val = (idx (st g (ix1 k))).toNat
  · rw [if_pos hj]; exact (congrFun (if_pos rfl) y).trans (if_pos (hall.mpr hj))
  · rw [if_neg hj]; exact (congrFun (if_pos rfl) y).trans (if_neg fun hh => hj (hall.mp hh))

/-- A prefix: the composed gather, the composed diagonal and the composed state. -/
structure Pre (F : FTy → Type) where
  P : Fin 64 → BitVec 32
  Dr : Fin 64 → F .f32
  Di : Fin 64 → F .f32
  Br : Fin 64 → F .f32
  Bi : Fin 64 → F .f32

/-- The real and imaginary parts of a product. -/
def cre (ar ai br bi : F .f32) : F .f32 := FloatOps.subf (FloatOps.mulf ar br) (FloatOps.mulf ai bi)
def cim (ar ai br bi : F .f32) : F .f32 := FloatOps.addf (FloatOps.mulf ar bi) (FloatOps.mulf ai br)

/-- The four groups' sums, in the order the kernels add them. -/
def sum4 (p : Fin 64 → BitVec 32) (v : Fin 64 → F .f32) (k : Fin 64) : F .f32 :=
  FloatOps.addf (FloatOps.addf (scat (fun _ => zeroF) 0 p v k) (scat (fun _ => zeroF) 1 p v k))
    (FloatOps.addf (scat (fun _ => zeroF) 2 p v k) (scat (fun _ => zeroF) 3 p v k))

/-- One step of the prefix recurrence. -/
def step (p : Fin 64 → BitVec 32) (dr di ur ui : Fin 64 → F .f32) (c : Pre F) : Pre F where
  P k := at' p (c.P k)
  Dr k := cre (at' dr (c.P k)) (at' di (c.P k)) (c.Dr k) (c.Di k)
  Di k := cim (at' dr (c.P k)) (at' di (c.P k)) (c.Dr k) (c.Di k)
  Br k := FloatOps.addf (ur k) (sum4 p (fun k => cre (dr k) (di k) (c.Br k) (c.Bi k)) k)
  Bi k := FloatOps.addf (ui k) (sum4 p (fun k => cim (dr k) (di k) (c.Br k) (c.Bi k)) k)

/-- The empty prefix: the identity gather, ones and zeros. -/
def pre0 : Pre F where
  P k := BitVec.ofNat 32 k.val
  Dr _ := oneF
  Di _ := zeroF
  Br _ := zeroF
  Bi _ := zeroF

/-- The carry of the row loop: the four groups of each component. -/
def pack (c : Pre F) : IVec H16 32 × IVec H16 32 × IVec H16 32 × IVec H16 32 ×
    FVec F H16 .f32 × FVec F H16 .f32 × FVec F H16 .f32 × FVec F H16 .f32 ×
    FVec F H16 .f32 × FVec F H16 .f32 × FVec F H16 .f32 × FVec F H16 .f32 ×
    FVec F H16 .f32 × FVec F H16 .f32 × FVec F H16 .f32 × FVec F H16 .f32 ×
    FVec F H16 .f32 × FVec F H16 .f32 × FVec F H16 .f32 × FVec F H16 .f32 :=
  (lanes 0 c.P, lanes 1 c.P, lanes 2 c.P, lanes 3 c.P, lanes 0 c.Dr, lanes 1 c.Dr, lanes 2 c.Dr, lanes 3 c.Dr,
    lanes 0 c.Di, lanes 1 c.Di, lanes 2 c.Di, lanes 3 c.Di, lanes 0 c.Br, lanes 1 c.Br, lanes 2 c.Br, lanes 3 c.Br,
    lanes 0 c.Bi, lanes 1 c.Bi, lanes 2 c.Bi, lanes 3 c.Bi)

/-! ## The bodies' vectors, group by group -/

theorem pack_ext (c : Pre F) {a0 a1 a2 a3 : IVec H16 32} {b0 b1 b2 b3 c0 c1 c2 c3 d0 d1 d2 d3 e0 e1 e2 e3 : FVec F H16 .f32}
    (ha0 : a0 = lanes 0 c.P) (ha1 : a1 = lanes 1 c.P) (ha2 : a2 = lanes 2 c.P) (ha3 : a3 = lanes 3 c.P)
    (hb0 : b0 = lanes 0 c.Dr) (hb1 : b1 = lanes 1 c.Dr) (hb2 : b2 = lanes 2 c.Dr) (hb3 : b3 = lanes 3 c.Dr)
    (hc0 : c0 = lanes 0 c.Di) (hc1 : c1 = lanes 1 c.Di) (hc2 : c2 = lanes 2 c.Di) (hc3 : c3 = lanes 3 c.Di)
    (hd0 : d0 = lanes 0 c.Br) (hd1 : d1 = lanes 1 c.Br) (hd2 : d2 = lanes 2 c.Br) (hd3 : d3 = lanes 3 c.Br)
    (he0 : e0 = lanes 0 c.Bi) (he1 : e1 = lanes 1 c.Bi) (he2 : e2 = lanes 2 c.Bi) (he3 : e3 = lanes 3 c.Bi) :
    pack c = (a0, a1, a2, a3, b0, b1, b2, b3, c0, c1, c2, c3, d0, d1, d2, d3, e0, e1, e2, e3) := by
  subst ha0 ha1 ha2 ha3 hb0 hb1 hb2 hb3 hc0 hc1 hc2 hc3 hd0 hd1 hd2 hd3 he0 he1 he2 he3
  rfl

theorem scat_of {z : Fin 64 → F .f32} {g : Fin 4} {idx : Fin 64 → BitVec 32} {v : Fin 64 → F .f32} {i : IVec H16 32} {w : FVec F H16 .f32} {h}
    (hi : i = lanes g idx) (hw : w = lanes g v) :
    storeIdx (F := F) (s := H64) (d := ![16]) (e := .f32) (fun y => z (y 0)) ![i] w (fun _ => 1#1) true h = fun y => scat z g idx v (y 0) := by
  subst hi hw
  exact storeIdx_scat _ g idx v h

theorem cre_of {g : Fin 4} {ar ai br bi : FVec F H16 .f32} {a a' b b' : Fin 64 → F .f32}
    (h1 : ar = lanes g a) (h2 : ai = lanes g a') (h3 : br = lanes g b) (h4 : bi = lanes g b') :
    subf (mulf ar br) (mulf ai bi) = lanes g (fun k => cre (a k) (a' k) (b k) (b' k)) := by
  subst h1 h2 h3 h4; rfl

theorem cim_of {g : Fin 4} {ar ai br bi : FVec F H16 .f32} {a a' b b' : Fin 64 → F .f32}
    (h1 : ar = lanes g a) (h2 : ai = lanes g a') (h3 : br = lanes g b) (h4 : bi = lanes g b') :
    addf (mulf ar bi) (mulf ai br) = lanes g (fun k => cim (a k) (a' k) (b k) (b' k)) := by
  subst h1 h2 h3 h4; rfl

theorem acc_of {sig : RefSig} {κ : Kind} {sp : Space} (v : View sig κ sp H64 .f32) {f : v.ty.Contents (Elt F)} {s : Fin 64 → F .f32}
    (e : v.read (Elt F) f = fun y => s (y 0)) {off : Fin 1 → ℕ} {inb} (g : Fin 4) (hoff : off = ![16 * g.val]) :
    v.readAt (Elt F) (Rect.unit (s := H64) off H16.size inb).toLoadRect f = lanes g s := by
  rw [load_vec v f g hoff, e]; rfl

theorem sum_of {g : Fin 4} {u v0 v1 v2 v3 : FVec F H16 .f32} {u' : Fin 64 → F .f32} {p : Fin 64 → BitVec 32} {w : Fin 64 → F .f32}
    (hu : u = lanes g u') (h0 : v0 = lanes g (scat (fun _ => zeroF) 0 p w)) (h1 : v1 = lanes g (scat (fun _ => zeroF) 1 p w))
    (h2 : v2 = lanes g (scat (fun _ => zeroF) 2 p w)) (h3 : v3 = lanes g (scat (fun _ => zeroF) 3 p w)) :
    addf u (addf (addf v0 v1) (addf v2 v3)) = lanes g (fun k => FloatOps.addf (u' k) (sum4 p w k)) := by
  subst hu h0 h1 h2 h3; rfl

end Cert.Proof.Rows
end
-- ==== Proof.Geom.lean ====
/-
  The rows the two kernels' copies move: row `w` of an array of 32 blocks of 128 rows, and row `w` of an array of rows,
  each with its unit axis dropped. What a read of such a row gives, what a copy into it leaves, and that the 32 rows are
  disjoint and fill the array.
-/
module

public import proofs.«01_k».proof.Proof.Model

@[expose] public section

noncomputable section

namespace Cert.Proof.Rows

open Idealize.ShloMosaic
open Idealize.ShloMosaic.ValueIdx (ix1 ix2 ix3 eq_ix1 eq_ix2 eq_ix3)

abbrev HBlk : Shape := ⟨3, ![32, 128, 64]⟩
abbrev H1Blk : Shape := ⟨3, ![1, 128, 64]⟩

variable {sig : RefSig} {κ : Kind} {sp : Space} {e : EltTy} {Val : EltTy → Type}

/-- Dropping the unit axis in front of a block and of a row. -/
theorem drop_blk (h : (HRows 128).numel = H1Blk.numel) (y : (HRows 128).Idx) :
    Shape.reshapeEquiv h y = (ix3 (0 : Fin 1) (y 0) (y 1) : H1Blk.Idx) :=
  Shape.reshapeEquiv_eq_of_rowMajor h (by
    rw [Shape.rowMajor_val_three, Shape.rowMajor_val_two]
    show ((0 : ℕ) * 128 + (y 0).val) * 64 + (y 1).val = (y 0).val * 64 + (y 1).val; omega)

theorem drop_row (h : H64.numel = (HRows 1).numel) (y : H64.Idx) :
    Shape.reshapeEquiv h y = (ix2 (0 : Fin 1) (y 0) : (HRows 1).Idx) :=
  Shape.reshapeEquiv_eq_of_rowMajor h (by
    rw [Shape.rowMajor_val_two, Shape.rowMajor_val_one]
    show (0 : ℕ) * 64 + (y 0).val = (y 0).val; omega)

/-- Row `w` of an array of blocks, as a view of a block. -/
abbrev blkView (v : View sig κ sp HBlk e) (off : Fin 3 → ℕ) (inb : ∀ a, off a + H1Blk.size a ≤ HBlk.size a) (h : (HRows 128).numel = H1Blk.numel) : View sig κ sp (HRows 128) e :=
  (v.slice (Rect.unit (s := HBlk) off H1Blk.size inb)).reshape (HRows 128) h

/-- Row `r` of an array of rows, as a view of a vector. -/
abbrev rowView {n : ℕ} (v : View sig κ sp (HRows n) e) (off : Fin 2 → ℕ) (inb : ∀ a, off a + (HRows 1).size a ≤ (HRows n).size a) (h : H64.numel = (HRows 1).numel) : View sig κ sp H64 e :=
  (v.slice (Rect.unit (s := HRows n) off (HRows 1).size inb)).reshape H64 h

theorem emb_blk (v : View sig κ sp HBlk e) {off : Fin 3 → ℕ} {inb} {h} (w : Fin 32) (hoff : off = ![w.val, 0, 0]) (y : (HRows 128).Idx) :
    (blkView v off inb h).emb y = v.emb (ix3 w (y 0) (y 1)) := by
  subst hoff
  show v.emb ((Rect.unit (s := HBlk) ![w.val, 0, 0] H1Blk.size inb).emb (Shape.reshapeEquiv h y)) = _
  rw [drop_blk]
  refine congrArg v.emb (funext fun a => Fin.ext ?_)
  match a with
  | ⟨0, _⟩ => show w.val + 1 * 0 = w.val; omega
  | ⟨1, _⟩ => show 0 + 1 * (y 0).val = (y 0).val; omega
  | ⟨2, _⟩ => show 0 + 1 * (y 1).val = (y 1).val; omega

theorem emb_row {n : ℕ} (v : View sig κ sp (HRows n) e) {off : Fin 2 → ℕ} {inb} {h} (r : Fin n) (hoff : off = ![r.val, 0]) (y : H64.Idx) :
    (rowView v off inb h).emb y = v.emb (ix2 r (y 0)) := by
  subst hoff
  show v.emb ((Rect.unit (s := HRows n) ![r.val, 0] (HRows 1).size inb).emb (Shape.reshapeEquiv h y)) = _
  rw [drop_row]
  refine congrArg v.emb (funext fun a => Fin.ext ?_)
  match a with
  | ⟨0, _⟩ => show r.val + 1 * 0 = r.val; omega
  | ⟨1, _⟩ => show 0 + 1 * (y 0).val = (y 0).val; omega

theorem read_blk (v : View sig κ sp HBlk e) {off : Fin 3 → ℕ} {inb} {h} (w : Fin 32) (hoff : off = ![w.val, 0, 0]) (f : v.ty.Contents Val) :
    (blkView v off inb h).read Val f = fun y => v.read Val f (ix3 w (y 0) (y 1)) := by
  funext y
  rw [View.read_apply, View.read_apply, emb_blk v w hoff]

theorem read_rowView {n : ℕ} (v : View sig κ sp (HRows n) e) {off : Fin 2 → ℕ} {inb} {h} (r : Fin n) (hoff : off = ![r.val, 0]) (f : v.ty.Contents Val) :
    (rowView v off inb h).read Val f = fun y => row (v.read Val f) r (y 0) := by
  funext y
  show _ = v.read Val f (ix2 r (y 0))
  rw [View.read_apply, View.read_apply, emb_row v r hoff]

/-- A view's contents on its own elements are what it reads. -/
theorem eq_on_set {s : Shape} (v : View sig κ sp s e) {f g : v.ty.Contents Val} (h : v.read Val f = v.read Val g) :
    ∀ i ∈ v.set, f i = g i := by
  intro i hi
  obtain ⟨y, _, rfl⟩ := Finset.mem_map.mp hi
  have := congrFun h y
  rw [View.read_apply, View.read_apply] at this
  exact (Equiv.cast (congrArg Val v.elt_eq)).injective this

end Cert.Proof.Rows
end
-- ==== Proof.Chunk.lean ====
/-
  A chunk's prefixes, step by step, and what a row loop has left in a tile's rows after some trips: the rows already
  passed hold the prefixes (`mix`), the rest what was fetched.
-/
module

public import proofs.«01_k».proof.Proof.Geom

@[expose] public section

noncomputable section

namespace Cert.Proof.Rows

open Idealize.ShloMosaic
open Idealize.ShloMosaic.ValueIdx (ix1 ix2 ix3 eq_ix1 eq_ix2 eq_ix3)

variable {F : FTy → Type} [FloatOps F]

/-- The prefix of the first `s` steps of a chunk, from the chunk's rows. -/
def chunk (p : Fin 128 → Fin 64 → BitVec 32) (dr di ur ui : Fin 128 → Fin 64 → F .f32) : ℕ → Pre F
  | 0 => pre0
  | s + 1 => step (p (Fin.ofNat 128 s)) (dr (Fin.ofNat 128 s)) (di (Fin.ofNat 128 s)) (ur (Fin.ofNat 128 s)) (ui (Fin.ofNat 128 s)) (chunk p dr di ur ui s)

theorem chunk_succ {p : Fin 128 → Fin 64 → BitVec 32} {dr di ur ui : Fin 128 → Fin 64 → F .f32} (r : Fin 128) :
    chunk p dr di ur ui (r.val + 1) = step (p r) (dr r) (di r) (ur r) (ui r) (chunk p dr di ur ui r.val) := by
  show step _ _ _ _ _ _ = _
  have h : Fin.ofNat 128 r.val = r := Fin.ext (Nat.mod_eq_of_lt r.isLt)
  rw [h]

/-- The composed words name states when the rows' words do. -/
theorem chunk_P_lt {p : Fin 128 → Fin 64 → BitVec 32} {dr di ur ui : Fin 128 → Fin 64 → F .f32} (hp : ∀ r k, (p r k).toNat < 64) (s : ℕ) (k : Fin 64) :
    ((chunk p dr di ur ui s).P k).toNat < 64 := by
  cases s with
  | zero =>
    show (BitVec.ofNat 32 k.val).toNat < 64
    have := k.isLt
    rw [BitVec.toNat_ofNat, Nat.mod_eq_of_lt (by omega)]; exact this
  | succ s => exact hp _ _

theorem chunk_zero {p : Fin 128 → Fin 64 → BitVec 32} {dr di ur ui : Fin 128 → Fin 64 → F .f32} : chunk p dr di ur ui 0 = pre0 := rfl

attribute [irreducible] chunk

variable {α : Type}

/-- The rows below `t` hold `g`, the others what they held. -/
def mix (t : ℕ) (g : ℕ → Fin 64 → α) (f : (HRows 128).Idx → α) : (HRows 128).Idx → α :=
  fun i => if (i 0).val < t then g (i 0).val (i 1) else f i

theorem mix_zero (g : ℕ → Fin 64 → α) (f) : mix 0 g f = f := by
  funext i; exact if_neg (Nat.not_lt_zero _)

theorem mix_full (g : ℕ → Fin 64 → α) (f) : mix 128 g f = fun i => g (i 0).val (i 1) := by
  funext i; exact if_pos (i 0).isLt

theorem row_mix (g : ℕ → Fin 64 → α) (f) (r : Fin 128) {t : ℕ} (h : t ≤ r.val) : row (mix t g f) r = row f r := by
  funext k; exact if_neg (Nat.not_lt.mpr h)

theorem setRow_mix (g : ℕ → Fin 64 → α) (f) (r : Fin 128) {new : Fin 64 → α} (h : new = g r.val) :
    setRow (mix r.val g f) r new = mix (r.val + 1) g f := by
  subst h
  funext i
  unfold setRow mix
  by_cases h1 : (i 0).val = r.val
  · rw [if_pos h1, if_pos (by omega), h1]
  · rw [if_neg h1]
    by_cases h2 : (i 0).val < r.val
    · rw [if_pos h2, if_pos (by omega)]
    · rw [if_neg h2, if_neg (by omega)]

/-- Three blocks of an array, as rows. -/
def blk {β : Type} (a : HBlk.Idx → β) (w : Fin 32) : Fin 128 → Fin 64 → β := fun s k => a (ix3 w s k)

end Cert.Proof.Rows
end
-- ==== Proof.Model2.lean ====
/-
  What the second kernel computes, one tile at a time, over any float instance: the state a chunk is entered with, from
  the chunks' carries (`comb`, `enter`), and a chunk's states from its prefixes (`apply1`).
-/
module

public import proofs.«01_k».proof.Proof.Chunk

@[expose] public section

noncomputable section

namespace Cert.Proof.Rows

open Idealize.ShloMosaic
open Idealize.ShloMosaic.ValueIdx (ix1 ix2 ix3 eq_ix1 eq_ix2 eq_ix3)

variable {F : FTy → Type} [FloatOps F]

/-- A state: its real and imaginary parts. -/
structure Sta (F : FTy → Type) where
  Br : Fin 64 → F .f32
  Bi : Fin 64 → F .f32

/-- The state of zeros. -/
def sta0 : Sta F := ⟨fun _ => zeroF, fun _ => zeroF⟩

/-- One chunk's carry applied to a state. -/
def comb (p : Fin 64 → BitVec 32) (dr di br bi : Fin 64 → F .f32) (h : Sta F) : Sta F where
  Br k := FloatOps.addf (br k) (sum4 p (fun k => cre (dr k) (di k) (h.Br k) (h.Bi k)) k)
  Bi k := FloatOps.addf (bi k) (sum4 p (fun k => cim (dr k) (di k) (h.Br k) (h.Bi k)) k)

/-- The carry applied when `b`, the state kept otherwise. -/
def combIf (b : Prop) [Decidable b] (p : Fin 64 → BitVec 32) (dr di br bi : Fin 64 → F .f32) (h : Sta F) : Sta F where
  Br k := if b then (comb p dr di br bi h).Br k else h.Br k
  Bi k := if b then (comb p dr di br bi h).Bi k else h.Bi k

/-- The state chunk `w` is entered with, after the first `t` of the carries have been looked at. -/
def enter (p : Fin 32 → Fin 64 → BitVec 32) (dr di br bi : Fin 32 → Fin 64 → F .f32) (w : ℕ) : ℕ → Sta F
  | 0 => sta0
  | t + 1 => combIf (t < w) (p (Fin.ofNat 32 t)) (dr (Fin.ofNat 32 t)) (di (Fin.ofNat 32 t)) (br (Fin.ofNat 32 t)) (bi (Fin.ofNat 32 t)) (enter p dr di br bi w t)

theorem enter_zero {p : Fin 32 → Fin 64 → BitVec 32} {dr di br bi : Fin 32 → Fin 64 → F .f32} {w : ℕ} : enter p dr di br bi w 0 = sta0 := rfl

theorem enter_succ {p : Fin 32 → Fin 64 → BitVec 32} {dr di br bi : Fin 32 → Fin 64 → F .f32} {w : ℕ} (r : Fin 32) :
    enter p dr di br bi w (r.val + 1) = combIf (r.val < w) (p r) (dr r) (di r) (br r) (bi r) (enter p dr di br bi w r.val) := by
  show combIf _ _ _ _ _ _ _ = _
  have h : Fin.ofNat 32 r.val = r := Fin.ext (Nat.mod_eq_of_lt r.isLt)
  rw [h]

attribute [irreducible] enter

/-- The four groups of `v` added, one after the other, onto `z`. -/
def scat4 (z : Fin 64 → F .f32) (p : Fin 64 → BitVec 32) (v : Fin 64 → F .f32) : Fin 64 → F .f32 :=
  scat (scat (scat (scat z 0 p v) 1 p v) 2 p v) 3 p v

/-- A prefix applied to the state its chunk is entered with. -/
def apply1 (p : Fin 64 → BitVec 32) (dr di br bi : Fin 64 → F .f32) (h : Sta F) : Sta F where
  Br := scat4 br p (fun k => cre (dr k) (di k) (h.Br k) (h.Bi k))
  Bi := scat4 bi p (fun k => cim (dr k) (di k) (h.Br k) (h.Bi k))

/-- The loop's carry: the four groups of each part. -/
def spack (h : Sta F) : FVec F H16 .f32 × FVec F H16 .f32 × FVec F H16 .f32 × FVec F H16 .f32 ×
    FVec F H16 .f32 × FVec F H16 .f32 × FVec F H16 .f32 × FVec F H16 .f32 :=
  (lanes 0 h.Br, lanes 1 h.Br, lanes 2 h.Br, lanes 3 h.Br, lanes 0 h.Bi, lanes 1 h.Bi, lanes 2 h.Bi, lanes 3 h.Bi)

theorem spack_ext (h : Sta F) {a0 a1 a2 a3 b0 b1 b2 b3 : FVec F H16 .f32}
    (ha0 : a0 = lanes 0 h.Br) (ha1 : a1 = lanes 1 h.Br) (ha2 : a2 = lanes 2 h.Br) (ha3 : a3 = lanes 3 h.Br)
    (hb0 : b0 = lanes 0 h.Bi) (hb1 : b1 = lanes 1 h.Bi) (hb2 : b2 = lanes 2 h.Bi) (hb3 : b3 = lanes 3 h.Bi) :
    (a0, a1, a2, a3, b0, b1, b2, b3) = spack h := by
  subst ha0 ha1 ha2 ha3 hb0 hb1 hb2 hb3
  rfl

theorem sel_of {b : Prop} [Decidable b] {g : Fin 4} {m : IVec H16 1} {u v : FVec F H16 .f32} {a c : Fin 64 → F .f32}
    (hm : ∀ x, m x = if b then 1#1 else 0#1) (hu : u = lanes g a) (hv : v = lanes g c) :
    select m u v = lanes g (fun k => if b then a k else c k) := by
  subst hu hv
  funext x
  show Scalar.select (m x) _ _ = if b then _ else _
  rw [hm]
  by_cases h : b
  · rw [if_pos h, if_pos h]; rfl
  · rw [if_neg h, if_neg h]; rfl

end Cert.Proof.Rows
end
-- ==== Proof.IdealBase.lean ====
/-
  (Of the idealized kernel.)
  The kernel as the SparseCore launch theorem sees it: the two calls' configuration, the resource algebra (the
  handshakes' rounds beside the local transfers' counters), the tile's coordinates, and the memrefs that the two bodies
  are called on.
-/
module

public import proofs.«01_k».proof.Defs
public import Idealize.ShloMosaic.Lib.SparseCore.Quiescent
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The configuration -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 2) (Elt F) ℕ UU ℕ

/-- The handshakes' rounds library, the left factor; the transfers' counters are found by instance in the right. -/
abbrev EH : Emb UH (MT nD τ sig (HIx 2) (Elt F) ℕ UU ℕ) := embL

/-! ## A tile's coordinates and threads -/

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The tile's number: twice its vector subcore plus its SparseCore, the row of the arrays that it works on. -/
def wid (L : grid0.Coords) : Fin 32 := ⟨2 * (L 1).val + (L 0).val, by
  have h0 : (L 0).val < 2 := (L 0).isLt
  have h1 : (L 1).val < 16 := (L 1).isLt
  omega⟩

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.IdealStep1.lean ====
/-
  (Of the idealized kernel.)
  One trip of the first kernel's row loop: it reads row `t` of the tile's gather indices, diagonals and inputs, scatters
  the carried state's products, gathers the composed indices and diagonals, and stores the new prefix over the row.
-/
module

public import proofs.«01_k».proof.Proof.IdealBase
public import proofs.«01_k».proof.Proof.Model

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MT nD τ sig (HIx 2) (Elt F) ℕ UU ℕ

/-- The row that trip `t` works on. -/
abbrev row1 (t : Fin k0_t1_loop.trips) : Fin 128 := ⟨t.val, t.isLt⟩

/-- The prefix after trip `t`, from the prefix before it and the tile's rows. -/
abbrev nxt (t : Fin k0_t1_loop.trips) (c : Pre F) (f0 : (HRows 128).Idx → BitVec 32) (f1 f2 f3 f4 : (HRows 128).Idx → F .f32) : Pre F :=
  step (row f0 (row1 t)) (row f1 (row1 t)) (row f2 (row1 t)) (row f3 (row1 t)) (row f4 (row1 t)) c

/-- Four stores of zeros leave a vector of zeros. -/
theorem zero4 (v : View sig .scVector .vmem S64 .f32) (f : v.ty.Contents (Elt F)) :
    v.read (Elt F) (v.writes (Elt F) f [⟨Rect.unit ![48] S16.size inb_S64_S16_48, k0_pay40⟩, ⟨Rect.unit ![32] S16.size inb_S64_S16_32, k0_pay40⟩,
        ⟨Rect.unit ![16] S16.size inb_S64_S16_16, k0_pay40⟩, ⟨Rect.unit ![0] S16.size inb_S64_S16_0, k0_pay40⟩]) = fun _ => zeroF :=
  Rows.read_vec4 v f k0_pay40 k0_pay40 k0_pay40 k0_pay40 (fun _ => zeroF) rfl rfl rfl rfl rfl rfl rfl rfl

/-- Row `t` named in all sixteen lanes, as the body broadcasts it. -/
abbrev rowWord (t : Fin k0_t1_loop.trips) : IVec S16 32 := broadcast S16 (Scf.iv 0#32 1#32 t)

/-- The words of a group of a row in range: the body's check before a scatter. -/
theorem chk_row (f0 : (HRows 128).Idx → BitVec 32) (t : Fin k0_t1_loop.trips) (hp : ∀ k, (row f0 (row1 t) k).toNat < 64) (g : Fin 4)
    {off : Fin 2 → ℕ} {inb} (hoff : off = ![t.val, 16 * g.val]) :
    k0_chk1 (shapeCast S16 (View.readAt (Elt F) (Memref.whole cc0_scratch0).view (Rect.unit (s := S128x64) off S1x16.size inb).toLoadRect f0) shapeCasts_S1x16_S16) := by
  have e := load_row (Memref.whole cc0_scratch0).view (Val := Elt F) f0 (inb := inb) shapeCasts_S1x16_S16 (row1 t) g hoff
  have h : ∀ (a : Fin 1) (x : H16.Idx), ((![lanes g (row f0 (row1 t))] : Fin 1 → IVec H16 32) a x).toNat < H64.size a := by
    intro a x
    match a with
    | ⟨0, _⟩ => exact hp _
  rw [e]
  exact ⟨h, h⟩

theorem rowWord_toNat (t : Fin k0_t1_loop.trips) (x : S16.Idx) : (rowWord t x).toNat = t.val := by
  show (Scf.iv 0#32 1#32 t).toNat = t.val
  revert t; decide

/-- The words of the carried gather in range: the body's check before its gathers. -/
theorem chk_carry (P : Fin 64 → BitVec 32) (t : Fin k0_t1_loop.trips) (hP : ∀ k, (P k).toNat < 64) :
    k0_chk5 (lanes 0 P) (lanes 1 P) (lanes 2 P) (lanes 3 P) (rowWord t) := by
  have h : ∀ (g : Fin 4) (a : Fin 2) (x : H16.Idx), ((![rowWord t, lanes g P] : Fin 2 → IVec H16 32) a x).toNat < (HRows 128).size a := by
    intro g a x
    match a with
    | ⟨0, _⟩ => exact (rowWord_toNat t x).trans_lt t.isLt
    | ⟨1, _⟩ => exact hP _
  exact ⟨h 0, h 0, h 0, h 1, h 1, h 1, h 2, h 2, h 2, h 3, h 3, h 3⟩

theorem ent_of_eq {M : Type} [URA M] {a b : sProp M} (h : a = b) : a ⊢ b := by subst h; exact BIBase.Entails.rfl

/-- The row's four stores, newest first, as the body spells them. -/
abbrev rowPieces {e : EltTy} (t : Fin k0_t1_loop.trips) (w0 w1 w2 w3 : S16.Idx → Elt F e) : List (View.Piece (Elt F) S128x64 e) :=
  [⟨Rect.unit (k0_off9 t) S1x16.size (k0_off9_inb t), shapeCast S1x16 w3 shapeCasts_S16_S1x16⟩,
    ⟨Rect.unit (k0_off8 t) S1x16.size (k0_off8_inb t), shapeCast S1x16 w2 shapeCasts_S16_S1x16⟩,
    ⟨Rect.unit (k0_off7 t) S1x16.size (k0_off7_inb t), shapeCast S1x16 w1 shapeCasts_S16_S1x16⟩,
    ⟨Rect.unit (k0_off6 t) S1x16.size (k0_off6_inb t), shapeCast S1x16 w0 shapeCasts_S16_S1x16⟩]

/-- What the row's four stores leave, as the body spells them. -/
theorem row4_writes {e : EltTy} (v : View sig .scVector .vmem S128x64 e) (f : v.ty.Contents (Elt F)) (t : Fin k0_t1_loop.trips)
    {w0 w1 w2 w3 : S16.Idx → Elt F e} {new : Fin 64 → Elt F e}
    (e0 : w0 = lanes 0 new) (e1 : w1 = lanes 1 new) (e2 : w2 = lanes 2 new) (e3 : w3 = lanes 3 new) :
    v.read (Elt F) (v.writes (Elt F) f (rowPieces t w0 w1 w2 w3))
      = setRow (v.read (Elt F) f) (row1 t) new := by
  subst e0 e1 e2 e3
  exact read_row4 v f _ _ _ _ (row1 t) new (k0_off6_eq t) (k0_off7_eq t) (k0_off8_eq t) (k0_off9_eq t)
    (fun x => cast1x16_apply _ _ x) (fun x => cast1x16_apply _ _ x) (fun x => cast1x16_apply _ _ x) (fun x => cast1x16_apply _ _ x)

/-- A gather out of row `t` at the carried words. -/
theorem gather_row {α : Type} (f : (HRows 128).Idx → α) (t : Fin k0_t1_loop.trips) (g : Fin 4) (P : Fin 64 → BitVec 32) (h) :
    loadIdx (F := fun _ => α) (s := HRows 128) (e := .f32) (t := H16) f ![rowWord t, lanes g P] h = lanes g (fun k => at' (row f (row1 t)) (P k)) := by
  funext x
  refine congrArg f (funext fun a => Fin.ext ?_)
  match a with
  | ⟨0, _⟩ => exact rowWord_toNat t x
  | ⟨1, _⟩ => exact (Nat.mod_eq_of_lt (h 1 x)).symm

set_option maxHeartbeats 4000000 in
theorem step_region (d : Dev nD) (L : grid0.Coords) (t : Fin k0_t1_loop.trips) (c : Pre F)
    (f0 : (HRows 128).Idx → BitVec 32) (f1 : (HRows 128).Idx → F .f32) (f2 : (HRows 128).Idx → F .f32) (f3 : (HRows 128).Idx → F .f32) (f4 : (HRows 128).Idx → F .f32) f5 f6 f7 f8 f9 f10 f11 f12 (Q)
    (hp : ∀ k, (row f0 (row1 t) k).toNat < 64) (hP : ∀ k, (c.P k).toNat < 64) :
    iprop(((Memref.whole cc0_scratch0).view.loc (thr d L) ↦{fullShare} f0) ∗ ((Memref.whole cc0_scratch1).view.loc (thr d L) ↦{fullShare} f1) ∗ ((Memref.whole cc0_scratch2).view.loc (thr d L) ↦{fullShare} f2) ∗ ((Memref.whole cc0_scratch3).view.loc (thr d L) ↦{fullShare} f3) ∗ ((Memref.whole cc0_scratch4).view.loc (thr d L) ↦{fullShare} f4) ∗ ((Memref.whole cc0_scratch5).view.loc (thr d L) ↦{fullShare} f5) ∗ ((Memref.whole cc0_scratch6).view.loc (thr d L) ↦{fullShare} f6) ∗ ((Memref.whole cc0_scratch7).view.loc (thr d L) ↦{fullShare} f7) ∗ ((Memref.whole cc0_scratch8).view.loc (thr d L) ↦{fullShare} f8) ∗ ((Memref.whole cc0_scratch9).view.loc (thr d L) ↦{fullShare} f9) ∗ ((Memref.whole cc0_scratch10).view.loc (thr d L) ↦{fullShare} f10) ∗ ((Memref.whole cc0_scratch11).view.loc (thr d L) ↦{fullShare} f11) ∗ ((Memref.whole cc0_scratch12).view.loc (thr d L) ↦{fullShare} f12) ∗ (∀ r g5 g6 g7 g8 g9 g10 g11 g12, (⌜r = pack (nxt t c f0 f1 f2 f3 f4)⌝ ∗ ((Memref.whole cc0_scratch0).view.loc (thr d L) ↦{fullShare} setRow f0 (row1 t) (nxt t c f0 f1 f2 f3 f4).P) ∗ ((Memref.whole cc0_scratch1).view.loc (thr d L) ↦{fullShare} setRow f1 (row1 t) (nxt t c f0 f1 f2 f3 f4).Dr) ∗ ((Memref.whole cc0_scratch2).view.loc (thr d L) ↦{fullShare} setRow f2 (row1 t) (nxt t c f0 f1 f2 f3 f4).Di) ∗ ((Memref.whole cc0_scratch3).view.loc (thr d L) ↦{fullShare} setRow f3 (row1 t) (nxt t c f0 f1 f2 f3 f4).Br) ∗ ((Memref.whole cc0_scratch4).view.loc (thr d L) ↦{fullShare} setRow f4 (row1 t) (nxt t c f0 f1 f2 f3 f4).Bi) ∗ ((Memref.whole cc0_scratch5).view.loc (thr d L) ↦{fullShare} g5) ∗ ((Memref.whole cc0_scratch6).view.loc (thr d L) ↦{fullShare} g6) ∗ ((Memref.whole cc0_scratch7).view.loc (thr d L) ↦{fullShare} g7) ∗ ((Memref.whole cc0_scratch8).view.loc (thr d L) ↦{fullShare} g8) ∗ ((Memref.whole cc0_scratch9).view.loc (thr d L) ↦{fullShare} g9) ∗ ((Memref.whole cc0_scratch10).view.loc (thr d L) ↦{fullShare} g10) ∗ ((Memref.whole cc0_scratch11).view.loc (thr d L) ↦{fullShare} g11) ∗ ((Memref.whole cc0_scratch12).view.loc (thr d L) ↦{fullShare} g12)) -∗ Q r))
   ⊢ (wp frame (wpE (defs₀ (F := F)) 𝒱₀ (thr d L) none) Set.univ
        (k0_t1_body L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 t (lanes 0 c.P, lanes 1 c.P, lanes 2 c.P, lanes 3 c.P, lanes 0 c.Dr, lanes 1 c.Dr, lanes 2 c.Dr, lanes 3 c.Dr, lanes 0 c.Di, lanes 1 c.Di, lanes 2 c.Di, lanes 3 c.Di, lanes 0 c.Br, lanes 1 c.Br, lanes 2 c.Br, lanes 3 c.Br, lanes 0 c.Bi, lanes 1 c.Bi, lanes 2 c.Bi, lanes 3 c.Bi)) Q : sProp 𝕄) := by
  have hchk1 : k0_chk1 (shapeCast S16 (View.readAt (Elt F) (Memref.whole cc0_scratch0).view (Rect.unit (s := S128x64) (k0_off2 t) S1x16.size (k0_off2_inb t)).toLoadRect f0) shapeCasts_S1x16_S16) := chk_row f0 t hp 0 (k0_off2_eq t)
  have hchk2 : k0_chk2 (shapeCast S16 (View.readAt (Elt F) (Memref.whole cc0_scratch0).view (Rect.unit (s := S128x64) (k0_off3 t) S1x16.size (k0_off3_inb t)).toLoadRect f0) shapeCasts_S1x16_S16) := chk_row f0 t hp 1 (k0_off3_eq t)
  have hchk3 : k0_chk3 (shapeCast S16 (View.readAt (Elt F) (Memref.whole cc0_scratch0).view (Rect.unit (s := S128x64) (k0_off4 t) S1x16.size (k0_off4_inb t)).toLoadRect f0) shapeCasts_S1x16_S16) := chk_row f0 t hp 2 (k0_off4_eq t)
  have hchk4 : k0_chk4 (shapeCast S16 (View.readAt (Elt F) (Memref.whole cc0_scratch0).view (Rect.unit (s := S128x64) (k0_off5 t) S1x16.size (k0_off5_inb t)).toLoadRect f0) shapeCasts_S1x16_S16) := chk_row f0 t hp 3 (k0_off5_eq t)
  have hchk5 : k0_chk5 (lanes 0 c.P) (lanes 1 c.P) (lanes 2 c.P) (lanes 3 c.P) (rowWord t) := chk_carry c.P t hP
  unfold k0_t1_body
  rw [k0_part1_eq_skeleton, k0_part2_eq_skeleton, k0_part3_eq_skeleton, k0_part4_eq_skeleton, k0_part5_eq_skeleton, k0_part6_eq_skeleton, k0_part7_eq_skeleton]
  iintro ⟨H0, H1, H2, H3, H4, H5, H6, H7, H8, H9, H10, H11, H12, Hk⟩
  have l0 : ∀ (g : Fin 4) {o : Fin 2 → ℕ} {i}, o = ![(row1 t).val, 16 * g.val] →
      shapeCast S16 (View.readAt (Elt F) (Memref.whole cc0_scratch0).view (Rect.unit (s := S128x64) o S1x16.size i).toLoadRect f0) shapeCasts_S1x16_S16 = lanes g (row f0 (row1 t)) :=
    fun g _ _ e => load_row (Memref.whole cc0_scratch0).view f0 (Val := Elt F) shapeCasts_S1x16_S16 (row1 t) g e
  have l1 : ∀ (g : Fin 4) {o : Fin 2 → ℕ} {i}, o = ![(row1 t).val, 16 * g.val] →
      shapeCast S16 (View.readAt (Elt F) (Memref.whole cc0_scratch1).view (Rect.unit (s := S128x64) o S1x16.size i).toLoadRect f1) shapeCasts_S1x16_S16 = lanes g (row f1 (row1 t)) :=
    fun g _ _ e => load_row (Memref.whole cc0_scratch1).view f1 (Val := Elt F) shapeCasts_S1x16_S16 (row1 t) g e
  have l2 : ∀ (g : Fin 4) {o : Fin 2 → ℕ} {i}, o = ![(row1 t).val, 16 * g.val] →
      shapeCast S16 (View.readAt (Elt F) (Memref.whole cc0_scratch2).view (Rect.unit (s := S128x64) o S1x16.size i).toLoadRect f2) shapeCasts_S1x16_S16 = lanes g (row f2 (row1 t)) :=
    fun g _ _ e => load_row (Memref.whole cc0_scratch2).view f2 (Val := Elt F) shapeCasts_S1x16_S16 (row1 t) g e
  have l3 : ∀ (g : Fin 4) {o : Fin 2 → ℕ} {i}, o = ![(row1 t).val, 16 * g.val] →
      shapeCast S16 (View.readAt (Elt F) (Memref.whole cc0_scratch3).view (Rect.unit (s := S128x64) o S1x16.size i).toLoadRect f3) shapeCasts_S1x16_S16 = lanes g (row f3 (row1 t)) :=
    fun g _ _ e => load_row (Memref.whole cc0_scratch3).view f3 (Val := Elt F) shapeCasts_S1x16_S16 (row1 t) g e
  have l4 : ∀ (g : Fin 4) {o : Fin 2 → ℕ} {i}, o = ![(row1 t).val, 16 * g.val] →
      shapeCast S16 (View.readAt (Elt F) (Memref.whole cc0_scratch4).view (Rect.unit (s := S128x64) o S1x16.size i).toLoadRect f4) shapeCasts_S1x16_S16 = lanes g (row f4 (row1 t)) :=
    fun g _ _ e => load_row (Memref.whole cc0_scratch4).view f4 (Val := Elt F) shapeCasts_S1x16_S16 (row1 t) g e
  sl_exec (disch := first | sl_exact hchk5 | sl_exact hchk1 | sl_exact hchk2 | sl_exact hchk3 | sl_exact hchk4)
  iapply (Rows.wp_scatter (defs := defs₀ (F := F)) 𝒱₀ (thr d L) none Set.univ (Memref.whole cc0_scratch5) (Memref.isWhole_whole _) (fun _ => zeroF)
    (zero4 (Memref.whole cc0_scratch5).view f5)) $$ H5
  iintro %g5 %e5 H5
  iapply (Rows.wp_scatter (defs := defs₀ (F := F)) 𝒱₀ (thr d L) none Set.univ (Memref.whole cc0_scratch9) (Memref.isWhole_whole _) (fun _ => zeroF)
    (zero4 (Memref.whole cc0_scratch9).view f9)) $$ H9
  iintro %g9 %e9 H9
  sl_exec (disch := first | sl_exact hchk5 | sl_exact hchk1 | sl_exact hchk2 | sl_exact hchk3 | sl_exact hchk4)
  iapply (Rows.wp_scatter (defs := defs₀ (F := F)) 𝒱₀ (thr d L) none Set.univ (Memref.whole cc0_scratch6) (Memref.isWhole_whole _) (fun _ => zeroF)
    (zero4 (Memref.whole cc0_scratch6).view f6)) $$ H6
  iintro %g6 %e6 H6
  iapply (Rows.wp_scatter (defs := defs₀ (F := F)) 𝒱₀ (thr d L) none Set.univ (Memref.whole cc0_scratch10) (Memref.isWhole_whole _) (fun _ => zeroF)
    (zero4 (Memref.whole cc0_scratch10).view f10)) $$ H10
  iintro %g10 %e10 H10
  sl_exec (disch := first | sl_exact hchk5 | sl_exact hchk1 | sl_exact hchk2 | sl_exact hchk3 | sl_exact hchk4)
  iapply (Rows.wp_scatter (defs := defs₀ (F := F)) 𝒱₀ (thr d L) none Set.univ (Memref.whole cc0_scratch7) (Memref.isWhole_whole _) (fun _ => zeroF)
    (zero4 (Memref.whole cc0_scratch7).view f7)) $$ H7
  iintro %g7 %e7 H7
  iapply (Rows.wp_scatter (defs := defs₀ (F := F)) 𝒱₀ (thr d L) none Set.univ (Memref.whole cc0_scratch11) (Memref.isWhole_whole _) (fun _ => zeroF)
    (zero4 (Memref.whole cc0_scratch11).view f11)) $$ H11
  iintro %g11 %e11 H11
  sl_exec (disch := first | sl_exact hchk5 | sl_exact hchk1 | sl_exact hchk2 | sl_exact hchk3 | sl_exact hchk4)
  iapply (Rows.wp_scatter (defs := defs₀ (F := F)) 𝒱₀ (thr d L) none Set.univ (Memref.whole cc0_scratch8) (Memref.isWhole_whole _) (fun _ => zeroF)
    (zero4 (Memref.whole cc0_scratch8).view f8)) $$ H8
  iintro %g8 %e8 H8
  sl_exec (disch := first | sl_exact hchk5 | sl_exact hchk1 | sl_exact hchk2 | sl_exact hchk3 | sl_exact hchk4)
  iapply (Rows.wp_scatter (defs := defs₀ (F := F)) 𝒱₀ (thr d L) none Set.univ (Memref.whole cc0_scratch12) (Memref.isWhole_whole _) (fun _ => zeroF)
    (zero4 (Memref.whole cc0_scratch12).view f12)) $$ H12
  iintro %g12 %e12 H12
  sl_exec (disch := first | sl_exact hchk5 | sl_exact hchk1 | sl_exact hchk2 | sl_exact hchk3 | sl_exact hchk4)
  iapply (Rows.wp_gather (defs := defs₀ (F := F)) 𝒱₀ (thr d L) none Set.univ (Memref.whole cc0_scratch0) f0 rfl) $$ H0
  iintro %w00 %q00 H0
  iapply (Rows.wp_gather (defs := defs₀ (F := F)) 𝒱₀ (thr d L) none Set.univ (Memref.whole cc0_scratch1) f1 rfl) $$ H1
  iintro %w01 %q01 H1
  iapply (Rows.wp_gather (defs := defs₀ (F := F)) 𝒱₀ (thr d L) none Set.univ (Memref.whole cc0_scratch2) f2 rfl) $$ H2
  iintro %w02 %q02 H2
  iapply (Rows.wp_gather (defs := defs₀ (F := F)) 𝒱₀ (thr d L) none Set.univ (Memref.whole cc0_scratch0) f0 rfl) $$ H0
  iintro %w10 %q10 H0
  iapply (Rows.wp_gather (defs := defs₀ (F := F)) 𝒱₀ (thr d L) none Set.univ (Memref.whole cc0_scratch1) f1 rfl) $$ H1
  iintro %w11 %q11 H1
  iapply (Rows.wp_gather (defs := defs₀ (F := F)) 𝒱₀ (thr d L) none Set.univ (Memref.whole cc0_scratch2) f2 rfl) $$ H2
  iintro %w12 %q12 H2
  iapply (Rows.wp_gather (defs := defs₀ (F := F)) 𝒱₀ (thr d L) none Set.univ (Memref.whole cc0_scratch0) f0 rfl) $$ H0
  iintro %w20 %q20 H0
  iapply (Rows.wp_gather (defs := defs₀ (F := F)) 𝒱₀ (thr d L) none Set.univ (Memref.whole cc0_scratch1) f1 rfl) $$ H1
  iintro %w21 %q21 H1
  iapply (Rows.wp_gather (defs := defs₀ (F := F)) 𝒱₀ (thr d L) none Set.univ (Memref.whole cc0_scratch2) f2 rfl) $$ H2
  iintro %w22 %q22 H2
  iapply (Rows.wp_gather (defs := defs₀ (F := F)) 𝒱₀ (thr d L) none Set.univ (Memref.whole cc0_scratch0) f0 rfl) $$ H0
  iintro %w30 %q30 H0
  iapply (Rows.wp_gather (defs := defs₀ (F := F)) 𝒱₀ (thr d L) none Set.univ (Memref.whole cc0_scratch1) f1 rfl) $$ H1
  iintro %w31 %q31 H1
  iapply (Rows.wp_gather (defs := defs₀ (F := F)) 𝒱₀ (thr d L) none Set.univ (Memref.whole cc0_scratch2) f2 rfl) $$ H2
  iintro %w32 %q32 H2
  sl_exec (disch := first | sl_exact hchk5 | sl_exact hchk1 | sl_exact hchk2 | sl_exact hchk3 | sl_exact hchk4)

  have a5 := e5.trans (scat_of (z := fun _ => zeroF) (l0 0 (k0_off2_eq t)) (cre_of (l1 0 (k0_off2_eq t)) (l2 0 (k0_off2_eq t)) (rfl : lanes 0 c.Br = _) (rfl : lanes 0 c.Bi = _)))
  have a9 := e9.trans (scat_of (z := fun _ => zeroF) (l0 0 (k0_off2_eq t)) (cim_of (l1 0 (k0_off2_eq t)) (l2 0 (k0_off2_eq t)) (rfl : lanes 0 c.Br = _) (rfl : lanes 0 c.Bi = _)))
  have a6 := e6.trans (scat_of (z := fun _ => zeroF) (l0 1 (k0_off3_eq t)) (cre_of (l1 1 (k0_off3_eq t)) (l2 1 (k0_off3_eq t)) (rfl : lanes 1 c.Br = _) (rfl : lanes 1 c.Bi = _)))
  have a10 := e10.trans (scat_of (z := fun _ => zeroF) (l0 1 (k0_off3_eq t)) (cim_of (l1 1 (k0_off3_eq t)) (l2 1 (k0_off3_eq t)) (rfl : lanes 1 c.Br = _) (rfl : lanes 1 c.Bi = _)))
  have a7 := e7.trans (scat_of (z := fun _ => zeroF) (l0 2 (k0_off4_eq t)) (cre_of (l1 2 (k0_off4_eq t)) (l2 2 (k0_off4_eq t)) (rfl : lanes 2 c.Br = _) (rfl : lanes 2 c.Bi = _)))
  have a11 := e11.trans (scat_of (z := fun _ => zeroF) (l0 2 (k0_off4_eq t)) (cim_of (l1 2 (k0_off4_eq t)) (l2 2 (k0_off4_eq t)) (rfl : lanes 2 c.Br = _) (rfl : lanes 2 c.Bi = _)))
  have a8 := e8.trans (scat_of (z := fun _ => zeroF) (l0 3 (k0_off5_eq t)) (cre_of (l1 3 (k0_off5_eq t)) (l2 3 (k0_off5_eq t)) (rfl : lanes 3 c.Br = _) (rfl : lanes 3 c.Bi = _)))
  have a12 := e12.trans (scat_of (z := fun _ => zeroF) (l0 3 (k0_off5_eq t)) (cim_of (l1 3 (k0_off5_eq t)) (l2 3 (k0_off5_eq t)) (rfl : lanes 3 c.Br = _) (rfl : lanes 3 c.Bi = _)))
  have b00 := q00.trans (gather_row f0 t 0 c.P _)
  have b01 := q01.trans (gather_row f1 t 0 c.P _)
  have b02 := q02.trans (gather_row f2 t 0 c.P _)
  have b10 := q10.trans (gather_row f0 t 1 c.P _)
  have b11 := q11.trans (gather_row f1 t 1 c.P _)
  have b12 := q12.trans (gather_row f2 t 1 c.P _)
  have b20 := q20.trans (gather_row f0 t 2 c.P _)
  have b21 := q21.trans (gather_row f1 t 2 c.P _)
  have b22 := q22.trans (gather_row f2 t 2 c.P _)
  have b30 := q30.trans (gather_row f0 t 3 c.P _)
  have b31 := q31.trans (gather_row f1 t 3 c.P _)
  have b32 := q32.trans (gather_row f2 t 3 c.P _)
  sl_step
  have r0 : ∀ w0 w1 w2 w3 : S16.Idx → BitVec 32, w0 = lanes 0 (nxt t c f0 f1 f2 f3 f4).P → w1 = lanes 1 (nxt t c f0 f1 f2 f3 f4).P → w2 = lanes 2 (nxt t c f0 f1 f2 f3 f4).P → w3 = lanes 3 (nxt t c f0 f1 f2 f3 f4).P →
      (Memref.whole cc0_scratch0).view.writes (Elt F) f0 (rowPieces t w0 w1 w2 w3) = setRow f0 (row1 t) (nxt t c f0 f1 f2 f3 f4).P :=
    fun w0 w1 w2 w3 e0 e1 e2 e3 => row4_writes (F := F) (Memref.whole cc0_scratch0).view f0 t e0 e1 e2 e3
  have r1 : ∀ w0 w1 w2 w3 : S16.Idx → F .f32, w0 = lanes 0 (nxt t c f0 f1 f2 f3 f4).Dr → w1 = lanes 1 (nxt t c f0 f1 f2 f3 f4).Dr → w2 = lanes 2 (nxt t c f0 f1 f2 f3 f4).Dr → w3 = lanes 3 (nxt t c f0 f1 f2 f3 f4).Dr →
      (Memref.whole cc0_scratch1).view.writes (Elt F) f1 (rowPieces t w0 w1 w2 w3) = setRow f1 (row1 t) (nxt t c f0 f1 f2 f3 f4).Dr :=
    fun w0 w1 w2 w3 e0 e1 e2 e3 => row4_writes (F := F) (Memref.whole cc0_scratch1).view f1 t e0 e1 e2 e3
  have r2 : ∀ w0 w1 w2 w3 : S16.Idx → F .f32, w0 = lanes 0 (nxt t c f0 f1 f2 f3 f4).Di → w1 = lanes 1 (nxt t c f0 f1 f2 f3 f4).Di → w2 = lanes 2 (nxt t c f0 f1 f2 f3 f4).Di → w3 = lanes 3 (nxt t c f0 f1 f2 f3 f4).Di →
      (Memref.whole cc0_scratch2).view.writes (Elt F) f2 (rowPieces t w0 w1 w2 w3) = setRow f2 (row1 t) (nxt t c f0 f1 f2 f3 f4).Di :=
    fun w0 w1 w2 w3 e0 e1 e2 e3 => row4_writes (F := F) (Memref.whole cc0_scratch2).view f2 t e0 e1 e2 e3
  have r3 : ∀ w0 w1 w2 w3 : S16.Idx → F .f32, w0 = lanes 0 (nxt t c f0 f1 f2 f3 f4).Br → w1 = lanes 1 (nxt t c f0 f1 f2 f3 f4).Br → w2 = lanes 2 (nxt t c f0 f1 f2 f3 f4).Br → w3 = lanes 3 (nxt t c f0 f1 f2 f3 f4).Br →
      (Memref.whole cc0_scratch3).view.writes (Elt F) f3 (rowPieces t w0 w1 w2 w3) = setRow f3 (row1 t) (nxt t c f0 f1 f2 f3 f4).Br :=
    fun w0 w1 w2 w3 e0 e1 e2 e3 => row4_writes (F := F) (Memref.whole cc0_scratch3).view f3 t e0 e1 e2 e3
  have r4 : ∀ w0 w1 w2 w3 : S16.Idx → F .f32, w0 = lanes 0 (nxt t c f0 f1 f2 f3 f4).Bi → w1 = lanes 1 (nxt t c f0 f1 f2 f3 f4).Bi → w2 = lanes 2 (nxt t c f0 f1 f2 f3 f4).Bi → w3 = lanes 3 (nxt t c f0 f1 f2 f3 f4).Bi →
      (Memref.whole cc0_scratch4).view.writes (Elt F) f4 (rowPieces t w0 w1 w2 w3) = setRow f4 (row1 t) (nxt t c f0 f1 f2 f3 f4).Bi :=
    fun w0 w1 w2 w3 e0 e1 e2 e3 => row4_writes (F := F) (Memref.whole cc0_scratch4).view f4 t e0 e1 e2 e3
  rw [r0, r1, r2, r3, r4]
  · iapply Hk
    isplitr
    · ipureintro
      exact (pack_ext (nxt t c f0 f1 f2 f3 f4)
        b00 b10 b20 b30
        (cre_of b01 b02 (rfl : lanes 0 c.Dr = _) (rfl : lanes 0 c.Di = _)) (cre_of b11 b12 (rfl : lanes 1 c.Dr = _) (rfl : lanes 1 c.Di = _)) (cre_of b21 b22 (rfl : lanes 2 c.Dr = _) (rfl : lanes 2 c.Di = _)) (cre_of b31 b32 (rfl : lanes 3 c.Dr = _) (rfl : lanes 3 c.Di = _))
        (cim_of b01 b02 (rfl : lanes 0 c.Dr = _) (rfl : lanes 0 c.Di = _)) (cim_of b11 b12 (rfl : lanes 1 c.Dr = _) (rfl : lanes 1 c.Di = _)) (cim_of b21 b22 (rfl : lanes 2 c.Dr = _) (rfl : lanes 2 c.Di = _)) (cim_of b31 b32 (rfl : lanes 3 c.Dr = _) (rfl : lanes 3 c.Di = _))
        (sum_of (l3 0 (k0_off6_eq t)) (acc_of (Memref.whole cc0_scratch5).view a5 0 rfl) (acc_of (Memref.whole cc0_scratch6).view a6 0 rfl) (acc_of (Memref.whole cc0_scratch7).view a7 0 rfl) (acc_of (Memref.whole cc0_scratch8).view a8 0 rfl)) (sum_of (l3 1 (k0_off7_eq t)) (acc_of (Memref.whole cc0_scratch5).view a5 1 rfl) (acc_of (Memref.whole cc0_scratch6).view a6 1 rfl) (acc_of (Memref.whole cc0_scratch7).view a7 1 rfl) (acc_of (Memref.whole cc0_scratch8).view a8 1 rfl)) (sum_of (l3 2 (k0_off8_eq t)) (acc_of (Memref.whole cc0_scratch5).view a5 2 rfl) (acc_of (Memref.whole cc0_scratch6).view a6 2 rfl) (acc_of (Memref.whole cc0_scratch7).view a7 2 rfl) (acc_of (Memref.whole cc0_scratch8).view a8 2 rfl)) (sum_of (l3 3 (k0_off9_eq t)) (acc_of (Memref.whole cc0_scratch5).view a5 3 rfl) (acc_of (Memref.whole cc0_scratch6).view a6 3 rfl) (acc_of (Memref.whole cc0_scratch7).view a7 3 rfl) (acc_of (Memref.whole cc0_scratch8).view a8 3 rfl))
        (sum_of (l4 0 (k0_off6_eq t)) (acc_of (Memref.whole cc0_scratch9).view a9 0 rfl) (acc_of (Memref.whole cc0_scratch10).view a10 0 rfl) (acc_of (Memref.whole cc0_scratch11).view a11 0 rfl) (acc_of (Memref.whole cc0_scratch12).view a12 0 rfl)) (sum_of (l4 1 (k0_off7_eq t)) (acc_of (Memref.whole cc0_scratch9).view a9 1 rfl) (acc_of (Memref.whole cc0_scratch10).view a10 1 rfl) (acc_of (Memref.whole cc0_scratch11).view a11 1 rfl) (acc_of (Memref.whole cc0_scratch12).view a12 1 rfl)) (sum_of (l4 2 (k0_off8_eq t)) (acc_of (Memref.whole cc0_scratch9).view a9 2 rfl) (acc_of (Memref.whole cc0_scratch10).view a10 2 rfl) (acc_of (Memref.whole cc0_scratch11).view a11 2 rfl) (acc_of (Memref.whole cc0_scratch12).view a12 2 rfl)) (sum_of (l4 3 (k0_off9_eq t)) (acc_of (Memref.whole cc0_scratch9).view a9 3 rfl) (acc_of (Memref.whole cc0_scratch10).view a10 3 rfl) (acc_of (Memref.whole cc0_scratch11).view a11 3 rfl) (acc_of (Memref.whole cc0_scratch12).view a12 3 rfl))).symm
    sl_close
  · exact (sum_of (l4 0 (k0_off6_eq t)) (acc_of (Memref.whole cc0_scratch9).view a9 0 rfl) (acc_of (Memref.whole cc0_scratch10).view a10 0 rfl) (acc_of (Memref.whole cc0_scratch11).view a11 0 rfl) (acc_of (Memref.whole cc0_scratch12).view a12 0 rfl))
  · exact (sum_of (l4 1 (k0_off7_eq t)) (acc_of (Memref.whole cc0_scratch9).view a9 1 rfl) (acc_of (Memref.whole cc0_scratch10).view a10 1 rfl) (acc_of (Memref.whole cc0_scratch11).view a11 1 rfl) (acc_of (Memref.whole cc0_scratch12).view a12 1 rfl))
  · exact (sum_of (l4 2 (k0_off8_eq t)) (acc_of (Memref.whole cc0_scratch9).view a9 2 rfl) (acc_of (Memref.whole cc0_scratch10).view a10 2 rfl) (acc_of (Memref.whole cc0_scratch11).view a11 2 rfl) (acc_of (Memref.whole cc0_scratch12).view a12 2 rfl))
  · exact (sum_of (l4 3 (k0_off9_eq t)) (acc_of (Memref.whole cc0_scratch9).view a9 3 rfl) (acc_of (Memref.whole cc0_scratch10).view a10 3 rfl) (acc_of (Memref.whole cc0_scratch11).view a11 3 rfl) (acc_of (Memref.whole cc0_scratch12).view a12 3 rfl))
  · exact (sum_of (l3 0 (k0_off6_eq t)) (acc_of (Memref.whole cc0_scratch5).view a5 0 rfl) (acc_of (Memref.whole cc0_scratch6).view a6 0 rfl) (acc_of (Memref.whole cc0_scratch7).view a7 0 rfl) (acc_of (Memref.whole cc0_scratch8).view a8 0 rfl))
  · exact (sum_of (l3 1 (k0_off7_eq t)) (acc_of (Memref.whole cc0_scratch5).view a5 1 rfl) (acc_of (Memref.whole cc0_scratch6).view a6 1 rfl) (acc_of (Memref.whole cc0_scratch7).view a7 1 rfl) (acc_of (Memref.whole cc0_scratch8).view a8 1 rfl))
  · exact (sum_of (l3 2 (k0_off8_eq t)) (acc_of (Memref.whole cc0_scratch5).view a5 2 rfl) (acc_of (Memref.whole cc0_scratch6).view a6 2 rfl) (acc_of (Memref.whole cc0_scratch7).view a7 2 rfl) (acc_of (Memref.whole cc0_scratch8).view a8 2 rfl))
  · exact (sum_of (l3 3 (k0_off9_eq t)) (acc_of (Memref.whole cc0_scratch5).view a5 3 rfl) (acc_of (Memref.whole cc0_scratch6).view a6 3 rfl) (acc_of (Memref.whole cc0_scratch7).view a7 3 rfl) (acc_of (Memref.whole cc0_scratch8).view a8 3 rfl))
  · exact (cim_of b01 b02 (rfl : lanes 0 c.Dr = _) (rfl : lanes 0 c.Di = _))
  · exact (cim_of b11 b12 (rfl : lanes 1 c.Dr = _) (rfl : lanes 1 c.Di = _))
  · exact (cim_of b21 b22 (rfl : lanes 2 c.Dr = _) (rfl : lanes 2 c.Di = _))
  · exact (cim_of b31 b32 (rfl : lanes 3 c.Dr = _) (rfl : lanes 3 c.Di = _))
  · exact (cre_of b01 b02 (rfl : lanes 0 c.Dr = _) (rfl : lanes 0 c.Di = _))
  · exact (cre_of b11 b12 (rfl : lanes 1 c.Dr = _) (rfl : lanes 1 c.Di = _))
  · exact (cre_of b21 b22 (rfl : lanes 2 c.Dr = _) (rfl : lanes 2 c.Di = _))
  · exact (cre_of b31 b32 (rfl : lanes 3 c.Dr = _) (rfl : lanes 3 c.Di = _))
  · exact b00
  · exact b10
  · exact b20
  · exact b30

end Cert.Proof.KI
end
-- ==== Proof.IdealPass1.lean ====
/-
  (Of the idealized kernel.)
  The first kernel's task on one tile: five copies in, the row loop, five copies of whole blocks and five of last rows
  out. The row loop's invariant says the rows passed hold the chunk's prefixes.
-/
module

public import proofs.«01_k».proof.Proof.IdealStep1
public import proofs.«01_k».proof.Proof.Chunk

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

/-- Row `wid` of an array of blocks and of an array of rows, and the last row of a tile's block, as the body slices them. -/
abbrev aRow {e : EltTy} (m : Memref sig .scVector .hbm S32x128x64 e) (L : grid0.Coords) : Memref sig .scVector .hbm S128x64 e :=
  (m.slice (Rect.unit (s := S32x128x64) (k0_off1 L) S1x128x64.size (k0_off1_inb L)) (fun _ => rfl)).squeeze S128x64 squeezes_S1x128x64_S128x64
abbrev cRow {e : EltTy} (m : Memref sig .scVector .hbm S32x64 e) (L : grid0.Coords) : Memref sig .scVector .hbm S64 e :=
  (m.slice (Rect.unit (s := S32x64) (k0_off10 L) S1x64.size (k0_off10_inb L)) (fun _ => rfl)).squeeze S64 squeezes_S1x64_S64

/-- The chunk's prefixes from the tile's fetched rows. -/
abbrev tch (f0 : (HRows 128).Idx → BitVec 32) (f1 f2 f3 f4 : (HRows 128).Idx → F .f32) : ℕ → Pre F :=
  chunk (row f0) (row f1) (row f2) (row f3) (row f4)

theorem init_eq : (k0_pay41, k0_pay42, k0_pay43, k0_pay44, k0_pay39 (F := F), k0_pay39 (F := F), k0_pay39 (F := F), k0_pay39 (F := F), k0_pay40 (F := F), k0_pay40 (F := F), k0_pay40 (F := F), k0_pay40 (F := F), k0_pay40 (F := F), k0_pay40 (F := F), k0_pay40 (F := F), k0_pay40 (F := F), k0_pay40 (F := F), k0_pay40 (F := F), k0_pay40 (F := F), k0_pay40 (F := F)) = pack (F := F) pre0 := by
  have h : ∀ x : S16.Idx, ∃ y : Fin 16, x = ix1 y := fun x => ⟨x 0, eq_ix1 x⟩
  have h0 : ∀ y : Fin 16, k0_pay41 (ix1 y) = BitVec.ofNat 32 (16 * 0 + y.val) := by decide
  have h1 : ∀ y : Fin 16, k0_pay42 (ix1 y) = BitVec.ofNat 32 (16 * 1 + y.val) := by decide
  have h2 : ∀ y : Fin 16, k0_pay43 (ix1 y) = BitVec.ofNat 32 (16 * 2 + y.val) := by decide
  have h3 : ∀ y : Fin 16, k0_pay44 (ix1 y) = BitVec.ofNat 32 (16 * 3 + y.val) := by decide
  refine (pack_ext pre0 ?_ ?_ ?_ ?_ rfl rfl rfl rfl rfl rfl rfl rfl rfl rfl rfl rfl rfl rfl rfl rfl).symm <;>
  · funext x
    obtain ⟨y, rfl⟩ := h x
    first | exact h0 y | exact h1 y | exact h2 y | exact h3 y

/-- The row loop's invariant before trip `t`. -/
def inv1 (d : Dev nD) (L : grid0.Coords) (f0 : (HRows 128).Idx → BitVec 32) (f1 f2 f3 f4 : (HRows 128).Idx → F .f32) (t : ℕ)
    (acc : IVec S16 32 × IVec S16 32 × IVec S16 32 × IVec S16 32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(⌜acc = pack (tch f0 f1 f2 f3 f4 t)⌝ ∗ ((Memref.whole cc0_scratch0).view.loc (thr d L) ↦{fullShare} mix t (fun s => (tch f0 f1 f2 f3 f4 (s + 1)).P) f0) ∗ ((Memref.whole cc0_scratch1).view.loc (thr d L) ↦{fullShare} mix t (fun s => (tch f0 f1 f2 f3 f4 (s + 1)).Dr) f1) ∗ ((Memref.whole cc0_scratch2).view.loc (thr d L) ↦{fullShare} mix t (fun s => (tch f0 f1 f2 f3 f4 (s + 1)).Di) f2) ∗ ((Memref.whole cc0_scratch3).view.loc (thr d L) ↦{fullShare} mix t (fun s => (tch f0 f1 f2 f3 f4 (s + 1)).Br) f3) ∗ ((Memref.whole cc0_scratch4).view.loc (thr d L) ↦{fullShare} mix t (fun s => (tch f0 f1 f2 f3 f4 (s + 1)).Bi) f4) ∗ ∃ g5 g6 g7 g8 g9 g10 g11 g12, ((Memref.whole cc0_scratch5).view.loc (thr d L) ↦{fullShare} g5) ∗ ((Memref.whole cc0_scratch6).view.loc (thr d L) ↦{fullShare} g6) ∗ ((Memref.whole cc0_scratch7).view.loc (thr d L) ↦{fullShare} g7) ∗ ((Memref.whole cc0_scratch8).view.loc (thr d L) ↦{fullShare} g8) ∗ ((Memref.whole cc0_scratch9).view.loc (thr d L) ↦{fullShare} g9) ∗ ((Memref.whole cc0_scratch10).view.loc (thr d L) ↦{fullShare} g10) ∗ ((Memref.whole cc0_scratch11).view.loc (thr d L) ↦{fullShare} g11) ∗ ((Memref.whole cc0_scratch12).view.loc (thr d L) ↦{fullShare} g12))

set_option maxHeartbeats 1000000 in
theorem inv1_region (d : Dev nD) (L : grid0.Coords) (f0 : (HRows 128).Idx → BitVec 32) (f1 f2 f3 f4 : (HRows 128).Idx → F .f32) (hp : ∀ r k, (row f0 r k).toNat < 64) (t : Fin k0_t1_loop.trips) (acc) :
    inv1 (F := F) d L f0 f1 f2 f3 f4 t.val acc ⊢ wp frame (wpE (defs₀ (F := F)) 𝒱₀ (thr d L) none) Set.univ
      (k0_t1_body L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 t acc)
      (inv1 d L f0 f1 f2 f3 f4 (t.val + 1)) := by
  unfold inv1
  iintro ⟨%e, H0, H1, H2, H3, H4, %g5, %g6, %g7, %g8, %g9, %g10, %g11, %g12, H5, H6, H7, H8, H9, H10, H11, H12⟩
  subst e
  have hn : nxt t (tch f0 f1 f2 f3 f4 t.val) (mix t.val (fun s => (tch f0 f1 f2 f3 f4 (s + 1)).P) f0) (mix t.val (fun s => (tch f0 f1 f2 f3 f4 (s + 1)).Dr) f1) (mix t.val (fun s => (tch f0 f1 f2 f3 f4 (s + 1)).Di) f2) (mix t.val (fun s => (tch f0 f1 f2 f3 f4 (s + 1)).Br) f3) (mix t.val (fun s => (tch f0 f1 f2 f3 f4 (s + 1)).Bi) f4) = tch f0 f1 f2 f3 f4 (t.val + 1) := by
    unfold nxt
    rw [row_mix _ _ (row1 t) (le_refl t.val), row_mix _ _ (row1 t) (le_refl t.val), row_mix _ _ (row1 t) (le_refl t.val), row_mix _ _ (row1 t) (le_refl t.val), row_mix _ _ (row1 t) (le_refl t.val)]
    exact (chunk_succ (row1 t)).symm
  iapply (step_region d L t (tch f0 f1 f2 f3 f4 t.val) (mix t.val (fun s => (tch f0 f1 f2 f3 f4 (s + 1)).P) f0) (mix t.val (fun s => (tch f0 f1 f2 f3 f4 (s + 1)).Dr) f1) (mix t.val (fun s => (tch f0 f1 f2 f3 f4 (s + 1)).Di) f2) (mix t.val (fun s => (tch f0 f1 f2 f3 f4 (s + 1)).Br) f3) (mix t.val (fun s => (tch f0 f1 f2 f3 f4 (s + 1)).Bi) f4) g5 g6 g7 g8 g9 g10 g11 g12 _
    (by rw [row_mix _ _ (row1 t) (le_refl t.val)]; exact hp (row1 t)) (chunk_P_lt hp _)) $$ [H0 H1 H2 H3 H4 H5 H6 H7 H8 H9 H10 H11 H12]
  rw [hn]
  rw [setRow_mix (fun s => (tch f0 f1 f2 f3 f4 (s + 1)).P) f0 (row1 t) rfl]
  rw [setRow_mix (fun s => (tch f0 f1 f2 f3 f4 (s + 1)).Dr) f1 (row1 t) rfl]
  rw [setRow_mix (fun s => (tch f0 f1 f2 f3 f4 (s + 1)).Di) f2 (row1 t) rfl]
  rw [setRow_mix (fun s => (tch f0 f1 f2 f3 f4 (s + 1)).Br) f3 (row1 t) rfl]
  rw [setRow_mix (fun s => (tch f0 f1 f2 f3 f4 (s + 1)).Bi) f4 (row1 t) rfl]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro %r %h5 %h6 %h7 %h8 %h9 %h10 %h11 %h12 ⟨%e, H0, H1, H2, H3, H4, H5, H6, H7, H8, H9, H10, H11, H12⟩
  isplitr; · ipureintro; exact e
  isplitl [H0]; · iexact H0
  isplitl [H1]; · iexact H1
  isplitl [H2]; · iexact H2
  isplitl [H3]; · iexact H3
  isplitl [H4]; · iexact H4
  iexists h5, h6, h7, h8, h9, h10, h11, h12
  sl_close

/-- The prefixes of chunk `w` from the argument arrays, and the ten result arrays of the first kernel. -/
abbrev gch (a0 : HBlk.Idx → BitVec 32) (a1 a2 a3 a4 : HBlk.Idx → F .f32) (w : Fin 32) : ℕ → Pre F :=
  chunk (blk a0 w) (blk a1 w) (blk a2 w) (blk a3 w) (blk a4 w)

def outP (a0 : HBlk.Idx → BitVec 32) (a1 a2 a3 a4 : HBlk.Idx → F .f32) : HBlk.Idx → BitVec 32 :=
  fun x => (gch a0 a1 a2 a3 a4 (x 0) ((x 1).val + 1)).P (x 2)
def carP (a0 : HBlk.Idx → BitVec 32) (a1 a2 a3 a4 : HBlk.Idx → F .f32) : (HRows 32).Idx → BitVec 32 :=
  fun x => (gch a0 a1 a2 a3 a4 (x 0) 128).P (x 1)
def outDr (a0 : HBlk.Idx → BitVec 32) (a1 a2 a3 a4 : HBlk.Idx → F .f32) : HBlk.Idx → F .f32 :=
  fun x => (gch a0 a1 a2 a3 a4 (x 0) ((x 1).val + 1)).Dr (x 2)
def carDr (a0 : HBlk.Idx → BitVec 32) (a1 a2 a3 a4 : HBlk.Idx → F .f32) : (HRows 32).Idx → F .f32 :=
  fun x => (gch a0 a1 a2 a3 a4 (x 0) 128).Dr (x 1)
def outDi (a0 : HBlk.Idx → BitVec 32) (a1 a2 a3 a4 : HBlk.Idx → F .f32) : HBlk.Idx → F .f32 :=
  fun x => (gch a0 a1 a2 a3 a4 (x 0) ((x 1).val + 1)).Di (x 2)
def carDi (a0 : HBlk.Idx → BitVec 32) (a1 a2 a3 a4 : HBlk.Idx → F .f32) : (HRows 32).Idx → F .f32 :=
  fun x => (gch a0 a1 a2 a3 a4 (x 0) 128).Di (x 1)
def outBr (a0 : HBlk.Idx → BitVec 32) (a1 a2 a3 a4 : HBlk.Idx → F .f32) : HBlk.Idx → F .f32 :=
  fun x => (gch a0 a1 a2 a3 a4 (x 0) ((x 1).val + 1)).Br (x 2)
def carBr (a0 : HBlk.Idx → BitVec 32) (a1 a2 a3 a4 : HBlk.Idx → F .f32) : (HRows 32).Idx → F .f32 :=
  fun x => (gch a0 a1 a2 a3 a4 (x 0) 128).Br (x 1)
def outBi (a0 : HBlk.Idx → BitVec 32) (a1 a2 a3 a4 : HBlk.Idx → F .f32) : HBlk.Idx → F .f32 :=
  fun x => (gch a0 a1 a2 a3 a4 (x 0) ((x 1).val + 1)).Bi (x 2)
def carBi (a0 : HBlk.Idx → BitVec 32) (a1 a2 a3 a4 : HBlk.Idx → F .f32) : (HRows 32).Idx → F .f32 :=
  fun x => (gch a0 a1 a2 a3 a4 (x 0) 128).Bi (x 1)

/-- A tile's rows of an argument array, as its copies in lay them out. -/
abbrev tin {α : Type} (L : grid0.Coords) (a : HBlk.Idx → α) : (HRows 128).Idx → α := fun y => a (ix3 (wid L) (y 0) (y 1))

theorem waits_ins {W W' : Waits sig (HIx 2)} {x : SemLoc sig × HIx 2} (hx : x.2 = none) (h : ∀ p ∈ W', p ∈ W ∨ p.2 = none) :
    ∀ p ∈ insert x W', p ∈ W ∨ p.2 = none := by
  intro p hp
  rcases Finset.mem_insert.mp hp with rfl | hp
  · exact Or.inr hx
  · exact h p hp

theorem off1_wid (L : grid0.Coords) : k0_off1 L = ![(wid L).val, 0, 0] := k0_off1_eq L
theorem off10_wid (L : grid0.Coords) : k0_off10 L = ![(wid L).val, 0] := k0_off10_eq L

theorem read_aRow {e : EltTy} (b : Memref sig .scVector .hbm S32x128x64 e) (L : grid0.Coords) (f : b.view.ty.Contents (Elt F)) :
    (aRow b L).view.read (Elt F) f = fun y => b.view.read (Elt F) f (ix3 (wid L) (y 0) (y 1)) :=
  read_blk (κ := .scVector) (sp := .hbm) b.view (wid L) (off1_wid L) f

theorem read_cRow {e : EltTy} (b : Memref sig .scVector .hbm S32x64 e) (L : grid0.Coords) (f : b.view.ty.Contents (Elt F)) :
    (cRow b L).view.read (Elt F) f = fun y => row (b.view.read (Elt F) f) (wid L) (y 0) :=
  read_rowView (κ := .scVector) (sp := .hbm) b.view (wid L) (off10_wid L) f

/-- What a copy into a block's row leaves there is what was copied: `G` when `G`'s row reads it. -/
theorem blk_lands {e : EltTy} (b : Memref sig .scVector .hbm S32x128x64 e) (d : Dev nD) (L : grid0.Coords) (f G : b.view.ty.Contents (Elt F)) (w : S128x64.Idx → Elt F e)
    (h : w = fun y => b.view.read (Elt F) G (ix3 (wid L) (y 0) (y 1))) :
    ((aRow b L).view.loc (thr d L) ↦[(aRow b L).view.set]{fullShare} (aRow b L).view.writes (Elt F) f [⟨Rect.whole S128x64, w⟩] : sProp 𝕄)
      = ((aRow b L).view.loc (thr d L) ↦[(aRow b L).view.set]{fullShare} G) :=
  pointsTo_congr (eq_on_set (aRow b L).view ((View.read_writes_whole _ _ _).trans <| by exact h.trans (read_aRow b L G).symm))

theorem row_lands {e : EltTy} (b : Memref sig .scVector .hbm S32x64 e) (d : Dev nD) (L : grid0.Coords) (f G : b.view.ty.Contents (Elt F)) (w : S64.Idx → Elt F e)
    (h : w = fun y => row (b.view.read (Elt F) G) (wid L) (y 0)) :
    ((cRow b L).view.loc (thr d L) ↦[(cRow b L).view.set]{fullShare} (cRow b L).view.writes (Elt F) f [⟨Rect.whole S64, w⟩] : sProp 𝕄)
      = ((cRow b L).view.loc (thr d L) ↦[(cRow b L).view.set]{fullShare} G) :=
  pointsTo_congr (eq_on_set (cRow b L).view ((View.read_writes_whole _ _ _).trans <| by exact h.trans (read_cRow b L G).symm))

/-- The last row of a tile's block, as the last copies out read it. -/
theorem read_last {e : EltTy} (m : Memref sig .scVector .vmem S128x64 e) (f : m.view.ty.Contents (Elt F)) :
    ((m.slice (Rect.unit (s := S128x64) ![127, 0] S1x64.size inb_S128x64_S1x64_127_0) (fun _ => rfl)).squeeze S64 squeezes_S1x64_S64).view.read (Elt F) f
      = fun y => row (m.view.read (Elt F) f) (127 : Fin 128) (y 0) :=
  read_rowView (κ := .scVector) (sp := .vmem) m.view (127 : Fin 128) rfl f

theorem carP_last (a0 : HBlk.Idx → BitVec 32) (a1 a2 a3 a4 : HBlk.Idx → F .f32) (L : grid0.Coords) :
    (fun y : H64.Idx => row (fun i : (HRows 128).Idx => (tch (tin L a0) (tin L a1) (tin L a2) (tin L a3) (tin L a4) ((i 0).val + 1)).P (i 1)) (127 : Fin 128) (y 0)) = fun y => row (carP a0 a1 a2 a3 a4) (wid L) (y 0) := by
  funext y
  show (chunk (blk a0 (wid L)) (blk a1 (wid L)) (blk a2 (wid L)) (blk a3 (wid L)) (blk a4 (wid L)) (127 + 1)).P (y 0) = _
  rfl
theorem carDr_last (a0 : HBlk.Idx → BitVec 32) (a1 a2 a3 a4 : HBlk.Idx → F .f32) (L : grid0.Coords) :
    (fun y : H64.Idx => row (fun i : (HRows 128).Idx => (tch (tin L a0) (tin L a1) (tin L a2) (tin L a3) (tin L a4) ((i 0).val + 1)).Dr (i 1)) (127 : Fin 128) (y 0)) = fun y => row (carDr a0 a1 a2 a3 a4) (wid L) (y 0) := by
  funext y
  show (chunk (blk a0 (wid L)) (blk a1 (wid L)) (blk a2 (wid L)) (blk a3 (wid L)) (blk a4 (wid L)) (127 + 1)).Dr (y 0) = _
  rfl
theorem carDi_last (a0 : HBlk.Idx → BitVec 32) (a1 a2 a3 a4 : HBlk.Idx → F .f32) (L : grid0.Coords) :
    (fun y : H64.Idx => row (fun i : (HRows 128).Idx => (tch (tin L a0) (tin L a1) (tin L a2) (tin L a3) (tin L a4) ((i 0).val + 1)).Di (i 1)) (127 : Fin 128) (y 0)) = fun y => row (carDi a0 a1 a2 a3 a4) (wid L) (y 0) := by
  funext y
  show (chunk (blk a0 (wid L)) (blk a1 (wid L)) (blk a2 (wid L)) (blk a3 (wid L)) (blk a4 (wid L)) (127 + 1)).Di (y 0) = _
  rfl
theorem carBr_last (a0 : HBlk.Idx → BitVec 32) (a1 a2 a3 a4 : HBlk.Idx → F .f32) (L : grid0.Coords) :
    (fun y : H64.Idx => row (fun i : (HRows 128).Idx => (tch (tin L a0) (tin L a1) (tin L a2) (tin L a3) (tin L a4) ((i 0).val + 1)).Br (i 1)) (127 : Fin 128) (y 0)) = fun y => row (carBr a0 a1 a2 a3 a4) (wid L) (y 0) := by
  funext y
  show (chunk (blk a0 (wid L)) (blk a1 (wid L)) (blk a2 (wid L)) (blk a3 (wid L)) (blk a4 (wid L)) (127 + 1)).Br (y 0) = _
  rfl
theorem carBi_last (a0 : HBlk.Idx → BitVec 32) (a1 a2 a3 a4 : HBlk.Idx → F .f32) (L : grid0.Coords) :
    (fun y : H64.Idx => row (fun i : (HRows 128).Idx => (tch (tin L a0) (tin L a1) (tin L a2) (tin L a3) (tin L a4) ((i 0).val + 1)).Bi (i 1)) (127 : Fin 128) (y 0)) = fun y => row (carBi a0 a1 a2 a3 a4) (wid L) (y 0) := by
  funext y
  show (chunk (blk a0 (wid L)) (blk a1 (wid L)) (blk a2 (wid L)) (blk a3 (wid L)) (blk a4 (wid L)) (127 + 1)).Bi (y 0) = _
  rfl
theorem lands_outP (d : Dev nD) (L : grid0.Coords) (a0 : HBlk.Idx → BitVec 32) (a1 a2 a3 a4 : HBlk.Idx → F .f32) (f : (Memref.whole main_v0_0_scv).view.ty.Contents (Elt F)) (w : S128x64.Idx → Elt F .i32)
    (h : w = mix 128 (fun s => (tch (tin L a0) (tin L a1) (tin L a2) (tin L a3) (tin L a4) (s + 1)).P) (tin L a0)) :
    ((aRow (Memref.whole main_v0_0_scv) L).view.loc (thr d L) ↦[(aRow (Memref.whole main_v0_0_scv) L).view.set]{fullShare} (aRow (Memref.whole main_v0_0_scv) L).view.writes (Elt F) f [⟨Rect.whole S128x64, w⟩] : sProp 𝕄)
      = ((aRow (Memref.whole main_v0_0_scv) L).view.loc (thr d L) ↦[(aRow (Memref.whole main_v0_0_scv) L).view.set]{fullShare} (outP a0 a1 a2 a3 a4)) :=
  blk_lands (F := F) (Memref.whole main_v0_0_scv) d L f (outP a0 a1 a2 a3 a4) w (h.trans (mix_full _ _))
theorem lands_carP (d : Dev nD) (L : grid0.Coords) (a0 : HBlk.Idx → BitVec 32) (a1 a2 a3 a4 : HBlk.Idx → F .f32) (f : (Memref.whole main_v0_5_scv).view.ty.Contents (Elt F)) (w : S64.Idx → Elt F .i32)
    (h : w = fun y => row (mix 128 (fun s => (tch (tin L a0) (tin L a1) (tin L a2) (tin L a3) (tin L a4) (s + 1)).P) (tin L a0)) (127 : Fin 128) (y 0)) :
    ((cRow (Memref.whole main_v0_5_scv) L).view.loc (thr d L) ↦[(cRow (Memref.whole main_v0_5_scv) L).view.set]{fullShare} (cRow (Memref.whole main_v0_5_scv) L).view.writes (Elt F) f [⟨Rect.whole S64, w⟩] : sProp 𝕄)
      = ((cRow (Memref.whole main_v0_5_scv) L).view.loc (thr d L) ↦[(cRow (Memref.whole main_v0_5_scv) L).view.set]{fullShare} (carP a0 a1 a2 a3 a4)) :=
  row_lands (F := F) (Memref.whole main_v0_5_scv) d L f (carP a0 a1 a2 a3 a4) w (h.trans (by rw [mix_full]; exact carP_last a0 a1 a2 a3 a4 L))
theorem lands_outDr (d : Dev nD) (L : grid0.Coords) (a0 : HBlk.Idx → BitVec 32) (a1 a2 a3 a4 : HBlk.Idx → F .f32) (f : (Memref.whole main_v0_1_scv).view.ty.Contents (Elt F)) (w : S128x64.Idx → Elt F .f32)
    (h : w = mix 128 (fun s => (tch (tin L a0) (tin L a1) (tin L a2) (tin L a3) (tin L a4) (s + 1)).Dr) (tin L a1)) :
    ((aRow (Memref.whole main_v0_1_scv) L).view.loc (thr d L) ↦[(aRow (Memref.whole main_v0_1_scv) L).view.set]{fullShare} (aRow (Memref.whole main_v0_1_scv) L).view.writes (Elt F) f [⟨Rect.whole S128x64, w⟩] : sProp 𝕄)
      = ((aRow (Memref.whole main_v0_1_scv) L).view.loc (thr d L) ↦[(aRow (Memref.whole main_v0_1_scv) L).view.set]{fullShare} (outDr a0 a1 a2 a3 a4)) :=
  blk_lands (F := F) (Memref.whole main_v0_1_scv) d L f (outDr a0 a1 a2 a3 a4) w (h.trans (mix_full _ _))
theorem lands_carDr (d : Dev nD) (L : grid0.Coords) (a0 : HBlk.Idx → BitVec 32) (a1 a2 a3 a4 : HBlk.Idx → F .f32) (f : (Memref.whole main_v0_6_scv).view.ty.Contents (Elt F)) (w : S64.Idx → Elt F .f32)
    (h : w = fun y => row (mix 128 (fun s => (tch (tin L a0) (tin L a1) (tin L a2) (tin L a3) (tin L a4) (s + 1)).Dr) (tin L a1)) (127 : Fin 128) (y 0)) :
    ((cRow (Memref.whole main_v0_6_scv) L).view.loc (thr d L) ↦[(cRow (Memref.whole main_v0_6_scv) L).view.set]{fullShare} (cRow (Memref.whole main_v0_6_scv) L).view.writes (Elt F) f [⟨Rect.whole S64, w⟩] : sProp 𝕄)
      = ((cRow (Memref.whole main_v0_6_scv) L).view.loc (thr d L) ↦[(cRow (Memref.whole main_v0_6_scv) L).view.set]{fullShare} (carDr a0 a1 a2 a3 a4)) :=
  row_lands (F := F) (Memref.whole main_v0_6_scv) d L f (carDr a0 a1 a2 a3 a4) w (h.trans (by rw [mix_full]; exact carDr_last a0 a1 a2 a3 a4 L))
theorem lands_outDi (d : Dev nD) (L : grid0.Coords) (a0 : HBlk.Idx → BitVec 32) (a1 a2 a3 a4 : HBlk.Idx → F .f32) (f : (Memref.whole main_v0_2_scv).view.ty.Contents (Elt F)) (w : S128x64.Idx → Elt F .f32)
    (h : w = mix 128 (fun s => (tch (tin L a0) (tin L a1) (tin L a2) (tin L a3) (tin L a4) (s + 1)).Di) (tin L a2)) :
    ((aRow (Memref.whole main_v0_2_scv) L).view.loc (thr d L) ↦[(aRow (Memref.whole main_v0_2_scv) L).view.set]{fullShare} (aRow (Memref.whole main_v0_2_scv) L).view.writes (Elt F) f [⟨Rect.whole S128x64, w⟩] : sProp 𝕄)
      = ((aRow (Memref.whole main_v0_2_scv) L).view.loc (thr d L) ↦[(aRow (Memref.whole main_v0_2_scv) L).view.set]{fullShare} (outDi a0 a1 a2 a3 a4)) :=
  blk_lands (F := F) (Memref.whole main_v0_2_scv) d L f (outDi a0 a1 a2 a3 a4) w (h.trans (mix_full _ _))
theorem lands_carDi (d : Dev nD) (L : grid0.Coords) (a0 : HBlk.Idx → BitVec 32) (a1 a2 a3 a4 : HBlk.Idx → F .f32) (f : (Memref.whole main_v0_7_scv).view.ty.Contents (Elt F)) (w : S64.Idx → Elt F .f32)
    (h : w = fun y => row (mix 128 (fun s => (tch (tin L a0) (tin L a1) (tin L a2) (tin L a3) (tin L a4) (s + 1)).Di) (tin L a2)) (127 : Fin 128) (y 0)) :
    ((cRow (Memref.whole main_v0_7_scv) L).view.loc (thr d L) ↦[(cRow (Memref.whole main_v0_7_scv) L).view.set]{fullShare} (cRow (Memref.whole main_v0_7_scv) L).view.writes (Elt F) f [⟨Rect.whole S64, w⟩] : sProp 𝕄)
      = ((cRow (Memref.whole main_v0_7_scv) L).view.loc (thr d L) ↦[(cRow (Memref.whole main_v0_7_scv) L).view.set]{fullShare} (carDi a0 a1 a2 a3 a4)) :=
  row_lands (F := F) (Memref.whole main_v0_7_scv) d L f (carDi a0 a1 a2 a3 a4) w (h.trans (by rw [mix_full]; exact carDi_last a0 a1 a2 a3 a4 L))
theorem lands_outBr (d : Dev nD) (L : grid0.Coords) (a0 : HBlk.Idx → BitVec 32) (a1 a2 a3 a4 : HBlk.Idx → F .f32) (f : (Memref.whole main_v0_3_scv).view.ty.Contents (Elt F)) (w : S128x64.Idx → Elt F .f32)
    (h : w = mix 128 (fun s => (tch (tin L a0) (tin L a1) (tin L a2) (tin L a3) (tin L a4) (s + 1)).Br) (tin L a3)) :
    ((aRow (Memref.whole main_v0_3_scv) L).view.loc (thr d L) ↦[(aRow (Memref.whole main_v0_3_scv) L).view.set]{fullShare} (aRow (Memref.whole main_v0_3_scv) L).view.writes (Elt F) f [⟨Rect.whole S128x64, w⟩] : sProp 𝕄)
      = ((aRow (Memref.whole main_v0_3_scv) L).view.loc (thr d L) ↦[(aRow (Memref.whole main_v0_3_scv) L).view.set]{fullShare} (outBr a0 a1 a2 a3 a4)) :=
  blk_lands (F := F) (Memref.whole main_v0_3_scv) d L f (outBr a0 a1 a2 a3 a4) w (h.trans (mix_full _ _))
theorem lands_carBr (d : Dev nD) (L : grid0.Coords) (a0 : HBlk.Idx → BitVec 32) (a1 a2 a3 a4 : HBlk.Idx → F .f32) (f : (Memref.whole main_v0_8_scv).view.ty.Contents (Elt F)) (w : S64.Idx → Elt F .f32)
    (h : w = fun y => row (mix 128 (fun s => (tch (tin L a0) (tin L a1) (tin L a2) (tin L a3) (tin L a4) (s + 1)).Br) (tin L a3)) (127 : Fin 128) (y 0)) :
    ((cRow (Memref.whole main_v0_8_scv) L).view.loc (thr d L) ↦[(cRow (Memref.whole main_v0_8_scv) L).view.set]{fullShare} (cRow (Memref.whole main_v0_8_scv) L).view.writes (Elt F) f [⟨Rect.whole S64, w⟩] : sProp 𝕄)
      = ((cRow (Memref.whole main_v0_8_scv) L).view.loc (thr d L) ↦[(cRow (Memref.whole main_v0_8_scv) L).view.set]{fullShare} (carBr a0 a1 a2 a3 a4)) :=
  row_lands (F := F) (Memref.whole main_v0_8_scv) d L f (carBr a0 a1 a2 a3 a4) w (h.trans (by rw [mix_full]; exact carBr_last a0 a1 a2 a3 a4 L))
theorem lands_outBi (d : Dev nD) (L : grid0.Coords) (a0 : HBlk.Idx → BitVec 32) (a1 a2 a3 a4 : HBlk.Idx → F .f32) (f : (Memref.whole main_v0_4_scv).view.ty.Contents (Elt F)) (w : S128x64.Idx → Elt F .f32)
    (h : w = mix 128 (fun s => (tch (tin L a0) (tin L a1) (tin L a2) (tin L a3) (tin L a4) (s + 1)).Bi) (tin L a4)) :
    ((aRow (Memref.whole main_v0_4_scv) L).view.loc (thr d L) ↦[(aRow (Memref.whole main_v0_4_scv) L).view.set]{fullShare} (aRow (Memref.whole main_v0_4_scv) L).view.writes (Elt F) f [⟨Rect.whole S128x64, w⟩] : sProp 𝕄)
      = ((aRow (Memref.whole main_v0_4_scv) L).view.loc (thr d L) ↦[(aRow (Memref.whole main_v0_4_scv) L).view.set]{fullShare} (outBi a0 a1 a2 a3 a4)) :=
  blk_lands (F := F) (Memref.whole main_v0_4_scv) d L f (outBi a0 a1 a2 a3 a4) w (h.trans (mix_full _ _))
theorem lands_carBi (d : Dev nD) (L : grid0.Coords) (a0 : HBlk.Idx → BitVec 32) (a1 a2 a3 a4 : HBlk.Idx → F .f32) (f : (Memref.whole main_v0_9_scv).view.ty.Contents (Elt F)) (w : S64.Idx → Elt F .f32)
    (h : w = fun y => row (mix 128 (fun s => (tch (tin L a0) (tin L a1) (tin L a2) (tin L a3) (tin L a4) (s + 1)).Bi) (tin L a4)) (127 : Fin 128) (y 0)) :
    ((cRow (Memref.whole main_v0_9_scv) L).view.loc (thr d L) ↦[(cRow (Memref.whole main_v0_9_scv) L).view.set]{fullShare} (cRow (Memref.whole main_v0_9_scv) L).view.writes (Elt F) f [⟨Rect.whole S64, w⟩] : sProp 𝕄)
      = ((cRow (Memref.whole main_v0_9_scv) L).view.loc (thr d L) ↦[(cRow (Memref.whole main_v0_9_scv) L).view.set]{fullShare} (carBi a0 a1 a2 a3 a4)) :=
  row_lands (F := F) (Memref.whole main_v0_9_scv) d L f (carBi a0 a1 a2 a3 a4) w (h.trans (by rw [mix_full]; exact carBi_last a0 a1 a2 a3 a4 L))
end Cert.Proof.KI
end
-- ==== Proof.IdealStep2a.lean ====
/-
  (Of the idealized kernel.)
  One trip of the second kernel's loop over carries: it reads carry `t` and, when the tile's number is above `t`, applies
  it to the state the tile's chunk is entered with.
-/
module

public import proofs.«01_k».proof.Proof.IdealStep1
public import proofs.«01_k».proof.Proof.Model2

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

/-- The carry that trip `t` looks at. -/
abbrev row2 (t : Fin k1_t1_loop.trips) : Fin 32 := ⟨t.val, t.isLt.trans (by decide)⟩

/-- The state after trip `t`, from the state before it and the carries. -/
abbrev nxt2 (w : ℕ) (t : Fin k1_t1_loop.trips) (h : Sta F) (f0 : (HRows 32).Idx → BitVec 32) (f1 f2 f3 f4 : (HRows 32).Idx → F .f32) : Sta F :=
  combIf (t.val < w) (row f0 (row2 t)) (row f1 (row2 t)) (row f2 (row2 t)) (row f3 (row2 t)) (row f4 (row2 t)) h

/-- A group of a row of words in range, as the bodies' scatters check it. -/
theorem lanes_ok (p : Fin 64 → BitVec 32) (hp : ∀ k, (p k).toNat < 64) (g : Fin 4) {w : IVec S16 32} (e : w = lanes g p) :
    (∀ a x, ((![w] : Fin 1 → IVec S16 32) a x).toNat < S64.size a) ∧ (∀ a x, ((![w] : Fin 1 → IVec S16 32) a x).toNat < S64.size a) := by
  subst e
  have h : ∀ (a : Fin 1) (x : H16.Idx), ((![lanes g p] : Fin 1 → IVec H16 32) a x).toNat < H64.size a := by
    intro a x
    match a with
    | ⟨0, _⟩ => exact hp _
  exact ⟨h, h⟩

/-- Four stores of zeros leave a vector of zeros. -/
theorem zero4' (v : View sig .scVector .vmem S64 .f32) (f : v.ty.Contents (Elt F)) :
    v.read (Elt F) (v.writes (Elt F) f [⟨Rect.unit ![48] S16.size inb_S64_S16_48, k1_pay125⟩, ⟨Rect.unit ![32] S16.size inb_S64_S16_32, k1_pay125⟩,
        ⟨Rect.unit ![16] S16.size inb_S64_S16_16, k1_pay125⟩, ⟨Rect.unit ![0] S16.size inb_S64_S16_0, k1_pay125⟩]) = fun _ => zeroF :=
  Rows.read_vec4 v f k1_pay125 k1_pay125 k1_pay125 k1_pay125 (fun _ => zeroF) rfl rfl rfl rfl rfl rfl rfl rfl

set_option maxHeartbeats 2000000 in
theorem carry_region (d : Dev nD) (L : grid1.Coords) (t : Fin k1_t1_loop.trips) (w : ℕ) (v1 : BitVec 32) (h : Sta F)
    (f0 : (HRows 32).Idx → BitVec 32) (f1 f2 f3 f4 : (HRows 32).Idx → F .f32) f14 f15 f16 f17 f18 f19 f20 f21 (Q)
    (hm : ∀ x, k1_pay1 v1 0#32 1#32 t x = if t.val < w then 1#1 else 0#1) (hp : ∀ k, (row f0 (row2 t) k).toNat < 64) :
    iprop(((Memref.whole cc1_scratch0).view.loc (thr d L) ↦{fullShare} f0) ∗ ((Memref.whole cc1_scratch1).view.loc (thr d L) ↦{fullShare} f1) ∗ ((Memref.whole cc1_scratch2).view.loc (thr d L) ↦{fullShare} f2) ∗ ((Memref.whole cc1_scratch3).view.loc (thr d L) ↦{fullShare} f3) ∗ ((Memref.whole cc1_scratch4).view.loc (thr d L) ↦{fullShare} f4) ∗ ((Memref.whole cc1_scratch14).view.loc (thr d L) ↦{fullShare} f14) ∗ ((Memref.whole cc1_scratch15).view.loc (thr d L) ↦{fullShare} f15) ∗ ((Memref.whole cc1_scratch16).view.loc (thr d L) ↦{fullShare} f16) ∗ ((Memref.whole cc1_scratch17).view.loc (thr d L) ↦{fullShare} f17) ∗ ((Memref.whole cc1_scratch18).view.loc (thr d L) ↦{fullShare} f18) ∗ ((Memref.whole cc1_scratch19).view.loc (thr d L) ↦{fullShare} f19) ∗ ((Memref.whole cc1_scratch20).view.loc (thr d L) ↦{fullShare} f20) ∗ ((Memref.whole cc1_scratch21).view.loc (thr d L) ↦{fullShare} f21) ∗ (∀ r g14 g15 g16 g17 g18 g19 g20 g21, (⌜r = spack (nxt2 w t h f0 f1 f2 f3 f4)⌝ ∗ ((Memref.whole cc1_scratch0).view.loc (thr d L) ↦{fullShare} f0) ∗ ((Memref.whole cc1_scratch1).view.loc (thr d L) ↦{fullShare} f1) ∗ ((Memref.whole cc1_scratch2).view.loc (thr d L) ↦{fullShare} f2) ∗ ((Memref.whole cc1_scratch3).view.loc (thr d L) ↦{fullShare} f3) ∗ ((Memref.whole cc1_scratch4).view.loc (thr d L) ↦{fullShare} f4) ∗ ((Memref.whole cc1_scratch14).view.loc (thr d L) ↦{fullShare} g14) ∗ ((Memref.whole cc1_scratch15).view.loc (thr d L) ↦{fullShare} g15) ∗ ((Memref.whole cc1_scratch16).view.loc (thr d L) ↦{fullShare} g16) ∗ ((Memref.whole cc1_scratch17).view.loc (thr d L) ↦{fullShare} g17) ∗ ((Memref.whole cc1_scratch18).view.loc (thr d L) ↦{fullShare} g18) ∗ ((Memref.whole cc1_scratch19).view.loc (thr d L) ↦{fullShare} g19) ∗ ((Memref.whole cc1_scratch20).view.loc (thr d L) ↦{fullShare} g20) ∗ ((Memref.whole cc1_scratch21).view.loc (thr d L) ↦{fullShare} g21)) -∗ Q r))
   ⊢ (wp frame (wpE (defs₀ (F := F)) 𝒱₀ (thr d L) none) Set.univ
        (k1_t1_body L (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) cc1_scratch22 cc1_scratch23 cc1_scratch24 v1 t (spack h)) Q : sProp 𝕄) := by
  have l0 : ∀ (g : Fin 4) {o : Fin 2 → ℕ} {i}, o = ![(row2 t).val, 16 * g.val] →
      shapeCast S16 (View.readAt (Elt F) (Memref.whole cc1_scratch0).view (Rect.unit (s := S32x64) o S1x16.size i).toLoadRect f0) shapeCasts_S1x16_S16 = lanes g (row f0 (row2 t)) :=
    fun g _ _ e => load_row (Memref.whole cc1_scratch0).view f0 (Val := Elt F) shapeCasts_S1x16_S16 (row2 t) g e
  have l1 : ∀ (g : Fin 4) {o : Fin 2 → ℕ} {i}, o = ![(row2 t).val, 16 * g.val] →
      shapeCast S16 (View.readAt (Elt F) (Memref.whole cc1_scratch1).view (Rect.unit (s := S32x64) o S1x16.size i).toLoadRect f1) shapeCasts_S1x16_S16 = lanes g (row f1 (row2 t)) :=
    fun g _ _ e => load_row (Memref.whole cc1_scratch1).view f1 (Val := Elt F) shapeCasts_S1x16_S16 (row2 t) g e
  have l2 : ∀ (g : Fin 4) {o : Fin 2 → ℕ} {i}, o = ![(row2 t).val, 16 * g.val] →
      shapeCast S16 (View.readAt (Elt F) (Memref.whole cc1_scratch2).view (Rect.unit (s := S32x64) o S1x16.size i).toLoadRect f2) shapeCasts_S1x16_S16 = lanes g (row f2 (row2 t)) :=
    fun g _ _ e => load_row (Memref.whole cc1_scratch2).view f2 (Val := Elt F) shapeCasts_S1x16_S16 (row2 t) g e
  have l3 : ∀ (g : Fin 4) {o : Fin 2 → ℕ} {i}, o = ![(row2 t).val, 16 * g.val] →
      shapeCast S16 (View.readAt (Elt F) (Memref.whole cc1_scratch3).view (Rect.unit (s := S32x64) o S1x16.size i).toLoadRect f3) shapeCasts_S1x16_S16 = lanes g (row f3 (row2 t)) :=
    fun g _ _ e => load_row (Memref.whole cc1_scratch3).view f3 (Val := Elt F) shapeCasts_S1x16_S16 (row2 t) g e
  have l4 : ∀ (g : Fin 4) {o : Fin 2 → ℕ} {i}, o = ![(row2 t).val, 16 * g.val] →
      shapeCast S16 (View.readAt (Elt F) (Memref.whole cc1_scratch4).view (Rect.unit (s := S32x64) o S1x16.size i).toLoadRect f4) shapeCasts_S1x16_S16 = lanes g (row f4 (row2 t)) :=
    fun g _ _ e => load_row (Memref.whole cc1_scratch4).view f4 (Val := Elt F) shapeCasts_S1x16_S16 (row2 t) g e
  have hchk1 : k1_chk1 _ := lanes_ok (row f0 (row2 t)) hp 0 (l0 0 (i := k1_off2_inb t) (k1_off2_eq t))
  have hchk2 : k1_chk2 _ := lanes_ok (row f0 (row2 t)) hp 1 (l0 1 (i := k1_off3_inb t) (k1_off3_eq t))
  have hchk3 : k1_chk3 _ := lanes_ok (row f0 (row2 t)) hp 2 (l0 2 (i := k1_off4_inb t) (k1_off4_eq t))
  have hchk4 : k1_chk4 _ := lanes_ok (row f0 (row2 t)) hp 3 (l0 3 (i := k1_off5_inb t) (k1_off5_eq t))
  unfold k1_t1_body spack
  rw [k1_part1_eq_skeleton, k1_part2_eq_skeleton, k1_part3_eq_skeleton, k1_part4_eq_skeleton, k1_part5_eq_skeleton]
  iintro ⟨H0, H1, H2, H3, H4, H14, H15, H16, H17, H18, H19, H20, H21, Hk⟩
  sl_exec (disch := sl_exact hchk1)
  iapply (Rows.wp_scatter (defs := defs₀ (F := F)) 𝒱₀ (thr d L) none Set.univ (Memref.whole cc1_scratch14) (Memref.isWhole_whole _) (fun _ => zeroF)
    (zero4' (Memref.whole cc1_scratch14).view f14)) $$ H14
  iintro %g14 %e14 H14
  iapply (Rows.wp_scatter (defs := defs₀ (F := F)) 𝒱₀ (thr d L) none Set.univ (Memref.whole cc1_scratch18) (Memref.isWhole_whole _) (fun _ => zeroF)
    (zero4' (Memref.whole cc1_scratch18).view f18)) $$ H18
  iintro %g18 %e18 H18
  sl_exec (disch := sl_exact hchk2)
  iapply (Rows.wp_scatter (defs := defs₀ (F := F)) 𝒱₀ (thr d L) none Set.univ (Memref.whole cc1_scratch15) (Memref.isWhole_whole _) (fun _ => zeroF)
    (zero4' (Memref.whole cc1_scratch15).view f15)) $$ H15
  iintro %g15 %e15 H15
  iapply (Rows.wp_scatter (defs := defs₀ (F := F)) 𝒱₀ (thr d L) none Set.univ (Memref.whole cc1_scratch19) (Memref.isWhole_whole _) (fun _ => zeroF)
    (zero4' (Memref.whole cc1_scratch19).view f19)) $$ H19
  iintro %g19 %e19 H19
  sl_exec (disch := sl_exact hchk3)
  iapply (Rows.wp_scatter (defs := defs₀ (F := F)) 𝒱₀ (thr d L) none Set.univ (Memref.whole cc1_scratch16) (Memref.isWhole_whole _) (fun _ => zeroF)
    (zero4' (Memref.whole cc1_scratch16).view f16)) $$ H16
  iintro %g16 %e16 H16
  iapply (Rows.wp_scatter (defs := defs₀ (F := F)) 𝒱₀ (thr d L) none Set.univ (Memref.whole cc1_scratch20) (Memref.isWhole_whole _) (fun _ => zeroF)
    (zero4' (Memref.whole cc1_scratch20).view f20)) $$ H20
  iintro %g20 %e20 H20
  sl_exec (disch := sl_exact hchk4)
  iapply (Rows.wp_scatter (defs := defs₀ (F := F)) 𝒱₀ (thr d L) none Set.univ (Memref.whole cc1_scratch17) (Memref.isWhole_whole _) (fun _ => zeroF)
    (zero4' (Memref.whole cc1_scratch17).view f17)) $$ H17
  iintro %g17 %e17 H17
  iapply (Rows.wp_scatter (defs := defs₀ (F := F)) 𝒱₀ (thr d L) none Set.univ (Memref.whole cc1_scratch21) (Memref.isWhole_whole _) (fun _ => zeroF)
    (zero4' (Memref.whole cc1_scratch21).view f21)) $$ H21
  iintro %g21 %e21 H21
  sl_exec
  have a14 := e14.trans (scat_of (z := fun _ => zeroF) (l0 0 (k1_off2_eq t)) (cre_of (l1 0 (k1_off2_eq t)) (l2 0 (k1_off2_eq t)) (rfl : lanes 0 h.Br = _) (rfl : lanes 0 h.Bi = _)))
  have a18 := e18.trans (scat_of (z := fun _ => zeroF) (l0 0 (k1_off2_eq t)) (cim_of (l1 0 (k1_off2_eq t)) (l2 0 (k1_off2_eq t)) (rfl : lanes 0 h.Br = _) (rfl : lanes 0 h.Bi = _)))
  have a15 := e15.trans (scat_of (z := fun _ => zeroF) (l0 1 (k1_off3_eq t)) (cre_of (l1 1 (k1_off3_eq t)) (l2 1 (k1_off3_eq t)) (rfl : lanes 1 h.Br = _) (rfl : lanes 1 h.Bi = _)))
  have a19 := e19.trans (scat_of (z := fun _ => zeroF) (l0 1 (k1_off3_eq t)) (cim_of (l1 1 (k1_off3_eq t)) (l2 1 (k1_off3_eq t)) (rfl : lanes 1 h.Br = _) (rfl : lanes 1 h.Bi = _)))
  have a16 := e16.trans (scat_of (z := fun _ => zeroF) (l0 2 (k1_off4_eq t)) (cre_of (l1 2 (k1_off4_eq t)) (l2 2 (k1_off4_eq t)) (rfl : lanes 2 h.Br = _) (rfl : lanes 2 h.Bi = _)))
  have a20 := e20.trans (scat_of (z := fun _ => zeroF) (l0 2 (k1_off4_eq t)) (cim_of (l1 2 (k1_off4_eq t)) (l2 2 (k1_off4_eq t)) (rfl : lanes 2 h.Br = _) (rfl : lanes 2 h.Bi = _)))
  have a17 := e17.trans (scat_of (z := fun _ => zeroF) (l0 3 (k1_off5_eq t)) (cre_of (l1 3 (k1_off5_eq t)) (l2 3 (k1_off5_eq t)) (rfl : lanes 3 h.Br = _) (rfl : lanes 3 h.Bi = _)))
  have a21 := e21.trans (scat_of (z := fun _ => zeroF) (l0 3 (k1_off5_eq t)) (cim_of (l1 3 (k1_off5_eq t)) (l2 3 (k1_off5_eq t)) (rfl : lanes 3 h.Br = _) (rfl : lanes 3 h.Bi = _)))
  sl_step
  iapply Hk
  isplitr
  · ipureintro
    exact spack_ext (nxt2 w t h f0 f1 f2 f3 f4)
      (sel_of hm (sum_of (l3 0 (k1_off6_eq t)) (acc_of (Memref.whole cc1_scratch14).view a14 0 rfl) (acc_of (Memref.whole cc1_scratch15).view a15 0 rfl) (acc_of (Memref.whole cc1_scratch16).view a16 0 rfl) (acc_of (Memref.whole cc1_scratch17).view a17 0 rfl)) (rfl : lanes 0 h.Br = _))
      (sel_of hm (sum_of (l3 1 (k1_off7_eq t)) (acc_of (Memref.whole cc1_scratch14).view a14 1 rfl) (acc_of (Memref.whole cc1_scratch15).view a15 1 rfl) (acc_of (Memref.whole cc1_scratch16).view a16 1 rfl) (acc_of (Memref.whole cc1_scratch17).view a17 1 rfl)) (rfl : lanes 1 h.Br = _))
      (sel_of hm (sum_of (l3 2 (k1_off8_eq t)) (acc_of (Memref.whole cc1_scratch14).view a14 2 rfl) (acc_of (Memref.whole cc1_scratch15).view a15 2 rfl) (acc_of (Memref.whole cc1_scratch16).view a16 2 rfl) (acc_of (Memref.whole cc1_scratch17).view a17 2 rfl)) (rfl : lanes 2 h.Br = _))
      (sel_of hm (sum_of (l3 3 (k1_off9_eq t)) (acc_of (Memref.whole cc1_scratch14).view a14 3 rfl) (acc_of (Memref.whole cc1_scratch15).view a15 3 rfl) (acc_of (Memref.whole cc1_scratch16).view a16 3 rfl) (acc_of (Memref.whole cc1_scratch17).view a17 3 rfl)) (rfl : lanes 3 h.Br = _))
      (sel_of hm (sum_of (l4 0 (k1_off6_eq t)) (acc_of (Memref.whole cc1_scratch18).view a18 0 rfl) (acc_of (Memref.whole cc1_scratch19).view a19 0 rfl) (acc_of (Memref.whole cc1_scratch20).view a20 0 rfl) (acc_of (Memref.whole cc1_scratch21).view a21 0 rfl)) (rfl : lanes 0 h.Bi = _))
      (sel_of hm (sum_of (l4 1 (k1_off7_eq t)) (acc_of (Memref.whole cc1_scratch18).view a18 1 rfl) (acc_of (Memref.whole cc1_scratch19).view a19 1 rfl) (acc_of (Memref.whole cc1_scratch20).view a20 1 rfl) (acc_of (Memref.whole cc1_scratch21).view a21 1 rfl)) (rfl : lanes 1 h.Bi = _))
      (sel_of hm (sum_of (l4 2 (k1_off8_eq t)) (acc_of (Memref.whole cc1_scratch18).view a18 2 rfl) (acc_of (Memref.whole cc1_scratch19).view a19 2 rfl) (acc_of (Memref.whole cc1_scratch20).view a20 2 rfl) (acc_of (Memref.whole cc1_scratch21).view a21 2 rfl)) (rfl : lanes 2 h.Bi = _))
      (sel_of hm (sum_of (l4 3 (k1_off9_eq t)) (acc_of (Memref.whole cc1_scratch18).view a18 3 rfl) (acc_of (Memref.whole cc1_scratch19).view a19 3 rfl) (acc_of (Memref.whole cc1_scratch20).view a20 3 rfl) (acc_of (Memref.whole cc1_scratch21).view a21 3 rfl)) (rfl : lanes 3 h.Bi = _))
  sl_close

end Cert.Proof.KI
end
-- ==== Proof.IdealStep2b.lean ====
/-
  (Of the idealized kernel.)
  One trip of the second kernel's loop over rows: for each of four rows it adds the row's products, at the row's words,
  to the row's state, and stores the sums over the row.
-/
module

public import proofs.«01_k».proof.Proof.IdealStep2a

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

/-- The `q`-th of the four rows that trip `t` works on. -/
abbrev row3 (t : Fin k1_t2_loop.trips) (q : Fin 4) : Fin 128 := ⟨4 * t.val + q.val, by
  have h : t.val < 32 := t.isLt
  have := q.isLt
  omega⟩

/-- Row `r`'s states, from the tile's rows and the state its chunk is entered with. -/
abbrev fin3 (h : Sta F) (f5 : (HRows 128).Idx → BitVec 32) (f6 f7 f8 f9 : (HRows 128).Idx → F .f32) (r : Fin 128) : Sta F :=
  apply1 (row f5 r) (row f6 r) (row f7 r) (row f8 r) (row f9 r) h

/-- The trip's four rows replaced. -/
abbrev set4 {α : Type} (t : Fin k1_t2_loop.trips) (f : (HRows 128).Idx → α) (n : Fin 128 → Fin 64 → α) : (HRows 128).Idx → α :=
  setRow (setRow (setRow (setRow f (row3 t 0) (n (row3 t 0))) (row3 t 1) (n (row3 t 1))) (row3 t 2) (n (row3 t 2))) (row3 t 3) (n (row3 t 3))

/-- What the trip's sixteen stores leave. -/
theorem rows16 (v : View sig .scVector .vmem S128x64 .f32) (f : v.ty.Contents (Elt F)) (t : Fin k1_t2_loop.trips)
    {w00 w01 w02 w03 w10 w11 w12 w13 w20 w21 w22 w23 w30 w31 w32 w33 : S16.Idx → F .f32} (n : Fin 128 → Fin 64 → F .f32)
    (e00 : w00 = lanes 0 (n (row3 t 0))) (e01 : w01 = lanes 1 (n (row3 t 0))) (e02 : w02 = lanes 2 (n (row3 t 0))) (e03 : w03 = lanes 3 (n (row3 t 0))) (e10 : w10 = lanes 0 (n (row3 t 1))) (e11 : w11 = lanes 1 (n (row3 t 1))) (e12 : w12 = lanes 2 (n (row3 t 1))) (e13 : w13 = lanes 3 (n (row3 t 1))) (e20 : w20 = lanes 0 (n (row3 t 2))) (e21 : w21 = lanes 1 (n (row3 t 2))) (e22 : w22 = lanes 2 (n (row3 t 2))) (e23 : w23 = lanes 3 (n (row3 t 2))) (e30 : w30 = lanes 0 (n (row3 t 3))) (e31 : w31 = lanes 1 (n (row3 t 3))) (e32 : w32 = lanes 2 (n (row3 t 3))) (e33 : w33 = lanes 3 (n (row3 t 3))) :
    v.read (Elt F) (v.writes (Elt F) f [⟨Rect.unit (k1_off41 t 3#32) S1x16.size (k1_off41_inb t 3), shapeCast S1x16 w33 shapeCasts_S16_S1x16⟩, ⟨Rect.unit (k1_off40 t 3#32) S1x16.size (k1_off40_inb t 3), shapeCast S1x16 w32 shapeCasts_S16_S1x16⟩, ⟨Rect.unit (k1_off39 t 3#32) S1x16.size (k1_off39_inb t 3), shapeCast S1x16 w31 shapeCasts_S16_S1x16⟩, ⟨Rect.unit (k1_off38 t 3#32) S1x16.size (k1_off38_inb t 3), shapeCast S1x16 w30 shapeCasts_S16_S1x16⟩, ⟨Rect.unit (k1_off41 t 2#32) S1x16.size (k1_off41_inb t 2), shapeCast S1x16 w23 shapeCasts_S16_S1x16⟩, ⟨Rect.unit (k1_off40 t 2#32) S1x16.size (k1_off40_inb t 2), shapeCast S1x16 w22 shapeCasts_S16_S1x16⟩, ⟨Rect.unit (k1_off39 t 2#32) S1x16.size (k1_off39_inb t 2), shapeCast S1x16 w21 shapeCasts_S16_S1x16⟩, ⟨Rect.unit (k1_off38 t 2#32) S1x16.size (k1_off38_inb t 2), shapeCast S1x16 w20 shapeCasts_S16_S1x16⟩, ⟨Rect.unit (k1_off41 t 1#32) S1x16.size (k1_off41_inb t 1), shapeCast S1x16 w13 shapeCasts_S16_S1x16⟩, ⟨Rect.unit (k1_off40 t 1#32) S1x16.size (k1_off40_inb t 1), shapeCast S1x16 w12 shapeCasts_S16_S1x16⟩, ⟨Rect.unit (k1_off39 t 1#32) S1x16.size (k1_off39_inb t 1), shapeCast S1x16 w11 shapeCasts_S16_S1x16⟩, ⟨Rect.unit (k1_off38 t 1#32) S1x16.size (k1_off38_inb t 1), shapeCast S1x16 w10 shapeCasts_S16_S1x16⟩, ⟨Rect.unit (k1_off41 t 0#32) S1x16.size (k1_off41_inb t 0), shapeCast S1x16 w03 shapeCasts_S16_S1x16⟩, ⟨Rect.unit (k1_off40 t 0#32) S1x16.size (k1_off40_inb t 0), shapeCast S1x16 w02 shapeCasts_S16_S1x16⟩, ⟨Rect.unit (k1_off39 t 0#32) S1x16.size (k1_off39_inb t 0), shapeCast S1x16 w01 shapeCasts_S16_S1x16⟩, ⟨Rect.unit (k1_off38 t 0#32) S1x16.size (k1_off38_inb t 0), shapeCast S1x16 w00 shapeCasts_S16_S1x16⟩])
      = set4 t (v.read (Elt F) f) n := by
  have one : ∀ (q : Fin 4) (b : v.ty.Contents (Elt F)) {o0 o1 o2 o3 : Fin 2 → ℕ} {i0 i1 i2 i3} {w0 w1 w2 w3 : S16.Idx → F .f32},
      o0 = ![4 * t.val + q.val, 0] → o1 = ![4 * t.val + q.val, 16] → o2 = ![4 * t.val + q.val, 32] → o3 = ![4 * t.val + q.val, 48] →
      w0 = lanes 0 (n (row3 t q)) → w1 = lanes 1 (n (row3 t q)) → w2 = lanes 2 (n (row3 t q)) → w3 = lanes 3 (n (row3 t q)) →
      v.read (Elt F) (v.writes (Elt F) b [⟨Rect.unit (s := HRows 128) o3 H1x16.size i3, shapeCast S1x16 w3 shapeCasts_S16_S1x16⟩, ⟨Rect.unit (s := HRows 128) o2 H1x16.size i2, shapeCast S1x16 w2 shapeCasts_S16_S1x16⟩,
        ⟨Rect.unit (s := HRows 128) o1 H1x16.size i1, shapeCast S1x16 w1 shapeCasts_S16_S1x16⟩, ⟨Rect.unit (s := HRows 128) o0 H1x16.size i0, shapeCast S1x16 w0 shapeCasts_S16_S1x16⟩])
        = setRow (v.read (Elt F) b) (row3 t q) (n (row3 t q)) := by
    intro q b o0 o1 o2 o3 i0 i1 i2 i3 w0 w1 w2 w3 h0 h1 h2 h3 e0 e1 e2 e3
    subst e0 e1 e2 e3
    exact read_row4 v b _ _ _ _ (row3 t q) (n (row3 t q)) h0 h1 h2 h3
      (fun x => cast1x16_apply _ _ x) (fun x => cast1x16_apply _ _ x) (fun x => cast1x16_apply _ _ x) (fun x => cast1x16_apply _ _ x)
  refine (one 3 _ (k1_off38_eq t 3) (k1_off39_eq t 3) (k1_off40_eq t 3) (k1_off41_eq t 3) e30 e31 e32 e33).trans (congrArg (fun b => setRow b (row3 t 3) (n (row3 t 3))) ?_)
  refine (one 2 _ (k1_off38_eq t 2) (k1_off39_eq t 2) (k1_off40_eq t 2) (k1_off41_eq t 2) e20 e21 e22 e23).trans (congrArg (fun b => setRow b (row3 t 2) (n (row3 t 2))) ?_)
  refine (one 1 _ (k1_off38_eq t 1) (k1_off39_eq t 1) (k1_off40_eq t 1) (k1_off41_eq t 1) e10 e11 e12 e13).trans (congrArg (fun b => setRow b (row3 t 1) (n (row3 t 1))) ?_)
  exact (one 0 _ (k1_off38_eq t 0) (k1_off39_eq t 0) (k1_off40_eq t 0) (k1_off41_eq t 0) e00 e01 e02 e03)

attribute [local irreducible] scat in
set_option maxHeartbeats 2000000 in
theorem apply_region (d : Dev nD) (L : grid1.Coords) (t : Fin k1_t2_loop.trips) (v1 : BitVec 32) (h : Sta F)
    (f5 : (HRows 128).Idx → BitVec 32) (f6 f7 f8 f9 : (HRows 128).Idx → F .f32) f10 f11 f12 f13 f14 f18 f15 f19 (Q)
    (hp : ∀ r k, (row f5 r k).toNat < 64) :
    iprop(((Memref.whole cc1_scratch5).view.loc (thr d L) ↦{fullShare} f5) ∗ ((Memref.whole cc1_scratch6).view.loc (thr d L) ↦{fullShare} f6) ∗ ((Memref.whole cc1_scratch7).view.loc (thr d L) ↦{fullShare} f7) ∗ ((Memref.whole cc1_scratch8).view.loc (thr d L) ↦{fullShare} f8) ∗ ((Memref.whole cc1_scratch9).view.loc (thr d L) ↦{fullShare} f9) ∗ ((Memref.whole cc1_scratch10).view.loc (thr d L) ↦{fullShare} f10) ∗ ((Memref.whole cc1_scratch11).view.loc (thr d L) ↦{fullShare} f11) ∗ ((Memref.whole cc1_scratch12).view.loc (thr d L) ↦{fullShare} f12) ∗ ((Memref.whole cc1_scratch13).view.loc (thr d L) ↦{fullShare} f13) ∗ ((Memref.whole cc1_scratch14).view.loc (thr d L) ↦{fullShare} f14) ∗ ((Memref.whole cc1_scratch18).view.loc (thr d L) ↦{fullShare} f18) ∗ ((Memref.whole cc1_scratch15).view.loc (thr d L) ↦{fullShare} f15) ∗ ((Memref.whole cc1_scratch19).view.loc (thr d L) ↦{fullShare} f19) ∗ (∀ g10 g11 g12 g13 g14 g18 g15 g19, (((Memref.whole cc1_scratch5).view.loc (thr d L) ↦{fullShare} f5) ∗ ((Memref.whole cc1_scratch6).view.loc (thr d L) ↦{fullShare} f6) ∗ ((Memref.whole cc1_scratch7).view.loc (thr d L) ↦{fullShare} f7) ∗ ((Memref.whole cc1_scratch8).view.loc (thr d L) ↦{fullShare} (set4 t f8 fun r => (fin3 h f5 f6 f7 f8 f9 r).Br)) ∗ ((Memref.whole cc1_scratch9).view.loc (thr d L) ↦{fullShare} (set4 t f9 fun r => (fin3 h f5 f6 f7 f8 f9 r).Bi)) ∗ ((Memref.whole cc1_scratch10).view.loc (thr d L) ↦{fullShare} g10) ∗ ((Memref.whole cc1_scratch11).view.loc (thr d L) ↦{fullShare} g11) ∗ ((Memref.whole cc1_scratch12).view.loc (thr d L) ↦{fullShare} g12) ∗ ((Memref.whole cc1_scratch13).view.loc (thr d L) ↦{fullShare} g13) ∗ ((Memref.whole cc1_scratch14).view.loc (thr d L) ↦{fullShare} g14) ∗ ((Memref.whole cc1_scratch18).view.loc (thr d L) ↦{fullShare} g18) ∗ ((Memref.whole cc1_scratch15).view.loc (thr d L) ↦{fullShare} g15) ∗ ((Memref.whole cc1_scratch19).view.loc (thr d L) ↦{fullShare} g19)) -∗ Q ⟨⟩))
   ⊢ (wp frame (wpE (defs₀ (F := F)) 𝒱₀ (thr d L) none) Set.univ
        (k1_t2_body L (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) cc1_scratch22 cc1_scratch23 cc1_scratch24 v1 (lanes 0 h.Br) (lanes 1 h.Br) (lanes 2 h.Br) (lanes 3 h.Br) (lanes 0 h.Bi) (lanes 1 h.Bi) (lanes 2 h.Bi) (lanes 3 h.Bi) t ⟨⟩) Q : sProp 𝕄) := by
  have l5 : ∀ (q g : Fin 4) {o : Fin 2 → ℕ} {i}, o = ![(row3 t q).val, 16 * g.val] →
      shapeCast S16 (View.readAt (Elt F) (Memref.whole cc1_scratch5).view (Rect.unit (s := S128x64) o S1x16.size i).toLoadRect f5) shapeCasts_S1x16_S16 = lanes g (row f5 (row3 t q)) :=
    fun q g _ _ e => load_row (Memref.whole cc1_scratch5).view f5 (Val := Elt F) shapeCasts_S1x16_S16 (row3 t q) g e
  have l6 : ∀ (q g : Fin 4) {o : Fin 2 → ℕ} {i}, o = ![(row3 t q).val, 16 * g.val] →
      shapeCast S16 (View.readAt (Elt F) (Memref.whole cc1_scratch6).view (Rect.unit (s := S128x64) o S1x16.size i).toLoadRect f6) shapeCasts_S1x16_S16 = lanes g (row f6 (row3 t q)) :=
    fun q g _ _ e => load_row (Memref.whole cc1_scratch6).view f6 (Val := Elt F) shapeCasts_S1x16_S16 (row3 t q) g e
  have l7 : ∀ (q g : Fin 4) {o : Fin 2 → ℕ} {i}, o = ![(row3 t q).val, 16 * g.val] →
      shapeCast S16 (View.readAt (Elt F) (Memref.whole cc1_scratch7).view (Rect.unit (s := S128x64) o S1x16.size i).toLoadRect f7) shapeCasts_S1x16_S16 = lanes g (row f7 (row3 t q)) :=
    fun q g _ _ e => load_row (Memref.whole cc1_scratch7).view f7 (Val := Elt F) shapeCasts_S1x16_S16 (row3 t q) g e
  have l8 : ∀ (q g : Fin 4) {o : Fin 2 → ℕ} {i}, o = ![(row3 t q).val, 16 * g.val] →
      shapeCast S16 (View.readAt (Elt F) (Memref.whole cc1_scratch8).view (Rect.unit (s := S128x64) o S1x16.size i).toLoadRect f8) shapeCasts_S1x16_S16 = lanes g (row f8 (row3 t q)) :=
    fun q g _ _ e => load_row (Memref.whole cc1_scratch8).view f8 (Val := Elt F) shapeCasts_S1x16_S16 (row3 t q) g e
  have l9 : ∀ (q g : Fin 4) {o : Fin 2 → ℕ} {i}, o = ![(row3 t q).val, 16 * g.val] →
      shapeCast S16 (View.readAt (Elt F) (Memref.whole cc1_scratch9).view (Rect.unit (s := S128x64) o S1x16.size i).toLoadRect f9) shapeCasts_S1x16_S16 = lanes g (row f9 (row3 t q)) :=
    fun q g _ _ e => load_row (Memref.whole cc1_scratch9).view f9 (Val := Elt F) shapeCasts_S1x16_S16 (row3 t q) g e
  have hchk5 : k1_chk5 _ := lanes_ok (row f5 (row3 t 0)) (hp _) 0 (l5 0 0 (i := k1_off10_inb t) (k1_off10_eq t))
  have hchk6 : k1_chk6 _ := lanes_ok (row f5 (row3 t 0)) (hp _) 1 (l5 0 1 (i := k1_off14_inb t) (k1_off14_eq t))
  have hchk7 : k1_chk7 _ := lanes_ok (row f5 (row3 t 0)) (hp _) 2 (l5 0 2 (i := k1_off15_inb t) (k1_off15_eq t))
  have hchk8 : k1_chk8 _ := lanes_ok (row f5 (row3 t 0)) (hp _) 3 (l5 0 3 (i := k1_off16_inb t) (k1_off16_eq t))
  have hchk9 : k1_chk9 _ := lanes_ok (row f5 (row3 t 1)) (hp _) 0 (l5 1 0 (i := k1_off17_inb t) (k1_off17_eq t))
  have hchk10 : k1_chk10 _ := lanes_ok (row f5 (row3 t 1)) (hp _) 1 (l5 1 1 (i := k1_off21_inb t) (k1_off21_eq t))
  have hchk11 : k1_chk11 _ := lanes_ok (row f5 (row3 t 1)) (hp _) 2 (l5 1 2 (i := k1_off22_inb t) (k1_off22_eq t))
  have hchk12 : k1_chk12 _ := lanes_ok (row f5 (row3 t 1)) (hp _) 3 (l5 1 3 (i := k1_off23_inb t) (k1_off23_eq t))
  have hchk13 : k1_chk13 _ := lanes_ok (row f5 (row3 t 2)) (hp _) 0 (l5 2 0 (i := k1_off24_inb t) (k1_off24_eq t))
  have hchk14 : k1_chk14 _ := lanes_ok (row f5 (row3 t 2)) (hp _) 1 (l5 2 1 (i := k1_off28_inb t) (k1_off28_eq t))
  have hchk15 : k1_chk15 _ := lanes_ok (row f5 (row3 t 2)) (hp _) 2 (l5 2 2 (i := k1_off29_inb t) (k1_off29_eq t))
  have hchk16 : k1_chk16 _ := lanes_ok (row f5 (row3 t 2)) (hp _) 3 (l5 2 3 (i := k1_off30_inb t) (k1_off30_eq t))
  have hchk17 : k1_chk17 _ := lanes_ok (row f5 (row3 t 3)) (hp _) 0 (l5 3 0 (i := k1_off31_inb t) (k1_off31_eq t))
  have hchk18 : k1_chk18 _ := lanes_ok (row f5 (row3 t 3)) (hp _) 1 (l5 3 1 (i := k1_off35_inb t) (k1_off35_eq t))
  have hchk19 : k1_chk19 _ := lanes_ok (row f5 (row3 t 3)) (hp _) 2 (l5 3 2 (i := k1_off36_inb t) (k1_off36_eq t))
  have hchk20 : k1_chk20 _ := lanes_ok (row f5 (row3 t 3)) (hp _) 3 (l5 3 3 (i := k1_off37_inb t) (k1_off37_eq t))
  unfold k1_t2_body
  rw [k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton]
  iintro ⟨H5, H6, H7, H8, H9, H10, H11, H12, H13, H14, H18, H15, H19, Hk⟩
  sl_exec (disch := sl_exact hchk5)
  iapply (Rows.wp_scatter (defs := defs₀ (F := F)) 𝒱₀ (thr d L) none Set.univ (Memref.whole cc1_scratch10) (Memref.isWhole_whole _) (fun y => (row f8 (row3 t 0)) (y 0)) ?hg) $$ H10
  case hg => exact read_vec4 (Memref.whole cc1_scratch10).view f10 _ _ _ _ (row f8 (row3 t 0)) rfl rfl rfl rfl (l8 0 0 (k1_off10_eq t)) (l8 0 1 (k1_off11_eq t)) (l8 0 2 (k1_off12_eq t)) (l8 0 3 (k1_off13_eq t))
  iintro %g10 %e10 H10
  have a10 := e10.trans (scat_of (l5 0 0 (k1_off10_eq t)) (cre_of (l6 0 0 (k1_off10_eq t)) (l7 0 0 (k1_off10_eq t)) (rfl : lanes 0 h.Br = _) (rfl : lanes 0 h.Bi = _)))
  iapply (Rows.wp_scatter (defs := defs₀ (F := F)) 𝒱₀ (thr d L) none Set.univ (Memref.whole cc1_scratch11) (Memref.isWhole_whole _) (fun y => (row f9 (row3 t 0)) (y 0)) ?hg) $$ H11
  case hg => exact read_vec4 (Memref.whole cc1_scratch11).view f11 _ _ _ _ (row f9 (row3 t 0)) rfl rfl rfl rfl (l9 0 0 (k1_off10_eq t)) (l9 0 1 (k1_off11_eq t)) (l9 0 2 (k1_off12_eq t)) (l9 0 3 (k1_off13_eq t))
  iintro %g11 %e11 H11
  have a11 := e11.trans (scat_of (l5 0 0 (k1_off10_eq t)) (cim_of (l6 0 0 (k1_off10_eq t)) (l7 0 0 (k1_off10_eq t)) (rfl : lanes 0 h.Br = _) (rfl : lanes 0 h.Bi = _)))
  sl_exec (disch := sl_exact hchk6)
  iapply (Rows.wp_scatter (defs := defs₀ (F := F)) 𝒱₀ (thr d L) none Set.univ (Memref.whole cc1_scratch10) (Memref.isWhole_whole _) _ a10) $$ H10
  iintro %g10 %e10 H10
  have a10 := e10.trans (scat_of (l5 0 1 (k1_off14_eq t)) (cre_of (l6 0 1 (k1_off14_eq t)) (l7 0 1 (k1_off14_eq t)) (rfl : lanes 1 h.Br = _) (rfl : lanes 1 h.Bi = _)))
  iapply (Rows.wp_scatter (defs := defs₀ (F := F)) 𝒱₀ (thr d L) none Set.univ (Memref.whole cc1_scratch11) (Memref.isWhole_whole _) _ a11) $$ H11
  iintro %g11 %e11 H11
  have a11 := e11.trans (scat_of (l5 0 1 (k1_off14_eq t)) (cim_of (l6 0 1 (k1_off14_eq t)) (l7 0 1 (k1_off14_eq t)) (rfl : lanes 1 h.Br = _) (rfl : lanes 1 h.Bi = _)))
  sl_exec (disch := sl_exact hchk7)
  iapply (Rows.wp_scatter (defs := defs₀ (F := F)) 𝒱₀ (thr d L) none Set.univ (Memref.whole cc1_scratch10) (Memref.isWhole_whole _) _ a10) $$ H10
  iintro %g10 %e10 H10
  have a10 := e10.trans (scat_of (l5 0 2 (k1_off15_eq t)) (cre_of (l6 0 2 (k1_off15_eq t)) (l7 0 2 (k1_off15_eq t)) (rfl : lanes 2 h.Br = _) (rfl : lanes 2 h.Bi = _)))
  iapply (Rows.wp_scatter (defs := defs₀ (F := F)) 𝒱₀ (thr d L) none Set.univ (Memref.whole cc1_scratch11) (Memref.isWhole_whole _) _ a11) $$ H11
  iintro %g11 %e11 H11
  have a11 := e11.trans (scat_of (l5 0 2 (k1_off15_eq t)) (cim_of (l6 0 2 (k1_off15_eq t)) (l7 0 2 (k1_off15_eq t)) (rfl : lanes 2 h.Br = _) (rfl : lanes 2 h.Bi = _)))
  sl_exec (disch := sl_exact hchk8)
  iapply (Rows.wp_scatter (defs := defs₀ (F := F)) 𝒱₀ (thr d L) none Set.univ (Memref.whole cc1_scratch10) (Memref.isWhole_whole _) _ a10) $$ H10
  iintro %g10 %e10 H10
  have a10 := e10.trans (scat_of (l5 0 3 (k1_off16_eq t)) (cre_of (l6 0 3 (k1_off16_eq t)) (l7 0 3 (k1_off16_eq t)) (rfl : lanes 3 h.Br = _) (rfl : lanes 3 h.Bi = _)))
  iapply (Rows.wp_scatter (defs := defs₀ (F := F)) 𝒱₀ (thr d L) none Set.univ (Memref.whole cc1_scratch11) (Memref.isWhole_whole _) _ a11) $$ H11
  iintro %g11 %e11 H11
  have a11 := e11.trans (scat_of (l5 0 3 (k1_off16_eq t)) (cim_of (l6 0 3 (k1_off16_eq t)) (l7 0 3 (k1_off16_eq t)) (rfl : lanes 3 h.Br = _) (rfl : lanes 3 h.Bi = _)))
  sl_exec (disch := sl_exact hchk9)
  iapply (Rows.wp_scatter (defs := defs₀ (F := F)) 𝒱₀ (thr d L) none Set.univ (Memref.whole cc1_scratch12) (Memref.isWhole_whole _) (fun y => (row f8 (row3 t 1)) (y 0)) ?hg) $$ H12
  case hg => exact read_vec4 (Memref.whole cc1_scratch12).view f12 _ _ _ _ (row f8 (row3 t 1)) rfl rfl rfl rfl (l8 1 0 (k1_off17_eq t)) (l8 1 1 (k1_off18_eq t)) (l8 1 2 (k1_off19_eq t)) (l8 1 3 (k1_off20_eq t))
  iintro %g12 %e12 H12
  have a12 := e12.trans (scat_of (l5 1 0 (k1_off17_eq t)) (cre_of (l6 1 0 (k1_off17_eq t)) (l7 1 0 (k1_off17_eq t)) (rfl : lanes 0 h.Br = _) (rfl : lanes 0 h.Bi = _)))
  iapply (Rows.wp_scatter (defs := defs₀ (F := F)) 𝒱₀ (thr d L) none Set.univ (Memref.whole cc1_scratch13) (Memref.isWhole_whole _) (fun y => (row f9 (row3 t 1)) (y 0)) ?hg) $$ H13
  case hg => exact read_vec4 (Memref.whole cc1_scratch13).view f13 _ _ _ _ (row f9 (row3 t 1)) rfl rfl rfl rfl (l9 1 0 (k1_off17_eq t)) (l9 1 1 (k1_off18_eq t)) (l9 1 2 (k1_off19_eq t)) (l9 1 3 (k1_off20_eq t))
  iintro %g13 %e13 H13
  have a13 := e13.trans (scat_of (l5 1 0 (k1_off17_eq t)) (cim_of (l6 1 0 (k1_off17_eq t)) (l7 1 0 (k1_off17_eq t)) (rfl : lanes 0 h.Br = _) (rfl : lanes 0 h.Bi = _)))
  sl_exec (disch := sl_exact hchk10)
  iapply (Rows.wp_scatter (defs := defs₀ (F := F)) 𝒱₀ (thr d L) none Set.univ (Memref.whole cc1_scratch12) (Memref.isWhole_whole _) _ a12) $$ H12
  iintro %g12 %e12 H12
  have a12 := e12.trans (scat_of (l5 1 1 (k1_off21_eq t)) (cre_of (l6 1 1 (k1_off21_eq t)) (l7 1 1 (k1_off21_eq t)) (rfl : lanes 1 h.Br = _) (rfl : lanes 1 h.Bi = _)))
  iapply (Rows.wp_scatter (defs := defs₀ (F := F)) 𝒱₀ (thr d L) none Set.univ (Memref.whole cc1_scratch13) (Memref.isWhole_whole _) _ a13) $$ H13
  iintro %g13 %e13 H13
  have a13 := e13.trans (scat_of (l5 1 1 (k1_off21_eq t)) (cim_of (l6 1 1 (k1_off21_eq t)) (l7 1 1 (k1_off21_eq t)) (rfl : lanes 1 h.Br = _) (rfl : lanes 1 h.Bi = _)))
  sl_exec (disch := sl_exact hchk11)
  iapply (Rows.wp_scatter (defs := defs₀ (F := F)) 𝒱₀ (thr d L) none Set.univ (Memref.whole cc1_scratch12) (Memref.isWhole_whole _) _ a12) $$ H12
  iintro %g12 %e12 H12
  have a12 := e12.trans (scat_of (l5 1 2 (k1_off22_eq t)) (cre_of (l6 1 2 (k1_off22_eq t)) (l7 1 2 (k1_off22_eq t)) (rfl : lanes 2 h.Br = _) (rfl : lanes 2 h.Bi = _)))
  iapply (Rows.wp_scatter (defs := defs₀ (F := F)) 𝒱₀ (thr d L) none Set.univ (Memref.whole cc1_scratch13) (Memref.isWhole_whole _) _ a13) $$ H13
  iintro %g13 %e13 H13
  have a13 := e13.trans (scat_of (l5 1 2 (k1_off22_eq t)) (cim_of (l6 1 2 (k1_off22_eq t)) (l7 1 2 (k1_off22_eq t)) (rfl : lanes 2 h.Br = _) (rfl : lanes 2 h.Bi = _)))
  sl_exec (disch := sl_exact hchk12)
  iapply (Rows.wp_scatter (defs := defs₀ (F := F)) 𝒱₀ (thr d L) none Set.univ (Memref.whole cc1_scratch12) (Memref.isWhole_whole _) _ a12) $$ H12
  iintro %g12 %e12 H12
  have a12 := e12.trans (scat_of (l5 1 3 (k1_off23_eq t)) (cre_of (l6 1 3 (k1_off23_eq t)) (l7 1 3 (k1_off23_eq t)) (rfl : lanes 3 h.Br = _) (rfl : lanes 3 h.Bi = _)))
  iapply (Rows.wp_scatter (defs := defs₀ (F := F)) 𝒱₀ (thr d L) none Set.univ (Memref.whole cc1_scratch13) (Memref.isWhole_whole _) _ a13) $$ H13
  iintro %g13 %e13 H13
  have a13 := e13.trans (scat_of (l5 1 3 (k1_off23_eq t)) (cim_of (l6 1 3 (k1_off23_eq t)) (l7 1 3 (k1_off23_eq t)) (rfl : lanes 3 h.Br = _) (rfl : lanes 3 h.Bi = _)))
  sl_exec (disch := sl_exact hchk13)
  iapply (Rows.wp_scatter (defs := defs₀ (F := F)) 𝒱₀ (thr d L) none Set.univ (Memref.whole cc1_scratch14) (Memref.isWhole_whole _) (fun y => (row f8 (row3 t 2)) (y 0)) ?hg) $$ H14
  case hg => exact read_vec4 (Memref.whole cc1_scratch14).view f14 _ _ _ _ (row f8 (row3 t 2)) rfl rfl rfl rfl (l8 2 0 (k1_off24_eq t)) (l8 2 1 (k1_off25_eq t)) (l8 2 2 (k1_off26_eq t)) (l8 2 3 (k1_off27_eq t))
  iintro %g14 %e14 H14
  have a14 := e14.trans (scat_of (l5 2 0 (k1_off24_eq t)) (cre_of (l6 2 0 (k1_off24_eq t)) (l7 2 0 (k1_off24_eq t)) (rfl : lanes 0 h.Br = _) (rfl : lanes 0 h.Bi = _)))
  iapply (Rows.wp_scatter (defs := defs₀ (F := F)) 𝒱₀ (thr d L) none Set.univ (Memref.whole cc1_scratch18) (Memref.isWhole_whole _) (fun y => (row f9 (row3 t 2)) (y 0)) ?hg) $$ H18
  case hg => exact read_vec4 (Memref.whole cc1_scratch18).view f18 _ _ _ _ (row f9 (row3 t 2)) rfl rfl rfl rfl (l9 2 0 (k1_off24_eq t)) (l9 2 1 (k1_off25_eq t)) (l9 2 2 (k1_off26_eq t)) (l9 2 3 (k1_off27_eq t))
  iintro %g18 %e18 H18
  have a18 := e18.trans (scat_of (l5 2 0 (k1_off24_eq t)) (cim_of (l6 2 0 (k1_off24_eq t)) (l7 2 0 (k1_off24_eq t)) (rfl : lanes 0 h.Br = _) (rfl : lanes 0 h.Bi = _)))
  sl_exec (disch := sl_exact hchk14)
  iapply (Rows.wp_scatter (defs := defs₀ (F := F)) 𝒱₀ (thr d L) none Set.univ (Memref.whole cc1_scratch14) (Memref.isWhole_whole _) _ a14) $$ H14
  iintro %g14 %e14 H14
  have a14 := e14.trans (scat_of (l5 2 1 (k1_off28_eq t)) (cre_of (l6 2 1 (k1_off28_eq t)) (l7 2 1 (k1_off28_eq t)) (rfl : lanes 1 h.Br = _) (rfl : lanes 1 h.Bi = _)))
  iapply (Rows.wp_scatter (defs := defs₀ (F := F)) 𝒱₀ (thr d L) none Set.univ (Memref.whole cc1_scratch18) (Memref.isWhole_whole _) _ a18) $$ H18
  iintro %g18 %e18 H18
  have a18 := e18.trans (scat_of (l5 2 1 (k1_off28_eq t)) (cim_of (l6 2 1 (k1_off28_eq t)) (l7 2 1 (k1_off28_eq t)) (rfl : lanes 1 h.Br = _) (rfl : lanes 1 h.Bi = _)))
  sl_exec (disch := sl_exact hchk15)
  iapply (Rows.wp_scatter (defs := defs₀ (F := F)) 𝒱₀ (thr d L) none Set.univ (Memref.whole cc1_scratch14) (Memref.isWhole_whole _) _ a14) $$ H14
  iintro %g14 %e14 H14
  have a14 := e14.trans (scat_of (l5 2 2 (k1_off29_eq t)) (cre_of (l6 2 2 (k1_off29_eq t)) (l7 2 2 (k1_off29_eq t)) (rfl : lanes 2 h.Br = _) (rfl : lanes 2 h.Bi = _)))
  iapply (Rows.wp_scatter (defs := defs₀ (F := F)) 𝒱₀ (thr d L) none Set.univ (Memref.whole cc1_scratch18) (Memref.isWhole_whole _) _ a18) $$ H18
  iintro %g18 %e18 H18
  have a18 := e18.trans (scat_of (l5 2 2 (k1_off29_eq t)) (cim_of (l6 2 2 (k1_off29_eq t)) (l7 2 2 (k1_off29_eq t)) (rfl : lanes 2 h.Br = _) (rfl : lanes 2 h.Bi = _)))
  sl_exec (disch := sl_exact hchk16)
  iapply (Rows.wp_scatter (defs := defs₀ (F := F)) 𝒱₀ (thr d L) none Set.univ (Memref.whole cc1_scratch14) (Memref.isWhole_whole _) _ a14) $$ H14
  iintro %g14 %e14 H14
  have a14 := e14.trans (scat_of (l5 2 3 (k1_off30_eq t)) (cre_of (l6 2 3 (k1_off30_eq t)) (l7 2 3 (k1_off30_eq t)) (rfl : lanes 3 h.Br = _) (rfl : lanes 3 h.Bi = _)))
  iapply (Rows.wp_scatter (defs := defs₀ (F := F)) 𝒱₀ (thr d L) none Set.univ (Memref.whole cc1_scratch18) (Memref.isWhole_whole _) _ a18) $$ H18
  iintro %g18 %e18 H18
  have a18 := e18.trans (scat_of (l5 2 3 (k1_off30_eq t)) (cim_of (l6 2 3 (k1_off30_eq t)) (l7 2 3 (k1_off30_eq t)) (rfl : lanes 3 h.Br = _) (rfl : lanes 3 h.Bi = _)))
  sl_exec (disch := sl_exact hchk17)
  iapply (Rows.wp_scatter (defs := defs₀ (F := F)) 𝒱₀ (thr d L) none Set.univ (Memref.whole cc1_scratch15) (Memref.isWhole_whole _) (fun y => (row f8 (row3 t 3)) (y 0)) ?hg) $$ H15
  case hg => exact read_vec4 (Memref.whole cc1_scratch15).view f15 _ _ _ _ (row f8 (row3 t 3)) rfl rfl rfl rfl (l8 3 0 (k1_off31_eq t)) (l8 3 1 (k1_off32_eq t)) (l8 3 2 (k1_off33_eq t)) (l8 3 3 (k1_off34_eq t))
  iintro %g15 %e15 H15
  have a15 := e15.trans (scat_of (l5 3 0 (k1_off31_eq t)) (cre_of (l6 3 0 (k1_off31_eq t)) (l7 3 0 (k1_off31_eq t)) (rfl : lanes 0 h.Br = _) (rfl : lanes 0 h.Bi = _)))
  iapply (Rows.wp_scatter (defs := defs₀ (F := F)) 𝒱₀ (thr d L) none Set.univ (Memref.whole cc1_scratch19) (Memref.isWhole_whole _) (fun y => (row f9 (row3 t 3)) (y 0)) ?hg) $$ H19
  case hg => exact read_vec4 (Memref.whole cc1_scratch19).view f19 _ _ _ _ (row f9 (row3 t 3)) rfl rfl rfl rfl (l9 3 0 (k1_off31_eq t)) (l9 3 1 (k1_off32_eq t)) (l9 3 2 (k1_off33_eq t)) (l9 3 3 (k1_off34_eq t))
  iintro %g19 %e19 H19
  have a19 := e19.trans (scat_of (l5 3 0 (k1_off31_eq t)) (cim_of (l6 3 0 (k1_off31_eq t)) (l7 3 0 (k1_off31_eq t)) (rfl : lanes 0 h.Br = _) (rfl : lanes 0 h.Bi = _)))
  sl_exec (disch := sl_exact hchk18)
  iapply (Rows.wp_scatter (defs := defs₀ (F := F)) 𝒱₀ (thr d L) none Set.univ (Memref.whole cc1_scratch15) (Memref.isWhole_whole _) _ a15) $$ H15
  iintro %g15 %e15 H15
  have a15 := e15.trans (scat_of (l5 3 1 (k1_off35_eq t)) (cre_of (l6 3 1 (k1_off35_eq t)) (l7 3 1 (k1_off35_eq t)) (rfl : lanes 1 h.Br = _) (rfl : lanes 1 h.Bi = _)))
  iapply (Rows.wp_scatter (defs := defs₀ (F := F)) 𝒱₀ (thr d L) none Set.univ (Memref.whole cc1_scratch19) (Memref.isWhole_whole _) _ a19) $$ H19
  iintro %g19 %e19 H19
  have a19 := e19.trans (scat_of (l5 3 1 (k1_off35_eq t)) (cim_of (l6 3 1 (k1_off35_eq t)) (l7 3 1 (k1_off35_eq t)) (rfl : lanes 1 h.Br = _) (rfl : lanes 1 h.Bi = _)))
  sl_exec (disch := sl_exact hchk19)
  iapply (Rows.wp_scatter (defs := defs₀ (F := F)) 𝒱₀ (thr d L) none Set.univ (Memref.whole cc1_scratch15) (Memref.isWhole_whole _) _ a15) $$ H15
  iintro %g15 %e15 H15
  have a15 := e15.trans (scat_of (l5 3 2 (k1_off36_eq t)) (cre_of (l6 3 2 (k1_off36_eq t)) (l7 3 2 (k1_off36_eq t)) (rfl : lanes 2 h.Br = _) (rfl : lanes 2 h.Bi = _)))
  iapply (Rows.wp_scatter (defs := defs₀ (F := F)) 𝒱₀ (thr d L) none Set.univ (Memref.whole cc1_scratch19) (Memref.isWhole_whole _) _ a19) $$ H19
  iintro %g19 %e19 H19
  have a19 := e19.trans (scat_of (l5 3 2 (k1_off36_eq t)) (cim_of (l6 3 2 (k1_off36_eq t)) (l7 3 2 (k1_off36_eq t)) (rfl : lanes 2 h.Br = _) (rfl : lanes 2 h.Bi = _)))
  sl_exec (disch := sl_exact hchk20)
  iapply (Rows.wp_scatter (defs := defs₀ (F := F)) 𝒱₀ (thr d L) none Set.univ (Memref.whole cc1_scratch15) (Memref.isWhole_whole _) _ a15) $$ H15
  iintro %g15 %e15 H15
  have a15 := e15.trans (scat_of (l5 3 3 (k1_off37_eq t)) (cre_of (l6 3 3 (k1_off37_eq t)) (l7 3 3 (k1_off37_eq t)) (rfl : lanes 3 h.Br = _) (rfl : lanes 3 h.Bi = _)))
  iapply (Rows.wp_scatter (defs := defs₀ (F := F)) 𝒱₀ (thr d L) none Set.univ (Memref.whole cc1_scratch19) (Memref.isWhole_whole _) _ a19) $$ H19
  iintro %g19 %e19 H19
  have a19 := e19.trans (scat_of (l5 3 3 (k1_off37_eq t)) (cim_of (l6 3 3 (k1_off37_eq t)) (l7 3 3 (k1_off37_eq t)) (rfl : lanes 3 h.Br = _) (rfl : lanes 3 h.Bi = _)))
  sl_exec
  sl_step
  have q8 : ∀ w00 w01 w02 w03 w10 w11 w12 w13 w20 w21 w22 w23 w30 w31 w32 w33 : S16.Idx → F .f32, w00 = lanes 0 ((fin3 h f5 f6 f7 f8 f9 (row3 t 0)).Br) → w01 = lanes 1 ((fin3 h f5 f6 f7 f8 f9 (row3 t 0)).Br) → w02 = lanes 2 ((fin3 h f5 f6 f7 f8 f9 (row3 t 0)).Br) → w03 = lanes 3 ((fin3 h f5 f6 f7 f8 f9 (row3 t 0)).Br) → w10 = lanes 0 ((fin3 h f5 f6 f7 f8 f9 (row3 t 1)).Br) → w11 = lanes 1 ((fin3 h f5 f6 f7 f8 f9 (row3 t 1)).Br) → w12 = lanes 2 ((fin3 h f5 f6 f7 f8 f9 (row3 t 1)).Br) → w13 = lanes 3 ((fin3 h f5 f6 f7 f8 f9 (row3 t 1)).Br) → w20 = lanes 0 ((fin3 h f5 f6 f7 f8 f9 (row3 t 2)).Br) → w21 = lanes 1 ((fin3 h f5 f6 f7 f8 f9 (row3 t 2)).Br) → w22 = lanes 2 ((fin3 h f5 f6 f7 f8 f9 (row3 t 2)).Br) → w23 = lanes 3 ((fin3 h f5 f6 f7 f8 f9 (row3 t 2)).Br) → w30 = lanes 0 ((fin3 h f5 f6 f7 f8 f9 (row3 t 3)).Br) → w31 = lanes 1 ((fin3 h f5 f6 f7 f8 f9 (row3 t 3)).Br) → w32 = lanes 2 ((fin3 h f5 f6 f7 f8 f9 (row3 t 3)).Br) → w33 = lanes 3 ((fin3 h f5 f6 f7 f8 f9 (row3 t 3)).Br) →
      (Memref.whole cc1_scratch8).view.writes (Elt F) f8 [⟨Rect.unit (k1_off41 t 3#32) S1x16.size (k1_off41_inb t 3), shapeCast S1x16 w33 shapeCasts_S16_S1x16⟩, ⟨Rect.unit (k1_off40 t 3#32) S1x16.size (k1_off40_inb t 3), shapeCast S1x16 w32 shapeCasts_S16_S1x16⟩, ⟨Rect.unit (k1_off39 t 3#32) S1x16.size (k1_off39_inb t 3), shapeCast S1x16 w31 shapeCasts_S16_S1x16⟩, ⟨Rect.unit (k1_off38 t 3#32) S1x16.size (k1_off38_inb t 3), shapeCast S1x16 w30 shapeCasts_S16_S1x16⟩, ⟨Rect.unit (k1_off41 t 2#32) S1x16.size (k1_off41_inb t 2), shapeCast S1x16 w23 shapeCasts_S16_S1x16⟩, ⟨Rect.unit (k1_off40 t 2#32) S1x16.size (k1_off40_inb t 2), shapeCast S1x16 w22 shapeCasts_S16_S1x16⟩, ⟨Rect.unit (k1_off39 t 2#32) S1x16.size (k1_off39_inb t 2), shapeCast S1x16 w21 shapeCasts_S16_S1x16⟩, ⟨Rect.unit (k1_off38 t 2#32) S1x16.size (k1_off38_inb t 2), shapeCast S1x16 w20 shapeCasts_S16_S1x16⟩, ⟨Rect.unit (k1_off41 t 1#32) S1x16.size (k1_off41_inb t 1), shapeCast S1x16 w13 shapeCasts_S16_S1x16⟩, ⟨Rect.unit (k1_off40 t 1#32) S1x16.size (k1_off40_inb t 1), shapeCast S1x16 w12 shapeCasts_S16_S1x16⟩, ⟨Rect.unit (k1_off39 t 1#32) S1x16.size (k1_off39_inb t 1), shapeCast S1x16 w11 shapeCasts_S16_S1x16⟩, ⟨Rect.unit (k1_off38 t 1#32) S1x16.size (k1_off38_inb t 1), shapeCast S1x16 w10 shapeCasts_S16_S1x16⟩, ⟨Rect.unit (k1_off41 t 0#32) S1x16.size (k1_off41_inb t 0), shapeCast S1x16 w03 shapeCasts_S16_S1x16⟩, ⟨Rect.unit (k1_off40 t 0#32) S1x16.size (k1_off40_inb t 0), shapeCast S1x16 w02 shapeCasts_S16_S1x16⟩, ⟨Rect.unit (k1_off39 t 0#32) S1x16.size (k1_off39_inb t 0), shapeCast S1x16 w01 shapeCasts_S16_S1x16⟩, ⟨Rect.unit (k1_off38 t 0#32) S1x16.size (k1_off38_inb t 0), shapeCast S1x16 w00 shapeCasts_S16_S1x16⟩] = set4 t f8 (fun r => (fin3 h f5 f6 f7 f8 f9 r).Br) :=
    fun w00 w01 w02 w03 w10 w11 w12 w13 w20 w21 w22 w23 w30 w31 w32 w33 e00 e01 e02 e03 e10 e11 e12 e13 e20 e21 e22 e23 e30 e31 e32 e33 => rows16 (F := F) (Memref.whole cc1_scratch8).view f8 t (fun r => (fin3 h f5 f6 f7 f8 f9 r).Br) e00 e01 e02 e03 e10 e11 e12 e13 e20 e21 e22 e23 e30 e31 e32 e33
  have q9 : ∀ w00 w01 w02 w03 w10 w11 w12 w13 w20 w21 w22 w23 w30 w31 w32 w33 : S16.Idx → F .f32, w00 = lanes 0 ((fin3 h f5 f6 f7 f8 f9 (row3 t 0)).Bi) → w01 = lanes 1 ((fin3 h f5 f6 f7 f8 f9 (row3 t 0)).Bi) → w02 = lanes 2 ((fin3 h f5 f6 f7 f8 f9 (row3 t 0)).Bi) → w03 = lanes 3 ((fin3 h f5 f6 f7 f8 f9 (row3 t 0)).Bi) → w10 = lanes 0 ((fin3 h f5 f6 f7 f8 f9 (row3 t 1)).Bi) → w11 = lanes 1 ((fin3 h f5 f6 f7 f8 f9 (row3 t 1)).Bi) → w12 = lanes 2 ((fin3 h f5 f6 f7 f8 f9 (row3 t 1)).Bi) → w13 = lanes 3 ((fin3 h f5 f6 f7 f8 f9 (row3 t 1)).Bi) → w20 = lanes 0 ((fin3 h f5 f6 f7 f8 f9 (row3 t 2)).Bi) → w21 = lanes 1 ((fin3 h f5 f6 f7 f8 f9 (row3 t 2)).Bi) → w22 = lanes 2 ((fin3 h f5 f6 f7 f8 f9 (row3 t 2)).Bi) → w23 = lanes 3 ((fin3 h f5 f6 f7 f8 f9 (row3 t 2)).Bi) → w30 = lanes 0 ((fin3 h f5 f6 f7 f8 f9 (row3 t 3)).Bi) → w31 = lanes 1 ((fin3 h f5 f6 f7 f8 f9 (row3 t 3)).Bi) → w32 = lanes 2 ((fin3 h f5 f6 f7 f8 f9 (row3 t 3)).Bi) → w33 = lanes 3 ((fin3 h f5 f6 f7 f8 f9 (row3 t 3)).Bi) →
      (Memref.whole cc1_scratch9).view.writes (Elt F) f9 [⟨Rect.unit (k1_off41 t 3#32) S1x16.size (k1_off41_inb t 3), shapeCast S1x16 w33 shapeCasts_S16_S1x16⟩, ⟨Rect.unit (k1_off40 t 3#32) S1x16.size (k1_off40_inb t 3), shapeCast S1x16 w32 shapeCasts_S16_S1x16⟩, ⟨Rect.unit (k1_off39 t 3#32) S1x16.size (k1_off39_inb t 3), shapeCast S1x16 w31 shapeCasts_S16_S1x16⟩, ⟨Rect.unit (k1_off38 t 3#32) S1x16.size (k1_off38_inb t 3), shapeCast S1x16 w30 shapeCasts_S16_S1x16⟩, ⟨Rect.unit (k1_off41 t 2#32) S1x16.size (k1_off41_inb t 2), shapeCast S1x16 w23 shapeCasts_S16_S1x16⟩, ⟨Rect.unit (k1_off40 t 2#32) S1x16.size (k1_off40_inb t 2), shapeCast S1x16 w22 shapeCasts_S16_S1x16⟩, ⟨Rect.unit (k1_off39 t 2#32) S1x16.size (k1_off39_inb t 2), shapeCast S1x16 w21 shapeCasts_S16_S1x16⟩, ⟨Rect.unit (k1_off38 t 2#32) S1x16.size (k1_off38_inb t 2), shapeCast S1x16 w20 shapeCasts_S16_S1x16⟩, ⟨Rect.unit (k1_off41 t 1#32) S1x16.size (k1_off41_inb t 1), shapeCast S1x16 w13 shapeCasts_S16_S1x16⟩, ⟨Rect.unit (k1_off40 t 1#32) S1x16.size (k1_off40_inb t 1), shapeCast S1x16 w12 shapeCasts_S16_S1x16⟩, ⟨Rect.unit (k1_off39 t 1#32) S1x16.size (k1_off39_inb t 1), shapeCast S1x16 w11 shapeCasts_S16_S1x16⟩, ⟨Rect.unit (k1_off38 t 1#32) S1x16.size (k1_off38_inb t 1), shapeCast S1x16 w10 shapeCasts_S16_S1x16⟩, ⟨Rect.unit (k1_off41 t 0#32) S1x16.size (k1_off41_inb t 0), shapeCast S1x16 w03 shapeCasts_S16_S1x16⟩, ⟨Rect.unit (k1_off40 t 0#32) S1x16.size (k1_off40_inb t 0), shapeCast S1x16 w02 shapeCasts_S16_S1x16⟩, ⟨Rect.unit (k1_off39 t 0#32) S1x16.size (k1_off39_inb t 0), shapeCast S1x16 w01 shapeCasts_S16_S1x16⟩, ⟨Rect.unit (k1_off38 t 0#32) S1x16.size (k1_off38_inb t 0), shapeCast S1x16 w00 shapeCasts_S16_S1x16⟩] = set4 t f9 (fun r => (fin3 h f5 f6 f7 f8 f9 r).Bi) :=
    fun w00 w01 w02 w03 w10 w11 w12 w13 w20 w21 w22 w23 w30 w31 w32 w33 e00 e01 e02 e03 e10 e11 e12 e13 e20 e21 e22 e23 e30 e31 e32 e33 => rows16 (F := F) (Memref.whole cc1_scratch9).view f9 t (fun r => (fin3 h f5 f6 f7 f8 f9 r).Bi) e00 e01 e02 e03 e10 e11 e12 e13 e20 e21 e22 e23 e30 e31 e32 e33
  have c10 : (Memref.whole cc1_scratch10).view.read (Elt F) g10 = fun y => (fin3 h f5 f6 f7 f8 f9 (row3 t 0)).Br (y 0) := a10
  have c11 : (Memref.whole cc1_scratch11).view.read (Elt F) g11 = fun y => (fin3 h f5 f6 f7 f8 f9 (row3 t 0)).Bi (y 0) := a11
  have c12 : (Memref.whole cc1_scratch12).view.read (Elt F) g12 = fun y => (fin3 h f5 f6 f7 f8 f9 (row3 t 1)).Br (y 0) := a12
  have c13 : (Memref.whole cc1_scratch13).view.read (Elt F) g13 = fun y => (fin3 h f5 f6 f7 f8 f9 (row3 t 1)).Bi (y 0) := a13
  have c14 : (Memref.whole cc1_scratch14).view.read (Elt F) g14 = fun y => (fin3 h f5 f6 f7 f8 f9 (row3 t 2)).Br (y 0) := a14
  have c18 : (Memref.whole cc1_scratch18).view.read (Elt F) g18 = fun y => (fin3 h f5 f6 f7 f8 f9 (row3 t 2)).Bi (y 0) := a18
  have c15 : (Memref.whole cc1_scratch15).view.read (Elt F) g15 = fun y => (fin3 h f5 f6 f7 f8 f9 (row3 t 3)).Br (y 0) := a15
  have c19 : (Memref.whole cc1_scratch19).view.read (Elt F) g19 = fun y => (fin3 h f5 f6 f7 f8 f9 (row3 t 3)).Bi (y 0) := a19
  rw [q8, q9]
  · iapply Hk
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H18]; · iexact H18
    isplitl [H15]; · iexact H15
    iexact H19
  · exact acc_of (Memref.whole cc1_scratch11).view c11 0 rfl
  · exact acc_of (Memref.whole cc1_scratch11).view c11 1 rfl
  · exact acc_of (Memref.whole cc1_scratch11).view c11 2 rfl
  · exact acc_of (Memref.whole cc1_scratch11).view c11 3 rfl
  · exact acc_of (Memref.whole cc1_scratch13).view c13 0 rfl
  · exact acc_of (Memref.whole cc1_scratch13).view c13 1 rfl
  · exact acc_of (Memref.whole cc1_scratch13).view c13 2 rfl
  · exact acc_of (Memref.whole cc1_scratch13).view c13 3 rfl
  · exact acc_of (Memref.whole cc1_scratch18).view c18 0 rfl
  · exact acc_of (Memref.whole cc1_scratch18).view c18 1 rfl
  · exact acc_of (Memref.whole cc1_scratch18).view c18 2 rfl
  · exact acc_of (Memref.whole cc1_scratch18).view c18 3 rfl
  · exact acc_of (Memref.whole cc1_scratch19).view c19 0 rfl
  · exact acc_of (Memref.whole cc1_scratch19).view c19 1 rfl
  · exact acc_of (Memref.whole cc1_scratch19).view c19 2 rfl
  · exact acc_of (Memref.whole cc1_scratch19).view c19 3 rfl
  · exact acc_of (Memref.whole cc1_scratch10).view c10 0 rfl
  · exact acc_of (Memref.whole cc1_scratch10).view c10 1 rfl
  · exact acc_of (Memref.whole cc1_scratch10).view c10 2 rfl
  · exact acc_of (Memref.whole cc1_scratch10).view c10 3 rfl
  · exact acc_of (Memref.whole cc1_scratch12).view c12 0 rfl
  · exact acc_of (Memref.whole cc1_scratch12).view c12 1 rfl
  · exact acc_of (Memref.whole cc1_scratch12).view c12 2 rfl
  · exact acc_of (Memref.whole cc1_scratch12).view c12 3 rfl
  · exact acc_of (Memref.whole cc1_scratch14).view c14 0 rfl
  · exact acc_of (Memref.whole cc1_scratch14).view c14 1 rfl
  · exact acc_of (Memref.whole cc1_scratch14).view c14 2 rfl
  · exact acc_of (Memref.whole cc1_scratch14).view c14 3 rfl
  · exact acc_of (Memref.whole cc1_scratch15).view c15 0 rfl
  · exact acc_of (Memref.whole cc1_scratch15).view c15 1 rfl
  · exact acc_of (Memref.whole cc1_scratch15).view c15 2 rfl
  · exact acc_of (Memref.whole cc1_scratch15).view c15 3 rfl

end Cert.Proof.KI
end
-- ==== Proof.IdealPass2.lean ====
/-
  (Of the idealized kernel.)
  The second kernel's two loops on one tile: the loop over carries keeps the state the chunk is entered with, the loop
  over rows leaves the states in the rows passed.
-/
module

public import proofs.«01_k».proof.Proof.IdealStep2a
public import proofs.«01_k».proof.Proof.IdealStep2b
public import proofs.«01_k».proof.Proof.IdealPass1

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

/-- Row `wid` of an array of blocks, as the second body slices it. -/
abbrev bRow {e : EltTy} (m : Memref sig .scVector .hbm S32x128x64 e) (L : grid1.Coords) : Memref sig .scVector .hbm S128x64 e :=
  (m.slice (Rect.unit (s := S32x128x64) (k1_off1 L) S1x128x64.size (k1_off1_inb L)) (fun _ => rfl)).squeeze S128x64 squeezes_S1x128x64_S128x64

theorem read_bRow {e : EltTy} (b : Memref sig .scVector .hbm S32x128x64 e) (L : grid1.Coords) (f : b.view.ty.Contents (Elt F)) :
    (bRow b L).view.read (Elt F) f = fun y => b.view.read (Elt F) f (ix3 (wid L) (y 0) (y 1)) :=
  read_blk (κ := .scVector) (sp := .hbm) b.view (wid L) (k1_off1_eq L) f

theorem bRow_lands {e : EltTy} (b : Memref sig .scVector .hbm S32x128x64 e) (d : Dev nD) (L : grid1.Coords) (f G : b.view.ty.Contents (Elt F)) (w : S128x64.Idx → Elt F e)
    (h : w = fun y => b.view.read (Elt F) G (ix3 (wid L) (y 0) (y 1))) :
    ((bRow b L).view.loc (thr d L) ↦[(bRow b L).view.set]{fullShare} (bRow b L).view.writes (Elt F) f [⟨Rect.whole S128x64, w⟩] : sProp 𝕄)
      = ((bRow b L).view.loc (thr d L) ↦[(bRow b L).view.set]{fullShare} G) :=
  pointsTo_congr (eq_on_set (bRow b L).view ((View.read_writes_whole _ _ _).trans <| by exact h.trans (read_bRow b L G).symm))

/-- The tile's number, as the second body computes it. -/
abbrev wv (L : grid1.Coords) : BitVec 32 := Scalar.addi (Scalar.muli (BitVec.ofNat 32 (L 1).val) 2#32) (BitVec.ofNat 32 (L 0).val)

/-- The loop over carries selects those below the tile's number. -/
theorem mask_eq (L : grid1.Coords) (t : Fin k1_t1_loop.trips) (x : S16.Idx) :
    k1_pay1 (wv L) 0#32 1#32 t x = if t.val < (wid L).val then 1#1 else 0#1 := by
  have h : ∀ (L : grid1.Coords) (t : Fin k1_t1_loop.trips), Scalar.cmpi .slt (Scf.iv 0#32 1#32 t) (wv L) = if t.val < (wid L).val then 1#1 else 0#1 := by decide +kernel
  exact h L t

/-- The state chunk `w` is entered with, after `t` carries. -/
abbrev ent (f0 : (HRows 32).Idx → BitVec 32) (f1 f2 f3 f4 : (HRows 32).Idx → F .f32) (w t : ℕ) : Sta F := enter (row f0) (row f1) (row f2) (row f3) (row f4) w t

theorem init2_eq : (k1_pay125 (F := F), k1_pay125 (F := F), k1_pay125 (F := F), k1_pay125 (F := F), k1_pay125 (F := F), k1_pay125 (F := F), k1_pay125 (F := F), k1_pay125 (F := F)) = spack (sta0 (F := F)) :=
  spack_ext sta0 rfl rfl rfl rfl rfl rfl rfl rfl

/-- The carry loop's invariant before trip `t`. -/
def inv2 (d : Dev nD) (L : grid1.Coords) (w : ℕ) (f0 : (HRows 32).Idx → BitVec 32) (f1 f2 f3 f4 : (HRows 32).Idx → F .f32) (t : ℕ)
    (acc : FVec F S16 .f32 × FVec F S16 .f32 × FVec F S16 .f32 × FVec F S16 .f32 × FVec F S16 .f32 × FVec F S16 .f32 × FVec F S16 .f32 × FVec F S16 .f32) : sProp 𝕄 :=
  iprop(⌜acc = spack (ent f0 f1 f2 f3 f4 w t)⌝ ∗ ((Memref.whole cc1_scratch0).view.loc (thr d L) ↦{fullShare} f0) ∗ ((Memref.whole cc1_scratch1).view.loc (thr d L) ↦{fullShare} f1) ∗ ((Memref.whole cc1_scratch2).view.loc (thr d L) ↦{fullShare} f2) ∗ ((Memref.whole cc1_scratch3).view.loc (thr d L) ↦{fullShare} f3) ∗ ((Memref.whole cc1_scratch4).view.loc (thr d L) ↦{fullShare} f4) ∗ ∃ g14 g15 g16 g17 g18 g19 g20 g21, ((Memref.whole cc1_scratch14).view.loc (thr d L) ↦{fullShare} g14) ∗ ((Memref.whole cc1_scratch15).view.loc (thr d L) ↦{fullShare} g15) ∗ ((Memref.whole cc1_scratch16).view.loc (thr d L) ↦{fullShare} g16) ∗ ((Memref.whole cc1_scratch17).view.loc (thr d L) ↦{fullShare} g17) ∗ ((Memref.whole cc1_scratch18).view.loc (thr d L) ↦{fullShare} g18) ∗ ((Memref.whole cc1_scratch19).view.loc (thr d L) ↦{fullShare} g19) ∗ ((Memref.whole cc1_scratch20).view.loc (thr d L) ↦{fullShare} g20) ∗ ((Memref.whole cc1_scratch21).view.loc (thr d L) ↦{fullShare} g21))

theorem inv2_region (d : Dev nD) (L : grid1.Coords) (w : ℕ) (v1 : BitVec 32) (f0 : (HRows 32).Idx → BitVec 32) (f1 f2 f3 f4 : (HRows 32).Idx → F .f32)
    (hm : ∀ (t : Fin k1_t1_loop.trips) x, k1_pay1 v1 0#32 1#32 t x = if t.val < w then 1#1 else 0#1) (hp : ∀ r k, (row f0 r k).toNat < 64) (t : Fin k1_t1_loop.trips) (acc) :
    inv2 (F := F) d L w f0 f1 f2 f3 f4 t.val acc ⊢ wp frame (wpE (defs₀ (F := F)) 𝒱₀ (thr d L) none) Set.univ
      (k1_t1_body L (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) cc1_scratch22 cc1_scratch23 cc1_scratch24 v1 t acc) (inv2 d L w f0 f1 f2 f3 f4 (t.val + 1)) := by
  unfold inv2
  iintro ⟨%e, H0, H1, H2, H3, H4, %g14, %g15, %g16, %g17, %g18, %g19, %g20, %g21, H14, H15, H16, H17, H18, H19, H20, H21⟩
  subst e
  have hn : nxt2 w t (ent f0 f1 f2 f3 f4 w t.val) f0 f1 f2 f3 f4 = ent f0 f1 f2 f3 f4 w (t.val + 1) := (enter_succ (row2 t)).symm
  iapply (carry_region d L t w v1 (ent f0 f1 f2 f3 f4 w t.val) f0 f1 f2 f3 f4 g14 g15 g16 g17 g18 g19 g20 g21 _ (hm t) (hp (row2 t))) $$ [H0 H1 H2 H3 H4 H14 H15 H16 H17 H18 H19 H20 H21]
  rw [hn]
  isplitl [H0]; · iexact H0
  isplitl [H1]; · iexact H1
  isplitl [H2]; · iexact H2
  isplitl [H3]; · iexact H3
  isplitl [H4]; · iexact H4
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro %r %h14 %h15 %h16 %h17 %h18 %h19 %h20 %h21 ⟨%e, H0, H1, H2, H3, H4, H14, H15, H16, H17, H18, H19, H20, H21⟩
  isplitr; · ipureintro; exact e
  isplitl [H0]; · iexact H0
  isplitl [H1]; · iexact H1
  isplitl [H2]; · iexact H2
  isplitl [H3]; · iexact H3
  isplitl [H4]; · iexact H4
  iexists h14, h15, h16, h17, h18, h19, h20, h21
  sl_close

/-- The four rows a trip replaces extend the rows passed. -/
theorem set4_mix {α : Type} (t : Fin k1_t2_loop.trips) (g : ℕ → Fin 64 → α) (f : (HRows 128).Idx → α) (n : Fin 128 → Fin 64 → α)
    (h : ∀ q, n (row3 t q) = g (row3 t q).val) : set4 t (mix (4 * t.val) g f) n = mix (4 * (t.val + 1)) g f := by
  unfold set4
  have e0 := setRow_mix g f (row3 t 0) (h 0)
  have e1 := setRow_mix g f (row3 t 1) (h 1)
  have e2 := setRow_mix g f (row3 t 2) (h 2)
  have e3 := setRow_mix g f (row3 t 3) (h 3)
  exact ((congrArg (fun b => setRow (setRow (setRow b (row3 t 1) (n (row3 t 1))) (row3 t 2) (n (row3 t 2))) (row3 t 3) (n (row3 t 3))) e0).trans
    ((congrArg (fun b => setRow (setRow b (row3 t 2) (n (row3 t 2))) (row3 t 3) (n (row3 t 3))) e1).trans
      ((congrArg (fun b => setRow b (row3 t 3) (n (row3 t 3))) e2).trans e3)))

/-- The row loop's invariant before trip `t`. -/
def inv3 (d : Dev nD) (L : grid1.Coords) (h : Sta F) (f5 : (HRows 128).Idx → BitVec 32) (f6 f7 f8 f9 : (HRows 128).Idx → F .f32) (t : ℕ) (_ : PUnit) : sProp 𝕄 :=
  iprop(((Memref.whole cc1_scratch5).view.loc (thr d L) ↦{fullShare} f5) ∗ ((Memref.whole cc1_scratch6).view.loc (thr d L) ↦{fullShare} f6) ∗ ((Memref.whole cc1_scratch7).view.loc (thr d L) ↦{fullShare} f7) ∗ ((Memref.whole cc1_scratch8).view.loc (thr d L) ↦{fullShare} (mix (4 * t) (fun s => (fin3 h f5 f6 f7 f8 f9 (Fin.ofNat 128 s)).Br) f8)) ∗ ((Memref.whole cc1_scratch9).view.loc (thr d L) ↦{fullShare} (mix (4 * t) (fun s => (fin3 h f5 f6 f7 f8 f9 (Fin.ofNat 128 s)).Bi) f9)) ∗ ∃ g10 g11 g12 g13 g14 g18 g15 g19, ((Memref.whole cc1_scratch10).view.loc (thr d L) ↦{fullShare} g10) ∗ ((Memref.whole cc1_scratch11).view.loc (thr d L) ↦{fullShare} g11) ∗ ((Memref.whole cc1_scratch12).view.loc (thr d L) ↦{fullShare} g12) ∗ ((Memref.whole cc1_scratch13).view.loc (thr d L) ↦{fullShare} g13) ∗ ((Memref.whole cc1_scratch14).view.loc (thr d L) ↦{fullShare} g14) ∗ ((Memref.whole cc1_scratch18).view.loc (thr d L) ↦{fullShare} g18) ∗ ((Memref.whole cc1_scratch15).view.loc (thr d L) ↦{fullShare} g15) ∗ ((Memref.whole cc1_scratch19).view.loc (thr d L) ↦{fullShare} g19))

theorem inv3_region (d : Dev nD) (L : grid1.Coords) (h : Sta F) (v1 : BitVec 32) (f5 : (HRows 128).Idx → BitVec 32) (f6 f7 f8 f9 : (HRows 128).Idx → F .f32) (hp : ∀ r k, (row f5 r k).toNat < 64)
    (t : Fin k1_t2_loop.trips) (acc) :
    inv3 (F := F) d L h f5 f6 f7 f8 f9 t.val acc ⊢ wp frame (wpE (defs₀ (F := F)) 𝒱₀ (thr d L) none) Set.univ
      (k1_t2_body L (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) cc1_scratch22 cc1_scratch23 cc1_scratch24 v1 (lanes 0 h.Br) (lanes 1 h.Br) (lanes 2 h.Br) (lanes 3 h.Br) (lanes 0 h.Bi) (lanes 1 h.Bi) (lanes 2 h.Bi) (lanes 3 h.Bi) t acc) (inv3 d L h f5 f6 f7 f8 f9 (t.val + 1)) := by
  unfold inv3
  iintro ⟨H5, H6, H7, H8, H9, %g10, %g11, %g12, %g13, %g14, %g18, %g15, %g19, H10, H11, H12, H13, H14, H18, H15, H19⟩
  have hf : ∀ q, fin3 h f5 f6 f7 (mix (4 * t.val) (fun s => (fin3 h f5 f6 f7 f8 f9 (Fin.ofNat 128 s)).Br) f8) (mix (4 * t.val) (fun s => (fin3 h f5 f6 f7 f8 f9 (Fin.ofNat 128 s)).Bi) f9) (row3 t q) = fin3 h f5 f6 f7 f8 f9 (row3 t q) := by
    intro q
    unfold fin3
    rw [row_mix _ _ (row3 t q) (Nat.le_add_right _ _), row_mix _ _ (row3 t q) (Nat.le_add_right _ _)]
  have hq : ∀ q, Fin.ofNat 128 (row3 t q).val = row3 t q := fun q => Fin.ext (Nat.mod_eq_of_lt (row3 t q).isLt)
  have q8 := set4_mix t (fun s => (fin3 h f5 f6 f7 f8 f9 (Fin.ofNat 128 s)).Br) f8 (fun r => (fin3 h f5 f6 f7 (mix (4 * t.val) (fun s => (fin3 h f5 f6 f7 f8 f9 (Fin.ofNat 128 s)).Br) f8) (mix (4 * t.val) (fun s => (fin3 h f5 f6 f7 f8 f9 (Fin.ofNat 128 s)).Bi) f9) r).Br) (fun q => by show (fin3 h f5 f6 f7 _ _ (row3 t q)).Br = (fin3 h f5 f6 f7 f8 f9 (Fin.ofNat 128 (row3 t q).val)).Br; rw [hf, hq])
  have q9 := set4_mix t (fun s => (fin3 h f5 f6 f7 f8 f9 (Fin.ofNat 128 s)).Bi) f9 (fun r => (fin3 h f5 f6 f7 (mix (4 * t.val) (fun s => (fin3 h f5 f6 f7 f8 f9 (Fin.ofNat 128 s)).Br) f8) (mix (4 * t.val) (fun s => (fin3 h f5 f6 f7 f8 f9 (Fin.ofNat 128 s)).Bi) f9) r).Bi) (fun q => by show (fin3 h f5 f6 f7 _ _ (row3 t q)).Bi = (fin3 h f5 f6 f7 f8 f9 (Fin.ofNat 128 (row3 t q).val)).Bi; rw [hf, hq])
  iapply (apply_region d L t v1 h f5 f6 f7 (mix (4 * t.val) (fun s => (fin3 h f5 f6 f7 f8 f9 (Fin.ofNat 128 s)).Br) f8) (mix (4 * t.val) (fun s => (fin3 h f5 f6 f7 f8 f9 (Fin.ofNat 128 s)).Bi) f9) g10 g11 g12 g13 g14 g18 g15 g19 _ hp) $$ [H5 H6 H7 H8 H9 H10 H11 H12 H13 H14 H18 H15 H19]
  rw [q8, q9]
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H18]; · iexact H18
  isplitl [H15]; · iexact H15
  isplitl [H19]; · iexact H19
  iintro %h10 %h11 %h12 %h13 %h14 %h18 %h15 %h19 ⟨H5, H6, H7, H8, H9, H10, H11, H12, H13, H14, H18, H15, H19⟩
  isplitl [H5]; · iexact H5
  isplitl [H6]; · iexact H6
  isplitl [H7]; · iexact H7
  isplitl [H8]; · iexact H8
  isplitl [H9]; · iexact H9
  iexists h10, h11, h12, h13, h14, h18, h15, h19
  sl_close

/-- The second kernel's result arrays: the states of row `x 1` of chunk `x 0`. -/
abbrev hid (b0 : HBlk.Idx → BitVec 32) (b1 b2 b3 b4 : HBlk.Idx → F .f32) (b5 : (HRows 32).Idx → BitVec 32) (b6 b7 b8 b9 : (HRows 32).Idx → F .f32) (w : Fin 32) (s : Fin 128) : Sta F :=
  apply1 (blk b0 w s) (blk b1 w s) (blk b2 w s) (blk b3 w s) (blk b4 w s) (ent b5 b6 b7 b8 b9 w.val 31)
def hidR (b0 : HBlk.Idx → BitVec 32) (b1 b2 b3 b4 : HBlk.Idx → F .f32) (b5 : (HRows 32).Idx → BitVec 32) (b6 b7 b8 b9 : (HRows 32).Idx → F .f32) : HBlk.Idx → F .f32 := fun x => (hid b0 b1 b2 b3 b4 b5 b6 b7 b8 b9 (x 0) (x 1)).Br (x 2)
def hidI (b0 : HBlk.Idx → BitVec 32) (b1 b2 b3 b4 : HBlk.Idx → F .f32) (b5 : (HRows 32).Idx → BitVec 32) (b6 b7 b8 b9 : (HRows 32).Idx → F .f32) : HBlk.Idx → F .f32 := fun x => (hid b0 b1 b2 b3 b4 b5 b6 b7 b8 b9 (x 0) (x 1)).Bi (x 2)

theorem lands_hidR (d : Dev nD) (L : grid1.Coords) (b0 : HBlk.Idx → BitVec 32) (b1 b2 b3 b4 : HBlk.Idx → F .f32) (b5 : (HRows 32).Idx → BitVec 32) (b6 b7 b8 b9 : (HRows 32).Idx → F .f32) (f : (Memref.whole main_v1_0_scv).view.ty.Contents (Elt F)) (w : S128x64.Idx → Elt F .f32)
    (h : w = mix 128 (fun s => (fin3 (ent b5 b6 b7 b8 b9 (wid L).val 31) (tin L b0) (tin L b1) (tin L b2) (tin L b3) (tin L b4) (Fin.ofNat 128 s)).Br) (tin L b3)) :
    ((bRow (Memref.whole main_v1_0_scv) L).view.loc (thr d L) ↦[(bRow (Memref.whole main_v1_0_scv) L).view.set]{fullShare} (bRow (Memref.whole main_v1_0_scv) L).view.writes (Elt F) f [⟨Rect.whole S128x64, w⟩] : sProp 𝕄)
      = ((bRow (Memref.whole main_v1_0_scv) L).view.loc (thr d L) ↦[(bRow (Memref.whole main_v1_0_scv) L).view.set]{fullShare} (hidR b0 b1 b2 b3 b4 b5 b6 b7 b8 b9)) :=
  bRow_lands (F := F) (Memref.whole main_v1_0_scv) d L f (hidR b0 b1 b2 b3 b4 b5 b6 b7 b8 b9) w (h.trans (by
    rw [mix_full]
    funext y
    show (fin3 _ _ _ _ _ _ (Fin.ofNat 128 (y 0).val)).Br (y 1) = _
    rw [show Fin.ofNat 128 (y 0).val = y 0 from Fin.ext (Nat.mod_eq_of_lt (y 0).isLt)]
    rfl))
theorem lands_hidI (d : Dev nD) (L : grid1.Coords) (b0 : HBlk.Idx → BitVec 32) (b1 b2 b3 b4 : HBlk.Idx → F .f32) (b5 : (HRows 32).Idx → BitVec 32) (b6 b7 b8 b9 : (HRows 32).Idx → F .f32) (f : (Memref.whole main_v1_1_scv).view.ty.Contents (Elt F)) (w : S128x64.Idx → Elt F .f32)
    (h : w = mix 128 (fun s => (fin3 (ent b5 b6 b7 b8 b9 (wid L).val 31) (tin L b0) (tin L b1) (tin L b2) (tin L b3) (tin L b4) (Fin.ofNat 128 s)).Bi) (tin L b4)) :
    ((bRow (Memref.whole main_v1_1_scv) L).view.loc (thr d L) ↦[(bRow (Memref.whole main_v1_1_scv) L).view.set]{fullShare} (bRow (Memref.whole main_v1_1_scv) L).view.writes (Elt F) f [⟨Rect.whole S128x64, w⟩] : sProp 𝕄)
      = ((bRow (Memref.whole main_v1_1_scv) L).view.loc (thr d L) ↦[(bRow (Memref.whole main_v1_1_scv) L).view.set]{fullShare} (hidI b0 b1 b2 b3 b4 b5 b6 b7 b8 b9)) :=
  bRow_lands (F := F) (Memref.whole main_v1_1_scv) d L f (hidI b0 b1 b2 b3 b4 b5 b6 b7 b8 b9) w (h.trans (by
    rw [mix_full]
    funext y
    show (fin3 _ _ _ _ _ _ (Fin.ofNat 128 (y 0).val)).Bi (y 1) = _
    rw [show Fin.ofNat 128 (y 0).val = y 0 from Fin.ext (Nat.mod_eq_of_lt (y 0).isLt)]
    rfl))

end Cert.Proof.KI
end
-- ==== Proof.IdealSplit.lean ====
/-
  (Of the idealized kernel.)
  Dealing the arrays to the tiles: each array whole is its 32 rows, one per tile, and the carries whole are 32 shares of
  themselves; a tile's own scratch buffers and semaphores, taken out of what its processor owns.
-/
module

public import proofs.«01_k».proof.Proof.IdealPass1
public import proofs.«01_k».proof.Proof.IdealPass2
public import Idealize.ShloMosaic.Lib.SparseCore.Stream

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

/-! ## The tiles' numbers -/

theorem wid_injective : Function.Injective fun p : Fin 2 × Fin 16 => wid (coordsV p.1 p.2) := by
  rintro ⟨c, i⟩ ⟨c', i'⟩ h
  have e : 2 * i.val + c.val = 2 * i'.val + c'.val := congrArg Fin.val h
  have hc := c.isLt
  have hc' := c'.isLt
  exact Prod.ext (Fin.ext (by show c.val = c'.val; omega)) (Fin.ext (by show i.val = i'.val; omega))

/-- The 2 × 16 tiles are numbered by the 32 rows. -/
def tiles : Fin 2 × Fin 16 ≃ Fin 32 :=
  Equiv.ofBijective _ ((Fintype.bijective_iff_injective_and_card _).mpr ⟨wid_injective, by simp⟩)

set_option maxHeartbeats 1000000 in
theorem deal_tiles (Φ : Fin 32 → sProp 𝕄) :
    bigSep Finset.univ Φ = bigSep Finset.univ fun c : Fin 2 => bigSep Finset.univ fun i : Fin 16 => Φ (wid (coordsV c i)) :=
  (bigSep_univ_equiv tiles Φ).trans (bigSep_univ_prod fun p : Fin 2 × Fin 16 => Φ (tiles p))

/-- An array whole is its parts, one per tile, when each element lies in the part of one number and no other. -/
theorem pts_grid {ℓ : Loc nD τ sig} (R : grid0.Coords → Finset (Idx ℓ)) (h : ∀ j, ∃ w : Fin 32, ∀ L, j ∈ R L ↔ wid L = w) (f : Buf (Elt F) ℓ) :
    (ℓ ↦{fullShare} f : sProp 𝕄)
      = bigSep Finset.univ fun c : Fin 2 => bigSep Finset.univ fun i : Fin 16 => ℓ ↦[R (coordsV c i)]{fullShare} f := by
  rw [← bigSep_univ_prod fun p : Fin 2 × Fin 16 => (ℓ ↦[R (coordsV p.1 p.2)]{fullShare} f : sProp 𝕄),
    ← pointsTo_biUnion Finset.univ (ℓ := ℓ) (fun p : Fin 2 × Fin 16 => R (coordsV p.1 p.2)) fun p _ p' _ hne => ?_]
  · refine congrArg (fun I : Finset (Idx ℓ) => (ℓ ↦[I]{fullShare} f : sProp 𝕄)) (Finset.ext fun j => ?_)
    obtain ⟨w, hw⟩ := h j
    obtain ⟨p, hp⟩ := tiles.surjective w
    simp only [Finset.mem_univ, Finset.mem_biUnion, true_and, true_iff]
    exact ⟨p, (hw _).mpr hp⟩
  · refine Finset.disjoint_left.mpr fun j hj hj' => hne (wid_injective ?_)
    obtain ⟨w, hw⟩ := h j
    exact ((hw _).mp hj).trans ((hw _).mp hj').symm

/-- The share of a whole array that the tile of a number reads it at. -/
abbrev shr (w : Fin 32) : PosShare TreeShare := piece fullShare 31 w

theorem pts_shares {ℓ : Loc nD τ sig} (f : Buf (Elt F) ℓ) :
    (ℓ ↦{fullShare} f : sProp 𝕄)
      = bigSep Finset.univ fun c : Fin 2 => bigSep Finset.univ fun i : Fin 16 => ℓ ↦{shr (wid (coordsV c i))} f :=
  (pointsTo_pieces Finset.univ f 31 fullShare).trans (deal_tiles fun w => (ℓ ↦{shr w} f : sProp 𝕄))

/-- An element of an array of blocks lies in the row of its first coordinate and in no other. -/
theorem mem_blkView {e : EltTy} (b : View sig .scVector .hbm HBlk e) (hb : ∀ j : b.ty.Idx, ∃ x, b.emb x = j) (off : grid0.Coords → Fin 3 → ℕ) (inb : ∀ L, ∀ a, off L a + H1Blk.size a ≤ HBlk.size a) (h)
    (hoff : ∀ L, off L = ![(wid L).val, 0, 0]) (j : b.ty.Idx) : ∃ w : Fin 32, ∀ L, j ∈ (blkView b (off L) (inb L) h).set ↔ wid L = w := by
  obtain ⟨x, rfl⟩ := hb j
  refine ⟨x 0, fun L => ⟨fun hj => ?_, fun hj => ?_⟩⟩
  · obtain ⟨y, _, hy⟩ := Finset.mem_map.mp hj
    rw [emb_blk b (wid L) (hoff L)] at hy
    exact congrFun (b.emb.injective hy) 0
  · refine Finset.mem_map.mpr ⟨ix2 (x 1) (x 2), Finset.mem_univ _, ?_⟩
    rw [emb_blk b (wid L) (hoff L), hj]
    exact congrArg b.emb (eq_ix3 x).symm

theorem mem_rowView {e : EltTy} (b : View sig .scVector .hbm (HRows 32) e) (hb : ∀ j : b.ty.Idx, ∃ x, b.emb x = j) (off : grid0.Coords → Fin 2 → ℕ) (inb : ∀ L, ∀ a, off L a + (HRows 1).size a ≤ (HRows 32).size a) (h)
    (hoff : ∀ L, off L = ![(wid L).val, 0]) (j : b.ty.Idx) : ∃ w : Fin 32, ∀ L, j ∈ (rowView b (off L) (inb L) h).set ↔ wid L = w := by
  obtain ⟨x, rfl⟩ := hb j
  refine ⟨x 0, fun L => ⟨fun hj => ?_, fun hj => ?_⟩⟩
  · obtain ⟨y, _, hy⟩ := Finset.mem_map.mp hj
    rw [emb_row b (wid L) (hoff L)] at hy
    exact congrFun (b.emb.injective hy) 0
  · refine Finset.mem_map.mpr ⟨ix1 (x 1), Finset.mem_univ _, ?_⟩
    rw [emb_row b (wid L) (hoff L), hj]
    exact congrArg b.emb (eq_ix2 x).symm

/-! ## What a tile of each call is handed -/

/-- A tile's rows of the arguments and of the first call's results. -/
def rows1 (d : Dev nD) (L : grid0.Coords) (a0 : HBlk.Idx → BitVec 32) (a1 a2 a3 a4 : HBlk.Idx → F .f32) (b0 : HBlk.Idx → BitVec 32) (b1 b2 b3 b4 : HBlk.Idx → F .f32) (b5 : (HRows 32).Idx → BitVec 32) (b6 b7 b8 b9 : (HRows 32).Idx → F .f32) : sProp 𝕄 :=
  iprop(((aRow (Memref.whole main_arg0_scv) L).view.loc (thr d L) ↦[(aRow (Memref.whole main_arg0_scv) L).view.set]{fullShare} a0)
    ∗ ((aRow (Memref.whole main_arg1_scv) L).view.loc (thr d L) ↦[(aRow (Memref.whole main_arg1_scv) L).view.set]{fullShare} a1)
    ∗ ((aRow (Memref.whole main_arg2_scv) L).view.loc (thr d L) ↦[(aRow (Memref.whole main_arg2_scv) L).view.set]{fullShare} a2)
    ∗ ((aRow (Memref.whole main_arg3_scv) L).view.loc (thr d L) ↦[(aRow (Memref.whole main_arg3_scv) L).view.set]{fullShare} a3)
    ∗ ((aRow (Memref.whole main_arg4_scv) L).view.loc (thr d L) ↦[(aRow (Memref.whole main_arg4_scv) L).view.set]{fullShare} a4)
    ∗ ((aRow (Memref.whole main_v0_0_scv) L).view.loc (thr d L) ↦[(aRow (Memref.whole main_v0_0_scv) L).view.set]{fullShare} b0)
    ∗ ((aRow (Memref.whole main_v0_1_scv) L).view.loc (thr d L) ↦[(aRow (Memref.whole main_v0_1_scv) L).view.set]{fullShare} b1)
    ∗ ((aRow (Memref.whole main_v0_2_scv) L).view.loc (thr d L) ↦[(aRow (Memref.whole main_v0_2_scv) L).view.set]{fullShare} b2)
    ∗ ((aRow (Memref.whole main_v0_3_scv) L).view.loc (thr d L) ↦[(aRow (Memref.whole main_v0_3_scv) L).view.set]{fullShare} b3)
    ∗ ((aRow (Memref.whole main_v0_4_scv) L).view.loc (thr d L) ↦[(aRow (Memref.whole main_v0_4_scv) L).view.set]{fullShare} b4)
    ∗ ((cRow (Memref.whole main_v0_5_scv) L).view.loc (thr d L) ↦[(cRow (Memref.whole main_v0_5_scv) L).view.set]{fullShare} b5)
    ∗ ((cRow (Memref.whole main_v0_6_scv) L).view.loc (thr d L) ↦[(cRow (Memref.whole main_v0_6_scv) L).view.set]{fullShare} b6)
    ∗ ((cRow (Memref.whole main_v0_7_scv) L).view.loc (thr d L) ↦[(cRow (Memref.whole main_v0_7_scv) L).view.set]{fullShare} b7)
    ∗ ((cRow (Memref.whole main_v0_8_scv) L).view.loc (thr d L) ↦[(cRow (Memref.whole main_v0_8_scv) L).view.set]{fullShare} b8)
    ∗ ((cRow (Memref.whole main_v0_9_scv) L).view.loc (thr d L) ↦[(cRow (Memref.whole main_v0_9_scv) L).view.set]{fullShare} b9))

/-- A tile's rows of the prefixes and of the hidden states, and its share of every tile's last prefix. -/
def rows2 (d : Dev nD) (L : grid0.Coords) (b0 : HBlk.Idx → BitVec 32) (b1 b2 b3 b4 : HBlk.Idx → F .f32) (b5 : (HRows 32).Idx → BitVec 32) (b6 b7 b8 b9 : (HRows 32).Idx → F .f32) (u0 u1 : HBlk.Idx → F .f32) : sProp 𝕄 :=
  iprop(((bRow (Memref.whole main_v0_0_scv) L).view.loc (thr d L) ↦[(bRow (Memref.whole main_v0_0_scv) L).view.set]{fullShare} b0)
    ∗ ((bRow (Memref.whole main_v0_1_scv) L).view.loc (thr d L) ↦[(bRow (Memref.whole main_v0_1_scv) L).view.set]{fullShare} b1)
    ∗ ((bRow (Memref.whole main_v0_2_scv) L).view.loc (thr d L) ↦[(bRow (Memref.whole main_v0_2_scv) L).view.set]{fullShare} b2)
    ∗ ((bRow (Memref.whole main_v0_3_scv) L).view.loc (thr d L) ↦[(bRow (Memref.whole main_v0_3_scv) L).view.set]{fullShare} b3)
    ∗ ((bRow (Memref.whole main_v0_4_scv) L).view.loc (thr d L) ↦[(bRow (Memref.whole main_v0_4_scv) L).view.set]{fullShare} b4)
    ∗ ((Memref.whole main_v0_5_scv).view.loc (thr d L) ↦{shr (wid L)} b5)
    ∗ ((Memref.whole main_v0_6_scv).view.loc (thr d L) ↦{shr (wid L)} b6)
    ∗ ((Memref.whole main_v0_7_scv).view.loc (thr d L) ↦{shr (wid L)} b7)
    ∗ ((Memref.whole main_v0_8_scv).view.loc (thr d L) ↦{shr (wid L)} b8)
    ∗ ((Memref.whole main_v0_9_scv).view.loc (thr d L) ↦{shr (wid L)} b9)
    ∗ ((bRow (Memref.whole main_v1_0_scv) L).view.loc (thr d L) ↦[(bRow (Memref.whole main_v1_0_scv) L).view.set]{fullShare} u0)
    ∗ ((bRow (Memref.whole main_v1_1_scv) L).view.loc (thr d L) ↦[(bRow (Memref.whole main_v1_1_scv) L).view.set]{fullShare} u1))

def all1 (d : Dev nD) (a0 : Buf (Elt F) ((SparseCore.T d : Thread nD τ).loc main_arg0)) (a1 : Buf (Elt F) ((SparseCore.T d : Thread nD τ).loc main_arg1)) (a2 : Buf (Elt F) ((SparseCore.T d : Thread nD τ).loc main_arg2)) (a3 : Buf (Elt F) ((SparseCore.T d : Thread nD τ).loc main_arg3)) (a4 : Buf (Elt F) ((SparseCore.T d : Thread nD τ).loc main_arg4)) (b0 : Buf (Elt F) ((SparseCore.T d : Thread nD τ).loc main_v0_0)) (b1 : Buf (Elt F) ((SparseCore.T d : Thread nD τ).loc main_v0_1)) (b2 : Buf (Elt F) ((SparseCore.T d : Thread nD τ).loc main_v0_2)) (b3 : Buf (Elt F) ((SparseCore.T d : Thread nD τ).loc main_v0_3)) (b4 : Buf (Elt F) ((SparseCore.T d : Thread nD τ).loc main_v0_4)) (b5 : Buf (Elt F) ((SparseCore.T d : Thread nD τ).loc main_v0_5)) (b6 : Buf (Elt F) ((SparseCore.T d : Thread nD τ).loc main_v0_6)) (b7 : Buf (Elt F) ((SparseCore.T d : Thread nD τ).loc main_v0_7)) (b8 : Buf (Elt F) ((SparseCore.T d : Thread nD τ).loc main_v0_8)) (b9 : Buf (Elt F) ((SparseCore.T d : Thread nD τ).loc main_v0_9)) : sProp 𝕄 :=
  iprop(((SparseCore.T d).loc main_arg0 ↦{fullShare} a0)
    ∗ ((SparseCore.T d).loc main_arg1 ↦{fullShare} a1)
    ∗ ((SparseCore.T d).loc main_arg2 ↦{fullShare} a2)
    ∗ ((SparseCore.T d).loc main_arg3 ↦{fullShare} a3)
    ∗ ((SparseCore.T d).loc main_arg4 ↦{fullShare} a4)
    ∗ ((SparseCore.T d).loc main_v0_0 ↦{fullShare} b0)
    ∗ ((SparseCore.T d).loc main_v0_1 ↦{fullShare} b1)
    ∗ ((SparseCore.T d).loc main_v0_2 ↦{fullShare} b2)
    ∗ ((SparseCore.T d).loc main_v0_3 ↦{fullShare} b3)
    ∗ ((SparseCore.T d).loc main_v0_4 ↦{fullShare} b4)
    ∗ ((SparseCore.T d).loc main_v0_5 ↦{fullShare} b5)
    ∗ ((SparseCore.T d).loc main_v0_6 ↦{fullShare} b6)
    ∗ ((SparseCore.T d).loc main_v0_7 ↦{fullShare} b7)
    ∗ ((SparseCore.T d).loc main_v0_8 ↦{fullShare} b8)
    ∗ ((SparseCore.T d).loc main_v0_9 ↦{fullShare} b9))

def all2 (d : Dev nD) (b0 : Buf (Elt F) ((SparseCore.T d : Thread nD τ).loc main_v0_0)) (b1 : Buf (Elt F) ((SparseCore.T d : Thread nD τ).loc main_v0_1)) (b2 : Buf (Elt F) ((SparseCore.T d : Thread nD τ).loc main_v0_2)) (b3 : Buf (Elt F) ((SparseCore.T d : Thread nD τ).loc main_v0_3)) (b4 : Buf (Elt F) ((SparseCore.T d : Thread nD τ).loc main_v0_4)) (b5 : Buf (Elt F) ((SparseCore.T d : Thread nD τ).loc main_v0_5)) (b6 : Buf (Elt F) ((SparseCore.T d : Thread nD τ).loc main_v0_6)) (b7 : Buf (Elt F) ((SparseCore.T d : Thread nD τ).loc main_v0_7)) (b8 : Buf (Elt F) ((SparseCore.T d : Thread nD τ).loc main_v0_8)) (b9 : Buf (Elt F) ((SparseCore.T d : Thread nD τ).loc main_v0_9)) (u0 : Buf (Elt F) ((SparseCore.T d : Thread nD τ).loc main_v1_0)) (u1 : Buf (Elt F) ((SparseCore.T d : Thread nD τ).loc main_v1_1)) : sProp 𝕄 :=
  iprop(((SparseCore.T d).loc main_v0_0 ↦{fullShare} b0)
    ∗ ((SparseCore.T d).loc main_v0_1 ↦{fullShare} b1)
    ∗ ((SparseCore.T d).loc main_v0_2 ↦{fullShare} b2)
    ∗ ((SparseCore.T d).loc main_v0_3 ↦{fullShare} b3)
    ∗ ((SparseCore.T d).loc main_v0_4 ↦{fullShare} b4)
    ∗ ((SparseCore.T d).loc main_v0_5 ↦{fullShare} b5)
    ∗ ((SparseCore.T d).loc main_v0_6 ↦{fullShare} b6)
    ∗ ((SparseCore.T d).loc main_v0_7 ↦{fullShare} b7)
    ∗ ((SparseCore.T d).loc main_v0_8 ↦{fullShare} b8)
    ∗ ((SparseCore.T d).loc main_v0_9 ↦{fullShare} b9)
    ∗ ((SparseCore.T d).loc main_v1_0 ↦{fullShare} u0)
    ∗ ((SparseCore.T d).loc main_v1_1 ↦{fullShare} u1))

instance rows1_storable (d : Dev nD) (L : grid0.Coords) (a0 : HBlk.Idx → BitVec 32) (a1 a2 a3 a4 : HBlk.Idx → F .f32) (b0 : HBlk.Idx → BitVec 32) (b1 b2 b3 b4 : HBlk.Idx → F .f32) (b5 : (HRows 32).Idx → BitVec 32) (b6 b7 b8 b9 : (HRows 32).Idx → F .f32) :
    BI.Storable (upEmb : UEmb _ 𝕄) (rows1 d L a0 a1 a2 a3 a4 b0 b1 b2 b3 b4 b5 b6 b7 b8 b9) := by
  unfold rows1; infer_instance
instance rows2_storable (d : Dev nD) (L : grid0.Coords) (b0 : HBlk.Idx → BitVec 32) (b1 b2 b3 b4 : HBlk.Idx → F .f32) (b5 : (HRows 32).Idx → BitVec 32) (b6 b7 b8 b9 : (HRows 32).Idx → F .f32) (u0 u1 : HBlk.Idx → F .f32) :
    BI.Storable (upEmb : UEmb _ 𝕄) (rows2 d L b0 b1 b2 b3 b4 b5 b6 b7 b8 b9 u0 u1) := by
  unfold rows2; infer_instance

theorem mem_aRow {e : EltTy} (b : Memref sig .scVector .hbm S32x128x64 e) (hb : ∀ j : b.view.ty.Idx, ∃ x, b.view.emb x = j) (j : b.view.ty.Idx) :
    ∃ w : Fin 32, ∀ L, j ∈ (aRow b L).view.set ↔ wid L = w :=
  mem_blkView (e := e) b.view hb k0_off1 k0_off1_inb (by decide) off1_wid j

theorem mem_cRow {e : EltTy} (b : Memref sig .scVector .hbm S32x64 e) (hb : ∀ j : b.view.ty.Idx, ∃ x, b.view.emb x = j) (j : b.view.ty.Idx) :
    ∃ w : Fin 32, ∀ L, j ∈ (cRow b L).view.set ↔ wid L = w :=
  mem_rowView (e := e) b.view hb k0_off10 k0_off10_inb (by decide) off10_wid j

theorem mem_bRow {e : EltTy} (b : Memref sig .scVector .hbm S32x128x64 e) (hb : ∀ j : b.view.ty.Idx, ∃ x, b.view.emb x = j) (j : b.view.ty.Idx) :
    ∃ w : Fin 32, ∀ L, j ∈ (bRow b L).view.set ↔ wid L = w :=
  mem_blkView (e := e) b.view hb k1_off1 k1_off1_inb (by decide) k1_off1_eq j

set_option maxHeartbeats 1000000 in
theorem deal1 (d : Dev nD) (a0 : HBlk.Idx → BitVec 32) (a1 a2 a3 a4 : HBlk.Idx → F .f32) (b0 : HBlk.Idx → BitVec 32) (b1 b2 b3 b4 : HBlk.Idx → F .f32) (b5 : (HRows 32).Idx → BitVec 32) (b6 b7 b8 b9 : (HRows 32).Idx → F .f32) :
    all1 d a0 a1 a2 a3 a4 b0 b1 b2 b3 b4 b5 b6 b7 b8 b9 = bigSep Finset.univ fun c : Fin 2 => bigSep Finset.univ fun i : Fin 16 => rows1 d (coordsV c i) a0 a1 a2 a3 a4 b0 b1 b2 b3 b4 b5 b6 b7 b8 b9 := by
  unfold all1 rows1
  simp only [bigSep_sep']
  exact congrArg₂ (fun A B : sProp 𝕄 => iprop(A ∗ B))
    (pts_grid (ℓ := (SparseCore.T d).loc main_arg0) (fun L => (aRow (Memref.whole main_arg0_scv) L).view.set) (mem_aRow (Memref.whole main_arg0_scv) fun j => ⟨j, rfl⟩) a0)
    (congrArg₂ (fun A B : sProp 𝕄 => iprop(A ∗ B))
    (pts_grid (ℓ := (SparseCore.T d).loc main_arg1) (fun L => (aRow (Memref.whole main_arg1_scv) L).view.set) (mem_aRow (Memref.whole main_arg1_scv) fun j => ⟨j, rfl⟩) a1)
    (congrArg₂ (fun A B : sProp 𝕄 => iprop(A ∗ B))
    (pts_grid (ℓ := (SparseCore.T d).loc main_arg2) (fun L => (aRow (Memref.whole main_arg2_scv) L).view.set) (mem_aRow (Memref.whole main_arg2_scv) fun j => ⟨j, rfl⟩) a2)
    (congrArg₂ (fun A B : sProp 𝕄 => iprop(A ∗ B))
    (pts_grid (ℓ := (SparseCore.T d).loc main_arg3) (fun L => (aRow (Memref.whole main_arg3_scv) L).view.set) (mem_aRow (Memref.whole main_arg3_scv) fun j => ⟨j, rfl⟩) a3)
    (congrArg₂ (fun A B : sProp 𝕄 => iprop(A ∗ B))
    (pts_grid (ℓ := (SparseCore.T d).loc main_arg4) (fun L => (aRow (Memref.whole main_arg4_scv) L).view.set) (mem_aRow (Memref.whole main_arg4_scv) fun j => ⟨j, rfl⟩) a4)
    (congrArg₂ (fun A B : sProp 𝕄 => iprop(A ∗ B))
    (pts_grid (ℓ := (SparseCore.T d).loc main_v0_0) (fun L => (aRow (Memref.whole main_v0_0_scv) L).view.set) (mem_aRow (Memref.whole main_v0_0_scv) fun j => ⟨j, rfl⟩) b0)
    (congrArg₂ (fun A B : sProp 𝕄 => iprop(A ∗ B))
    (pts_grid (ℓ := (SparseCore.T d).loc main_v0_1) (fun L => (aRow (Memref.whole main_v0_1_scv) L).view.set) (mem_aRow (Memref.whole main_v0_1_scv) fun j => ⟨j, rfl⟩) b1)
    (congrArg₂ (fun A B : sProp 𝕄 => iprop(A ∗ B))
    (pts_grid (ℓ := (SparseCore.T d).loc main_v0_2) (fun L => (aRow (Memref.whole main_v0_2_scv) L).view.set) (mem_aRow (Memref.whole main_v0_2_scv) fun j => ⟨j, rfl⟩) b2)
    (congrArg₂ (fun A B : sProp 𝕄 => iprop(A ∗ B))
    (pts_grid (ℓ := (SparseCore.T d).loc main_v0_3) (fun L => (aRow (Memref.whole main_v0_3_scv) L).view.set) (mem_aRow (Memref.whole main_v0_3_scv) fun j => ⟨j, rfl⟩) b3)
    (congrArg₂ (fun A B : sProp 𝕄 => iprop(A ∗ B))
    (pts_grid (ℓ := (SparseCore.T d).loc main_v0_4) (fun L => (aRow (Memref.whole main_v0_4_scv) L).view.set) (mem_aRow (Memref.whole main_v0_4_scv) fun j => ⟨j, rfl⟩) b4)
    (congrArg₂ (fun A B : sProp 𝕄 => iprop(A ∗ B))
    (pts_grid (ℓ := (SparseCore.T d).loc main_v0_5) (fun L => (cRow (Memref.whole main_v0_5_scv) L).view.set) (mem_cRow (Memref.whole main_v0_5_scv) fun j => ⟨j, rfl⟩) b5)
    (congrArg₂ (fun A B : sProp 𝕄 => iprop(A ∗ B))
    (pts_grid (ℓ := (SparseCore.T d).loc main_v0_6) (fun L => (cRow (Memref.whole main_v0_6_scv) L).view.set) (mem_cRow (Memref.whole main_v0_6_scv) fun j => ⟨j, rfl⟩) b6)
    (congrArg₂ (fun A B : sProp 𝕄 => iprop(A ∗ B))
    (pts_grid (ℓ := (SparseCore.T d).loc main_v0_7) (fun L => (cRow (Memref.whole main_v0_7_scv) L).view.set) (mem_cRow (Memref.whole main_v0_7_scv) fun j => ⟨j, rfl⟩) b7)
    (congrArg₂ (fun A B : sProp 𝕄 => iprop(A ∗ B))
    (pts_grid (ℓ := (SparseCore.T d).loc main_v0_8) (fun L => (cRow (Memref.whole main_v0_8_scv) L).view.set) (mem_cRow (Memref.whole main_v0_8_scv) fun j => ⟨j, rfl⟩) b8)
    (pts_grid (ℓ := (SparseCore.T d).loc main_v0_9) (fun L => (cRow (Memref.whole main_v0_9_scv) L).view.set) (mem_cRow (Memref.whole main_v0_9_scv) fun j => ⟨j, rfl⟩) b9))))))))))))))

set_option maxHeartbeats 1000000 in
theorem deal2 (d : Dev nD) (b0 : HBlk.Idx → BitVec 32) (b1 b2 b3 b4 : HBlk.Idx → F .f32) (b5 : (HRows 32).Idx → BitVec 32) (b6 b7 b8 b9 : (HRows 32).Idx → F .f32) (u0 u1 : HBlk.Idx → F .f32) :
    all2 d b0 b1 b2 b3 b4 b5 b6 b7 b8 b9 u0 u1 = bigSep Finset.univ fun c : Fin 2 => bigSep Finset.univ fun i : Fin 16 => rows2 d (coordsV c i) b0 b1 b2 b3 b4 b5 b6 b7 b8 b9 u0 u1 := by
  unfold all2 rows2
  simp only [bigSep_sep']
  exact congrArg₂ (fun A B : sProp 𝕄 => iprop(A ∗ B))
    (pts_grid (ℓ := (SparseCore.T d).loc main_v0_0) (fun L => (bRow (Memref.whole main_v0_0_scv) L).view.set) (mem_bRow (Memref.whole main_v0_0_scv) fun j => ⟨j, rfl⟩) b0)
    (congrArg₂ (fun A B : sProp 𝕄 => iprop(A ∗ B))
    (pts_grid (ℓ := (SparseCore.T d).loc main_v0_1) (fun L => (bRow (Memref.whole main_v0_1_scv) L).view.set) (mem_bRow (Memref.whole main_v0_1_scv) fun j => ⟨j, rfl⟩) b1)
    (congrArg₂ (fun A B : sProp 𝕄 => iprop(A ∗ B))
    (pts_grid (ℓ := (SparseCore.T d).loc main_v0_2) (fun L => (bRow (Memref.whole main_v0_2_scv) L).view.set) (mem_bRow (Memref.whole main_v0_2_scv) fun j => ⟨j, rfl⟩) b2)
    (congrArg₂ (fun A B : sProp 𝕄 => iprop(A ∗ B))
    (pts_grid (ℓ := (SparseCore.T d).loc main_v0_3) (fun L => (bRow (Memref.whole main_v0_3_scv) L).view.set) (mem_bRow (Memref.whole main_v0_3_scv) fun j => ⟨j, rfl⟩) b3)
    (congrArg₂ (fun A B : sProp 𝕄 => iprop(A ∗ B))
    (pts_grid (ℓ := (SparseCore.T d).loc main_v0_4) (fun L => (bRow (Memref.whole main_v0_4_scv) L).view.set) (mem_bRow (Memref.whole main_v0_4_scv) fun j => ⟨j, rfl⟩) b4)
    (congrArg₂ (fun A B : sProp 𝕄 => iprop(A ∗ B))
    (pts_shares (ℓ := (SparseCore.T d).loc main_v0_5) b5)
    (congrArg₂ (fun A B : sProp 𝕄 => iprop(A ∗ B))
    (pts_shares (ℓ := (SparseCore.T d).loc main_v0_6) b6)
    (congrArg₂ (fun A B : sProp 𝕄 => iprop(A ∗ B))
    (pts_shares (ℓ := (SparseCore.T d).loc main_v0_7) b7)
    (congrArg₂ (fun A B : sProp 𝕄 => iprop(A ∗ B))
    (pts_shares (ℓ := (SparseCore.T d).loc main_v0_8) b8)
    (congrArg₂ (fun A B : sProp 𝕄 => iprop(A ∗ B))
    (pts_shares (ℓ := (SparseCore.T d).loc main_v0_9) b9)
    (congrArg₂ (fun A B : sProp 𝕄 => iprop(A ∗ B))
    (pts_grid (ℓ := (SparseCore.T d).loc main_v1_0) (fun L => (bRow (Memref.whole main_v1_0_scv) L).view.set) (mem_bRow (Memref.whole main_v1_0_scv) fun j => ⟨j, rfl⟩) u0)
    (pts_grid (ℓ := (SparseCore.T d).loc main_v1_1) (fun L => (bRow (Memref.whole main_v1_1_scv) L).view.set) (mem_bRow (Memref.whole main_v1_1_scv) fun j => ⟨j, rfl⟩) u1)))))))))))

end Cert.Proof.KI
end
-- ==== Proof.IdealTile1.lean ====
/-
  (Of the idealized kernel.)
  The first kernel's task on one tile: five copies in, the row loop, five copies of whole blocks and five of last rows
  out. The row loop's invariant says the rows passed hold the chunk's prefixes.
-/
module

public import proofs.«01_k».proof.Proof.IdealPass1

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

set_option maxHeartbeats 2000000 in
/-- The task on one tile: from its rows of the arguments to its rows of the ten results. -/
theorem tile1 (d : Dev nD) (L : grid0.Coords) (O : CellTallies nD τ sig (HIx 2)) (W : Waits sig (HIx 2)) (a0 : HBlk.Idx → BitVec 32) (a1 a2 a3 a4 : HBlk.Idx → F .f32) b0 b1 b2 b3 b4 b5 b6 b7 b8 b9 s0 s1 s2 s3 s4 s5 s6 s7 s8 s9 s10 s11 s12
    (hp : ∀ r k, (blk a0 (wid L) r k).toNat < 64) :
    iprop(Transfers.MayWaits (thr d L) none O ∗ owes (thr d L) O W ∗ ((aRow (Memref.whole main_arg0_scv) L).view.loc (thr d L) ↦[(aRow (Memref.whole main_arg0_scv) L).view.set]{fullShare} a0) ∗ ((aRow (Memref.whole main_arg1_scv) L).view.loc (thr d L) ↦[(aRow (Memref.whole main_arg1_scv) L).view.set]{fullShare} a1) ∗ ((aRow (Memref.whole main_arg2_scv) L).view.loc (thr d L) ↦[(aRow (Memref.whole main_arg2_scv) L).view.set]{fullShare} a2) ∗ ((aRow (Memref.whole main_arg3_scv) L).view.loc (thr d L) ↦[(aRow (Memref.whole main_arg3_scv) L).view.set]{fullShare} a3) ∗ ((aRow (Memref.whole main_arg4_scv) L).view.loc (thr d L) ↦[(aRow (Memref.whole main_arg4_scv) L).view.set]{fullShare} a4) ∗ ((aRow (Memref.whole main_v0_0_scv) L).view.loc (thr d L) ↦[(aRow (Memref.whole main_v0_0_scv) L).view.set]{fullShare} b0) ∗ ((aRow (Memref.whole main_v0_1_scv) L).view.loc (thr d L) ↦[(aRow (Memref.whole main_v0_1_scv) L).view.set]{fullShare} b1) ∗ ((aRow (Memref.whole main_v0_2_scv) L).view.loc (thr d L) ↦[(aRow (Memref.whole main_v0_2_scv) L).view.set]{fullShare} b2) ∗ ((aRow (Memref.whole main_v0_3_scv) L).view.loc (thr d L) ↦[(aRow (Memref.whole main_v0_3_scv) L).view.set]{fullShare} b3) ∗ ((aRow (Memref.whole main_v0_4_scv) L).view.loc (thr d L) ↦[(aRow (Memref.whole main_v0_4_scv) L).view.set]{fullShare} b4) ∗ ((cRow (Memref.whole main_v0_5_scv) L).view.loc (thr d L) ↦[(cRow (Memref.whole main_v0_5_scv) L).view.set]{fullShare} b5) ∗ ((cRow (Memref.whole main_v0_6_scv) L).view.loc (thr d L) ↦[(cRow (Memref.whole main_v0_6_scv) L).view.set]{fullShare} b6) ∗ ((cRow (Memref.whole main_v0_7_scv) L).view.loc (thr d L) ↦[(cRow (Memref.whole main_v0_7_scv) L).view.set]{fullShare} b7) ∗ ((cRow (Memref.whole main_v0_8_scv) L).view.loc (thr d L) ↦[(cRow (Memref.whole main_v0_8_scv) L).view.set]{fullShare} b8) ∗ ((cRow (Memref.whole main_v0_9_scv) L).view.loc (thr d L) ↦[(cRow (Memref.whole main_v0_9_scv) L).view.set]{fullShare} b9) ∗ ((Memref.whole cc0_scratch0).view.loc (thr d L) ↦{fullShare} s0) ∗ ((Memref.whole cc0_scratch1).view.loc (thr d L) ↦{fullShare} s1) ∗ ((Memref.whole cc0_scratch2).view.loc (thr d L) ↦{fullShare} s2) ∗ ((Memref.whole cc0_scratch3).view.loc (thr d L) ↦{fullShare} s3) ∗ ((Memref.whole cc0_scratch4).view.loc (thr d L) ↦{fullShare} s4) ∗ ((Memref.whole cc0_scratch5).view.loc (thr d L) ↦{fullShare} s5) ∗ ((Memref.whole cc0_scratch6).view.loc (thr d L) ↦{fullShare} s6) ∗ ((Memref.whole cc0_scratch7).view.loc (thr d L) ↦{fullShare} s7) ∗ ((Memref.whole cc0_scratch8).view.loc (thr d L) ↦{fullShare} s8) ∗ ((Memref.whole cc0_scratch9).view.loc (thr d L) ↦{fullShare} s9) ∗ ((Memref.whole cc0_scratch10).view.loc (thr d L) ↦{fullShare} s10) ∗ ((Memref.whole cc0_scratch11).view.loc (thr d L) ↦{fullShare} s11) ∗ ((Memref.whole cc0_scratch12).view.loc (thr d L) ↦{fullShare} s12) ∗ semVal (thr d L, SemLoc.dma cc0_scratch13.sem) 0 ∗ semVal (thr d L, SemLoc.dma cc0_scratch14.sem) 0 ∗ semVal (thr d L, SemLoc.dma cc0_scratch15.sem) 0)
   ⊢ (wp frame (wpE (defs₀ (F := F)) 𝒱₀ (thr d L) none) Set.univ
        (cc0__sc_pass1_body L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15) (fun _ => iprop(((aRow (Memref.whole main_arg0_scv) L).view.loc (thr d L) ↦[(aRow (Memref.whole main_arg0_scv) L).view.set]{fullShare} a0) ∗ ((aRow (Memref.whole main_arg1_scv) L).view.loc (thr d L) ↦[(aRow (Memref.whole main_arg1_scv) L).view.set]{fullShare} a1) ∗ ((aRow (Memref.whole main_arg2_scv) L).view.loc (thr d L) ↦[(aRow (Memref.whole main_arg2_scv) L).view.set]{fullShare} a2) ∗ ((aRow (Memref.whole main_arg3_scv) L).view.loc (thr d L) ↦[(aRow (Memref.whole main_arg3_scv) L).view.set]{fullShare} a3) ∗ ((aRow (Memref.whole main_arg4_scv) L).view.loc (thr d L) ↦[(aRow (Memref.whole main_arg4_scv) L).view.set]{fullShare} a4) ∗ ((aRow (Memref.whole main_v0_0_scv) L).view.loc (thr d L) ↦[(aRow (Memref.whole main_v0_0_scv) L).view.set]{fullShare} (outP a0 a1 a2 a3 a4)) ∗ ((aRow (Memref.whole main_v0_1_scv) L).view.loc (thr d L) ↦[(aRow (Memref.whole main_v0_1_scv) L).view.set]{fullShare} (outDr a0 a1 a2 a3 a4)) ∗ ((aRow (Memref.whole main_v0_2_scv) L).view.loc (thr d L) ↦[(aRow (Memref.whole main_v0_2_scv) L).view.set]{fullShare} (outDi a0 a1 a2 a3 a4)) ∗ ((aRow (Memref.whole main_v0_3_scv) L).view.loc (thr d L) ↦[(aRow (Memref.whole main_v0_3_scv) L).view.set]{fullShare} (outBr a0 a1 a2 a3 a4)) ∗ ((aRow (Memref.whole main_v0_4_scv) L).view.loc (thr d L) ↦[(aRow (Memref.whole main_v0_4_scv) L).view.set]{fullShare} (outBi a0 a1 a2 a3 a4)) ∗ ((cRow (Memref.whole main_v0_5_scv) L).view.loc (thr d L) ↦[(cRow (Memref.whole main_v0_5_scv) L).view.set]{fullShare} (carP a0 a1 a2 a3 a4)) ∗ ((cRow (Memref.whole main_v0_6_scv) L).view.loc (thr d L) ↦[(cRow (Memref.whole main_v0_6_scv) L).view.set]{fullShare} (carDr a0 a1 a2 a3 a4)) ∗ ((cRow (Memref.whole main_v0_7_scv) L).view.loc (thr d L) ↦[(cRow (Memref.whole main_v0_7_scv) L).view.set]{fullShare} (carDi a0 a1 a2 a3 a4)) ∗ ((cRow (Memref.whole main_v0_8_scv) L).view.loc (thr d L) ↦[(cRow (Memref.whole main_v0_8_scv) L).view.set]{fullShare} (carBr a0 a1 a2 a3 a4)) ∗ ((cRow (Memref.whole main_v0_9_scv) L).view.loc (thr d L) ↦[(cRow (Memref.whole main_v0_9_scv) L).view.set]{fullShare} (carBi a0 a1 a2 a3 a4)) ∗ (∃ f, (Memref.whole cc0_scratch0).view.loc (thr d L) ↦{fullShare} f) ∗ (∃ f, (Memref.whole cc0_scratch1).view.loc (thr d L) ↦{fullShare} f) ∗ (∃ f, (Memref.whole cc0_scratch2).view.loc (thr d L) ↦{fullShare} f) ∗ (∃ f, (Memref.whole cc0_scratch3).view.loc (thr d L) ↦{fullShare} f) ∗ (∃ f, (Memref.whole cc0_scratch4).view.loc (thr d L) ↦{fullShare} f) ∗ (∃ f, (Memref.whole cc0_scratch5).view.loc (thr d L) ↦{fullShare} f) ∗ (∃ f, (Memref.whole cc0_scratch6).view.loc (thr d L) ↦{fullShare} f) ∗ (∃ f, (Memref.whole cc0_scratch7).view.loc (thr d L) ↦{fullShare} f) ∗ (∃ f, (Memref.whole cc0_scratch8).view.loc (thr d L) ↦{fullShare} f) ∗ (∃ f, (Memref.whole cc0_scratch9).view.loc (thr d L) ↦{fullShare} f) ∗ (∃ f, (Memref.whole cc0_scratch10).view.loc (thr d L) ↦{fullShare} f) ∗ (∃ f, (Memref.whole cc0_scratch11).view.loc (thr d L) ↦{fullShare} f) ∗ (∃ f, (Memref.whole cc0_scratch12).view.loc (thr d L) ↦{fullShare} f) ∗ semVal (thr d L, SemLoc.dma cc0_scratch13.sem) 0 ∗ semVal (thr d L, SemLoc.dma cc0_scratch14.sem) 0 ∗ semVal (thr d L, SemLoc.dma cc0_scratch15.sem) 0 ∗ (∃ W', ⌜∀ p ∈ W', p ∈ W ∨ p.2 = none⌝ ∗ owes (thr d L) O W'))) : sProp 𝕄) := by
  have plan0 : Transfers.BatchOf (thr d L) (SemLoc.dma cc0_scratch13.sem) 5 := trivial
  have plan1 : Transfers.BatchOf (thr d L) (SemLoc.dma cc0_scratch14.sem) 5 := trivial
  have plan2 : Transfers.BatchOf (thr d L) (SemLoc.dma cc0_scratch15.sem) 5 := trivial
  rw [cc0__sc_pass1_body_eq_skeleton]; unfold cc0__sc_pass1_body_skel
  rw [k0_part8_eq_skeleton, k0_part9_eq_skeleton, k0_part10_eq_skeleton, k0_part11_eq_skeleton, k0_part12_eq_skeleton]
  iintro ⟨Hmw, HO, HA0, HA1, HA2, HA3, HA4, HB0, HB1, HB2, HB3, HB4, HB5, HB6, HB7, HB8, HB9, H0, H1, H2, H3, H4, H5, H6, H7, H8, H9, H10, H11, H12, S0, S1, S2⟩
  sl_exec
  have w0 : ∀ w, w = (aRow (Memref.whole main_arg0_scv) L).view.read (Elt F) a0 → (Memref.whole cc0_scratch0).view.write (Elt F) s0 w Finset.univ = tin L a0 :=
    fun w h => (View.write_whole_univ cc0_scratch0 s0 w).trans (h.trans (read_aRow (Memref.whole main_arg0_scv) L a0))
  have w1 : ∀ w, w = (aRow (Memref.whole main_arg1_scv) L).view.read (Elt F) a1 → (Memref.whole cc0_scratch1).view.write (Elt F) s1 w Finset.univ = tin L a1 :=
    fun w h => (View.write_whole_univ cc0_scratch1 s1 w).trans (h.trans (read_aRow (Memref.whole main_arg1_scv) L a1))
  have w2 : ∀ w, w = (aRow (Memref.whole main_arg2_scv) L).view.read (Elt F) a2 → (Memref.whole cc0_scratch2).view.write (Elt F) s2 w Finset.univ = tin L a2 :=
    fun w h => (View.write_whole_univ cc0_scratch2 s2 w).trans (h.trans (read_aRow (Memref.whole main_arg2_scv) L a2))
  have w3 : ∀ w, w = (aRow (Memref.whole main_arg3_scv) L).view.read (Elt F) a3 → (Memref.whole cc0_scratch3).view.write (Elt F) s3 w Finset.univ = tin L a3 :=
    fun w h => (View.write_whole_univ cc0_scratch3 s3 w).trans (h.trans (read_aRow (Memref.whole main_arg3_scv) L a3))
  have w4 : ∀ w, w = (aRow (Memref.whole main_arg4_scv) L).view.read (Elt F) a4 → (Memref.whole cc0_scratch4).view.write (Elt F) s4 w Finset.univ = tin L a4 :=
    fun w h => (View.write_whole_univ cc0_scratch4 s4 w).trans (h.trans (read_aRow (Memref.whole main_arg4_scv) L a4))
  rw [w0, w1, w2, w3, w4]
  on_goal 2 => rfl
  on_goal 2 => rfl
  on_goal 2 => rfl
  on_goal 2 => rfl
  on_goal 2 => rfl
  sl_for (inv1 (F := F) d L (tin L a0) (tin L a1) (tin L a2) (tin L a3) (tin L a4)) $$ [H0 H1 H2 H3 H4 H5 H6 H7 H8 H9 H10 H11 H12]
  case region => exact fun t acc => inv1_region d L (tin L a0) (tin L a1) (tin L a2) (tin L a3) (tin L a4) hp t acc
  · unfold inv1
    isplitr; · ipureintro; rw [tch, chunk_zero]; exact init_eq
    rw [mix_zero, mix_zero, mix_zero, mix_zero, mix_zero]
    isplitl [H0]; · iexact H0
    isplitl [H1]; · iexact H1
    isplitl [H2]; · iexact H2
    isplitl [H3]; · iexact H3
    isplitl [H4]; · iexact H4
    iexists s5, s6, s7, s8, s9, s10, s11, s12
    sl_close
  iintro %acc HI
  unfold inv1
  icases HI with ⟨%e, H0, H1, H2, H3, H4, %g5, %g6, %g7, %g8, %g9, %g10, %g11, %g12, H5, H6, H7, H8, H9, H10, H11, H12⟩
  subst e
  ihave Hs := (pointsTo_share (PosShare.mem_left_op_right fullShare)).1 $$ H0
  icases Hs with ⟨H0, L0⟩
  ihave Hs := (pointsTo_share (PosShare.mem_left_op_right fullShare)).1 $$ H1
  icases Hs with ⟨H1, L1⟩
  ihave Hs := (pointsTo_share (PosShare.mem_left_op_right fullShare)).1 $$ H2
  icases Hs with ⟨H2, L2⟩
  ihave Hs := (pointsTo_share (PosShare.mem_left_op_right fullShare)).1 $$ H3
  icases Hs with ⟨H3, L3⟩
  ihave Hs := (pointsTo_share (PosShare.mem_left_op_right fullShare)).1 $$ H4
  icases Hs with ⟨H4, L4⟩
  sl_exec
  sl_step
  isplitl [HA0]; · iexact HA0
  isplitl [HA1]; · iexact HA1
  isplitl [HA2]; · iexact HA2
  isplitl [HA3]; · iexact HA3
  isplitl [HA4]; · iexact HA4
  isplitl [HB0]
  · iapply (ent_of_eq (lands_outP d L a0 a1 a2 a3 a4 b0 _ ?hB0)) $$ HB0
    case hB0 => rfl
  isplitl [HB1]
  · iapply (ent_of_eq (lands_outDr d L a0 a1 a2 a3 a4 b1 _ ?hB1)) $$ HB1
    case hB1 => rfl
  isplitl [HB2]
  · iapply (ent_of_eq (lands_outDi d L a0 a1 a2 a3 a4 b2 _ ?hB2)) $$ HB2
    case hB2 => rfl
  isplitl [HB3]
  · iapply (ent_of_eq (lands_outBr d L a0 a1 a2 a3 a4 b3 _ ?hB3)) $$ HB3
    case hB3 => rfl
  isplitl [HB4]
  · iapply (ent_of_eq (lands_outBi d L a0 a1 a2 a3 a4 b4 _ ?hB4)) $$ HB4
    case hB4 => rfl
  isplitl [HB5]
  · iapply (ent_of_eq (lands_carP d L a0 a1 a2 a3 a4 b5 _ ?hB5)) $$ HB5
    case hB5 => exact read_last (F := F) (Memref.whole cc0_scratch0) _
  isplitl [HB6]
  · iapply (ent_of_eq (lands_carDr d L a0 a1 a2 a3 a4 b6 _ ?hB6)) $$ HB6
    case hB6 => exact read_last (F := F) (Memref.whole cc0_scratch1) _
  isplitl [HB7]
  · iapply (ent_of_eq (lands_carDi d L a0 a1 a2 a3 a4 b7 _ ?hB7)) $$ HB7
    case hB7 => exact read_last (F := F) (Memref.whole cc0_scratch2) _
  isplitl [HB8]
  · iapply (ent_of_eq (lands_carBr d L a0 a1 a2 a3 a4 b8 _ ?hB8)) $$ HB8
    case hB8 => exact read_last (F := F) (Memref.whole cc0_scratch3) _
  isplitl [HB9]
  · iapply (ent_of_eq (lands_carBi d L a0 a1 a2 a3 a4 b9 _ ?hB9)) $$ HB9
    case hB9 => exact read_last (F := F) (Memref.whole cc0_scratch4) _
  isplitl [H0 L0]
  · iexists _; iapply (pointsTo_share (PosShare.mem_left_op_right fullShare)).2; isplitl [H0]; · iexact H0
    iexact L0
  isplitl [H1 L1]
  · iexists _; iapply (pointsTo_share (PosShare.mem_left_op_right fullShare)).2; isplitl [H1]; · iexact H1
    iexact L1
  isplitl [H2 L2]
  · iexists _; iapply (pointsTo_share (PosShare.mem_left_op_right fullShare)).2; isplitl [H2]; · iexact H2
    iexact L2
  isplitl [H3 L3]
  · iexists _; iapply (pointsTo_share (PosShare.mem_left_op_right fullShare)).2; isplitl [H3]; · iexact H3
    iexact L3
  isplitl [H4 L4]
  · iexists _; iapply (pointsTo_share (PosShare.mem_left_op_right fullShare)).2; isplitl [H4]; · iexact H4
    iexact L4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [S0]; · iexact S0
  isplitl [S1]; · iexact S1
  isplitl [S2]; · iexact S2
  iexists _
  isplitr
  rotate_left
  · iexact HO
  · ipureintro
    repeat refine waits_ins rfl ?_
    exact fun p hp => Or.inl hp

end Cert.Proof.KI
end
-- ==== Proof.IdealTile2.lean ====
/-
  (Of the idealized kernel.)
  The second kernel's task on one tile: ten copies in, the loop over carries, the loop over rows, two copies out.
-/
module

public import proofs.«01_k».proof.Proof.IdealPass2

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

set_option maxHeartbeats 2000000 in
/-- The task on one tile: from its rows of the prefixes and all the carries to its rows of the two results. -/
theorem tile2 (d : Dev nD) (L : grid1.Coords) (O : CellTallies nD τ sig (HIx 2)) (W : Waits sig (HIx 2)) (q : PosShare TreeShare) (b0 : HBlk.Idx → BitVec 32) (b1 b2 b3 b4 : HBlk.Idx → F .f32) (b5 : (HRows 32).Idx → BitVec 32) (b6 b7 b8 b9 : (HRows 32).Idx → F .f32) u0 u1 s0 s1 s2 s3 s4 s5 s6 s7 s8 s9 s10 s11 s12 s13 s14 s15 s16 s17 s18 s19 s20 s21
    (hp : ∀ r k, (blk b0 (wid L) r k).toNat < 64) (hc : ∀ r k, (row b5 r k).toNat < 64) :
    iprop(Transfers.MayWaits (thr d L) none O ∗ owes (thr d L) O W ∗ ((bRow (Memref.whole main_v0_0_scv) L).view.loc (thr d L) ↦[(bRow (Memref.whole main_v0_0_scv) L).view.set]{fullShare} b0) ∗ ((bRow (Memref.whole main_v0_1_scv) L).view.loc (thr d L) ↦[(bRow (Memref.whole main_v0_1_scv) L).view.set]{fullShare} b1) ∗ ((bRow (Memref.whole main_v0_2_scv) L).view.loc (thr d L) ↦[(bRow (Memref.whole main_v0_2_scv) L).view.set]{fullShare} b2) ∗ ((bRow (Memref.whole main_v0_3_scv) L).view.loc (thr d L) ↦[(bRow (Memref.whole main_v0_3_scv) L).view.set]{fullShare} b3) ∗ ((bRow (Memref.whole main_v0_4_scv) L).view.loc (thr d L) ↦[(bRow (Memref.whole main_v0_4_scv) L).view.set]{fullShare} b4) ∗ ((Memref.whole main_v0_5_scv).view.loc (thr d L) ↦{q} b5) ∗ ((Memref.whole main_v0_6_scv).view.loc (thr d L) ↦{q} b6) ∗ ((Memref.whole main_v0_7_scv).view.loc (thr d L) ↦{q} b7) ∗ ((Memref.whole main_v0_8_scv).view.loc (thr d L) ↦{q} b8) ∗ ((Memref.whole main_v0_9_scv).view.loc (thr d L) ↦{q} b9) ∗ ((bRow (Memref.whole main_v1_0_scv) L).view.loc (thr d L) ↦[(bRow (Memref.whole main_v1_0_scv) L).view.set]{fullShare} u0) ∗ ((bRow (Memref.whole main_v1_1_scv) L).view.loc (thr d L) ↦[(bRow (Memref.whole main_v1_1_scv) L).view.set]{fullShare} u1) ∗ ((Memref.whole cc1_scratch0).view.loc (thr d L) ↦{fullShare} s0) ∗ ((Memref.whole cc1_scratch1).view.loc (thr d L) ↦{fullShare} s1) ∗ ((Memref.whole cc1_scratch2).view.loc (thr d L) ↦{fullShare} s2) ∗ ((Memref.whole cc1_scratch3).view.loc (thr d L) ↦{fullShare} s3) ∗ ((Memref.whole cc1_scratch4).view.loc (thr d L) ↦{fullShare} s4) ∗ ((Memref.whole cc1_scratch5).view.loc (thr d L) ↦{fullShare} s5) ∗ ((Memref.whole cc1_scratch6).view.loc (thr d L) ↦{fullShare} s6) ∗ ((Memref.whole cc1_scratch7).view.loc (thr d L) ↦{fullShare} s7) ∗ ((Memref.whole cc1_scratch8).view.loc (thr d L) ↦{fullShare} s8) ∗ ((Memref.whole cc1_scratch9).view.loc (thr d L) ↦{fullShare} s9) ∗ ((Memref.whole cc1_scratch10).view.loc (thr d L) ↦{fullShare} s10) ∗ ((Memref.whole cc1_scratch11).view.loc (thr d L) ↦{fullShare} s11) ∗ ((Memref.whole cc1_scratch12).view.loc (thr d L) ↦{fullShare} s12) ∗ ((Memref.whole cc1_scratch13).view.loc (thr d L) ↦{fullShare} s13) ∗ ((Memref.whole cc1_scratch14).view.loc (thr d L) ↦{fullShare} s14) ∗ ((Memref.whole cc1_scratch15).view.loc (thr d L) ↦{fullShare} s15) ∗ ((Memref.whole cc1_scratch16).view.loc (thr d L) ↦{fullShare} s16) ∗ ((Memref.whole cc1_scratch17).view.loc (thr d L) ↦{fullShare} s17) ∗ ((Memref.whole cc1_scratch18).view.loc (thr d L) ↦{fullShare} s18) ∗ ((Memref.whole cc1_scratch19).view.loc (thr d L) ↦{fullShare} s19) ∗ ((Memref.whole cc1_scratch20).view.loc (thr d L) ↦{fullShare} s20) ∗ ((Memref.whole cc1_scratch21).view.loc (thr d L) ↦{fullShare} s21) ∗ semVal (thr d L, SemLoc.dma cc1_scratch22.sem) 0 ∗ semVal (thr d L, SemLoc.dma cc1_scratch23.sem) 0 ∗ semVal (thr d L, SemLoc.dma cc1_scratch24.sem) 0)
   ⊢ (wp frame (wpE (defs₀ (F := F)) 𝒱₀ (thr d L) none) Set.univ
        (cc1__sc_pass2_body L (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) cc1_scratch22 cc1_scratch23 cc1_scratch24) (fun _ => iprop(((bRow (Memref.whole main_v0_0_scv) L).view.loc (thr d L) ↦[(bRow (Memref.whole main_v0_0_scv) L).view.set]{fullShare} b0) ∗ ((bRow (Memref.whole main_v0_1_scv) L).view.loc (thr d L) ↦[(bRow (Memref.whole main_v0_1_scv) L).view.set]{fullShare} b1) ∗ ((bRow (Memref.whole main_v0_2_scv) L).view.loc (thr d L) ↦[(bRow (Memref.whole main_v0_2_scv) L).view.set]{fullShare} b2) ∗ ((bRow (Memref.whole main_v0_3_scv) L).view.loc (thr d L) ↦[(bRow (Memref.whole main_v0_3_scv) L).view.set]{fullShare} b3) ∗ ((bRow (Memref.whole main_v0_4_scv) L).view.loc (thr d L) ↦[(bRow (Memref.whole main_v0_4_scv) L).view.set]{fullShare} b4) ∗ ((Memref.whole main_v0_5_scv).view.loc (thr d L) ↦{q} b5) ∗ ((Memref.whole main_v0_6_scv).view.loc (thr d L) ↦{q} b6) ∗ ((Memref.whole main_v0_7_scv).view.loc (thr d L) ↦{q} b7) ∗ ((Memref.whole main_v0_8_scv).view.loc (thr d L) ↦{q} b8) ∗ ((Memref.whole main_v0_9_scv).view.loc (thr d L) ↦{q} b9) ∗ ((bRow (Memref.whole main_v1_0_scv) L).view.loc (thr d L) ↦[(bRow (Memref.whole main_v1_0_scv) L).view.set]{fullShare} (hidR b0 b1 b2 b3 b4 b5 b6 b7 b8 b9)) ∗ ((bRow (Memref.whole main_v1_1_scv) L).view.loc (thr d L) ↦[(bRow (Memref.whole main_v1_1_scv) L).view.set]{fullShare} (hidI b0 b1 b2 b3 b4 b5 b6 b7 b8 b9)) ∗ (∃ f, (Memref.whole cc1_scratch0).view.loc (thr d L) ↦{fullShare} f) ∗ (∃ f, (Memref.whole cc1_scratch1).view.loc (thr d L) ↦{fullShare} f) ∗ (∃ f, (Memref.whole cc1_scratch2).view.loc (thr d L) ↦{fullShare} f) ∗ (∃ f, (Memref.whole cc1_scratch3).view.loc (thr d L) ↦{fullShare} f) ∗ (∃ f, (Memref.whole cc1_scratch4).view.loc (thr d L) ↦{fullShare} f) ∗ (∃ f, (Memref.whole cc1_scratch5).view.loc (thr d L) ↦{fullShare} f) ∗ (∃ f, (Memref.whole cc1_scratch6).view.loc (thr d L) ↦{fullShare} f) ∗ (∃ f, (Memref.whole cc1_scratch7).view.loc (thr d L) ↦{fullShare} f) ∗ (∃ f, (Memref.whole cc1_scratch8).view.loc (thr d L) ↦{fullShare} f) ∗ (∃ f, (Memref.whole cc1_scratch9).view.loc (thr d L) ↦{fullShare} f) ∗ (∃ f, (Memref.whole cc1_scratch10).view.loc (thr d L) ↦{fullShare} f) ∗ (∃ f, (Memref.whole cc1_scratch11).view.loc (thr d L) ↦{fullShare} f) ∗ (∃ f, (Memref.whole cc1_scratch12).view.loc (thr d L) ↦{fullShare} f) ∗ (∃ f, (Memref.whole cc1_scratch13).view.loc (thr d L) ↦{fullShare} f) ∗ (∃ f, (Memref.whole cc1_scratch14).view.loc (thr d L) ↦{fullShare} f) ∗ (∃ f, (Memref.whole cc1_scratch15).view.loc (thr d L) ↦{fullShare} f) ∗ (∃ f, (Memref.whole cc1_scratch16).view.loc (thr d L) ↦{fullShare} f) ∗ (∃ f, (Memref.whole cc1_scratch17).view.loc (thr d L) ↦{fullShare} f) ∗ (∃ f, (Memref.whole cc1_scratch18).view.loc (thr d L) ↦{fullShare} f) ∗ (∃ f, (Memref.whole cc1_scratch19).view.loc (thr d L) ↦{fullShare} f) ∗ (∃ f, (Memref.whole cc1_scratch20).view.loc (thr d L) ↦{fullShare} f) ∗ (∃ f, (Memref.whole cc1_scratch21).view.loc (thr d L) ↦{fullShare} f) ∗ semVal (thr d L, SemLoc.dma cc1_scratch22.sem) 0 ∗ semVal (thr d L, SemLoc.dma cc1_scratch23.sem) 0 ∗ semVal (thr d L, SemLoc.dma cc1_scratch24.sem) 0 ∗ (∃ W', ⌜∀ p ∈ W', p ∈ W ∨ p.2 = none⌝ ∗ owes (thr d L) O W'))) : sProp 𝕄) := by
  have plan0 : Transfers.BatchOf (thr d L) (SemLoc.dma cc1_scratch22.sem) 5 := trivial
  have plan1 : Transfers.BatchOf (thr d L) (SemLoc.dma cc1_scratch23.sem) 5 := trivial
  have plan2 : Transfers.BatchOf (thr d L) (SemLoc.dma cc1_scratch24.sem) 2 := trivial
  rw [cc1__sc_pass2_body_eq_skeleton]; unfold cc1__sc_pass2_body_skel
  rw [k1_part19_eq_skeleton, k1_part20_eq_skeleton]
  iintro ⟨Hmw, HO, HB0, HB1, HB2, HB3, HB4, HB5, HB6, HB7, HB8, HB9, HU0, HU1, H0, H1, H2, H3, H4, H5, H6, H7, H8, H9, H10, H11, H12, H13, H14, H15, H16, H17, H18, H19, H20, H21, S0, S1, S2⟩
  sl_exec
  have w0 : ∀ w, w = (Memref.whole main_v0_5_scv).view.read (Elt F) b5 → (Memref.whole cc1_scratch0).view.write (Elt F) s0 w Finset.univ = b5 :=
    fun w h => (View.write_whole_univ cc1_scratch0 s0 w).trans h
  have w1 : ∀ w, w = (Memref.whole main_v0_6_scv).view.read (Elt F) b6 → (Memref.whole cc1_scratch1).view.write (Elt F) s1 w Finset.univ = b6 :=
    fun w h => (View.write_whole_univ cc1_scratch1 s1 w).trans h
  have w2 : ∀ w, w = (Memref.whole main_v0_7_scv).view.read (Elt F) b7 → (Memref.whole cc1_scratch2).view.write (Elt F) s2 w Finset.univ = b7 :=
    fun w h => (View.write_whole_univ cc1_scratch2 s2 w).trans h
  have w3 : ∀ w, w = (Memref.whole main_v0_8_scv).view.read (Elt F) b8 → (Memref.whole cc1_scratch3).view.write (Elt F) s3 w Finset.univ = b8 :=
    fun w h => (View.write_whole_univ cc1_scratch3 s3 w).trans h
  have w4 : ∀ w, w = (Memref.whole main_v0_9_scv).view.read (Elt F) b9 → (Memref.whole cc1_scratch4).view.write (Elt F) s4 w Finset.univ = b9 :=
    fun w h => (View.write_whole_univ cc1_scratch4 s4 w).trans h
  rw [w0, w1, w2, w3, w4]
  on_goal 2 => rfl
  on_goal 2 => rfl
  on_goal 2 => rfl
  on_goal 2 => rfl
  on_goal 2 => rfl
  sl_for (inv2 (F := F) d L (wid L).val b5 b6 b7 b8 b9) $$ [H0 H1 H2 H3 H4 H14 H15 H16 H17 H18 H19 H20 H21]
  case region => exact fun t acc => inv2_region d L (wid L).val _ b5 b6 b7 b8 b9 (mask_eq L) hc t acc
  · unfold inv2
    isplitr; · ipureintro; rw [ent, enter_zero]; exact init2_eq
    isplitl [H0]; · iexact H0
    isplitl [H1]; · iexact H1
    isplitl [H2]; · iexact H2
    isplitl [H3]; · iexact H3
    isplitl [H4]; · iexact H4
    iexists s14, s15, s16, s17, s18, s19, s20, s21
    sl_close
  iintro %acc HI
  unfold inv2
  icases HI with ⟨%e, H0, H1, H2, H3, H4, %g14, %g15, %g16, %g17, %g18, %g19, %g20, %g21, H14, H15, H16, H17, H18, H19, H20, H21⟩
  subst e
  unfold spack
  sl_exec
  have x0 : ∀ w, w = (bRow (Memref.whole main_v0_0_scv) L).view.read (Elt F) b0 → (Memref.whole cc1_scratch5).view.write (Elt F) s5 w Finset.univ = tin L b0 :=
    fun w h => (View.write_whole_univ cc1_scratch5 s5 w).trans (h.trans (read_bRow (Memref.whole main_v0_0_scv) L b0))
  have x1 : ∀ w, w = (bRow (Memref.whole main_v0_1_scv) L).view.read (Elt F) b1 → (Memref.whole cc1_scratch6).view.write (Elt F) s6 w Finset.univ = tin L b1 :=
    fun w h => (View.write_whole_univ cc1_scratch6 s6 w).trans (h.trans (read_bRow (Memref.whole main_v0_1_scv) L b1))
  have x2 : ∀ w, w = (bRow (Memref.whole main_v0_2_scv) L).view.read (Elt F) b2 → (Memref.whole cc1_scratch7).view.write (Elt F) s7 w Finset.univ = tin L b2 :=
    fun w h => (View.write_whole_univ cc1_scratch7 s7 w).trans (h.trans (read_bRow (Memref.whole main_v0_2_scv) L b2))
  have x3 : ∀ w, w = (bRow (Memref.whole main_v0_3_scv) L).view.read (Elt F) b3 → (Memref.whole cc1_scratch8).view.write (Elt F) s8 w Finset.univ = tin L b3 :=
    fun w h => (View.write_whole_univ cc1_scratch8 s8 w).trans (h.trans (read_bRow (Memref.whole main_v0_3_scv) L b3))
  have x4 : ∀ w, w = (bRow (Memref.whole main_v0_4_scv) L).view.read (Elt F) b4 → (Memref.whole cc1_scratch9).view.write (Elt F) s9 w Finset.univ = tin L b4 :=
    fun w h => (View.write_whole_univ cc1_scratch9 s9 w).trans (h.trans (read_bRow (Memref.whole main_v0_4_scv) L b4))
  rw [x0, x1, x2, x3, x4]
  on_goal 2 => rfl
  on_goal 2 => rfl
  on_goal 2 => rfl
  on_goal 2 => rfl
  on_goal 2 => rfl
  sl_for (inv3 (F := F) d L (ent b5 b6 b7 b8 b9 (wid L).val 31) (tin L b0) (tin L b1) (tin L b2) (tin L b3) (tin L b4)) $$ [H5 H6 H7 H8 H9 H10 H11 H12 H13 H14 H18 H15 H19]
  case region => exact fun t acc => inv3_region d L (ent b5 b6 b7 b8 b9 (wid L).val 31) _ (tin L b0) (tin L b1) (tin L b2) (tin L b3) (tin L b4) hp t acc
  · unfold inv3
    rw [Nat.mul_zero, mix_zero, mix_zero]
    isplitl [H5]; · iexact H5
    isplitl [H6]; · iexact H6
    isplitl [H7]; · iexact H7
    isplitl [H8]; · iexact H8
    isplitl [H9]; · iexact H9
    iexists s10, s11, s12, s13, g14, g18, g15, g19
    sl_close
  iintro %acc HI
  unfold inv3
  icases HI with ⟨H5, H6, H7, H8, H9, %h10, %h11, %h12, %h13, %h14, %h18, %h15, %h19, H10, H11, H12, H13, H14, H18, H15, H19⟩
  sl_exec
  sl_step
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  isplitl [HB7]; · iexact HB7
  isplitl [HB8]; · iexact HB8
  isplitl [HB9]; · iexact HB9
  isplitl [HU0]
  · iapply (ent_of_eq (lands_hidR d L b0 b1 b2 b3 b4 b5 b6 b7 b8 b9 u0 _ ?hU0)) $$ HU0
    case hU0 => rfl
  isplitl [HU1]
  · iapply (ent_of_eq (lands_hidI d L b0 b1 b2 b3 b4 b5 b6 b7 b8 b9 u1 _ ?hU1)) $$ HU1
    case hU1 => rfl
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [S0]; · iexact S0
  isplitl [S1]; · iexact S1
  isplitl [S2]; · iexact S2
  iexists _
  isplitr
  rotate_left
  · iexact HO
  · ipureintro
    repeat refine waits_ins rfl ?_
    exact fun p hp => Or.inl hp

end Cert.Proof.KI
end
-- ==== Proof.IdealTask.lean ====
/-
  (Of the idealized kernel.)
  The two tasks as the launch asks for them: a tile's own buffers and semaphores taken out of what its processor owns, the
  task run on them and on the rows it is handed, and everything put back.
-/
module

public import proofs.«01_k».proof.Proof.IdealSplit
public import proofs.«01_k».proof.Proof.IdealTile1
public import proofs.«01_k».proof.Proof.IdealTile2

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

theorem sep13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_of_subsingleton 0]; rfl

theorem sep22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) := by
  rw [bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_succ, bigSep_univ_of_subsingleton 0]; rfl

/-- Buffers of a tile's own, named by an injective family, and the rest of what its processor owns. -/
theorem own_split (d : Dev nD) (c : Fin τ.nSC) (i : Fin τ.nSub) {n : ℕ} (r : Fin n → Ref sig .scVector)
    (ho : ∀ k, ((Proc.scVector c i).devRef (r k) : DevRef τ sig).owner = .proc (.scVector c i)) (hr : Function.Injective r) :
    ∃ R : sProp 𝕄, (ownBufs (V d c i) : sProp 𝕄) = iprop((bigSep Finset.univ fun k : Fin n => iprop(∃ f, (V d c i).loc (r k) ↦{fullShare} f)) ∗ R) := by
  have hsub : (Finset.univ.image fun k => ((Proc.scVector c i).devRef (r k) : DevRef τ sig)) ⊆ ownRefs (τ := τ) (.scVector c i) := by
    intro b hb
    obtain ⟨k, _, rfl⟩ := Finset.mem_image.mp hb
    exact SparseCore.Cfg.mem_ownRefs_of_owner (ho k)
  refine ⟨bigSep (ownRefs (τ := τ) (.scVector c i) \ Finset.univ.image fun k => ((Proc.scVector c i).devRef (r k) : DevRef τ sig))
    fun b => iprop(∃ f, ((d, b) : Loc nD τ sig) ↦{fullShare} f), ?_⟩
  unfold SparseCore.Cfg.ownBufs
  refine (SparseCore.bigSep_sdiff_split' hsub).trans (congrArg (fun A : sProp 𝕄 => iprop(A ∗ _)) ?_)
  exact SparseCore.bigSep_image_of_injOn (fun k _ k' _ e => hr (Proc.devRef_injective _ e)) _

/-- The call's scratch buffers on a tile. -/
def scr0 : Fin 13 → Ref sig .scVector := ![cc0_scratch0, cc0_scratch1, cc0_scratch2, cc0_scratch3, cc0_scratch4, cc0_scratch5, cc0_scratch6, cc0_scratch7, cc0_scratch8, cc0_scratch9, cc0_scratch10, cc0_scratch11, cc0_scratch12]

theorem scr0_injective : Function.Injective scr0 := by decide

theorem tileBufs0 (d : Dev nD) (c : Fin τ.nSC) (i : Fin τ.nSub) :
    ∃ R : sProp 𝕄, (ownBufs (V d c i) : sProp 𝕄) = iprop((bigSep Finset.univ fun k : Fin 13 => iprop(∃ f, (V d c i).loc (scr0 k) ↦{fullShare} f)) ∗ R) :=
  own_split d c i scr0 (by intro k; fin_cases k <;> rfl) scr0_injective

theorem tileSems0 (d : Dev nD) (c : Fin τ.nSC) (i : Fin τ.nSub) :
    ∃ R : sProp 𝕄, (ownSems0 (V d c i) : sProp 𝕄) = iprop(semVal ((V d c i, SemLoc.dma cc0_scratch13.sem) : GSem nD τ sig) 0 ∗ semVal ((V d c i, SemLoc.dma cc0_scratch14.sem) : GSem nD τ sig) 0 ∗ semVal ((V d c i, SemLoc.dma cc0_scratch15.sem) : GSem nD τ sig) 0 ∗ R) := by
  refine ⟨bigSep ((((ownCells (V d c i)).erase ((V d c i, SemLoc.dma cc0_scratch13.sem) : GSem nD τ sig)).erase ((V d c i, SemLoc.dma cc0_scratch14.sem) : GSem nD τ sig)).erase ((V d c i, SemLoc.dma cc0_scratch15.sem) : GSem nD τ sig)) fun g => semVal g 0, ?_⟩
  unfold SparseCore.Cfg.ownSems0
  rw [SparseCore.bigSep_erase' ((mem_ownCells (g := ((V d c i, SemLoc.dma cc0_scratch13.sem) : GSem nD τ sig))).mpr ⟨rfl, by
      show (SemLoc.dma cc0_scratch13.sem : SemLoc sig).isScoped .scVector = true; decide⟩),
    SparseCore.bigSep_erase' (Finset.mem_erase.mpr ⟨by simp; decide, (mem_ownCells (g := ((V d c i, SemLoc.dma cc0_scratch14.sem) : GSem nD τ sig))).mpr ⟨rfl, by
      show (SemLoc.dma cc0_scratch14.sem : SemLoc sig).isScoped .scVector = true; decide⟩⟩),
    SparseCore.bigSep_erase' (Finset.mem_erase.mpr ⟨by simp; decide, Finset.mem_erase.mpr ⟨by simp; decide,
      (mem_ownCells (g := ((V d c i, SemLoc.dma cc0_scratch15.sem) : GSem nD τ sig))).mpr ⟨rfl, by show (SemLoc.dma cc0_scratch15.sem : SemLoc sig).isScoped .scVector = true; decide⟩⟩⟩)]

/-- The call's scratch buffers on a tile. -/
def scr1 : Fin 22 → Ref sig .scVector := ![cc1_scratch0, cc1_scratch1, cc1_scratch2, cc1_scratch3, cc1_scratch4, cc1_scratch5, cc1_scratch6, cc1_scratch7, cc1_scratch8, cc1_scratch9, cc1_scratch10, cc1_scratch11, cc1_scratch12, cc1_scratch13, cc1_scratch14, cc1_scratch15, cc1_scratch16, cc1_scratch17, cc1_scratch18, cc1_scratch19, cc1_scratch20, cc1_scratch21]

theorem scr1_injective : Function.Injective scr1 := by decide

theorem tileBufs1 (d : Dev nD) (c : Fin τ.nSC) (i : Fin τ.nSub) :
    ∃ R : sProp 𝕄, (ownBufs (V d c i) : sProp 𝕄) = iprop((bigSep Finset.univ fun k : Fin 22 => iprop(∃ f, (V d c i).loc (scr1 k) ↦{fullShare} f)) ∗ R) :=
  own_split d c i scr1 (by intro k; fin_cases k <;> rfl) scr1_injective

theorem tileSems1 (d : Dev nD) (c : Fin τ.nSC) (i : Fin τ.nSub) :
    ∃ R : sProp 𝕄, (ownSems0 (V d c i) : sProp 𝕄) = iprop(semVal ((V d c i, SemLoc.dma cc1_scratch22.sem) : GSem nD τ sig) 0 ∗ semVal ((V d c i, SemLoc.dma cc1_scratch23.sem) : GSem nD τ sig) 0 ∗ semVal ((V d c i, SemLoc.dma cc1_scratch24.sem) : GSem nD τ sig) 0 ∗ R) := by
  refine ⟨bigSep ((((ownCells (V d c i)).erase ((V d c i, SemLoc.dma cc1_scratch22.sem) : GSem nD τ sig)).erase ((V d c i, SemLoc.dma cc1_scratch23.sem) : GSem nD τ sig)).erase ((V d c i, SemLoc.dma cc1_scratch24.sem) : GSem nD τ sig)) fun g => semVal g 0, ?_⟩
  unfold SparseCore.Cfg.ownSems0
  rw [SparseCore.bigSep_erase' ((mem_ownCells (g := ((V d c i, SemLoc.dma cc1_scratch22.sem) : GSem nD τ sig))).mpr ⟨rfl, by
      show (SemLoc.dma cc1_scratch22.sem : SemLoc sig).isScoped .scVector = true; decide⟩),
    SparseCore.bigSep_erase' (Finset.mem_erase.mpr ⟨by simp; decide, (mem_ownCells (g := ((V d c i, SemLoc.dma cc1_scratch23.sem) : GSem nD τ sig))).mpr ⟨rfl, by
      show (SemLoc.dma cc1_scratch23.sem : SemLoc sig).isScoped .scVector = true; decide⟩⟩),
    SparseCore.bigSep_erase' (Finset.mem_erase.mpr ⟨by simp; decide, Finset.mem_erase.mpr ⟨by simp; decide,
      (mem_ownCells (g := ((V d c i, SemLoc.dma cc1_scratch24.sem) : GSem nD τ sig))).mpr ⟨rfl, by show (SemLoc.dma cc1_scratch24.sem : SemLoc sig).isScoped .scVector = true; decide⟩⟩⟩)]

set_option maxHeartbeats 1000000 in
/-- The task as its tile's thread runs it: its rows for its rows, the tile's own buffers and semaphores put back. -/
theorem task1 (hF : (K (F := F)).Facts) (d : Dev nD) (L : grid0.Coords) (O : CellTallies nD τ sig (HIx 2)) (W : Waits sig (HIx 2)) (hO : ∀ g, O g none = 0) (a0 : HBlk.Idx → BitVec 32) (a1 a2 a3 a4 : HBlk.Idx → F .f32) (b0 : HBlk.Idx → BitVec 32) (b1 b2 b3 b4 : HBlk.Idx → F .f32) (b5 : (HRows 32).Idx → BitVec 32) (b6 b7 b8 b9 : (HRows 32).Idx → F .f32)
    (hp : ∀ r k, (blk a0 (wid L) r k).toNat < 64) :
    iprop(levAts (K (F := F)).L (K (F := F)).lev ∗ emp ∗ rows1 d L a0 a1 a2 a3 a4 b0 b1 b2 b3 b4 b5 b6 b7 b8 b9 ∗ scopedBufs (thr d L) ∗ scopedSems0 (thr d L) ∗ owes (thr d L) O W)
      ⊢ wp frame (wpE (defs₀ (F := F)) 𝒱₀ (thr d L) none) Set.univ (cc0__sc_pass1_body L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15)
          fun _ => iprop(rows1 d L a0 a1 a2 a3 a4 (outP a0 a1 a2 a3 a4) (outDr a0 a1 a2 a3 a4) (outDi a0 a1 a2 a3 a4) (outBr a0 a1 a2 a3 a4) (outBi a0 a1 a2 a3 a4) (carP a0 a1 a2 a3 a4) (carDr a0 a1 a2 a3 a4) (carDi a0 a1 a2 a3 a4) (carBr a0 a1 a2 a3 a4) (carBi a0 a1 a2 a3 a4) ∗ scopedBufs (thr d L) ∗ scopedSems0 (thr d L) ∗ ∃ W', ⌜∀ p ∈ W', p ∈ W ∨ p.2 = none⌝ ∗ owes (thr d L) O W') := by
  obtain ⟨RB, hB⟩ := tileBufs0 (F := F) d (cV L) (jV L)
  obtain ⟨RS, hS⟩ := tileSems0 (F := F) d (cV L) (jV L)
  rw [(K (F := F)).scopedBufs_V hF d (cV L) (jV L), SparseCore.Cfg.scopedSems0_V (Val := Elt F) d (cV L) (jV L), hB, hS, sep13]
  unfold rows1
  iintro ⟨Hlv, -, ⟨R0, R1, R2, R3, R4, R5, R6, R7, R8, R9, R10, R11, R12, R13, R14⟩, ⟨⟨⟨%s0, H0⟩, ⟨%s1, H1⟩, ⟨%s2, H2⟩, ⟨%s3, H3⟩, ⟨%s4, H4⟩, ⟨%s5, H5⟩, ⟨%s6, H6⟩, ⟨%s7, H7⟩, ⟨%s8, H8⟩, ⟨%s9, H9⟩, ⟨%s10, H10⟩, ⟨%s11, H11⟩, ⟨%s12, H12⟩⟩, HB⟩, ⟨S0, S1, S2, HS⟩, HO⟩
  ihave Hmw := ((K (F := F)).mayWaits_none (thr := thr d L) hO) $$ Hlv
  iapply (wp_wand frame _ _) $$ [Hmw HO R0 R1 R2 R3 R4 R5 R6 R7 R8 R9 R10 R11 R12 R13 R14 H0 H1 H2 H3 H4 H5 H6 H7 H8 H9 H10 H11 H12 S0 S1 S2]
  · iapply (tile1 d L O W a0 a1 a2 a3 a4 b0 b1 b2 b3 b4 b5 b6 b7 b8 b9 s0 s1 s2 s3 s4 s5 s6 s7 s8 s9 s10 s11 s12 hp) $$ [Hmw HO R0 R1 R2 R3 R4 R5 R6 R7 R8 R9 R10 R11 R12 R13 R14 H0 H1 H2 H3 H4 H5 H6 H7 H8 H9 H10 H11 H12 S0 S1 S2]
    isplitl [Hmw]; · iexact Hmw
    isplitl [HO]; · iexact HO
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    iexact S2
  · iintro %_ ⟨R0, R1, R2, R3, R4, R5, R6, R7, R8, R9, R10, R11, R12, R13, R14, H0, H1, H2, H3, H4, H5, H6, H7, H8, H9, H10, H11, H12, S0, S1, S2, HO⟩
    isplitl [R0 R1 R2 R3 R4 R5 R6 R7 R8 R9 R10 R11 R12 R13 R14]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact R14
    isplitl [H0 H1 H2 H3 H4 H5 H6 H7 H8 H9 H10 H11 H12 HB]
    · isplitr [HB]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      iexact HB
    isplitl [S0 S1 S2 HS]
    · isplitl [S0]; · iexact S0
      isplitl [S1]; · iexact S1
      isplitl [S2] <;> iassumption
    iexact HO

set_option maxHeartbeats 1000000 in
/-- The task as its tile's thread runs it: its rows for its rows, the tile's own buffers and semaphores put back. -/
theorem task2 (hF : (K (F := F)).Facts) (d : Dev nD) (L : grid0.Coords) (O : CellTallies nD τ sig (HIx 2)) (W : Waits sig (HIx 2)) (hO : ∀ g, O g none = 0) (b0 : HBlk.Idx → BitVec 32) (b1 b2 b3 b4 : HBlk.Idx → F .f32) (b5 : (HRows 32).Idx → BitVec 32) (b6 b7 b8 b9 : (HRows 32).Idx → F .f32) (u0 u1 : HBlk.Idx → F .f32)
    (hp : ∀ r k, (blk b0 (wid L) r k).toNat < 64) (hc : ∀ r k, (row b5 r k).toNat < 64) :
    iprop(levAts (K (F := F)).L (K (F := F)).lev ∗ emp ∗ rows2 d L b0 b1 b2 b3 b4 b5 b6 b7 b8 b9 u0 u1 ∗ scopedBufs (thr d L) ∗ scopedSems0 (thr d L) ∗ owes (thr d L) O W)
      ⊢ wp frame (wpE (defs₀ (F := F)) 𝒱₀ (thr d L) none) Set.univ (cc1__sc_pass2_body L (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) cc1_scratch22 cc1_scratch23 cc1_scratch24)
          fun _ => iprop(rows2 d L b0 b1 b2 b3 b4 b5 b6 b7 b8 b9 (hidR b0 b1 b2 b3 b4 b5 b6 b7 b8 b9) (hidI b0 b1 b2 b3 b4 b5 b6 b7 b8 b9) ∗ scopedBufs (thr d L) ∗ scopedSems0 (thr d L) ∗ ∃ W', ⌜∀ p ∈ W', p ∈ W ∨ p.2 = none⌝ ∗ owes (thr d L) O W') := by
  obtain ⟨RB, hB⟩ := tileBufs1 (F := F) d (cV L) (jV L)
  obtain ⟨RS, hS⟩ := tileSems1 (F := F) d (cV L) (jV L)
  rw [(K (F := F)).scopedBufs_V hF d (cV L) (jV L), SparseCore.Cfg.scopedSems0_V (Val := Elt F) d (cV L) (jV L), hB, hS, sep22]
  unfold rows2
  iintro ⟨Hlv, -, ⟨R0, R1, R2, R3, R4, R5, R6, R7, R8, R9, R10, R11⟩, ⟨⟨⟨%s0, H0⟩, ⟨%s1, H1⟩, ⟨%s2, H2⟩, ⟨%s3, H3⟩, ⟨%s4, H4⟩, ⟨%s5, H5⟩, ⟨%s6, H6⟩, ⟨%s7, H7⟩, ⟨%s8, H8⟩, ⟨%s9, H9⟩, ⟨%s10, H10⟩, ⟨%s11, H11⟩, ⟨%s12, H12⟩, ⟨%s13, H13⟩, ⟨%s14, H14⟩, ⟨%s15, H15⟩, ⟨%s16, H16⟩, ⟨%s17, H17⟩, ⟨%s18, H18⟩, ⟨%s19, H19⟩, ⟨%s20, H20⟩, ⟨%s21, H21⟩⟩, HB⟩, ⟨S0, S1, S2, HS⟩, HO⟩
  ihave Hmw := ((K (F := F)).mayWaits_none (thr := thr d L) hO) $$ Hlv
  iapply (wp_wand frame _ _) $$ [Hmw HO R0 R1 R2 R3 R4 R5 R6 R7 R8 R9 R10 R11 H0 H1 H2 H3 H4 H5 H6 H7 H8 H9 H10 H11 H12 H13 H14 H15 H16 H17 H18 H19 H20 H21 S0 S1 S2]
  · iapply (tile2 d L O W (shr (wid L)) b0 b1 b2 b3 b4 b5 b6 b7 b8 b9 u0 u1 s0 s1 s2 s3 s4 s5 s6 s7 s8 s9 s10 s11 s12 s13 s14 s15 s16 s17 s18 s19 s20 s21 hp hc) $$ [Hmw HO R0 R1 R2 R3 R4 R5 R6 R7 R8 R9 R10 R11 H0 H1 H2 H3 H4 H5 H6 H7 H8 H9 H10 H11 H12 H13 H14 H15 H16 H17 H18 H19 H20 H21 S0 S1 S2]
    isplitl [Hmw]; · iexact Hmw
    isplitl [HO]; · iexact HO
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [S0]; · iexact S0
    isplitl [S1]; · iexact S1
    iexact S2
  · iintro %_ ⟨R0, R1, R2, R3, R4, R5, R6, R7, R8, R9, R10, R11, H0, H1, H2, H3, H4, H5, H6, H7, H8, H9, H10, H11, H12, H13, H14, H15, H16, H17, H18, H19, H20, H21, S0, S1, S2, HO⟩
    isplitl [R0 R1 R2 R3 R4 R5 R6 R7 R8 R9 R10 R11]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    isplitl [H0 H1 H2 H3 H4 H5 H6 H7 H8 H9 H10 H11 H12 H13 H14 H15 H16 H17 H18 H19 H20 H21 HB]
    · isplitr [HB]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        iexact H21
      iexact HB
    isplitl [S0 S1 S2 HS]
    · isplitl [S0]; · iexact S0
      isplitl [S1]; · iexact S1
      isplitl [S2] <;> iassumption
    iexact HO

end Cert.Proof.KI
end
-- ==== Proof.IdealRegion.lean ====
/-
  (Of the idealized kernel.)
  The TensorCore call `_tc2` as a pipeline region: what the body leaves in the result's block, the pipeline's proof data
  over the seven arrays' contents at its entry, the body obligation, and the region's rule — from the seven arrays held
  whole to the six operands as they were and the result's array at what the pipeline writes back.
-/
module

public import proofs.«01_k».proof.Proof.IdealBase
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The staging cells' rounds, the middle factor. -/
def EP : Emb UP (MT nD τ sig (HIx 2) (Elt F) ℕ UU ℕ) := (Emb.inl : Emb UP (UP × Counters)).trans embR

instance EP_landsIn : (EP : Emb UP 𝕄).LandsIn (upEmb : UEmb _ 𝕄) := by unfold EP embR; infer_instance

/-- The seven arrays' contents where the region is entered. -/
abbrev Arrs (F : FTy → Type) : Type := (c : Dev nD) → (w : Fin cfg2.W) → Buf (Elt F) ((cfg2.win w).arr.view.loc (c.tc : Thread nD τ))

variable (A : Arrs F)

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (A c w)

/-! ## The body -/

abbrev r2_0 : Rect S4x128x64 := Rect.unit (s := S4x128x64) ![0, 0, 0] S4x128x64.size inb_S4x128x64_S4x128x64_0_0_0
abbrev r2_1 : Rect S1024x64 := Rect.unit (s := S1024x64) ![0, 0] S1024x64.size inb_S1024x64_S1024x64_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-- The result's staging buffer after the body, from the operands' blocks. -/
def out2 (x0 : Vec F S4x128x64 .f32) (x1 : Vec F S4x128x64 .f32) (x2 : Vec F S512x1024 .f32) (x3 : Vec F S1024x64 .f32) (x4 : Vec F S1024x64 .f32) (x5 : Vec F S1x1024 .f32) : Vec F S512x1024 .f32 :=
  View.canon [⟨r2_3, k2_pay1 (View.ld x0 r2_0) (View.ld x1 r2_0) (View.ld x3 r2_1) (View.ld x4 r2_1) (View.ld x5 r2_2) (View.ld x2 r2_3)⟩]

theorem cover2 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 2000000 in
/-- The body on whole staging buffers: the operands' as they were, the result's at `out2` of them. -/
theorem sound_kernel (c : Dev nD) (E : Set ℕ) (i : grid2.Coords) (arg1 : Memref sig .tc .vmem S4x128x64 .f32) (harg1 : arg1.IsWhole) (arg2 : Memref sig .tc .vmem S4x128x64 .f32) (harg2 : arg2.IsWhole) (arg3 : Memref sig .tc .vmem S512x1024 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x1024 .f32) (harg6 : arg6.IsWhole) (arg7 : Memref sig .tc .vmem S512x1024 .f32) (harg7 : arg7.IsWhole)
    (x0 : Vec F S4x128x64 .f32) (x1 : Vec F S4x128x64 .f32) (x2 : Vec F S512x1024 .f32) (x3 : Vec F S1024x64 .f32) (x4 : Vec F S1024x64 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2 x0 x1 x2 x3 x4 x5)) -∗ K ⟨⟩))
      ⊢ wp frame (wpE (defs₀ (F := F)) 𝒱₀ (c : Thread nD τ) none) E (cc2__tc2_body i arg1 harg1 arg2 harg2 arg3 harg3 arg4 harg4 arg5 harg5 arg6 harg6 arg7 harg7) K := by
  simp only [cc2__tc2_body_eq_skeleton]; unfold cc2__tc2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-! ## The proof data -/

/-- The pairs that a wait before the region may have recorded: those up to the second call's levels. -/
def recd (c : Dev nD) : Set (SemLoc sig × HIx 2) := {p | (K (F := F)).lev ((c.tc : Thread nD τ), p.1) p.2 ≤ 16}

def dats (_ : Fin 1) (c : Dev nD) : Dat τ (Elt F) (HIx 2) ℕ UU ℕ cfg2 c where
  A w := A c w
  after w t := match w with
    | ⟨0, _⟩ => iblk A c 0 t
    | ⟨1, _⟩ => iblk A c 1 t
    | ⟨2, _⟩ => iblk A c 2 t
    | ⟨3, _⟩ => iblk A c 3 t
    | ⟨4, _⟩ => iblk A c 4 t
    | ⟨5, _⟩ => iblk A c 5 t
    | ⟨6, _⟩ => out2 (iblk A c 0 t) (iblk A c 1 t) (iblk A c 2 t) (iblk A c 3 t) (iblk A c 4 t) (iblk A c 5 t)
  Φ _ := iprop(emp)
  q _ := fullShare
  owed _ := 0
  recorded _ := recd (F := F) c

theorem A_eq (c : Dev nD) (w : Fin cfg2.W) : (dats A 0 c).A w = A c w := by dsimp only [dats]

theorem after2_0 (c : Dev nD) (t : Fin cfg2.N) : (dats A 0 c).after 0 t = iblk A c 0 t := by dsimp only [dats]
theorem after2_1 (c : Dev nD) (t : Fin cfg2.N) : (dats A 0 c).after 1 t = iblk A c 1 t := by dsimp only [dats]
theorem after2_2 (c : Dev nD) (t : Fin cfg2.N) : (dats A 0 c).after 2 t = iblk A c 2 t := by dsimp only [dats]
theorem after2_3 (c : Dev nD) (t : Fin cfg2.N) : (dats A 0 c).after 3 t = iblk A c 3 t := by dsimp only [dats]
theorem after2_4 (c : Dev nD) (t : Fin cfg2.N) : (dats A 0 c).after 4 t = iblk A c 4 t := by dsimp only [dats]
theorem after2_5 (c : Dev nD) (t : Fin cfg2.N) : (dats A 0 c).after 5 t = iblk A c 5 t := by dsimp only [dats]
theorem after2_6 (c : Dev nD) (t : Fin cfg2.N) : (dats A 0 c).after 6 t = out2 (iblk A c 0 t) (iblk A c 1 t) (iblk A c 2 t) (iblk A c 3 t) (iblk A c 4 t) (iblk A c 5 t) := by dsimp only [dats]

theorem before2_0 (c : Dev nD) (t : Fin cfg2.N) (d) : (dats A 0 c).before 0 t d = iblk A c 0 t :=
  ((dats A 0 c).before_in_eq_fetched 0 rfl (fun _ => rfl) (fun _ _ _ => rfl) (fun t => by rw [after2_0]; unfold Dat.blockOf iblk; rw [A_eq]; try rfl) t d).trans
    (by unfold Dat.fetched Dat.blockOf iblk; rw [A_eq]; try rfl)
theorem before2_1 (c : Dev nD) (t : Fin cfg2.N) (d) : (dats A 0 c).before 1 t d = iblk A c 1 t :=
  ((dats A 0 c).before_in_eq_fetched 1 rfl (fun _ => rfl) (fun _ _ _ => rfl) (fun t => by rw [after2_1]; unfold Dat.blockOf iblk; rw [A_eq]; try rfl) t d).trans
    (by unfold Dat.fetched Dat.blockOf iblk; rw [A_eq]; try rfl)
theorem before2_2 (c : Dev nD) (t : Fin cfg2.N) (d) : (dats A 0 c).before 2 t d = iblk A c 2 t :=
  ((dats A 0 c).before_in_eq_fetched 2 rfl (fun _ => rfl) (fun _ _ _ => rfl) (fun t => by rw [after2_2]; unfold Dat.blockOf iblk; rw [A_eq]; try rfl) t d).trans
    (by unfold Dat.fetched Dat.blockOf iblk; rw [A_eq]; try rfl)
theorem before2_3 (c : Dev nD) (t : Fin cfg2.N) (d) : (dats A 0 c).before 3 t d = iblk A c 3 t :=
  ((dats A 0 c).before_in_eq_fetched 3 rfl (fun _ => rfl) (fun _ _ _ => rfl) (fun t => by rw [after2_3]; unfold Dat.blockOf iblk; rw [A_eq]; try rfl) t d).trans
    (by unfold Dat.fetched Dat.blockOf iblk; rw [A_eq]; try rfl)
theorem before2_4 (c : Dev nD) (t : Fin cfg2.N) (d) : (dats A 0 c).before 4 t d = iblk A c 4 t :=
  ((dats A 0 c).before_in_eq_fetched 4 rfl (fun _ => rfl) (fun _ _ _ => rfl) (fun t => by rw [after2_4]; unfold Dat.blockOf iblk; rw [A_eq]; try rfl) t d).trans
    (by unfold Dat.fetched Dat.blockOf iblk; rw [A_eq]; try rfl)
theorem before2_5 (c : Dev nD) (t : Fin cfg2.N) (d) : (dats A 0 c).before 5 t d = iblk A c 5 t :=
  ((dats A 0 c).before_in_eq_fetched 5 rfl (fun _ => rfl) (fun _ _ _ => rfl) (fun t => by rw [after2_5]; unfold Dat.blockOf iblk; rw [A_eq]; try rfl) t d).trans
    (by unfold Dat.fetched Dat.blockOf iblk; rw [A_eq]; try rfl)

/-! ## The body obligation -/

def bodyPre (c : Dev nD) (t : Fin cfg2.N) : sProp 𝕄 :=
  iprop((dats A 0 c).Φ t.castSucc ∗ (dats A 0 c).owesAt none t.castSucc
    ∗ (∃ d, owns (c : Thread nD τ) (st2_0 t) fullShare ((dats A 0 c).before 0 t d))
    ∗ (∃ d, owns (c : Thread nD τ) (st2_1 t) fullShare ((dats A 0 c).before 1 t d))
    ∗ (∃ d, owns (c : Thread nD τ) (st2_2 t) fullShare ((dats A 0 c).before 2 t d))
    ∗ (∃ d, owns (c : Thread nD τ) (st2_3 t) fullShare ((dats A 0 c).before 3 t d))
    ∗ (∃ d, owns (c : Thread nD τ) (st2_4 t) fullShare ((dats A 0 c).before 4 t d))
    ∗ (∃ d, owns (c : Thread nD τ) (st2_5 t) fullShare ((dats A 0 c).before 5 t d))
    ∗ (∃ d, owns (c : Thread nD τ) (st2_6 t) fullShare ((dats A 0 c).before 6 t d)))
def bodyPost (c : Dev nD) (t : Fin cfg2.N) : sProp 𝕄 :=
  iprop((dats A 0 c).Φ t.succ ∗ (dats A 0 c).owesAt none t.succ
    ∗ owns (c : Thread nD τ) (st2_0 t) fullShare ((dats A 0 c).after 0 t)
    ∗ owns (c : Thread nD τ) (st2_1 t) fullShare ((dats A 0 c).after 1 t)
    ∗ owns (c : Thread nD τ) (st2_2 t) fullShare ((dats A 0 c).after 2 t)
    ∗ owns (c : Thread nD τ) (st2_3 t) fullShare ((dats A 0 c).after 3 t)
    ∗ owns (c : Thread nD τ) (st2_4 t) fullShare ((dats A 0 c).after 4 t)
    ∗ owns (c : Thread nD τ) (st2_5 t) fullShare ((dats A 0 c).after 5 t)
    ∗ owns (c : Thread nD τ) (st2_6 t) fullShare ((dats A 0 c).after 6 t))

theorem sound_body (c : Dev nD) (t : Fin cfg2.N) :
    bodyPre A c t ⊢ wp frame (wpE (defs₀ (F := F)) 𝒱₀ (c : Thread nD τ) none) Set.univ (bodyAt2 t) (fun _ => bodyPost A c t) := by
  unfold bodyPre bodyPost bodyAt2
  simp only [before2_0, before2_1, before2_2, before2_3, before2_4, before2_5]
  rw [show (dats A 0 c).Φ t.succ = (dats A 0 c).Φ t.castSucc from rfl,
    show (dats A 0 c).owesAt none t.succ = (dats A 0 c).owesAt none t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid2.coords t) _ _ _ _ _ _ _ _ _ _ _ _ _ _ (iblk A c 0 t) (iblk A c 1 t) (iblk A c 2 t) (iblk A c 3 t) (iblk A c 4 t) (iblk A c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg2.N) : defs₀ (F := F) .tc cfg2.body (cfg2.bodyArgs t (cfg2.slots t)) = bodyAt2 t := by
  rfl

theorem body_obligation (c : Dev nD) : BodyObligation (dats (F := F) A 0 c) (defs₀ (F := F)) 𝒱₀ none Set.univ := fun t => by
  rw [bigSep_W2, bigSep_W2, defs₀_row]
  exact triple_restated (sound_body A c t) rfl .rfl fun _ => .rfl

/-! ## The region -/

abbrev adm : (p : Fin 1) → (pcfgs (F := F) p).Adm := fun p => (cfgs p).toPCfg_adm

/-- The seven arrays held whole, at `B`. -/
def held7 (c : Dev nD) (B : (w : Fin cfg2.W) → Buf (Elt F) ((cfg2.win w).arr.view.loc (c.tc : Thread nD τ))) : sProp 𝕄 :=
  bigSep Finset.univ fun w : Fin 7 => ((c.tc : Thread nD τ).loc (Pipeline.arrRef spec2 w)) ↦{fullShare} B w

/-- The core's debts at the region's ends: none, its recorded pairs up to the second call's levels. -/
def owe0 (c : Dev nD) : sProp 𝕄 := iprop(∃ W, ⌜(K (F := F)).WBelow (c.tc : Thread nD τ) W 16⌝ ∗ owes (c.tc : Thread nD τ) (0 : CellTallies nD τ sig (HIx 2)) W)

theorem arrays_held (c : Dev nD) (B : (w : Fin cfg2.W) → Buf (Elt F) ((cfg2.win w).arr.view.loc (c.tc : Thread nD τ))) :
    ((dats A 0 c).arrays B : sProp 𝕄) = held7 c B :=
  Pipeline.arrays_eq cfgs (dats A) 0 c arr_whole2 ((dats A 0 c).share_full fun _ => rfl) B

theorem noOwn : Pipeline.OwnSemFacts spec2 (fun k : Fin 0 => k.elim0) := by decide

set_option backward.isDefEq.respectTransparency.types false in
def reg : Pipeline.RegionSeg (pcfgs (F := F)) adm (dats A) none defs₀ 𝒱₀ (K (F := F)).L (K (F := F)).lev 0 where
  win := winFacts2.to₀
  block_pos := block_pos2
  stage_whole := stage_whole2
  K := Fin 0
  osem := fun k => k.elim0
  ho := noOwn
  hbody c := (body_obligation A c).loose
  hwaits := Pipeline.hwaits_of_owed_zero _ _ _ _ _ _ 0 fun _ _ => rfl
  pre c := iprop(held7 c (A c) ∗ owe0 c)
  post c := iprop(held7 c ((dats A 0 c).arrAt · cfg2.N) ∗ owe0 c)
  X c := iprop(emp)
  Y c := iprop(emp)
  Z c := iprop(emp)
  hentry c := by
    iintro ⟨⟨Ha, HO⟩, -, -⟩
    imodintro
    isplitl [Ha]
    · iapply (Entails.of_eq (arrays_held A c _).symm)
      iexact Ha
    isplitr; · unfold Pipeline.prefHeld; rw [show (Finset.univ : Finset (Fin 0)) = ∅ from rfl, BI.bigSep_empty]; iempintro
    isplitl [HO]
    · unfold owe0
      icases HO with ⟨%W, %hW, HO⟩; iexists W; isplitr
      · ipureintro; exact fun p hp => Or.inl (hW p hp)
      iexact HO
    isplitr <;> iempintro
  hin c := by
    iintro -
    iempintro
  hout c := by
    iintro -
    isplitr; · iempintro
    isplitr; · unfold Pipeline.ownSems0; rw [show (Finset.univ : Finset (Fin 0)) = ∅ from rfl, BI.bigSep_empty]; iempintro
    iapply (Entails.of_eq (scopedRest2_eq c).symm); iempintro
  hexit c := by
    iintro ⟨Ha, HO, -, -⟩
    imodintro
    isplitl [Ha]
    · iapply (Entails.of_eq (arrays_held A c _))
      iexact Ha
    unfold owe0
    icases HO with ⟨%W, %hW, HO⟩; iexists W; isplitr
    · ipureintro
      intro p hp
      rcases hW hp with h | ⟨w, s, rfl⟩
      · exact h
      · exact Nat.zero_le _
    iexact HO

theorem lift_call : (Idealize.ShloMosaic.SparseCore.liftProg (Prog.lift (.customCall (Pipeline.entry 0) ()) : Prog (TpuEff nD τ sig (Elt F) (ΛP (F := F)) .tc) PUnit) : Prog (TpuEff nD τ sig (Elt F) (SparseCore.Sig (ΛP (F := F)) 2) .tc) PUnit)
    = Prog.lift (.customCall (SparseCore.inner (Pipeline.entry 0)) ()) := rfl

set_option backward.isDefEq.respectTransparency.types false in
set_option maxHeartbeats 2000000 in
/-- The region's rule, under the SparseCores' body table. -/
theorem wp_region [∀ e, Nonempty (Elt F e)] (d : Dev nD) (Q : PUnit → sProp 𝕄) :
    iprop((iprop(boundary (T d) ∗ held7 d ((dats A 0 d).arrAt · cfg2.N) ∗ owe0 d) -∗ Q ⟨⟩)
        ∗ boundary (T d) ∗ (held7 d (A d) ∗ owe0 d) ∗ levAts (K (F := F)).L (K (F := F)).lev
        ∗ Pipeline.cellsGhost cfgs (EP (F := F)) 0 d ∗ Pipeline.toksInit cfgs (EP (F := F)) 0 d)
      ⊢ wp frame (wpE ((K (F := F)).defs (D (F := F))) 𝒱 (T d) none) Set.univ
          (Prog.lift (.customCall (SparseCore.inner (Pipeline.entry 0)) ())) Q := by
  rw [← lift_call]
  refine BI.Entails.trans ?_ ((K (F := F)).wp_liftProg (D (F := F)) 𝒱 (T d) Set.univ none (Prog.lift (.customCall (Pipeline.entry 0) ())) Q)
  have h := Pipeline.RegionSeg.wp (pcfgs (F := F)) adm (dats A) none cellOf_inj EP defs₀ 𝒱₀ (K (F := F)).L (K (F := F)).lev (reg A) d none
    (fun _ h => nomatch h) (fun x => .ret x) Q
  refine BI.Entails.trans ?_ h
  rw [show (reg A).post d = iprop(held7 d ((dats A 0 d).arrAt · cfg2.N) ∗ owe0 d) from rfl,
    show (reg A).pre d = iprop(held7 d (A d) ∗ owe0 d) from rfl, show Pipeline.pin (pcfgs (F := F)) adm = cfgs from rfl]
  show (_ : sProp 𝕄) ⊢ (_ : sProp 𝕄)
  iintro ⟨Hk, Hb, Hp, Hl, Hc, Ht⟩
  isplitl [Hk]
  · iintro H
    ihave H := Hk $$ H
    rw [wp_ret]
    imodintro
    iexact H
  isplitl [Hb]; · iexact Hb
  isplitl [Hp]; · iexact Hp
  isplitl [Hl]; · iexact Hl
  isplitl [Hc]; · iexact Hc
  iexact Ht

end Cert.Proof.KI

end
-- ==== Proof.IdealLaunch.lean ====
/-
  (Of the idealized kernel.)
  The launch: what each call's start carries to its tiles and what comes back, @main over the two calls, and the program's
  run: the arguments unchanged, the two results the hidden states of the arguments, every semaphore at zero.
-/
module

public import proofs.«01_k».proof.Proof.IdealTask
public import proofs.«01_k».proof.Proof.IdealRegion
public import Idealize.ShloMosaic.Lib.StableHlo.Run

@[expose] public section

set_option maxRecDepth 16384

noncomputable section

namespace Cert.Proof.KI

open Cert.KernelIdeal Cert.KernelIdeal.Gen Cert.Proof.Rows

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ValueIdx (ix1 ix2 ix3 eq_ix1 eq_ix2 eq_ix3)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The values -/

def ar0 (d : Dev nD) : HBlk.Idx → BitVec 32 := m ((SparseCore.T d).loc main_arg0)
def ar1 (d : Dev nD) : HBlk.Idx → F .f32 := m ((SparseCore.T d).loc main_arg1)
def ar2 (d : Dev nD) : HBlk.Idx → F .f32 := m ((SparseCore.T d).loc main_arg2)
def ar3 (d : Dev nD) : HBlk.Idx → F .f32 := m ((SparseCore.T d).loc main_arg3)
def ar4 (d : Dev nD) : HBlk.Idx → F .f32 := m ((SparseCore.T d).loc main_arg4)

/-- A buffer's contents at the launch. -/
abbrev mv (d : Dev nD) (r : Ref sig .tc) : Buf (Elt F) ((SparseCore.T d : Thread nD τ).loc r) := m ((SparseCore.T d).loc r)

abbrev mOutP (d : Dev nD) := outP (ar0 m d) (ar1 m d) (ar2 m d) (ar3 m d) (ar4 m d)
abbrev mOutDr (d : Dev nD) := outDr (ar0 m d) (ar1 m d) (ar2 m d) (ar3 m d) (ar4 m d)
abbrev mOutDi (d : Dev nD) := outDi (ar0 m d) (ar1 m d) (ar2 m d) (ar3 m d) (ar4 m d)
abbrev mOutBr (d : Dev nD) := outBr (ar0 m d) (ar1 m d) (ar2 m d) (ar3 m d) (ar4 m d)
abbrev mOutBi (d : Dev nD) := outBi (ar0 m d) (ar1 m d) (ar2 m d) (ar3 m d) (ar4 m d)
abbrev mCarP (d : Dev nD) := carP (ar0 m d) (ar1 m d) (ar2 m d) (ar3 m d) (ar4 m d)
abbrev mCarDr (d : Dev nD) := carDr (ar0 m d) (ar1 m d) (ar2 m d) (ar3 m d) (ar4 m d)
abbrev mCarDi (d : Dev nD) := carDi (ar0 m d) (ar1 m d) (ar2 m d) (ar3 m d) (ar4 m d)
abbrev mCarBr (d : Dev nD) := carBr (ar0 m d) (ar1 m d) (ar2 m d) (ar3 m d) (ar4 m d)
abbrev mCarBi (d : Dev nD) := carBi (ar0 m d) (ar1 m d) (ar2 m d) (ar3 m d) (ar4 m d)

/-- Every word of the first argument names one of the 64 states. -/
def PreOK : Prop := ∀ d w r k, (blk (ar0 m d) w r k).toNat < 64

/-- The hidden states, from the arguments. -/
def resR (d : Dev nD) : HBlk.Idx → F .f32 := hidR (mOutP m d) (mOutDr m d) (mOutDi m d) (mOutBr m d) (mOutBi m d) (mCarP m d) (mCarDr m d) (mCarDi m d) (mCarBr m d) (mCarBi m d)
def resI (d : Dev nD) : HBlk.Idx → F .f32 := hidI (mOutP m d) (mOutDr m d) (mOutDi m d) (mOutBr m d) (mOutBi m d) (mCarP m d) (mCarDr m d) (mCarDi m d) (mCarBr m d) (mCarBi m d)

/-! ## What the calls carry -/

def goA (d : Dev nD) (c : Fin 2) (i : Fin 16) : sProp 𝕄 := rows1 d (coordsV c i) (ar0 m d) (ar1 m d) (ar2 m d) (ar3 m d) (ar4 m d) (mv m d main_v0_0) (mv m d main_v0_1) (mv m d main_v0_2) (mv m d main_v0_3) (mv m d main_v0_4) (mv m d main_v0_5) (mv m d main_v0_6) (mv m d main_v0_7) (mv m d main_v0_8) (mv m d main_v0_9)
def tdA (d : Dev nD) (c : Fin 2) (i : Fin 16) : sProp 𝕄 := rows1 d (coordsV c i) (ar0 m d) (ar1 m d) (ar2 m d) (ar3 m d) (ar4 m d) (mOutP m d) (mOutDr m d) (mOutDi m d) (mOutBr m d) (mOutBi m d) (mCarP m d) (mCarDr m d) (mCarDi m d) (mCarBr m d) (mCarBi m d)
def goB (d : Dev nD) (c : Fin 2) (i : Fin 16) : sProp 𝕄 := rows2 d (coordsV c i) (mOutP m d) (mOutDr m d) (mOutDi m d) (mOutBr m d) (mOutBi m d) (mCarP m d) (mCarDr m d) (mCarDi m d) (mCarBr m d) (mCarBi m d) (mv m d main_v1_0) (mv m d main_v1_1)
def tdB (d : Dev nD) (c : Fin 2) (i : Fin 16) : sProp 𝕄 := rows2 d (coordsV c i) (mOutP m d) (mOutDr m d) (mOutDi m d) (mOutBr m d) (mOutBi m d) (mCarP m d) (mCarDr m d) (mCarDi m d) (mCarBr m d) (mCarBi m d) (resR m d) (resI m d)

instance goA_storable (d c i) : BI.Storable (upEmb : UEmb _ 𝕄) (goA m d c i) := by unfold goA; infer_instance
instance tdA_storable (d c i) : BI.Storable (upEmb : UEmb _ 𝕄) (tdA m d c i) := by unfold tdA; infer_instance
instance goB_storable (d c i) : BI.Storable (upEmb : UEmb _ 𝕄) (goB m d c i) := by unfold goB; infer_instance
instance tdB_storable (d c i) : BI.Storable (upEmb : UEmb _ 𝕄) (tdB m d c i) := by unfold tdB; infer_instance

/-- A SparseCore's start carries its sixteen tiles' rows, and its end brings them back. -/
def P : (K (F := F)).Pay (nD := nD) (Val := Elt F) (Name := ℕ) (U := UU) where
  st := fun q => match q with
    | 0 => fun d c => bigSep Finset.univ fun i : Fin 16 => goA m d c i
    | 1 => fun d c => bigSep Finset.univ fun i : Fin 16 => goB m d c i
  dn := fun q => match q with
    | 0 => fun d c => bigSep Finset.univ fun i : Fin 16 => tdA m d c i
    | 1 => fun d c => bigSep Finset.univ fun i : Fin 16 => tdB m d c i
  go := fun q => match q with
    | 0 => fun d c i => goA m d c i
    | 1 => fun d c i => goB m d c i
  td := fun q => match q with
    | 0 => fun d c i => tdA m d c i
    | 1 => fun d c i => tdB m d c i
  x := fun _ _ => iprop(emp)

instance P_storable : (P (F := F) m).IsStorable where
  st q d c := by
    match q with
    | 0 => unfold P; dsimp only; infer_instance
    | 1 => unfold P; dsimp only; infer_instance
  dn q d c := by
    match q with
    | 0 => unfold P; dsimp only; infer_instance
    | 1 => unfold P; dsimp only; infer_instance
  go q d c i := by
    match q with
    | 0 => unfold P; dsimp only; infer_instance
    | 1 => unfold P; dsimp only; infer_instance
  td q d c i := by
    match q with
    | 0 => unfold P; dsimp only; infer_instance
    | 1 => unfold P; dsimp only; infer_instance

theorem hand_through (A B : sProp 𝕄) : A ⊢ |={Set.univ}=> iprop(A ∗ (B -∗ B)) := by
  iintro H; imodintro; isplitl [H]; · iexact H
  iintro H; iexact H

theorem vecSplit0 : (K (F := F)).VecSplit' (P m) 0 := by
  intro d c
  have h := hand_through (bigSep Finset.univ fun i : Fin 16 => goA m d c i) (bigSep Finset.univ fun i : Fin 16 => tdA m d c i)
  unfold P
  exact h
theorem vecSplit1 : (K (F := F)).VecSplit' (P m) 1 := by
  intro d c
  unfold P
  dsimp only
  exact hand_through _ _

/-! ## The tiles' tasks -/

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_1 (c : Fin τ.nSC) (s : Fin τ.nSub) :
    defs₀ (F := F) (.scVector c s) 0 ()
      = SparseCore.onTile hcore0 hsub0 (fun c s => cc0__sc_pass1_body (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15) ⟨⟩ c s := rfl

set_option maxHeartbeats 1000000 in
theorem tileObl1 (hF : (K (F := F)).Facts) (hp : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_1]; simp only [SparseCore.onTile, hc, and_self, ↓reduceDIte]
  exact (task1 hF d (coordsV ⟨_, hc.1⟩ ⟨_, hc.2⟩) O W hO (ar0 m d) (ar1 m d) (ar2 m d) (ar3 m d) (ar4 m d) (mv m d main_v0_0) (mv m d main_v0_1) (mv m d main_v0_2) (mv m d main_v0_3) (mv m d main_v0_4) (mv m d main_v0_5) (mv m d main_v0_6) (mv m d main_v0_7) (mv m d main_v0_8) (mv m d main_v0_9) (hp d _)).trans (wp_mono frame _ _ fun _ => obl_post)

theorem defs₀_2 (c : Fin τ.nSC) (s : Fin τ.nSub) :
    defs₀ (F := F) (.scVector c s) 1 ()
      = SparseCore.onTile hcore1 hsub1 (fun c s => cc1__sc_pass2_body (coordsV c s) (Memref.whole main_v0_0_scv) (Memref.isWhole_whole _) (Memref.whole main_v0_1_scv) (Memref.isWhole_whole _) (Memref.whole main_v0_2_scv) (Memref.isWhole_whole _) (Memref.whole main_v0_3_scv) (Memref.isWhole_whole _) (Memref.whole main_v0_4_scv) (Memref.isWhole_whole _) (Memref.whole main_v0_5_scv) (Memref.isWhole_whole _) (Memref.whole main_v0_6_scv) (Memref.isWhole_whole _) (Memref.whole main_v0_7_scv) (Memref.isWhole_whole _) (Memref.whole main_v0_8_scv) (Memref.isWhole_whole _) (Memref.whole main_v0_9_scv) (Memref.isWhole_whole _) (Memref.whole main_v1_0_scv) (Memref.isWhole_whole _) (Memref.whole main_v1_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) (Memref.whole cc1_scratch14) (Memref.isWhole_whole _) (Memref.whole cc1_scratch15) (Memref.isWhole_whole _) (Memref.whole cc1_scratch16) (Memref.isWhole_whole _) (Memref.whole cc1_scratch17) (Memref.isWhole_whole _) (Memref.whole cc1_scratch18) (Memref.isWhole_whole _) (Memref.whole cc1_scratch19) (Memref.isWhole_whole _) (Memref.whole cc1_scratch20) (Memref.isWhole_whole _) (Memref.whole cc1_scratch21) (Memref.isWhole_whole _) cc1_scratch22 cc1_scratch23 cc1_scratch24) ⟨⟩ c s := rfl

set_option maxHeartbeats 1000000 in
theorem tileObl2 (hF : (K (F := F)).Facts) (hp : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_2]; simp only [SparseCore.onTile, hc, and_self, ↓reduceDIte]
  exact (task2 hF d (coordsV ⟨_, hc.1⟩ ⟨_, hc.2⟩) O W hO (mOutP m d) (mOutDr m d) (mOutDi m d) (mOutBr m d) (mOutBi m d) (mCarP m d) (mCarDr m d) (mCarDi m d) (mCarBr m d) (mCarBi m d) (mv m d main_v1_0) (mv m d main_v1_1) (fun r k => chunk_P_lt (hp d _) _ k) (fun r k => chunk_P_lt (hp d r) _ k)).trans (wp_mono frame _ _ fun _ => obl_post)

/-! ## The launch element: the handshakes' rounds and the staging cells' -/

def u₀ : UU := (initOf (K (F := F)).hsCells (K (F := F)).hsToks, (initOf (Pipeline.cells cfgs cellOf_inj) (Pipeline.launchToks cfgs cellOf_inj), 1))

/-- What the launch deals @main for the region. -/
def G (d : Dev nD) : sProp 𝕄 := iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem ghost_G : iprop((bigSep Finset.univ fun c : Dev nD => bigSep Finset.univ fun p => Pipeline.cellsGhost cfgs (EP (F := F)) p c)
    ∗ (bigSep Finset.univ fun c : Dev nD => bigSep Finset.univ fun p => (Pipeline.toksInit cfgs (EP (F := F)) p c : sProp 𝕄))) ⊢ bigSep Finset.univ fun d : Dev nD => G (F := F) d := by
  refine (Entails.of_eq (bigSep_sep _ _ _).symm).trans (Entails.of_eq (bigSep_congr fun d _ => ?_))
  rw [show (Finset.univ : Finset (Fin 1)) = {0} by decide, bigSep_singleton, bigSep_singleton]; rfl

theorem own_EP (a : UP) (b : Counters) : (BI.own (embR (a, b)) : sProp 𝕄) ⊢ BI.own ((EP (F := F)) a) :=
  (own_pair_emb _ a b).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave HP := (own_EP (F := F) _ _) $$ HR
  imod (Pipeline.fund_ghost cfgs (EP (F := F)) cellOf_inj) $$ HP with HG
  ihave HG := (ghost_G (F := F)) $$ HG
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## @main on the TensorCore -/

set_option maxHeartbeats 2000000 in
omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_arg5 ↦{fullShare} W main_arg5) ∗ ((SparseCore.T d).loc main_arg6 ↦{fullShare} W main_arg6) ∗ ((SparseCore.T d).loc main_arg7 ↦{fullShare} W main_arg7) ∗ ((SparseCore.T d).loc main_arg8 ↦{fullShare} W main_arg8) ∗ ((SparseCore.T d).loc main_v0_0 ↦{fullShare} W main_v0_0) ∗ ((SparseCore.T d).loc main_v0_1 ↦{fullShare} W main_v0_1) ∗ ((SparseCore.T d).loc main_v0_2 ↦{fullShare} W main_v0_2) ∗ ((SparseCore.T d).loc main_v0_3 ↦{fullShare} W main_v0_3) ∗ ((SparseCore.T d).loc main_v0_4 ↦{fullShare} W main_v0_4) ∗ ((SparseCore.T d).loc main_v0_5 ↦{fullShare} W main_v0_5) ∗ ((SparseCore.T d).loc main_v0_6 ↦{fullShare} W main_v0_6) ∗ ((SparseCore.T d).loc main_v0_7 ↦{fullShare} W main_v0_7) ∗ ((SparseCore.T d).loc main_v0_8 ↦{fullShare} W main_v0_8) ∗ ((SparseCore.T d).loc main_v0_9 ↦{fullShare} W main_v0_9) ∗ ((SparseCore.T d).loc main_v1_0 ↦{fullShare} W main_v1_0) ∗ ((SparseCore.T d).loc main_v1_1 ↦{fullShare} W main_v1_1) ∗ ((SparseCore.T d).loc main_v2 ↦{fullShare} W main_v2) ∗ ((SparseCore.T d).loc main_v3 ↦{fullShare} W main_v3)) := by
  unfold unscopedBufs
  rw [show (Finset.univ.filter fun b : Ref sig .tc => ¬ b.isScoped) = {main_arg0, main_arg1, main_arg2, main_arg3, main_arg4, main_arg5, main_arg6, main_arg7, main_arg8, main_v0_0, main_v0_1, main_v0_2, main_v0_3, main_v0_4, main_v0_5, main_v0_6, main_v0_7, main_v0_8, main_v0_9, main_v1_0, main_v1_1, main_v2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = all1 d (ar0 m d) (ar1 m d) (ar2 m d) (ar3 m d) (ar4 m d) (mv m d main_v0_0) (mv m d main_v0_1) (mv m d main_v0_2) (mv m d main_v0_3) (mv m d main_v0_4) (mv m d main_v0_5) (mv m d main_v0_6) (mv m d main_v0_7) (mv m d main_v0_8) (mv m d main_v0_9) :=
  (deal1 d (ar0 m d) (ar1 m d) (ar2 m d) (ar3 m d) (ar4 m d) (mv m d main_v0_0) (mv m d main_v0_1) (mv m d main_v0_2) (mv m d main_v0_3) (mv m d main_v0_4) (mv m d main_v0_5) (mv m d main_v0_6) (mv m d main_v0_7) (mv m d main_v0_8) (mv m d main_v0_9)).symm
theorem dn0_eq (d : Dev nD) : (bigSep Finset.univ fun c : Fin ((K (F := F)).nCore 0) => (P m).dn 0 d c) = all1 d (ar0 m d) (ar1 m d) (ar2 m d) (ar3 m d) (ar4 m d) (mOutP m d) (mOutDr m d) (mOutDi m d) (mOutBr m d) (mOutBi m d) (mCarP m d) (mCarDr m d) (mCarDi m d) (mCarBr m d) (mCarBi m d) :=
  (deal1 d (ar0 m d) (ar1 m d) (ar2 m d) (ar3 m d) (ar4 m d) (mOutP m d) (mOutDr m d) (mOutDi m d) (mOutBr m d) (mOutBi m d) (mCarP m d) (mCarDr m d) (mCarDi m d) (mCarBr m d) (mCarBi m d)).symm
theorem st1_eq (d : Dev nD) : (bigSep Finset.univ fun c : Fin ((K (F := F)).nCore 1) => (P m).st 1 d c) = all2 d (mOutP m d) (mOutDr m d) (mOutDi m d) (mOutBr m d) (mOutBi m d) (mCarP m d) (mCarDr m d) (mCarDi m d) (mCarBr m d) (mCarBi m d) (mv m d main_v1_0) (mv m d main_v1_1) :=
  (deal2 d (mOutP m d) (mOutDr m d) (mOutDi m d) (mOutBr m d) (mOutBi m d) (mCarP m d) (mCarDr m d) (mCarDi m d) (mCarBr m d) (mCarBi m d) (mv m d main_v1_0) (mv m d main_v1_1)).symm
theorem dn1_eq (d : Dev nD) : (bigSep Finset.univ fun c : Fin ((K (F := F)).nCore 1) => (P m).dn 1 d c) = all2 d (mOutP m d) (mOutDr m d) (mOutDi m d) (mOutBr m d) (mOutBi m d) (mCarP m d) (mCarDr m d) (mCarDi m d) (mCarBr m d) (mCarBi m d) (resR m d) (resI m d) :=
  (deal2 d (mOutP m d) (mOutDr m d) (mOutDi m d) (mOutBr m d) (mOutBi m d) (mCarP m d) (mCarDr m d) (mCarDi m d) (mCarBr m d) (mCarBi m d) (resR m d) (resI m d)).symm

/-! ## The host's reshape of the last argument, and the region's arrays -/

abbrev rD : DevRef τ sig := Proc.devRef .tc main_arg8
abbrev rE : DevRef τ sig := Proc.devRef .tc main_v2
abbrev S2 : Finset (DevRef τ sig) := {rD, rE}
abbrev opD : HloOp τ sig (Elt F) := StableHlo.reshape main_arg8 main_v2 (rfl : (.f32 : EltTy) = .f32) shapeCasts_S1024_S1x1024

/-- The last argument as one row. -/
def rowD (d : Dev nD) : S1x1024.Idx → F .f32 := shapeCast S1x1024 (mv m d main_arg8 : S1024.Idx → F .f32) shapeCasts_S1024_S1x1024

def V0 (d : Dev nD) : Valuation τ sig (Elt F) := fun b => m (d, b)

theorem held_S2 (d : Dev nD) (W : Valuation τ sig (Elt F)) :
    (held (T d) S2 W : sProp 𝕄) = iprop(((SparseCore.T d).loc main_arg8 ↦{fullShare} W rD) ∗ (SparseCore.T d).loc main_v2 ↦{fullShare} W rE) := by
  unfold held S2
  rw [SparseCore.bigSep_insert' (by decide), bigSep_singleton]

theorem held_row (d : Dev nD) : (held (T d) S2 ((opD (F := F)).result (V0 m d)) : sProp 𝕄)
    = iprop(((SparseCore.T d).loc main_arg8 ↦{fullShare} mv m d main_arg8) ∗ (SparseCore.T d).loc main_v2 ↦{fullShare} rowD m d) := by
  rw [held_S2, (opD (F := F)).result_of_not_mem (V0 m d) (b := rD) (show rD ∉ ({rE} : Finset (DevRef τ sig)) by decide), StableHlo.reshape_result]
  rfl

/-- The seven arrays where the region is entered. -/
def arrs : Arrs F := fun d => fun
  | ⟨0, _⟩ => resR m d
  | ⟨1, _⟩ => resI m d
  | ⟨2, _⟩ => mv m d main_arg5
  | ⟨3, _⟩ => mv m d main_arg6
  | ⟨4, _⟩ => mv m d main_arg7
  | ⟨5, _⟩ => rowD m d
  | ⟨6, _⟩ => mv m d main_v3

/-- The result's array at the region's end. -/
def resO (d : Dev nD) : Buf (Elt F) ((SparseCore.T d : Thread nD τ).loc main_v3) := (dats (arrs m) 0 d).arrAt 6 cfg2.N

theorem held7_eq (d : Dev nD) (B : (w : Fin cfg2.W) → Buf (Elt F) ((cfg2.win w).arr.view.loc (d.tc : Thread nD τ))) :
    (held7 d B : sProp 𝕄) = iprop(((SparseCore.T d).loc main_v1_0 ↦{fullShare} B 0) ∗ ((SparseCore.T d).loc main_v1_1 ↦{fullShare} B 1)
      ∗ ((SparseCore.T d).loc main_arg5 ↦{fullShare} B 2) ∗ ((SparseCore.T d).loc main_arg6 ↦{fullShare} B 3) ∗ ((SparseCore.T d).loc main_arg7 ↦{fullShare} B 4)
      ∗ ((SparseCore.T d).loc main_v2 ↦{fullShare} B 5) ∗ ((SparseCore.T d).loc main_v3 ↦{fullShare} B 6)) := by
  unfold held7
  rw [bigSep_W2]

theorem held7_out (d : Dev nD) : (held7 d ((dats (arrs m) 0 d).arrAt · cfg2.N) : sProp 𝕄)
    = iprop(((SparseCore.T d).loc main_v1_0 ↦{fullShare} resR m d) ∗ ((SparseCore.T d).loc main_v1_1 ↦{fullShare} resI m d)
      ∗ ((SparseCore.T d).loc main_arg5 ↦{fullShare} mv m d main_arg5) ∗ ((SparseCore.T d).loc main_arg6 ↦{fullShare} mv m d main_arg6) ∗ ((SparseCore.T d).loc main_arg7 ↦{fullShare} mv m d main_arg7)
      ∗ ((SparseCore.T d).loc main_v2 ↦{fullShare} rowD m d) ∗ ((SparseCore.T d).loc main_v3 ↦{fullShare} resO m d)) := by
  rw [held7_eq, (dats (arrs m) 0 d).arrAt_in 0 rfl, (dats (arrs m) 0 d).arrAt_in 1 rfl, (dats (arrs m) 0 d).arrAt_in 2 rfl,
    (dats (arrs m) 0 d).arrAt_in 3 rfl, (dats (arrs m) 0 d).arrAt_in 4 rfl, (dats (arrs m) 0 d).arrAt_in 5 rfl]
  rfl

/-- The TensorCore's state after both calls: its debts, and the rest. -/
theorem tcSt_two (d : Dev nD) : ∃ X : sProp 𝕄, (K (F := F)).tcSt EH d 2 = iprop(owe0 (F := F) d ∗ X) := by
  unfold SparseCore.Cfg.tcSt owe0
  rw [(K (F := F)).Otc_end d (le_refl 2)]
  exact ⟨_, rfl⟩

/-- What @main leaves the claim: the arguments as they were, and the result. -/
def FIN (d : Dev nD) : sProp 𝕄 := iprop(((SparseCore.T d).loc main_arg0 ↦{fullShare} mv m d main_arg0)
    ∗ ((SparseCore.T d).loc main_arg1 ↦{fullShare} mv m d main_arg1)
    ∗ ((SparseCore.T d).loc main_arg2 ↦{fullShare} mv m d main_arg2)
    ∗ ((SparseCore.T d).loc main_arg3 ↦{fullShare} mv m d main_arg3)
    ∗ ((SparseCore.T d).loc main_arg4 ↦{fullShare} mv m d main_arg4)
    ∗ ((SparseCore.T d).loc main_arg5 ↦{fullShare} mv m d main_arg5)
    ∗ ((SparseCore.T d).loc main_arg6 ↦{fullShare} mv m d main_arg6)
    ∗ ((SparseCore.T d).loc main_arg7 ↦{fullShare} mv m d main_arg7)
    ∗ ((SparseCore.T d).loc main_arg8 ↦{fullShare} mv m d main_arg8)
    ∗ ((SparseCore.T d).loc main_v3 ↦{fullShare} resO m d))

set_option maxHeartbeats 2000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  obtain ⟨X, hX⟩ := tcSt_two (F := F) d
  simp only [main, wp_bind, wp_pure]
  iintro ⟨#Hctx, Hst, ⟨Hb, ⟨A0, A1, A2, A3, A4, A5, A6, A7, A8, B0, B1, B2, B3, B4, B5, B6, B7, B8, B9, U0, U1, V2, V3⟩, Hts, -⟩, HG⟩
  iapply ((K (F := F)).wp_run (D (F := F)) 𝒱 (EH := EH) (P := P m) κ d 0) $$ [Hst A0 A1 A2 A3 A4 A5 A6 A7 A8 B0 B1 B2 B3 B4 B5 B6 B7 B8 B9 U0 U1 V2 V3 Hb Hts HG]
  isplitr; · iexact Hctx
  isplitl [Hst]; · iexact Hst
  isplitl [A0 A1 A2 A3 A4 B0 B1 B2 B3 B4 B5 B6 B7 B8 B9]
  · rw [st0_eq]; unfold all1
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  iintro ⟨Hst, Hdn⟩
  ihave Hdn' := (Entails.of_eq ((dn0_eq m d).trans (by unfold all1; rfl))) $$ Hdn
  icases Hdn' with ⟨A0, A1, A2, A3, A4, B0, B1, B2, B3, B4, B5, B6, B7, B8, B9⟩
  iapply ((K (F := F)).wp_run (D (F := F)) 𝒱 (EH := EH) (P := P m) κ d 1) $$ [Hst A0 A1 A2 A3 A4 A5 A6 A7 A8 B0 B1 B2 B3 B4 B5 B6 B7 B8 B9 U0 U1 V2 V3 Hb Hts HG]
  isplitr; · iexact Hctx
  isplitl [Hst]; · iexact Hst
  isplitl [B0 B1 B2 B3 B4 B5 B6 B7 B8 B9 U0 U1]
  · rw [st1_eq]; unfold all2
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [U0]; · iexact U0
    iexact U1
  iintro ⟨Hst, Hdn⟩
  ihave Hdn' := (Entails.of_eq ((dn1_eq m d).trans (by unfold all2; rfl))) $$ Hdn
  icases Hdn' with ⟨-, -, -, -, -, -, -, -, -, -, U0, U1⟩
  -- the reshape
  iapply (wp_hlo_within 𝒱 (SparseCore.T d) none Set.univ (op := opD) (S := S2) (show ({rD, rE} : Finset (DevRef τ sig)) ⊆ S2 by decide) (V := V0 m d)) $$ [Hb A8 V2]
  · isplitl [Hb]; · iexact Hb
    rw [held_S2]
    isplitl [A8]; · iexact A8
    iexact V2
  iintro ⟨Hb, Hh⟩
  ihave Hh := (Entails.of_eq (held_row m d)) $$ Hh
  icases Hh with ⟨A8, V2⟩
  rw [wp_ret]; imodintro
  -- the region
  ihave Hst := (show (K (F := F)).tcSt EH d ((1 : Fin 2).val + 1) ⊢ iprop(owe0 (F := F) d ∗ X) from Entails.of_eq hX) $$ Hst
  icases Hst with ⟨HO, HX⟩
  iapply (wp_region (arrs m) d)
  isplitl [A0 A1 A2 A3 A4 A8 HX Hts]
  · iintro ⟨Hb, Hh, HO⟩
    ihave Hh := (Entails.of_eq (held7_out m d)) $$ Hh
    icases Hh with ⟨-, -, A5, A6, A7, -, V3⟩
    imodintro
    isplitl [HO HX]
    · iapply (Entails.of_eq hX.symm)
      isplitl [HO] <;> iassumption
    isplitr [Hb Hts]
    · unfold FIN
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact V3
    isplitl [Hb] <;> iassumption
  isplitl [Hb]; · iexact Hb
  isplitl [U0 U1 A5 A6 A7 V2 V3 HO]
  · isplitr [HO]
    · iapply (Entails.of_eq (held7_eq d _).symm)
      isplitl [U0]; · iexact U0
      isplitl [U1]; · iexact U1
      isplitl [A5]; · iexact A5
      isplitl [A6]; · iexact A6
      isplitl [A7]; · iexact A7
      isplitl [V2]; · iexact V2
      iexact V3
    iexact HO
  isplitr
  · iapply ((K (F := F)).ctx_levAts κ)
    iexact Hctx
  unfold G
  icases HG with ⟨H1, H2⟩
  isplitl [H1] <;> iassumption

/-! ## The program's run -/

/-- The memory at the end, of one device: the arguments as they were, and the result. -/
def fin (d : Dev nD) (M : (ℓ : Loc nD τ sig) → Buf (Elt F) ℓ) : Prop :=
  (∀ r ∈ [main_arg0, main_arg1, main_arg2, main_arg3, main_arg4, main_arg5, main_arg6, main_arg7, main_arg8], M ((SparseCore.T d).loc r) = mv m d r)
    ∧ M ((SparseCore.T d).loc main_v3) = resO m d

variable {m} in
theorem fin_args {d : Dev nD} {M : (ℓ : Loc nD τ sig) → Buf (Elt F) ℓ} (h : fin m d M) :
    M ((SparseCore.T d).loc main_arg0) = mv m d main_arg0
      ∧ M ((SparseCore.T d).loc main_arg1) = mv m d main_arg1
      ∧ M ((SparseCore.T d).loc main_arg2) = mv m d main_arg2
      ∧ M ((SparseCore.T d).loc main_arg3) = mv m d main_arg3
      ∧ M ((SparseCore.T d).loc main_arg4) = mv m d main_arg4
      ∧ M ((SparseCore.T d).loc main_arg5) = mv m d main_arg5
      ∧ M ((SparseCore.T d).loc main_arg6) = mv m d main_arg6
      ∧ M ((SparseCore.T d).loc main_arg7) = mv m d main_arg7
      ∧ M ((SparseCore.T d).loc main_arg8) = mv m d main_arg8 := by
  have h1 := h.1
  simp only [List.forall_mem_cons] at h1
  obtain ⟨h0, h1, h2, h3, h4, h5, h6, h7, h8, _⟩ := h1
  exact ⟨h0, h1, h2, h3, h4, h5, h6, h7, h8⟩

def fq (d : Dev nD) (s' : Phys nD τ sig (Elt F)) : Prop := fin m d s'.mem.mem

theorem agree {ℓ : Loc nD τ sig} {f : Buf (Elt F) ℓ} (s' : Phys nD τ sig (Elt F)) : iprop((ℓ ↦{fullShare} f) ∗ SI s') ⊢ (iprop(⌜s'.mem.mem ℓ = f⌝) : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN fq fin
  iintro ⟨⟨A0, A1, A2, A3, A4, A5, A6, A7, A8, V3⟩, HSI⟩
  ihave %h0 := (agree (F := F) s') $$ [A0 HSI]
  · isplitl [A0] <;> iassumption
  ihave %h1 := (agree (F := F) s') $$ [A1 HSI]
  · isplitl [A1] <;> iassumption
  ihave %h2 := (agree (F := F) s') $$ [A2 HSI]
  · isplitl [A2] <;> iassumption
  ihave %h3 := (agree (F := F) s') $$ [A3 HSI]
  · isplitl [A3] <;> iassumption
  ihave %h4 := (agree (F := F) s') $$ [A4 HSI]
  · isplitl [A4] <;> iassumption
  ihave %h5 := (agree (F := F) s') $$ [A5 HSI]
  · isplitl [A5] <;> iassumption
  ihave %h6 := (agree (F := F) s') $$ [A6 HSI]
  · isplitl [A6] <;> iassumption
  ihave %h7 := (agree (F := F) s') $$ [A7 HSI]
  · isplitl [A7] <;> iassumption
  ihave %h8 := (agree (F := F) s') $$ [A8 HSI]
  · isplitl [A8] <;> iassumption
  ihave %h9 := (agree (F := F) s') $$ [V3 HSI]
  · isplitl [V3] <;> iassumption
  ipureintro
  exact ⟨by simp only [List.forall_mem_cons]; exact ⟨h0, h1, h2, h3, h4, h5, h6, h7, h8, List.forall_mem_nil _⟩, h9⟩

def QC : PUnit × MemSt nD τ sig (Elt F) → Prop := fun r => (∀ d : Dev nD, fin m d r.2.mem) ∧ r.2.sem = fun _ => 0

theorem run_main [∀ e, Nonempty (Elt F e)] (hp : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl1 m facts hp | 1 => tileObl2 m facts hp)
    (fun q _ => match q with | 0 => SparseCore.Cfg.VecSplit.of_plain (vecSplit0 m) | 1 => SparseCore.Cfg.VecSplit.of_plain (vecSplit1 m))
    m ρ main (G (F := F)) (FIN m) (u₀ (F := F)) (sep_elim_left.trans (hu₀ m)) (hmain m ρ) (fq m) (hfin m) (QC m) (fun _ h hz => ⟨h, hz⟩)

end Cert.Proof.KI
end
-- ==== Proof.Math.lean ====
/-
  The mathematics, at exact values. A state of 64 complex numbers passes through rows; row `t` sends state `j` to state
  `p t j`, multiplied by `d t j`, and adds `u t`. The prefixes of a chunk are affine maps of the same form, so a prefix
  applied to the state its chunk is entered with is the state the rows lead to (`pfx_run`). The kernels' values are the
  real and imaginary parts of these complex numbers whenever the arguments are finite.
-/
module

public import proofs.«01_k».proof.Proof.Model2
public import Idealize.ShloMosaic.PureOps.Ideal
public import Idealize.ShloMosaic.Lib.IdealHost
public import Mathlib.Data.Complex.Basic
public import Mathlib.Algebra.BigOperators.Fin

@[expose] public section

noncomputable section

namespace Cert.Proof.Rows

open Idealize.ShloMosaic
open Idealize.ShloMosaic.ValueIdx (ix1 ix2 ix3 eq_ix1 eq_ix2 eq_ix3)

/-! ## Rows over the complex numbers -/

/-- One row applied to a state. -/
def aff (p : Fin 64 → Fin 64) (d u h : Fin 64 → ℂ) : Fin 64 → ℂ := fun k => u k + ∑ j, if k = p j then d j * h j else 0

/-- The state after the first `t` rows, from `h`. -/
def run (p : ℕ → Fin 64 → Fin 64) (d u : ℕ → Fin 64 → ℂ) (h : Fin 64 → ℂ) : ℕ → Fin 64 → ℂ
  | 0 => h
  | t + 1 => aff (p t) (d t) (u t) (run p d u h t)

theorem run_add (p : ℕ → Fin 64 → Fin 64) (d u : ℕ → Fin 64 → ℂ) (h : Fin 64 → ℂ) (a s : ℕ) :
    run p d u h (a + s) = run (fun t => p (a + t)) (fun t => d (a + t)) (fun t => u (a + t)) (run p d u h a) s := by
  induction s with
  | zero => rfl
  | succ s ih => exact congrArg (aff (p (a + s)) (d (a + s)) (u (a + s))) ih

/-- The composed rows: where a state goes, by what it is multiplied, and what is added. -/
def pfP (p : ℕ → Fin 64 → Fin 64) : ℕ → Fin 64 → Fin 64
  | 0 => id
  | s + 1 => fun k => p s (pfP p s k)
def pfD (p : ℕ → Fin 64 → Fin 64) (d : ℕ → Fin 64 → ℂ) : ℕ → Fin 64 → ℂ
  | 0 => fun _ => 1
  | s + 1 => fun k => d s (pfP p s k) * pfD p d s k
abbrev pfB (p : ℕ → Fin 64 → Fin 64) (d u : ℕ → Fin 64 → ℂ) : ℕ → Fin 64 → ℂ := run p d u fun _ => 0

theorem pfx_run (p : ℕ → Fin 64 → Fin 64) (d u : ℕ → Fin 64 → ℂ) (h : Fin 64 → ℂ) (s : ℕ) :
    aff (pfP p s) (pfD p d s) (pfB p d u s) h = run p d u h s := by
  induction s with
  | zero =>
    funext k
    show (0 : ℂ) + ∑ j, (if k = j then 1 * h j else 0) = h k
    rw [Finset.sum_ite_eq, if_pos (Finset.mem_univ k), one_mul, zero_add]
  | succ s ih =>
    show _ = aff (p s) (d s) (u s) (run p d u h s)
    rw [← ih]
    funext k
    show (u s k + ∑ i, if k = p s i then d s i * pfB p d u s i else 0) + (∑ j, if k = p s (pfP p s j) then d s (pfP p s j) * pfD p d s j * h j else 0)
      = u s k + ∑ i, if k = p s i then d s i * (pfB p d u s i + ∑ j, if i = pfP p s j then pfD p d s j * h j else 0) else 0
    have e : ∀ i : Fin 64, (if k = p s i then d s i * (pfB p d u s i + ∑ j, if i = pfP p s j then pfD p d s j * h j else 0) else 0)
        = (if k = p s i then d s i * pfB p d u s i else 0) + ∑ j, if i = pfP p s j then (if k = p s i then d s i * (pfD p d s j * h j) else 0) else 0 := by
      intro i
      by_cases hk : k = p s i
      · simp only [if_pos hk, mul_add, Finset.mul_sum, mul_ite, mul_zero]
      · simp only [if_neg hk, ite_self, Finset.sum_const_zero, add_zero]
    rw [Finset.sum_congr rfl fun i _ => e i, Finset.sum_add_distrib, Finset.sum_comm, add_assoc]
    refine congrArg (fun y => u s k + (_ + y)) (Finset.sum_congr rfl fun j _ => ?_)
    rw [Finset.sum_ite_eq', if_pos (Finset.mem_univ _), mul_assoc]

/-! ## Exact values that are the two parts of a complex number -/

/-- The two exact values are the parts of `z`. -/
def IsC (a b : Ideal .f32) (z : ℂ) : Prop := a = ((z.re : ℝ) : EReal) ∧ b = ((z.im : ℝ) : EReal)

theorem isC_zero : IsC (zeroF (F := Ideal)) zeroF 0 :=
  ⟨Ideal.ofBits_zero_f32, Ideal.ofBits_zero_f32⟩

theorem isC_one : IsC (oneF (F := Ideal)) zeroF 1 :=
  ⟨Ideal.ofBits_one_f32, Ideal.ofBits_zero_f32⟩

theorem IsC.add {a b a' b' : Ideal .f32} {z z' : ℂ} (h : IsC a b z) (h' : IsC a' b' z') :
    IsC (FloatOps.addf a a') (FloatOps.addf b b') (z + z') := by
  obtain ⟨rfl, rfl⟩ := h
  obtain ⟨rfl, rfl⟩ := h'
  exact ⟨(EReal.coe_add _ _).symm, (EReal.coe_add _ _).symm⟩

theorem IsC.mul {a b a' b' : Ideal .f32} {z z' : ℂ} (h : IsC a b z) (h' : IsC a' b' z') :
    IsC (cre a b a' b') (cim a b a' b') (z * z') := by
  obtain ⟨rfl, rfl⟩ := h
  obtain ⟨rfl, rfl⟩ := h'
  constructor
  · show ((z.re : ℝ) : EReal) * ((z'.re : ℝ) : EReal) - ((z.im : ℝ) : EReal) * ((z'.im : ℝ) : EReal) = _
    rw [← EReal.coe_mul, ← EReal.coe_mul, ← EReal.coe_sub, Complex.mul_re]
  · show ((z.re : ℝ) : EReal) * ((z'.im : ℝ) : EReal) + ((z.im : ℝ) : EReal) * ((z'.re : ℝ) : EReal) = _
    rw [← EReal.coe_mul, ← EReal.coe_mul, ← EReal.coe_add, Complex.mul_im]

theorem IsC.sum {ι : Type} [DecidableEq ι] (t : Finset ι) {a b : ι → EReal} {z : ι → ℂ} (h : ∀ i, IsC (a i) (b i) (z i)) :
    IsC (∑ i ∈ t, a i : EReal) (∑ i ∈ t, b i : EReal) (∑ i ∈ t, z i) := by
  induction t using Finset.induction_on with
  | empty => exact ⟨EReal.coe_zero.symm, EReal.coe_zero.symm⟩
  | insert i t hi ih =>
    rw [Finset.sum_insert hi, Finset.sum_insert hi, Finset.sum_insert hi]
    exact (h i).add ih

theorem IsC.ite {a b : Ideal .f32} {z : ℂ} (c : Prop) [Decidable c] (h : IsC a b z) :
    IsC (if c then a else (0 : EReal)) (if c then b else (0 : EReal)) (if c then z else 0) := by
  by_cases hc : c
  · rw [if_pos hc, if_pos hc, if_pos hc]; exact h
  · rw [if_neg hc, if_neg hc, if_neg hc]; exact ⟨EReal.coe_zero.symm, EReal.coe_zero.symm⟩

/-! ## The indexed adds are sums -/

theorem foldl_sum {α : Type} (l : List α) (c : α → Prop) [DecidablePred c] (v : α → EReal) (z : EReal) :
    l.foldl (fun a k => if c k then a + v k else a) z = z + (l.map fun k => if c k then v k else 0).sum := by
  induction l generalizing z with
  | nil => exact (add_zero z).symm
  | cons x l ih =>
    rw [List.foldl_cons, ih, List.map_cons, List.sum_cons, ← add_assoc]
    by_cases h : c x
    · rw [if_pos h, if_pos h]
    · rw [if_neg h, if_neg h, add_zero]

theorem scat_sum (z : Fin 64 → EReal) (g : Fin 4) (idx : Fin 64 → BitVec 32) (v : Fin 64 → EReal) (j : Fin 64) :
    scat (F := Ideal) z g idx v j = z j + ∑ k : Fin 16, if j.val = (idx (st g (ix1 k))).toNat then v (st g (ix1 k)) else 0 := by
  rw [← List.sum_ofFn, List.ofFn_eq_map, ← foldl_sum]
  unfold scat
  generalize List.finRange 16 = l
  induction l generalizing z with
  | nil => rfl
  | cons x l ih =>
    rw [List.foldl_cons, List.foldl_cons, ih]
    refine congrArg (fun y => List.foldl _ y l) ?_
    by_cases h : j.val = (idx (st g (ix1 x))).toNat
    · rw [if_pos h, if_pos h]
      have e : at' id (idx (st g (ix1 x))) = j := Fin.ext (by show _ % 64 = _; rw [← h]; exact Nat.mod_eq_of_lt j.isLt)
      rw [e]; rfl
    · rw [if_neg h, if_neg h]

/-- The sum over the 64 states is the four groups' sums. -/
theorem sum_groups (f : Fin 64 → EReal) :
    ∑ j, f j = (∑ k : Fin 16, f (st 0 (ix1 k))) + (∑ k : Fin 16, f (st 1 (ix1 k))) + (∑ k : Fin 16, f (st 2 (ix1 k))) + ∑ k : Fin 16, f (st 3 (ix1 k)) := by
  have h : ∑ j, f j = ∑ g : Fin 4, ∑ k : Fin 16, f (st g (ix1 k)) := by
    rw [← Fintype.sum_prod_type', ← Equiv.sum_comp (finProdFinEquiv (m := 4) (n := 16))]
    refine Finset.sum_congr rfl fun x _ => congrArg f (Fin.ext ?_)
    show x.2.val + 16 * x.1.val = 16 * x.1.val + x.2.val
    omega
  rw [h, Fin.sum_univ_four]

theorem sum4_sum (p : Fin 64 → BitVec 32) (v : Fin 64 → EReal) (k : Fin 64) :
    sum4 (F := Ideal) p v k = ∑ j, if k.val = (p j).toNat then v j else 0 := by
  show (scat (F := Ideal) _ 0 p v k + scat (F := Ideal) _ 1 p v k : EReal) + (scat (F := Ideal) _ 2 p v k + scat (F := Ideal) _ 3 p v k) = _
  rw [scat_sum, scat_sum, scat_sum, scat_sum, sum_groups]
  rw [show (zeroF (F := Ideal) : EReal) = 0 from Ideal.ofBits_zero_f32]
  simp only [zero_add, add_assoc]

theorem scat4_sum (z : Fin 64 → EReal) (p : Fin 64 → BitVec 32) (v : Fin 64 → EReal) (k : Fin 64) :
    scat4 (F := Ideal) z p v k = z k + ∑ j, if k.val = (p j).toNat then v j else 0 := by
  unfold scat4
  rw [scat_sum, scat_sum, scat_sum, scat_sum, sum_groups]
  simp only [add_assoc]

/-- Words that name states. -/
def IsP (p : Fin 64 → BitVec 32) (q : Fin 64 → Fin 64) : Prop := ∀ k, (p k).toNat = (q k).val
/-- Two rows of exact values that are the parts of a row of complex numbers. -/
def IsCs (a b : Fin 64 → Ideal .f32) (z : Fin 64 → ℂ) : Prop := ∀ k, IsC (a k) (b k) (z k)

theorem isC_sums {p : Fin 64 → BitVec 32} {q : Fin 64 → Fin 64} (hp : IsP p q) {dr di br bi : Fin 64 → Ideal .f32} {d h : Fin 64 → ℂ}
    (hd : IsCs dr di d) (hh : IsCs br bi h) (k : Fin 64) :
    IsC (∑ j, if k.val = (p j).toNat then cre (dr j) (di j) (br j) (bi j) else (0 : EReal) : EReal)
      (∑ j, if k.val = (p j).toNat then cim (dr j) (di j) (br j) (bi j) else (0 : EReal) : EReal)
      (∑ j, if k = q j then d j * h j else 0) := by
  have e : ∀ j, (k.val = (p j).toNat) = (k = q j) := fun j => propext (by rw [hp j]; exact Fin.ext_iff.symm)
  simp only [e]
  exact IsC.sum _ fun j => IsC.ite _ ((hd j).mul (hh j))

theorem at_isP {p : BitVec 32} {q : Fin 64} (h : p.toNat = q.val) {α : Type} (f : Fin 64 → α) : at' f p = f q :=
  congrArg f (Fin.ext (by show p.toNat % 64 = _; rw [h]; exact Nat.mod_eq_of_lt q.isLt))

theorem comb_isC {p : Fin 64 → BitVec 32} {q : Fin 64 → Fin 64} (hp : IsP p q) {dr di br bi : Fin 64 → Ideal .f32} {d b h : Fin 64 → ℂ}
    (hd : IsCs dr di d) (hb : IsCs br bi b) {s : Sta Ideal} (hs : IsCs s.Br s.Bi h) :
    IsCs (comb p dr di br bi s).Br (comb p dr di br bi s).Bi (aff q d b h) := by
  intro k
  refine (hb k).add ?_
  rw [sum4_sum, sum4_sum]
  exact isC_sums hp hd hs k

theorem apply1_isC {p : Fin 64 → BitVec 32} {q : Fin 64 → Fin 64} (hp : IsP p q) {dr di br bi : Fin 64 → Ideal .f32} {d b h : Fin 64 → ℂ}
    (hd : IsCs dr di d) (hb : IsCs br bi b) {s : Sta Ideal} (hs : IsCs s.Br s.Bi h) :
    IsCs (apply1 p dr di br bi s).Br (apply1 p dr di br bi s).Bi (aff q d b h) := by
  intro k
  show IsC (scat4 (F := Ideal) _ _ _ k) (scat4 (F := Ideal) _ _ _ k) _
  rw [scat4_sum, scat4_sum]
  exact (hb k).add (isC_sums hp hd hs k)

/-! ## The kernels' prefixes and states -/

/-- The prefix is the composed rows. -/
structure IsPre (c : Pre Ideal) (q : Fin 64 → Fin 64) (d b : Fin 64 → ℂ) : Prop where
  P : IsP c.P q
  D : IsCs c.Dr c.Di d
  B : IsCs c.Br c.Bi b

theorem chunk_isPre {p : Fin 128 → Fin 64 → BitVec 32} {dr di ur ui : Fin 128 → Fin 64 → Ideal .f32}
    {q : ℕ → Fin 64 → Fin 64} {d u : ℕ → Fin 64 → ℂ} (hp : ∀ r, IsP (p r) (q r.val)) (hd : ∀ r, IsCs (dr r) (di r) (d r.val))
    (hu : ∀ r, IsCs (ur r) (ui r) (u r.val)) : ∀ s, s ≤ 128 → IsPre (chunk p dr di ur ui s) (pfP q s) (pfD q d s) (pfB q d u s)
  | 0, _ => by
    rw [chunk_zero]
    refine ⟨fun k => ?_, fun _ => isC_one, fun _ => isC_zero⟩
    show (BitVec.ofNat 32 k.val).toNat = k.val
    have := k.isLt
    rw [BitVec.toNat_ofNat, Nat.mod_eq_of_lt (by omega)]
  | s + 1, hs => by
    have ih := chunk_isPre hp hd hu s (by omega)
    rw [chunk_succ (⟨s, by omega⟩ : Fin 128)]
    have hp' := hp ⟨s, by omega⟩
    have hd' := hd ⟨s, by omega⟩
    have hu' := hu ⟨s, by omega⟩
    refine ⟨fun k => ?_, fun k => ?_, fun k => ?_⟩
    · show (at' (p ⟨s, _⟩) _).toNat = _
      rw [at_isP (ih.P k)]; exact hp' _
    · show IsC (cre (at' _ _) (at' _ _) _ _) (cim (at' _ _) (at' _ _) _ _) _
      rw [at_isP (ih.P k), at_isP (ih.P k)]
      exact (hd' _).mul (ih.D k)
    · exact comb_isC hp' hd' hu' (s := ⟨_, _⟩) ih.B k

theorem enter_isC {p : Fin 32 → Fin 64 → BitVec 32} {dr di br bi : Fin 32 → Fin 64 → Ideal .f32}
    {q : ℕ → Fin 64 → Fin 64} {d u : ℕ → Fin 64 → ℂ} {w : ℕ}
    (hc : ∀ r : Fin 32, IsPre ⟨p r, dr r, di r, br r, bi r⟩ (pfP (fun s => q (128 * r.val + s)) 128) (pfD (fun s => q (128 * r.val + s)) (fun s => d (128 * r.val + s)) 128)
      (pfB (fun s => q (128 * r.val + s)) (fun s => d (128 * r.val + s)) (fun s => u (128 * r.val + s)) 128)) :
    ∀ t, t ≤ 32 → IsCs (enter p dr di br bi w t).Br (enter p dr di br bi w t).Bi (run q d u (fun _ => 0) (128 * min t w))
  | 0, _ => by rw [enter_zero, Nat.zero_min]; exact fun _ => isC_zero
  | t + 1, ht => by
    have ih := enter_isC hc (w := w) t (by omega)
    rw [enter_succ (⟨t, by omega⟩ : Fin 32)]
    by_cases h : t < w
    · rw [Nat.min_eq_left (by omega : t ≤ w)] at ih
      rw [Nat.min_eq_left (by omega : t + 1 ≤ w), Nat.mul_add, Nat.mul_one, run_add, ← pfx_run]
      have hh := comb_isC (hc ⟨t, by omega⟩).P (hc ⟨t, by omega⟩).D (hc ⟨t, by omega⟩).B ih
      intro k
      show IsC (if t < w then _ else _) (if t < w then _ else _) _
      rw [if_pos h, if_pos h]
      exact hh k
    · rw [Nat.min_eq_right (by omega : w ≤ t)] at ih
      rw [Nat.min_eq_right (by omega : w ≤ t + 1)]
      intro k
      show IsC (if t < w then _ else _) (if t < w then _ else _) _
      rw [if_neg h, if_neg h]
      exact ih k

/-- The five argument arrays hold these rows: row `s` of chunk `w` is row `128 w + s`. -/
structure Args (a0 : HBlk.Idx → BitVec 32) (a1 a2 a3 a4 : HBlk.Idx → Ideal .f32) (q : ℕ → Fin 64 → Fin 64) (d u : ℕ → Fin 64 → ℂ) : Prop where
  P : ∀ (w : Fin 32) (s : Fin 128) k, (a0 (ix3 w s k)).toNat = (q (128 * w.val + s.val) k).val
  D : ∀ (w : Fin 32) (s : Fin 128) k, IsC (a1 (ix3 w s k)) (a2 (ix3 w s k)) (d (128 * w.val + s.val) k)
  U : ∀ (w : Fin 32) (s : Fin 128) k, IsC (a3 (ix3 w s k)) (a4 (ix3 w s k)) (u (128 * w.val + s.val) k)

/-- Words that name states and finite values are some rows. -/
theorem exists_args {a0 : HBlk.Idx → BitVec 32} {a1 a2 a3 a4 : HBlk.Idx → Ideal .f32} (h0 : ∀ x, (a0 x).toNat < 64)
    (hf : ∀ x, ((a1 x : EReal) ≠ ⊤ ∧ (a1 x : EReal) ≠ ⊥) ∧ ((a2 x : EReal) ≠ ⊤ ∧ (a2 x : EReal) ≠ ⊥) ∧ ((a3 x : EReal) ≠ ⊤ ∧ (a3 x : EReal) ≠ ⊥) ∧ ((a4 x : EReal) ≠ ⊤ ∧ (a4 x : EReal) ≠ ⊥)) :
    ∃ q d u, Args a0 a1 a2 a3 a4 q d u := by
  let at3 : ℕ → Fin 64 → HBlk.Idx := fun t k => ix3 (Fin.ofNat 32 (t / 128)) (Fin.ofNat 128 (t % 128)) k
  have e : ∀ (w : Fin 32) (s : Fin 128) k, at3 (128 * w.val + s.val) k = ix3 w s k := by
    intro w s k
    have h1 : Fin.ofNat 32 ((128 * w.val + s.val) / 128) = w := Fin.ext (by show ((128 * w.val + s.val) / 128) % 32 = w.val; omega)
    have h2 : Fin.ofNat 128 ((128 * w.val + s.val) % 128) = s := Fin.ext (by show ((128 * w.val + s.val) % 128) % 128 = s.val; omega)
    show ix3 (Fin.ofNat 32 ((128 * w.val + s.val) / 128)) (Fin.ofNat 128 ((128 * w.val + s.val) % 128)) k = _
    rw [h1, h2]
  refine ⟨fun t k => ⟨(a0 (at3 t k)).toNat, h0 _⟩, fun t k => ⟨(a1 (at3 t k) : EReal).toReal, (a2 (at3 t k) : EReal).toReal⟩,
    fun t k => ⟨(a3 (at3 t k) : EReal).toReal, (a4 (at3 t k) : EReal).toReal⟩, ?_, ?_, ?_⟩
  · intro w s k; rw [← e]
  · intro w s k; rw [← e]
    exact ⟨(EReal.coe_toReal (hf _).1.1 (hf _).1.2).symm, (EReal.coe_toReal (hf _).2.1.1 (hf _).2.1.2).symm⟩
  · intro w s k; rw [← e]
    exact ⟨(EReal.coe_toReal (hf _).2.2.1.1 (hf _).2.2.1.2).symm, (EReal.coe_toReal (hf _).2.2.2.1 (hf _).2.2.2.2).symm⟩

end Cert.Proof.Rows
end
-- ==== Proof.IdealValue.lean ====
/-
  The two calls' results at exact values: row `s` of chunk `w` holds the state that the first `128 w + s + 1` rows lead to.
-/
module

public import proofs.«01_k».proof.Proof.IdealLaunch
public import proofs.«01_k».proof.Proof.Math

@[expose] public section

noncomputable section

namespace Cert.Proof.KI

open Cert.Proof.Rows
open Idealize.ShloMosaic
open Idealize.ShloMosaic.ValueIdx (ix1 ix2 ix3 eq_ix1 eq_ix2 eq_ix3)

variable {a0 : HBlk.Idx → BitVec 32} {a1 a2 a3 a4 : HBlk.Idx → Ideal .f32} {q : ℕ → Fin 64 → Fin 64} {d u : ℕ → Fin 64 → ℂ}

/-- The prefixes of chunk `w`. -/
theorem gch_isPre (h : Args a0 a1 a2 a3 a4 q d u) (w : Fin 32) (s : ℕ) (hs : s ≤ 128) :
    IsPre (gch a0 a1 a2 a3 a4 w s) (pfP (fun t => q (128 * w.val + t)) s) (pfD (fun t => q (128 * w.val + t)) (fun t => d (128 * w.val + t)) s)
      (pfB (fun t => q (128 * w.val + t)) (fun t => d (128 * w.val + t)) (fun t => u (128 * w.val + t)) s) :=
  chunk_isPre (q := fun t => q (128 * w.val + t)) (d := fun t => d (128 * w.val + t)) (u := fun t => u (128 * w.val + t))
    (fun r k => h.P w r k) (fun r k => h.D w r k) (fun r k => h.U w r k) s hs

theorem hid_isC (h : Args a0 a1 a2 a3 a4 q d u) (w : Fin 32) (s : Fin 128) (k : Fin 64) :
    IsC (hidR (outP a0 a1 a2 a3 a4) (outDr a0 a1 a2 a3 a4) (outDi a0 a1 a2 a3 a4) (outBr a0 a1 a2 a3 a4) (outBi a0 a1 a2 a3 a4)
        (carP a0 a1 a2 a3 a4) (carDr a0 a1 a2 a3 a4) (carDi a0 a1 a2 a3 a4) (carBr a0 a1 a2 a3 a4) (carBi a0 a1 a2 a3 a4) (ix3 w s k))
      (hidI (outP a0 a1 a2 a3 a4) (outDr a0 a1 a2 a3 a4) (outDi a0 a1 a2 a3 a4) (outBr a0 a1 a2 a3 a4) (outBi a0 a1 a2 a3 a4)
        (carP a0 a1 a2 a3 a4) (carDr a0 a1 a2 a3 a4) (carDi a0 a1 a2 a3 a4) (carBr a0 a1 a2 a3 a4) (carBi a0 a1 a2 a3 a4) (ix3 w s k))
      (run q d u (fun _ => 0) (128 * w.val + s.val + 1) k) := by
  have hc := fun r : Fin 32 => gch_isPre h r 128 (Nat.le_refl _)
  have he := enter_isC (p := row (carP a0 a1 a2 a3 a4)) (dr := row (carDr a0 a1 a2 a3 a4)) (di := row (carDi a0 a1 a2 a3 a4))
    (br := row (carBr a0 a1 a2 a3 a4)) (bi := row (carBi a0 a1 a2 a3 a4)) (w := w.val) (fun r => ⟨(hc r).P, (hc r).D, (hc r).B⟩) 31 (by omega)
  rw [Nat.min_eq_right (by have := w.isLt; omega)] at he
  have hp := gch_isPre h w (s.val + 1) (by have := s.isLt; omega)
  rw [Nat.add_assoc, run_add, ← pfx_run]
  exact apply1_isC (p := blk (outP a0 a1 a2 a3 a4) w s) (dr := blk (outDr a0 a1 a2 a3 a4) w s) (di := blk (outDi a0 a1 a2 a3 a4) w s)
    (br := blk (outBr a0 a1 a2 a3 a4) w s) (bi := blk (outBi a0 a1 a2 a3 a4) w s) hp.P hp.D hp.B he k

end Cert.Proof.KI
end
-- ==== Proof.OutValue.lean ====
/-
  The TensorCore call's result at exact values: the element of row `128 w + s` and channel `h` is the product of the state's
  row with the channel's row of `C_re`, less that of the imaginary parts, plus the input scaled by `D`.
-/
module

public import proofs.«01_k».proof.Proof.IdealLaunch
public import Idealize.ShloMosaic.Lib.MatmulPlain
public import Idealize.ShloMosaic.Lib.ValueLayout
public import Idealize.ShloMosaic.Lib.Pipeline.Value
public import Idealize.ShloMosaic.Lib.Pipeline.ValueKit.Basic

@[expose] public section

noncomputable section

namespace Cert.Proof.KI

open Cert.KernelIdeal Cert.KernelIdeal.Gen Cert.Proof.Rows
open Idealize.ShloMosaic
open Idealize.ShloMosaic.ValueIdx (ix1 ix2 ix3 eq_ix1 eq_ix2 eq_ix3)

/-- Row `s` of chunk `w` in the flat arrays. -/
abbrev flat (w : Fin 32) (s : Fin 128) : Fin 4096 := ⟨128 * w.val + s.val, by omega⟩

/-- One element of the result, `e` standing for the channel's entry of `D`. -/
def outAt (hr hi : HBlk.Idx → EReal) (x : S4096x1024.Idx → EReal) (cr ci : S1024x64.Idx → EReal) (e : EReal) (w : Fin 32) (s : Fin 128) (h : Fin 1024) : EReal :=
  (∑ k : Fin 64, hr (ix3 w s k) * cr (ix2 h k)) - (∑ k : Fin 64, hi (ix3 w s k) * ci (ix2 h k)) + e * x (ix2 (flat w s) h)

/-! ## One block -/

theorem mm_apply (v : FVec Ideal S4x128x64 .f32) (c : FVec Ideal S1024x64 .f32) (a : Fin 4) (s : Fin 128) (h : Fin 1024) :
    (matmul dot_S512x64_S1024x64_S512x1024_1_1_0_0_n_n none (shapeCast S512x64 (shapeCast S4x128x64 v shapeCasts_S4x128x64_S4x128x64) shapeCasts_S4x128x64_S512x64) c
      (constant S512x1024 .f32 0x00000000#32) : FVec Ideal S512x1024 .f32) (ix2 (⟨128 * a.val + s.val, by omega⟩ : Fin 512) h)
      = (∑ k : Fin 64, (v (ix3 a s k) : EReal) * c (ix2 h k) : EReal) := by
  refine (Ideal.matmul_transposedRhs_apply none _ c (constant S512x1024 .f32 0x00000000#32) (⟨128 * a.val + s.val, by omega⟩ : Fin 512) h).trans ?_
  rw [show (constant (F := Ideal) S512x1024 .f32 0x00000000#32 (ix2 (⟨128 * a.val + s.val, by omega⟩ : Fin 512) h) : EReal) = 0 from Ideal.ofBits_zero_f32]
  refine (zero_add _).trans (Finset.sum_congr rfl fun k _ => congrArg (· * (c (ix2 h k) : EReal)) ?_)
  refine (shapeCast_apply _ _ _ (ix3 a s k) (by
    rw [Shape.rowMajor_val_three, Shape.rowMajor_val_two]
    show (a.val * 128 + s.val) * 64 + k.val = (128 * a.val + s.val) * 64 + k.val
    omega)).trans ?_
  exact shapeCast_apply _ _ _ (ix3 a s k) rfl

theorem pay_apply (v0 v3 : FVec Ideal S4x128x64 .f32) (v6 v8 : FVec Ideal S1024x64 .f32) (v11 : FVec Ideal S1x1024 .f32) (v13 : FVec Ideal S512x1024 .f32)
    (a : Fin 4) (s : Fin 128) (h : Fin 1024) :
    (k2_pay1 (F := Ideal) v0 v3 v6 v8 v11 v13 (ix2 (⟨128 * a.val + s.val, by omega⟩ : Fin 512) h) : EReal)
      = (∑ k : Fin 64, (v0 (ix3 a s k) : EReal) * v6 (ix2 h k)) - (∑ k : Fin 64, (v3 (ix3 a s k) : EReal) * v8 (ix2 h k))
        + (v11 (ix2 (0 : Fin 1) h) : EReal) * v13 (ix2 (⟨128 * a.val + s.val, by omega⟩ : Fin 512) h) := by
  have e1 := mm_apply v0 v6 a s h
  have e2 := mm_apply v3 v8 a s h
  have e3 := (ValueIdx.broadcastTo_1b_ab_apply (shapeCast S1x1024 v11 shapeCasts_S1x1024_S1x1024) broadcasts_S1x1024_S512x1024 (⟨128 * a.val + s.val, by omega⟩ : Fin 512) h).trans
    (shapeCast_apply v11 shapeCasts_S1x1024_S1x1024 _ (ix2 (0 : Fin 1) h) rfl)
  unfold k2_pay1
  exact congrArg₂ (fun y z : EReal => y + z) (congrArg₂ (fun y z : EReal => y - z) e1 e2) (congrArg (fun y : EReal => y * (v13 (ix2 (⟨128 * a.val + s.val, by omega⟩ : Fin 512) h) : EReal)) e3)

theorem out2_eq (x0 x1 : Vec Ideal S4x128x64 .f32) (x2 : Vec Ideal S512x1024 .f32) (x3 x4 : Vec Ideal S1024x64 .f32) (x5 : Vec Ideal S1x1024 .f32) :
    out2 x0 x1 x2 x3 x4 x5 = k2_pay1 x0 x1 x3 x4 x5 x2 := by
  have z3 : ∀ a : Fin 3, (![0, 0, 0] : Fin 3 → ℕ) a = 0 := by decide
  have z2 : ∀ a : Fin 2, (![0, 0] : Fin 2 → ℕ) a = 0 := by decide
  unfold out2
  rw [View.canon_cons_unit_lit (S := S512x1024) inb_S512x1024_S512x1024_0_0 _ _ z2, View.ld_unit_lit (S := S4x128x64) inb_S4x128x64_S4x128x64_0_0_0 x0 z3,
    View.ld_unit_lit (S := S4x128x64) inb_S4x128x64_S4x128x64_0_0_0 x1 z3, View.ld_unit_lit (S := S1024x64) inb_S1024x64_S1024x64_0_0 x3 z2,
    View.ld_unit_lit (S := S1024x64) inb_S1024x64_S1024x64_0_0 x4 z2, View.ld_unit_lit (S := S1x1024) inb_S1x1024_S1x1024_0_0 x5 z2, View.ld_unit_lit (S := S512x1024) inb_S512x1024_S512x1024_0_0 x2 z2]

/-! ## Where a block's elements lie -/

theorem idx_row3 : ∀ t : Fin grid2.N, win2_0.index t = ![t.val, 0, 0] ∧ win2_1.index t = ![t.val, 0, 0] := by decide +kernel
theorem idx_row2 : ∀ t : Fin grid2.N, win2_2.index t = ![t.val, 0] ∧ win2_6.index t = ![t.val, 0] := by decide +kernel
theorem idx_whole : ∀ t : Fin grid2.N, win2_3.index t = ![0, 0] ∧ win2_4.index t = ![0, 0] ∧ win2_5.index t = ![0, 0] := by decide +kernel

/-- The grid's point of chunk `w`, and the chunk's place in its block. -/
def pt (w : Fin 32) : Fin cfg2.N := ⟨w.val / 4, by rw [show cfg2.N = 8 from N_2]; omega⟩
def pl (w : Fin 32) : Fin 4 := ⟨w.val % 4, by omega⟩

variable (A : Arrs Ideal) (d : Dev nD)

theorem blk0 (w : Fin 32) (s : Fin 128) (k : Fin 64) : iblk A d 0 (pt w) (ix3 (pl w) s k) = A d 0 (ix3 w s k) := by
  refine congrArg (A d 0) (funext fun a => Fin.ext ?_)
  have e := (idx_row3 (pt w)).1
  match a with
  | ⟨0, _⟩ => show win2_0.index (pt w) 0 * 4 + 1 * (w.val % 4) = w.val; rw [e]; show w.val / 4 * 4 + 1 * (w.val % 4) = w.val; omega
  | ⟨1, _⟩ => show win2_0.index (pt w) 1 * 128 + 1 * s.val = s.val; rw [e]; show 0 * 128 + 1 * s.val = s.val; omega
  | ⟨2, _⟩ => show win2_0.index (pt w) 2 * 64 + 1 * k.val = k.val; rw [e]; show 0 * 64 + 1 * k.val = k.val; omega
theorem blk1 (w : Fin 32) (s : Fin 128) (k : Fin 64) : iblk A d 1 (pt w) (ix3 (pl w) s k) = A d 1 (ix3 w s k) := by
  refine congrArg (A d 1) (funext fun a => Fin.ext ?_)
  have e := (idx_row3 (pt w)).2
  match a with
  | ⟨0, _⟩ => show win2_1.index (pt w) 0 * 4 + 1 * (w.val % 4) = w.val; rw [e]; show w.val / 4 * 4 + 1 * (w.val % 4) = w.val; omega
  | ⟨1, _⟩ => show win2_1.index (pt w) 1 * 128 + 1 * s.val = s.val; rw [e]; show 0 * 128 + 1 * s.val = s.val; omega
  | ⟨2, _⟩ => show win2_1.index (pt w) 2 * 64 + 1 * k.val = k.val; rw [e]; show 0 * 64 + 1 * k.val = k.val; omega

theorem row_sum (w : Fin 32) (s : Fin 128) : w.val / 4 * 512 + 1 * (128 * (w.val % 4) + s.val) = 128 * w.val + s.val := by omega

theorem emb2 (w : Fin 32) (s : Fin 128) (h : Fin 1024) :
    ((cfg2.win 2).blk (pt w)).view.emb (ix2 (⟨128 * (pl w).val + s.val, by omega⟩ : Fin 512) h) = ix2 (flat w s) h := by
  have e := (idx_row2 (pt w)).1
  funext a; apply Fin.ext
  match a with
  | ⟨0, _⟩ => show win2_2.index (pt w) 0 * 512 + 1 * (128 * (w.val % 4) + s.val) = 128 * w.val + s.val; rw [e]; exact row_sum w s
  | ⟨1, _⟩ => show win2_2.index (pt w) 1 * 1024 + 1 * h.val = h.val; rw [e]; show 0 * 1024 + 1 * h.val = h.val; omega
theorem emb6 (w : Fin 32) (s : Fin 128) (h : Fin 1024) :
    ((cfg2.win 6).blk (pt w)).view.emb (ix2 (⟨128 * (pl w).val + s.val, by omega⟩ : Fin 512) h) = ix2 (flat w s) h := by
  have e := (idx_row2 (pt w)).2
  funext a; apply Fin.ext
  match a with
  | ⟨0, _⟩ => show win2_6.index (pt w) 0 * 512 + 1 * (128 * (w.val % 4) + s.val) = 128 * w.val + s.val; rw [e]; exact row_sum w s
  | ⟨1, _⟩ => show win2_6.index (pt w) 1 * 1024 + 1 * h.val = h.val; rw [e]; show 0 * 1024 + 1 * h.val = h.val; omega

theorem blk2 (w : Fin 32) (s : Fin 128) (h : Fin 1024) :
    iblk A d 2 (pt w) (ix2 (⟨128 * (pl w).val + s.val, by omega⟩ : Fin 512) h) = A d 2 (ix2 (flat w s) h) := congrArg (A d 2) (emb2 w s h)
theorem blk3 (t : Fin cfg2.N) (h : Fin 1024) (k : Fin 64) : iblk A d 3 t (ix2 h k) = A d 3 (ix2 h k) := by
  refine congrArg (A d 3) (funext fun a => Fin.ext ?_)
  have e := (idx_whole t).1
  match a with
  | ⟨0, _⟩ => show win2_3.index t 0 * 1024 + 1 * h.val = h.val; rw [e]; show 0 * 1024 + 1 * h.val = h.val; omega
  | ⟨1, _⟩ => show win2_3.index t 1 * 64 + 1 * k.val = k.val; rw [e]; show 0 * 64 + 1 * k.val = k.val; omega
theorem blk4 (t : Fin cfg2.N) (h : Fin 1024) (k : Fin 64) : iblk A d 4 t (ix2 h k) = A d 4 (ix2 h k) := by
  refine congrArg (A d 4) (funext fun a => Fin.ext ?_)
  have e := (idx_whole t).2.1
  match a with
  | ⟨0, _⟩ => show win2_4.index t 0 * 1024 + 1 * h.val = h.val; rw [e]; show 0 * 1024 + 1 * h.val = h.val; omega
  | ⟨1, _⟩ => show win2_4.index t 1 * 64 + 1 * k.val = k.val; rw [e]; show 0 * 64 + 1 * k.val = k.val; omega
theorem blk5 (t : Fin cfg2.N) (h : Fin 1024) : iblk A d 5 t (ix2 (0 : Fin 1) h) = A d 5 (ix2 (0 : Fin 1) h) := by
  refine congrArg (A d 5) (funext fun a => Fin.ext ?_)
  have e := (idx_whole t).2.2
  match a with
  | ⟨0, _⟩ => show win2_5.index t 0 * 1 + 1 * 0 = 0; rw [e]; rfl
  | ⟨1, _⟩ => show win2_5.index t 1 * 1024 + 1 * h.val = h.val; rw [e]; show 0 * 1024 + 1 * h.val = h.val; omega

/-! ## The array -/

theorem flushed6 (t : Fin cfg2.N) : (dats A 0 d).flushed 6 t
    = (cfg2.win 6).cut (grid2.coords t) (out2 (iblk A d 0 t) (iblk A d 1 t) (iblk A d 2 t) (iblk A d 3 t) (iblk A d 4 t) (iblk A d 5 t)) := by
  show (cfg2.win 6).cut (grid2.coords t) ((dats A 0 d).after 6 t) = _
  rw [after2_6]

theorem disjoint6 : ∀ t t' : Fin cfg2.N, (cfg2.win 6).flush t = true → (cfg2.win 6).flush t' = true → t ≠ t' →
    Disjoint ((cfg2.win 6).blk t).view.set ((cfg2.win 6).blk t').view.set := fun t t' _ _ hne =>
  (cfg2.win 6).disjoint_blk fun h => hne (Fin.ext (congrFun ((idx_row2 t).2.symm.trans (h.trans (idx_row2 t').2)) 0))

theorem arr6_apply (w : Fin 32) (s : Fin 128) (h : Fin 1024) :
    ((dats A 0 d).arrAt 6 cfg2.N (ix2 (flat w s) h) : EReal)
      = outAt (A d 0) (A d 1) (A d 2) (A d 3) (A d 4) (A d 5 (ix2 (0 : Fin 1) h)) w s h := by
  have b := congrFun ((dats A 0 d).read_blk_arrAt_eq_flushed 6 disjoint6 cfg2.N (pt w) (pt w).isLt (flush2_6 (pt w))) (ix2 (⟨128 * (pl w).val + s.val, by omega⟩ : Fin 512) h)
  rw [flushed6, out2_eq] at b
  have b' : ((dats A 0 d).arrAt 6 cfg2.N (((cfg2.win 6).blk (pt w)).view.emb (ix2 (⟨128 * (pl w).val + s.val, by omega⟩ : Fin 512) h)) : EReal)
      = k2_pay1 (iblk A d 0 (pt w)) (iblk A d 1 (pt w)) (iblk A d 3 (pt w)) (iblk A d 4 (pt w)) (iblk A d 5 (pt w)) (iblk A d 2 (pt w)) (ix2 (⟨128 * (pl w).val + s.val, by omega⟩ : Fin 512) h) := b
  rw [emb6] at b'
  rw [b', pay_apply, blk2, blk5]
  simp only [blk0, blk1, blk3, blk4]
  rfl

variable (m : (ℓ : Loc nD τ sig) → Buf (Elt Ideal) ℓ)

/-- The kernel's result, element by element. -/
theorem resO_apply (w : Fin 32) (s : Fin 128) (h : Fin 1024) :
    (resO m d (ix2 (flat w s) h) : EReal)
      = outAt (resR m d) (resI m d) (mv m d main_arg5) (mv m d main_arg6) (mv m d main_arg7) (mv m d main_arg8 (ix1 h)) w s h := by
  have e : (rowD m d (ix2 (0 : Fin 1) h) : EReal) = mv m d main_arg8 (ix1 h) := ValueIdx.shapeCast_a_1a_apply _ _ _ _
  have a := arr6_apply (arrs m) d w s h
  rw [show arrs m d 5 (ix2 (0 : Fin 1) h) = rowD m d (ix2 (0 : Fin 1) h) from rfl, e] at a
  exact a

end Cert.Proof.KI
end
-- ==== Proof.Ref.lean ====
/-
  The reference's loop at exact values: after `t` trips it carries the state that the first `t` rows lead to, and the
  first `t` rows of its two results hold the states after rows `1 … t`.
-/
module

public import proofs.«01_k».proof.Proof.Math
public import proofs.«01_k».proof.Proof.Gen.ReferenceIdeal.Run
public import proofs.«01_k».proof.Proof.OutValue
public import Idealize.ShloMosaic.Lib.StackMember
public import Idealize.ShloMosaic.Lib.DynamicIndex
public import Idealize.ShloMosaic.Lib.Routing.Ops
public import Idealize.ShloMosaic.Lib.ValueIdxRank1
public import Idealize.ShloMosaic.Lib.ValueLayout

@[expose] public section

noncomputable section

namespace Cert.Proof.Ref

open Idealize.ShloMosaic Idealize.SL.Sem
open Idealize.ShloMosaic.StableHlo
open Idealize.ShloMosaic.ValueIdx (ix0 ix1 ix2 ix3 eq_ix1 eq_ix2 eq_ix3 idxEquiv1)
open Cert.ReferenceIdeal Cert.ReferenceIdeal.Gen Cert.ReferenceIdeal.Value Cert.Proof.Rows

/-! ## The operations of a trip -/

theorem row_read {α : Type} (x : S4096x64.Idx → α) (start : Fin 2 → Int) (t : Fin 4096) (h0 : start 0 = (t.val : Int)) (h1 : start 1 = 0)
    (h : S4096x64.Slices (fun _ => 0) S1x64) (hc : S1x64.ShapeCasts S64) (k : Fin 64) :
    shapeCast S64 (Host.dynamicSlice S1x64 x start h) hc (ix1 k) = x (ix2 t k) := by
  have ht := t.isLt
  have hoff : S4096x64.Slices ![t.val, 0] S1x64 := ⟨rfl, fun a => match a with
    | ⟨0, _⟩ => by show t.val + 1 ≤ 4096; omega
    | ⟨1, _⟩ => by show 0 + 64 ≤ 64; omega⟩
  rw [Host.dynamicSlice_eq_extractStridedSlice S1x64 x start ![t.val, 0] h hoff (fun a => match a with
    | ⟨0, _⟩ => h0
    | ⟨1, _⟩ => h1)]
  refine (ValueIdx.shapeCast_1a_a_apply _ hc k).trans ?_
  refine congrArg x (funext fun a => Fin.ext ?_)
  match a with
  | ⟨0, _⟩ => rfl
  | ⟨1, _⟩ => exact Nat.zero_add _

theorem row_write {α : Type} (x : S4096x64.Idx → α) (v : S64.Idx → α) (start : Fin 2 → Int) (t : Fin 4096) (h0 : start 0 = (t.val : Int)) (h1 : start 1 = 0)
    (h : S4096x64.Slices (fun _ => 0) S1x64) (hb : S64.BroadcastsInDim S1x64 ![1]) (r : Fin 4096) (k : Fin 64) :
    Host.dynamicUpdateSlice x (broadcastInDim S1x64 ![1] hb v) start h (ix2 r k) = if r = t then v (ix1 k) else x (ix2 r k) := by
  have ht := t.isLt
  have hk := k.isLt
  have hoff : S4096x64.Slices ![t.val, 0] S1x64 := ⟨rfl, fun a => match a with
    | ⟨0, _⟩ => by show t.val + 1 ≤ 4096; omega
    | ⟨1, _⟩ => by show 0 + 64 ≤ 64; omega⟩
  rw [Host.dynamicUpdateSlice_eq_updateSlice x _ start h ![t.val, 0] (fun a => match a with
    | ⟨0, _⟩ => by show (min (max (start 0) 0) ((4096 - 1 : Nat) : Int)).toNat = t.val; rw [h0]; omega
    | ⟨1, _⟩ => by show (min (max (start 1) 0) ((64 - 64 : Nat) : Int)).toNat = 0; rw [h1]; omega) hoff]
  by_cases hr : r = t
  · subst hr
    rw [if_pos rfl]
    unfold updateSlice
    rw [dif_pos (fun a => match a with
      | ⟨0, _⟩ => (by show r.val ≤ r.val ∧ r.val < r.val + 1; omega)
      | ⟨1, _⟩ => (by show 0 ≤ k.val ∧ k.val < 0 + 64; omega))]
    refine congrArg v (funext fun a => Fin.ext ?_)
    match a with
    | ⟨0, _⟩ => rfl
  · rw [if_neg hr]
    unfold updateSlice
    rw [dif_neg]
    intro hh
    have := hh 0
    change t.val ≤ r.val ∧ r.val < t.val + 1 at this
    exact hr (Fin.ext (by omega))

theorem scatter_sum (x : S64.Idx → EReal) (idx : IVec S64x1 32) (upd : S64.Idx → EReal) (q : Fin 64 → Fin 64)
    (hq : ∀ j : Fin 64, (idx (ix2 j (0 : Fin 1))).toNat = (q j).val) (k : Fin 64) :
    (Host.scatterAdd (F := Ideal) (φ := .f32) scatter_S64_S64x1_S64_n_0_0_1 x idx upd (ix1 k) : EReal)
      = x (ix1 k) + ∑ j, if k = q j then upd (ix1 j) else 0 := by
  show x (ix1 k) + ∑ j ∈ Finset.univ.filter (fun j => scatter_S64_S64x1_S64_n_0_0_1.resultIdx? j idx = some (ix1 k)), upd j = _
  rw [Finset.sum_filter, ← Equiv.sum_comp (idxEquiv1 (n := 64)).symm]
  refine congrArg (x (ix1 k) + ·) (Finset.sum_congr rfl fun j _ => ?_)
  have e : scatter_S64_S64x1_S64_n_0_0_1.resultIdx? (ix1 j) idx = some (ix1 k) ↔ k = q j := by
    rw [Routing.scatter_lands_signed scatter_S64_S64x1_S64_n_0_0_1 rfl rfl rfl idx j k, BitVec.toInt_eq_toNat_cond, hq j, Fin.ext_iff]
    have := (q j).isLt
    split <;> omega
  show (if scatter_S64_S64x1_S64_n_0_0_1.resultIdx? (ix1 j) idx = some (ix1 k) then upd (ix1 j) else 0) = _
  by_cases h : k = q j
  · rw [if_pos h, if_pos (e.mpr h)]
  · rw [if_neg h, if_neg fun h' => h (e.mp h')]

/-! ## The carried buffers -/

variable (V : Valuation τ sig (Elt Ideal))

abbrev xP : S4096x64.Idx → BitVec 32 := V (Proc.devRef .tc main_v8_0)
abbrev xDr : S4096x64.Idx → EReal := V (Proc.devRef .tc main_v8_1)
abbrev xDi : S4096x64.Idx → EReal := V (Proc.devRef .tc main_v8_2)
abbrev xUr : S4096x64.Idx → EReal := V (Proc.devRef .tc main_v8_3)
abbrev xUi : S4096x64.Idx → EReal := V (Proc.devRef .tc main_v8_4)
abbrev xT : S_.Idx → BitVec 32 := V (Proc.devRef .tc main_v8_5)
abbrev xHr : S64.Idx → EReal := V (Proc.devRef .tc main_v8_6)
abbrev xHi : S64.Idx → EReal := V (Proc.devRef .tc main_v8_7)
abbrev xOr : S4096x64.Idx → EReal := V (Proc.devRef .tc main_v8_8)
abbrev xOi : S4096x64.Idx → EReal := V (Proc.devRef .tc main_v8_9)

/-- What the loop carries after `t` trips. -/
structure Inv (q : ℕ → Fin 64 → Fin 64) (d u : ℕ → Fin 64 → ℂ) (t : ℕ) (V : Valuation τ sig (Elt Ideal)) : Prop where
  P : ∀ (r : Fin 4096) k, (xP V (ix2 r k)).toNat = (q r.val k).val
  D : ∀ (r : Fin 4096) k, IsC (xDr V (ix2 r k)) (xDi V (ix2 r k)) (d r.val k)
  U : ∀ (r : Fin 4096) k, IsC (xUr V (ix2 r k)) (xUi V (ix2 r k)) (u r.val k)
  T : xT V = fun _ => BitVec.ofNat 32 t
  H : ∀ k, IsC (xHr V (ix1 k)) (xHi V (ix1 k)) (run q d u (fun _ => 0) t k)
  O : ∀ (r : Fin 4096) k, r.val < t → IsC (xOr V (ix2 r k)) (xOi V (ix2 r k)) (run q d u (fun _ => 0) (r.val + 1) k)

/-- The start of a trip's slices: the counter, and column 0. -/
abbrev starts : Fin 2 → Int := fun k => (((![V (Proc.devRef .tc main_v8_5), constantI S_ 32 0#32] : Fin 2 → (⟨S_, .i32⟩ : BufTy).Contents (Elt Ideal))) k (Shape.Idx.first h_S_)).toInt

variable {q : ℕ → Fin 64 → Fin 64} {d u : ℕ → Fin 64 → ℂ} {V}

theorem starts_0 {t : ℕ} (ht : t < 4096) (hT : xT V = fun _ => BitVec.ofNat 32 t) : starts V 0 = (t : Int) := by
  show (xT V (Shape.Idx.first h_S_)).toInt = _
  rw [hT]
  exact toInt_ofNat_of_lt (by omega)

theorem words_read {t : ℕ} (ht : t < 4096) (h : Inv q d u t V) (k : Fin 64) :
    (res_main_while0b_v18 V (ix1 k) : BitVec 32) = xP V (ix2 (⟨t, ht⟩ : Fin 4096) k) :=
  row_read (xP V) (starts V) ⟨t, ht⟩ (starts_0 ht h.T) rfl sliceFits_S4096x64_S1x64 shapeCasts_S1x64_S64 k

/-- The index words of a trip's scatters: the row's own words, since none is negative. -/
theorem idx_words {t : ℕ} (ht : t < 4096) (h : Inv q d u t V) (k : Fin 64) :
    (broadcastInDim S64x1 ![0] bcast_S64_S64x1_0 (select (cmpi .slt (res_main_while0b_v18 V) (broadcastInDim S64 ![] bcast_S_S64 (constantI S_ 32 0#32))) (addi (res_main_while0b_v18 V) (broadcastInDim S64 ![] bcast_S_S64 (constantI S_ 32 64#32))) (res_main_while0b_v18 V) : IVec S64 32) (ix2 k (0 : Fin 1)) : BitVec 32).toNat
      = (q t k).val := by
  have hw := words_read ht h k
  have hP := h.P ⟨t, ht⟩ k
  have hlt := (q t k).isLt
  have e : ∀ (y : IVec S64 32), (broadcastInDim S64x1 ![0] bcast_S64_S64x1_0 y : IVec S64x1 32) (ix2 k (0 : Fin 1)) = y (ix1 k) := by
    intro y
    refine congrArg y (funext fun a => Fin.ext ?_)
    match a with
    | ⟨0, _⟩ => rfl
  have hz : (broadcastInDim S64 ![] bcast_S_S64 (constantI S_ 32 0#32) : IVec S64 32) = constantI S64 32 0#32 := rfl
  rw [e, hz, select_slt_zero_of_nonneg _ _ _ _ (by
    rw [hw, BitVec.toInt_eq_toNat_cond, hP]
    show 0 ≤ if 2 * (q t k).val < 2 ^ 32 then ((q t k).val : Int) else _
    rw [if_pos (by omega)]; omega), hw, hP]

/-- One row by the reference's operations, on vectors. -/
theorem row_isC {z dr di hr hi ur ui : FVec Ideal S64 .f32} {idx : IVec S64x1 32} {p : Fin 64 → Fin 64} {e v g : Fin 64 → ℂ}
    (hz : ∀ j, (z j : EReal) = 0) (hp : ∀ j : Fin 64, (idx (ix2 j (0 : Fin 1))).toNat = (p j).val)
    (he : ∀ j, IsC (dr (ix1 j)) (di (ix1 j)) (e j)) (hg : ∀ j, IsC (hr (ix1 j)) (hi (ix1 j)) (g j)) (hv : ∀ j, IsC (ur (ix1 j)) (ui (ix1 j)) (v j)) (k : Fin 64) :
    IsC (addf (Host.scatterAdd (F := Ideal) (φ := .f32) scatter_S64_S64x1_S64_n_0_0_1 z idx (subf (mulf dr hr) (mulf di hi))) ur (ix1 k))
      (addf (Host.scatterAdd (F := Ideal) (φ := .f32) scatter_S64_S64x1_S64_n_0_0_1 z idx (addf (mulf dr hi) (mulf di hr))) ui (ix1 k))
      (aff p e v g k) := by
  have hsum := (IsC.sum Finset.univ fun j => IsC.ite (k = p j) ((he j).mul (hg j))).add (hv k)
  have sr := scatter_sum z idx (subf (mulf dr hr) (mulf di hi)) p hp k
  have si := scatter_sum z idx (addf (mulf dr hi) (mulf di hr)) p hp k
  rw [hz, zero_add] at sr si
  unfold aff
  rw [add_comm (v k)]
  refine ⟨Eq.trans ?_ hsum.1, Eq.trans ?_ hsum.2⟩
  · exact congrArg (fun y : EReal => y + (ur (ix1 k) : EReal)) sr
  · exact congrArg (fun y : EReal => y + (ui (ix1 k) : EReal)) si

/-- The state after a trip. -/
theorem trip_H {t : ℕ} (ht : t < 4096) (h : Inv q d u t V) (k : Fin 64) :
    IsC (res_main_while0b_v34 V (ix1 k) : EReal) (res_main_while0b_v46 V (ix1 k) : EReal) (run q d u (fun _ => 0) (t + 1) k) := by
  have hr : ∀ (x : S4096x64.Idx → EReal) j, shapeCast S64 (Host.dynamicSlice S1x64 x (starts V) sliceFits_S4096x64_S1x64) shapeCasts_S1x64_S64 (ix1 j) = x (ix2 (⟨t, ht⟩ : Fin 4096) j) :=
    fun x j => row_read x (starts V) ⟨t, ht⟩ (starts_0 ht h.T) rfl sliceFits_S4096x64_S1x64 shapeCasts_S1x64_S64 j
  have hD : ∀ j, IsC (res_main_while0b_v19 V (ix1 j) : EReal) (res_main_while0b_v20 V (ix1 j) : EReal) (d t j) := fun j => by
    have e1 : (res_main_while0b_v19 V (ix1 j) : EReal) = xDr V (ix2 (⟨t, ht⟩ : Fin 4096) j) := hr (xDr V) j
    have e2 : (res_main_while0b_v20 V (ix1 j) : EReal) = xDi V (ix2 (⟨t, ht⟩ : Fin 4096) j) := hr (xDi V) j
    rw [e1, e2]; exact h.D ⟨t, ht⟩ j
  have hU : ∀ j, IsC (shapeCast S64 (Host.dynamicSlice S1x64 (xUr V) (starts V) sliceFits_S4096x64_S1x64) shapeCasts_S1x64_S64 (ix1 j))
      (shapeCast S64 (Host.dynamicSlice S1x64 (xUi V) (starts V) sliceFits_S4096x64_S1x64) shapeCasts_S1x64_S64 (ix1 j)) (u t j) := fun j => by
    rw [hr, hr]; exact h.U ⟨t, ht⟩ j
  unfold res_main_while0b_v34 res_main_while0b_v46
  exact row_isC (z := broadcastInDim S64 ![] bcast_S_S64 (constant S_ .f32 0x00000000#32)) (fun _ => Ideal.ofBits_zero_f32) (idx_words ht h) hD h.H hU k

theorem trip {t : ℕ} (ht : t < 4096) (h : Inv q d u t V) : Inv q d u (t + 1) (STEP V) where
  P := by unfold xP; rw [STEP_main_v8_0]; exact h.P
  D := by unfold xDr xDi; rw [STEP_main_v8_1, STEP_main_v8_2]; exact h.D
  U := by unfold xUr xUi; rw [STEP_main_v8_3, STEP_main_v8_4]; exact h.U
  T := by
    unfold xT; rw [STEP_main_v8_5]
    funext i
    show xT V i + 1#32 = _
    rw [h.T, BitVec.ofNat_add]
  H := by
    unfold xHr xHi; rw [STEP_main_v8_6, STEP_main_v8_7]
    exact trip_H ht h
  O := by
    unfold xOr xOi; rw [STEP_main_v8_8, STEP_main_v8_9]
    intro r k hr
    have er := row_write (xOr V) (res_main_while0b_v34 V) (starts V) ⟨t, ht⟩ (starts_0 ht h.T) rfl updateFits_S4096x64_S1x64 bcast_S64_S1x64_1 r k
    have ei := row_write (xOi V) (res_main_while0b_v46 V) (starts V) ⟨t, ht⟩ (starts_0 ht h.T) rfl updateFits_S4096x64_S1x64 bcast_S64_S1x64_1 r k
    have h2 : IsC (if r = ⟨t, ht⟩ then (res_main_while0b_v34 V (ix1 k) : EReal) else xOr V (ix2 r k)) (if r = ⟨t, ht⟩ then (res_main_while0b_v46 V (ix1 k) : EReal) else xOi V (ix2 r k))
        (run q d u (fun _ => 0) (r.val + 1) k) := by
      by_cases e : r = ⟨t, ht⟩
      · subst e; rw [if_pos rfl, if_pos rfl]; exact trip_H ht h k
      · rw [if_neg e, if_neg e]
        exact h.O r k (by have : r.val ≠ t := fun hh => e (Fin.ext hh); omega)
    rw [← er, ← ei] at h2
    exact h2

theorem trips (h : Inv q d u 0 V) : ∀ t, t ≤ 4096 → Inv q d u t (STEP^[t] V)
  | 0, _ => h
  | t + 1, ht => by rw [Function.iterate_succ_apply']; exact trip (by omega) (trips h t (by omega))

/-! ## From the arguments to the results -/

theorem cast_in {α : Type} (x : HBlk.Idx → α) (h : S32x128x64.ShapeCasts S4096x64) (w : Fin 32) (s : Fin 128) (k : Fin 64) :
    shapeCast S4096x64 x h (ix2 (⟨128 * w.val + s.val, by omega⟩ : Fin 4096) k) = x (ix3 w s k) :=
  shapeCast_apply x h _ _ (by
    rw [Shape.rowMajor_val_three, Shape.rowMajor_val_two]
    show (w.val * 128 + s.val) * 64 + k.val = (128 * w.val + s.val) * 64 + k.val
    omega)

variable (m : (ℓ : Loc nD τ sig) → Buf (Elt Ideal) ℓ) (c : Dev nD)

theorem entry_P : entryContents preI m c (Proc.devRef .tc main_v8_0) = shapeCast S4096x64 (m ((c.tc : Thread nD τ).loc main_arg0)) shapeCasts_S32x128x64_S4096x64 := by
  simp only [entryContents, afterL_cons, afterL_nil]
  after_reads_simp
  rfl
theorem entry_Dr : entryContents preI m c (Proc.devRef .tc main_v8_1) = shapeCast S4096x64 (m ((c.tc : Thread nD τ).loc main_arg1)) shapeCasts_S32x128x64_S4096x64 := by
  simp only [entryContents, afterL_cons, afterL_nil]
  after_reads_simp
  rfl
theorem entry_Di : entryContents preI m c (Proc.devRef .tc main_v8_2) = shapeCast S4096x64 (m ((c.tc : Thread nD τ).loc main_arg2)) shapeCasts_S32x128x64_S4096x64 := by
  simp only [entryContents, afterL_cons, afterL_nil]
  after_reads_simp
  rfl
theorem entry_Ur : entryContents preI m c (Proc.devRef .tc main_v8_3) = shapeCast S4096x64 (m ((c.tc : Thread nD τ).loc main_arg3)) shapeCasts_S32x128x64_S4096x64 := by
  simp only [entryContents, afterL_cons, afterL_nil]
  after_reads_simp
  rfl
theorem entry_Ui : entryContents preI m c (Proc.devRef .tc main_v8_4) = shapeCast S4096x64 (m ((c.tc : Thread nD τ).loc main_arg4)) shapeCasts_S32x128x64_S4096x64 := by
  simp only [entryContents, afterL_cons, afterL_nil]
  after_reads_simp
  rfl
theorem entry_Hr : entryContents preI m c (Proc.devRef .tc main_v8_6) = (broadcastInDim S64 ![] bcast_S_S64 (constant S_ .f32 0x00000000#32) : FVec Ideal S64 .f32) := by
  simp only [entryContents, afterL_cons, afterL_nil]
  after_reads_simp
  rfl
theorem entry_Hi : entryContents preI m c (Proc.devRef .tc main_v8_7) = (broadcastInDim S64 ![] bcast_S_S64 (constant S_ .f32 0x00000000#32) : FVec Ideal S64 .f32) := by
  simp only [entryContents, afterL_cons, afterL_nil]
  after_reads_simp
  rfl

/-- The arguments are these rows. -/
theorem entry_inv {q : ℕ → Fin 64 → Fin 64} {d u : ℕ → Fin 64 → ℂ}
    (h : Args (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) q d u) : Inv q d u 0 (entryContents preI m c) := by
  have key : ∀ (r : Fin 4096), ∃ (w : Fin 32) (s : Fin 128), r = ⟨128 * w.val + s.val, by omega⟩ := fun r =>
    ⟨⟨r.val / 128, by omega⟩, ⟨r.val % 128, by omega⟩, Fin.ext (by show r.val = 128 * (r.val / 128) + r.val % 128; omega)⟩
  refine ⟨fun r k => ?_, fun r k => ?_, fun r k => ?_, ?_, fun k => ?_, fun r k hr => absurd hr (Nat.not_lt_zero _)⟩
  · obtain ⟨w, s, rfl⟩ := key r
    unfold xP; rw [entry_P, cast_in]; exact h.P w s k
  · obtain ⟨w, s, rfl⟩ := key r
    unfold xDr xDi; rw [entry_Dr, entry_Di, cast_in, cast_in]; exact h.D w s k
  · obtain ⟨w, s, rfl⟩ := key r
    unfold xUr xUi; rw [entry_Ur, entry_Ui, cast_in, cast_in]; exact h.U w s k
  · unfold xT; rw [ctr_entry]; rfl
  · unfold xHr xHi; rw [entry_Hr, entry_Hi]; exact isC_zero

theorem dot_apply (x : S4096x64.Idx → Ideal .f32) (y : S1024x64.Idx → Ideal .f32) (r : Fin 4096) (h : Fin 1024) :
    (Host.dotGeneral (F := Ideal) dot_S4096x64_S64x1024_S4096x1024_1_0_0_1_n_n none x (transpose S64x1024 [1, 0] y transposes_S1024x64_S64x1024_1_0) (ix2 r h) : EReal)
      = ∑ k : Fin 64, (x (ix2 r k) : EReal) * y (ix2 h k) :=
  (StackMember.dotGeneral_plain_apply none x (transpose S64x1024 [1, 0] y transposes_S1024x64_S64x1024_1_0) r h).trans
    (Finset.sum_congr rfl fun k _ => congrArg (fun z : EReal => (x (ix2 r k) : EReal) * z) (ValueIdx.transpose_ix2_apply y _ k h))

theorem row_apply (x : S1024.Idx → Ideal .f32) (r : Fin 4096) (h : Fin 1024) :
    (broadcastInDim S4096x1024 ![0, 1] bcast_S1x1024_S4096x1024_0_1 (broadcastInDim S1x1024 ![1] bcast_S1024_S1x1024_1 x) (ix2 r h) : EReal) = x (ix1 h) := by
  refine congrArg x (funext fun a => ?_)
  match a with
  | ⟨0, _⟩ => rfl

/-- The reference's result at an element, the states given by any pairs that represent the recurrence. -/
theorem result_apply {q : ℕ → Fin 64 → Fin 64} {d u : ℕ → Fin 64 → ℂ}
    (h : Args (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) q d u) (hr hi : HBlk.Idx → EReal)
    (hH : ∀ w s k, IsC (hr (ix3 w s k)) (hi (ix3 w s k)) (run q d u (fun _ => 0) (128 * w.val + s.val + 1) k)) (w : Fin 32) (s : Fin 128) (hh : Fin 1024) :
    (out_main_v17 (STEP^[4096] (entryContents preI m c)) (ix2 (KI.flat w s) hh) : EReal)
      = KI.outAt hr hi (m ((c.tc : Thread nD τ).loc main_arg5)) (m ((c.tc : Thread nD τ).loc main_arg6)) (m ((c.tc : Thread nD τ).loc main_arg7))
        (m ((c.tc : Thread nD τ).loc main_arg8) (ix1 hh)) w s hh := by
  have hv := trips (entry_inv m c h) 4096 (Nat.le_refl _)
  unfold out_main_v17
  rw [iter_main_arg5, iter_main_arg6, iter_main_arg7, iter_main_arg8]
  generalize STEP^[4096] (entryContents preI m c) = W at hv ⊢
  have hO : ∀ k : Fin 64, IsC (xOr W (ix2 (KI.flat w s) k)) (xOi W (ix2 (KI.flat w s) k)) (run q d u (fun _ => 0) (128 * w.val + s.val + 1) k) :=
    fun k => hv.O (KI.flat w s) k (KI.flat w s).isLt
  have e1 := dot_apply (xOr W) (m ((c.tc : Thread nD τ).loc main_arg6)) (KI.flat w s) hh
  have e2 := dot_apply (xOi W) (m ((c.tc : Thread nD τ).loc main_arg7)) (KI.flat w s) hh
  have e3 := row_apply (m ((c.tc : Thread nD τ).loc main_arg8)) (KI.flat w s) hh
  have f1 : ∀ k, xOr W (ix2 (KI.flat w s) k) = hr (ix3 w s k) := fun k => (hO k).1.trans (hH w s k).1.symm
  have f2 : ∀ k, xOi W (ix2 (KI.flat w s) k) = hi (ix3 w s k) := fun k => (hO k).2.trans (hH w s k).2.symm
  simp only [f1] at e1
  simp only [f2] at e2
  exact congrArg₂ (fun y z : EReal => y + z) (congrArg₂ (fun y z : EReal => y - z) e1 e2)
    (congrArg (fun y : EReal => y * (m ((c.tc : Thread nD τ).loc main_arg5) (ix2 (KI.flat w s) hh) : EReal)) e3)

end Cert.Proof.Ref
end
-- ==== Proof.Named.lean ====
/-
  The preconditions, decoded: every index word names one of the 64 states, and every float is finite.
-/
module

public import proofs.«01_k».proof.Proof.Math
public import proofs.«01_k».proof.Proof.Gen.Pre_named_states
public import proofs.«01_k».proof.Proof.Gen.Pre_named_states_finite

@[expose] public section

noncomputable section

namespace Cert.Proof.Rows

open Idealize.ShloMosaic

theorem andi_eq_one {a b : BitVec 1} (h : IntOp.andi a b = 1#1) : a = 1#1 ∧ b = 1#1 := by
  revert a b; decide

theorem ofBool_eq_one {p : Bool} (h : BitVec.ofBool p = 1#1) : p = true := by
  revert p; decide

theorem word_named {v : BitVec 32} (h : IntOp.andi (IntOp.cmpi .sge v 0#32) (IntOp.cmpi .slt v 64#32) = 1#1) : v.toNat < 64 := by
  obtain ⟨h1, h2⟩ := andi_eq_one h
  have e1 := ofBool_eq_one h1
  have e2 := ofBool_eq_one h2
  simp only [BitVec.sle_eq_decide, BitVec.slt_eq_decide, decide_eq_true_eq, BitVec.toInt_eq_toNat_cond, BitVec.toNat_ofNat, Nat.reducePow, Nat.reduceMod] at e1 e2
  omega

theorem named {F : FTy → Type} [FloatOps F] {a0 : HBlk.Idx → BitVec 32} {a1 a2 a3 a4 : HBlk.Idx → F .f32}
    {x : Cert.Pre_named_states.S4096x1024.Idx → F .f32} {cr ci : Cert.Pre_named_states.S1024x64.Idx → F .f32} {dd : Cert.Pre_named_states.S1024.Idx → F .f32}
    (h : Cert.Pre_named_states.fn (F := F) a0 a1 a2 a3 a4 x cr ci dd = fun _ => 1#1) (y : HBlk.Idx) : (a0 y).toNat < 64 :=
  word_named (congrFun h y)

/-- A value below the infinity in magnitude is finite. -/
theorem finite_of_lt {v : Ideal .f32} (h : FloatOps.cmpf (F := Ideal) .olt (FloatOps.hostAbsf v) (Scalar.ofBits .f32 0x7F800000#32) = 1#1) :
    (v : EReal) ≠ ⊤ ∧ (v : EReal) ≠ ⊥ := by
  have htop : (Scalar.ofBits (F := Ideal) .f32 0x7F800000#32 : EReal) = ⊤ := by
    show Ideal.ofBits .f32 0x7F800000#32 = ⊤
    simp [Ideal.ofBits, Ideal.ieee]
  rw [htop] at h
  have hb := ofBool_eq_one (p := decide ((max (v : EReal) (-v)) < ⊤)) h
  have hlt := of_decide_eq_true hb
  refine ⟨fun e => ?_, fun e => ?_⟩
  · rw [e] at hlt; exact absurd hlt (by simp)
  · rw [e] at hlt; exact absurd hlt (by simp)

theorem named_finite {a0 : HBlk.Idx → BitVec 32} {a1 a2 a3 a4 : HBlk.Idx → Ideal .f32}
    {x : Cert.Pre_named_states.S4096x1024.Idx → Ideal .f32} {cr ci : Cert.Pre_named_states.S1024x64.Idx → Ideal .f32} {dd : Cert.Pre_named_states.S1024.Idx → Ideal .f32}
    (h : Cert.Pre_named_states_finite.fn (F := Ideal) a0 a1 a2 a3 a4 x cr ci dd = fun _ => 1#1) (y : HBlk.Idx) :
    (a0 y).toNat < 64 ∧ ((a1 y : EReal) ≠ ⊤ ∧ (a1 y : EReal) ≠ ⊥) ∧ ((a2 y : EReal) ≠ ⊤ ∧ (a2 y : EReal) ≠ ⊥) ∧ ((a3 y : EReal) ≠ ⊤ ∧ (a3 y : EReal) ≠ ⊥) ∧ ((a4 y : EReal) ≠ ⊤ ∧ (a4 y : EReal) ≠ ⊥) := by
  obtain ⟨e0, e5⟩ := andi_eq_one (congrFun h y)
  obtain ⟨e5, e4⟩ := andi_eq_one e5
  obtain ⟨e5, e3⟩ := andi_eq_one e5
  obtain ⟨e1, e2⟩ := andi_eq_one e5
  exact ⟨word_named e0, finite_of_lt e1, finite_of_lt e2, finite_of_lt e3, finite_of_lt e4⟩

end Cert.Proof.Rows
end
-- ==== Proof.Inputs.lean ====
/-
  The first TensorCore call's four float results at exact values. The row `128 w + s` of `x` gives, for each of the 64
  states, the diagonal's magnitude and angle (a logistic function of a product plus a bias) and the two parts of Bu.
-/
module

public import proofs.«01_k».proof.Proof.Gen.InputsIdeal.Frame
public import Idealize.ShloMosaic.Lib.MatmulPlain
public import Idealize.ShloMosaic.Lib.ValueLayout
public import Idealize.ShloMosaic.Lib.Pipeline.Value
public import Idealize.ShloMosaic.Lib.Pipeline.ValueKit.Basic

@[expose] public section

noncomputable section

namespace Cert.Proof.Inp

open Cert.InputsIdeal Cert.InputsIdeal.Gen
open Idealize.ShloMosaic Idealize.ShloMosaic.TcCoe Idealize.SL.Sem
open Idealize.ShloMosaic.ValueIdx (ix1 ix2 ix3 eq_ix1 eq_ix2 eq_ix3)

/-- Row `s` of chunk `w` in the flat arrays. -/
abbrev row (w : Fin 32) (s : Fin 128) : Fin 4096 := ⟨128 * w.val + s.val, by omega⟩

/-- One row of `x` times one row of a matrix. -/
def dotAt (x : S4096x1024.Idx → EReal) (a : S64x1024.Idx → EReal) (r : Fin 4096) (k : Fin 64) : EReal :=
  ∑ h : Fin 1024, x (ix2 r h) * a (ix2 k h)

/-- The magnitude and the angle of the diagonal's entry, and its two parts. -/
def magAt (x : S4096x1024.Idx → EReal) (a : S64x1024.Idx → EReal) (b : S64.Idx → EReal) (r : Fin 4096) (k : Fin 64) : EReal :=
  Ideal.logistic (dotAt x a r k + b (ix1 k))
def angAt (x : S4096x1024.Idx → EReal) (a : S64x1024.Idx → EReal) (b : S64.Idx → EReal) (r : Fin 4096) (k : Fin 64) : EReal :=
  magAt x a b r k * Ideal.ofBits .f32 0x40C90FDB#32
def reAt (x : S4096x1024.Idx → EReal) (a : S64x1024.Idx → EReal) (b : S64.Idx → EReal) (a' : S64x1024.Idx → EReal) (b' : S64.Idx → EReal)
    (r : Fin 4096) (k : Fin 64) : EReal := magAt x a b r k * Ideal.cos (angAt x a' b' r k)
def imAt (x : S4096x1024.Idx → EReal) (a : S64x1024.Idx → EReal) (b : S64.Idx → EReal) (a' : S64x1024.Idx → EReal) (b' : S64.Idx → EReal)
    (r : Fin 4096) (k : Fin 64) : EReal := magAt x a b r k * Ideal.sin (angAt x a' b' r k)

/-! ## One block -/

section block
variable (v : FVec Ideal S512x1024 .f32) (a a' : FVec Ideal S64x1024 .f32) (b b' : FVec Ideal S1x64 .f32)

theorem mm_apply (r : Fin 512) (k : Fin 64) :
    (matmul dot_S512x1024_S64x1024_S512x64_1_1_0_0_n_n none v a (constant S512x64 .f32 0x00000000#32) : FVec Ideal S512x64 .f32) (ix2 r k)
      = (∑ h : Fin 1024, (v (ix2 r h) : EReal) * a (ix2 k h) : EReal) := by
  refine (Ideal.matmul_transposedRhs_apply none v a (constant S512x64 .f32 0x00000000#32) r k).trans ?_
  rw [show (constant (F := Ideal) S512x64 .f32 0x00000000#32 (ix2 r k) : EReal) = 0 from Ideal.ofBits_zero_f32]
  exact zero_add _

theorem mag_apply (r : Fin 512) (k : Fin 64) :
    (k0_pay1 (F := Ideal) v a b (ix2 r k) : EReal) = Ideal.logistic ((∑ h : Fin 1024, (v (ix2 r h) : EReal) * a (ix2 k h)) + b (ix2 (0 : Fin 1) k)) := by
  have e3 := (ValueIdx.broadcastTo_1b_ab_apply (shapeCast S1x64 b shapeCasts_S1x64_S1x64) broadcasts_S1x64_S512x64 r k).trans
    (shapeCast_apply b shapeCasts_S1x64_S1x64 _ (ix2 (0 : Fin 1) k) rfl)
  unfold k0_pay1
  exact congrArg Ideal.logistic (congrArg₂ (fun y z : EReal => y + z) (mm_apply v a r k) e3)

theorem ang_apply (r : Fin 512) (k : Fin 64) :
    (k0_pay2 (F := Ideal) v a b (ix2 r k) : EReal)
      = Ideal.logistic ((∑ h : Fin 1024, (v (ix2 r h) : EReal) * a (ix2 k h)) + b (ix2 (0 : Fin 1) k)) * Ideal.ofBits .f32 0x40C90FDB#32 :=
  congrArg (fun y : EReal => y * Ideal.ofBits .f32 0x40C90FDB#32) (mag_apply v a b r k)

theorem cast_apply (y : FVec Ideal S512x64 .f32) (p : Fin 4) (s : Fin 128) (k : Fin 64) :
    shapeCast S4x128x64 y shapeCasts_S512x64_S4x128x64 (ix3 p s k) = y (ix2 (⟨128 * p.val + s.val, by omega⟩ : Fin 512) k) :=
  shapeCast_apply _ _ _ _ (by
    rw [Shape.rowMajor_val_three, Shape.rowMajor_val_two]
    show (128 * p.val + s.val) * 64 + k.val = (p.val * 128 + s.val) * 64 + k.val
    omega)

theorem pay3_apply (p : Fin 4) (s : Fin 128) (k : Fin 64) :
    (k0_pay3 (F := Ideal) v a b a' b' (ix3 p s k) : EReal) = (k0_pay1 (F := Ideal) v a b (ix2 (⟨128 * p.val + s.val, by omega⟩ : Fin 512) k) : EReal) * Ideal.cos (k0_pay2 (F := Ideal) v a' b' (ix2 (⟨128 * p.val + s.val, by omega⟩ : Fin 512) k)) :=
  cast_apply (mulf (k0_pay1 v a b) (cos (k0_pay2 v a' b'))) p s k
theorem pay4_apply (p : Fin 4) (s : Fin 128) (k : Fin 64) :
    (k0_pay4 (F := Ideal) v a b a' b' (ix3 p s k) : EReal) = (k0_pay1 (F := Ideal) v a b (ix2 (⟨128 * p.val + s.val, by omega⟩ : Fin 512) k) : EReal) * Ideal.sin (k0_pay2 (F := Ideal) v a' b' (ix2 (⟨128 * p.val + s.val, by omega⟩ : Fin 512) k)) :=
  cast_apply (mulf (k0_pay1 v a b) (sin (k0_pay2 v a' b'))) p s k
theorem pay5_apply (p : Fin 4) (s : Fin 128) (k : Fin 64) :
    (k0_pay5 (F := Ideal) v a (ix3 p s k) : EReal) = ∑ h : Fin 1024, (v (ix2 (⟨128 * p.val + s.val, by omega⟩ : Fin 512) h) : EReal) * a (ix2 k h) :=
  (cast_apply (matmul dot_S512x1024_S64x1024_S512x64_1_1_0_0_n_n none v a (constant S512x64 .f32 0x00000000#32)) p s k).trans (mm_apply v a _ k)

end block

/-! ## Where a block's elements lie -/

theorem idx_x : ∀ t : Fin grid0.N, win0_0.index t = ![t.val, 0] := by decide +kernel
theorem idx_out : ∀ t : Fin grid0.N, win0_9.index t = ![t.val, 0, 0] ∧ win0_10.index t = ![t.val, 0, 0] ∧ win0_11.index t = ![t.val, 0, 0] ∧ win0_12.index t = ![t.val, 0, 0] := by
  decide +kernel
theorem idx_whole : ∀ t : Fin grid0.N, win0_1.index t = ![0, 0] ∧ win0_2.index t = ![0, 0] ∧ win0_3.index t = ![0, 0] ∧ win0_4.index t = ![0, 0]
    ∧ win0_5.index t = ![0, 0] ∧ win0_6.index t = ![0, 0] := by decide +kernel

/-- The grid's point of chunk `w`, and the chunk's place in its block. -/
def pt (w : Fin 32) : Fin cfg0.N := ⟨w.val / 4, by rw [show cfg0.N = 8 from N_0]; omega⟩
def pl (w : Fin 32) : Fin 4 := ⟨w.val % 4, by omega⟩

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem blk0 (w : Fin 32) (s : Fin 128) (h : Fin 1024) :
    iblk m c 0 (pt w) (ix2 (⟨128 * (pl w).val + s.val, by omega⟩ : Fin 512) h) = arg m c main_arg0 (ix2 (row w s) h) := by
  refine Eq.trans (congrArg (V m c main_arg0) (funext fun a => Fin.ext ?_)) (congrFun (V_main_arg0 m c) _)
  have e := idx_x (pt w)
  match a with
  | ⟨0, _⟩ => show win0_0.index (pt w) 0 * 512 + 1 * (128 * (w.val % 4) + s.val) = 128 * w.val + s.val; rw [e]; show w.val / 4 * 512 + 1 * (128 * (w.val % 4) + s.val) = 128 * w.val + s.val; omega
  | ⟨1, _⟩ => show win0_0.index (pt w) 1 * 1024 + 1 * h.val = h.val; rw [e]; show 0 * 1024 + 1 * h.val = h.val; omega

theorem blk1 (t : Fin cfg0.N) : iblk m c 1 t = arg m c main_arg5 := by
  refine funext fun y => Eq.trans (congrArg (V m c main_arg5) (funext fun a => Fin.ext ?_)) (congrFun (V_main_arg5 m c) y)
  have e := (idx_whole t).1
  match a with
  | ⟨0, _⟩ => show win0_1.index t 0 * 64 + 1 * (y 0).val = (y 0).val; rw [e]; show 0 * 64 + 1 * (y 0).val = (y 0).val; omega
  | ⟨1, _⟩ => show win0_1.index t 1 * 1024 + 1 * (y 1).val = (y 1).val; rw [e]; show 0 * 1024 + 1 * (y 1).val = (y 1).val; omega
theorem blk2 (t : Fin cfg0.N) : iblk m c 2 t = arg m c main_arg7 := by
  refine funext fun y => Eq.trans (congrArg (V m c main_arg7) (funext fun a => Fin.ext ?_)) (congrFun (V_main_arg7 m c) y)
  have e := (idx_whole t).2.1
  match a with
  | ⟨0, _⟩ => show win0_2.index t 0 * 64 + 1 * (y 0).val = (y 0).val; rw [e]; show 0 * 64 + 1 * (y 0).val = (y 0).val; omega
  | ⟨1, _⟩ => show win0_2.index t 1 * 1024 + 1 * (y 1).val = (y 1).val; rw [e]; show 0 * 1024 + 1 * (y 1).val = (y 1).val; omega
theorem blk3 (t : Fin cfg0.N) : iblk m c 3 t = arg m c main_arg1 := by
  refine funext fun y => Eq.trans (congrArg (V m c main_arg1) (funext fun a => Fin.ext ?_)) (congrFun (V_main_arg1 m c) y)
  have e := (idx_whole t).2.2.1
  match a with
  | ⟨0, _⟩ => show win0_3.index t 0 * 64 + 1 * (y 0).val = (y 0).val; rw [e]; show 0 * 64 + 1 * (y 0).val = (y 0).val; omega
  | ⟨1, _⟩ => show win0_3.index t 1 * 1024 + 1 * (y 1).val = (y 1).val; rw [e]; show 0 * 1024 + 1 * (y 1).val = (y 1).val; omega
theorem blk4 (t : Fin cfg0.N) : iblk m c 4 t = arg m c main_arg2 := by
  refine funext fun y => Eq.trans (congrArg (V m c main_arg2) (funext fun a => Fin.ext ?_)) (congrFun (V_main_arg2 m c) y)
  have e := (idx_whole t).2.2.2.1
  match a with
  | ⟨0, _⟩ => show win0_4.index t 0 * 64 + 1 * (y 0).val = (y 0).val; rw [e]; show 0 * 64 + 1 * (y 0).val = (y 0).val; omega
  | ⟨1, _⟩ => show win0_4.index t 1 * 1024 + 1 * (y 1).val = (y 1).val; rw [e]; show 0 * 1024 + 1 * (y 1).val = (y 1).val; omega

theorem V_row5 (k : Fin 64) : V m c main_v0 (ix2 (0 : Fin 1) k) = arg m c main_arg6 (ix1 k) := by
  have e : V m c main_v0 = shapeCast S1x64 (arg m c main_arg6 : FVec Ideal S64 .f32) shapeCasts_S64_S1x64 := rfl
  rw [e]; exact ValueIdx.shapeCast_a_1a_apply _ _ _ _
theorem V_row6 (k : Fin 64) : V m c main_v1 (ix2 (0 : Fin 1) k) = arg m c main_arg8 (ix1 k) := by
  have e : V m c main_v1 = shapeCast S1x64 (arg m c main_arg8 : FVec Ideal S64 .f32) shapeCasts_S64_S1x64 := rfl
  rw [e]; exact ValueIdx.shapeCast_a_1a_apply _ _ _ _
theorem blk5 (t : Fin cfg0.N) (k : Fin 64) : iblk m c 5 t (ix2 (0 : Fin 1) k) = arg m c main_arg6 (ix1 k) := by
  refine Eq.trans (congrArg (V m c main_v0) (funext fun a => Fin.ext ?_)) (V_row5 m c k)
  have e := (idx_whole t).2.2.2.2.1
  match a with
  | ⟨0, _⟩ => show win0_5.index t 0 * 1 + 1 * 0 = 0; rw [e]; rfl
  | ⟨1, _⟩ => show win0_5.index t 1 * 64 + 1 * k.val = k.val; rw [e]; show 0 * 64 + 1 * k.val = k.val; omega
theorem blk6 (t : Fin cfg0.N) (k : Fin 64) : iblk m c 6 t (ix2 (0 : Fin 1) k) = arg m c main_arg8 (ix1 k) := by
  refine Eq.trans (congrArg (V m c main_v1) (funext fun a => Fin.ext ?_)) (V_row6 m c k)
  have e := (idx_whole t).2.2.2.2.2
  match a with
  | ⟨0, _⟩ => show win0_6.index t 0 * 1 + 1 * 0 = 0; rw [e]; rfl
  | ⟨1, _⟩ => show win0_6.index t 1 * 64 + 1 * k.val = k.val; rw [e]; show 0 * 64 + 1 * k.val = k.val; omega

/-! ## The arrays -/

/-- The block of `x` at a point, as a matrix. -/
def xb (w : Fin 32) : FVec Ideal S512x1024 .f32 := iblk m c 0 (pt w)

theorem dot_blk (a : S64x1024.Idx → EReal) (w : Fin 32) (s : Fin 128) (k : Fin 64) :
    (∑ h : Fin 1024, (xb m c w (ix2 (⟨128 * (pl w).val + s.val, by omega⟩ : Fin 512) h) : EReal) * a (ix2 k h)) = dotAt (arg m c main_arg0) a (row w s) k :=
  Finset.sum_congr rfl fun h _ => congrArg (fun y : EReal => y * a (ix2 k h)) (blk0 m c w s h)

theorem z2 : ∀ a : Fin 2, (![0, 0] : Fin 2 → ℕ) a = 0 := by decide
theorem z3 : ∀ a : Fin 3, (![0, 0, 0] : Fin 3 → ℕ) a = 0 := by decide

variable (x0 : Vec Ideal S512x1024 .f32) (x1 x2 x3 x4 : Vec Ideal S64x1024 .f32) (x5 x6 : Vec Ideal S1x64 .f32) (x7 : Vec Ideal S6x1024 .f32) (x8 : Vec Ideal S4096x6 .f32)

theorem out9_eq : out0_9 x0 x1 x2 x3 x4 x5 x6 x7 x8 = k0_pay3 x0 x1 x5 x2 x6 := by
  unfold out0_9
  rw [View.canon_cons_unit_lit (S := S4x128x64) inb_S4x128x64_S4x128x64_0_0_0 _ _ z3, View.ld_unit_lit (S := S512x1024) inb_S512x1024_S512x1024_0_0 x0 z2,
    View.ld_unit_lit (S := S64x1024) inb_S64x1024_S64x1024_0_0 x1 z2, View.ld_unit_lit (S := S64x1024) inb_S64x1024_S64x1024_0_0 x2 z2,
    View.ld_unit_lit (S := S1x64) inb_S1x64_S1x64_0_0 x5 z2, View.ld_unit_lit (S := S1x64) inb_S1x64_S1x64_0_0 x6 z2]
theorem out10_eq : out0_10 x0 x1 x2 x3 x4 x5 x6 x7 x8 = k0_pay4 x0 x1 x5 x2 x6 := by
  unfold out0_10
  rw [View.canon_cons_unit_lit (S := S4x128x64) inb_S4x128x64_S4x128x64_0_0_0 _ _ z3, View.ld_unit_lit (S := S512x1024) inb_S512x1024_S512x1024_0_0 x0 z2,
    View.ld_unit_lit (S := S64x1024) inb_S64x1024_S64x1024_0_0 x1 z2, View.ld_unit_lit (S := S64x1024) inb_S64x1024_S64x1024_0_0 x2 z2,
    View.ld_unit_lit (S := S1x64) inb_S1x64_S1x64_0_0 x5 z2, View.ld_unit_lit (S := S1x64) inb_S1x64_S1x64_0_0 x6 z2]
theorem out11_eq : out0_11 x0 x1 x2 x3 x4 x5 x6 x7 x8 = k0_pay5 x0 x3 := by
  unfold out0_11
  rw [View.canon_cons_unit_lit (S := S4x128x64) inb_S4x128x64_S4x128x64_0_0_0 _ _ z3, View.ld_unit_lit (S := S512x1024) inb_S512x1024_S512x1024_0_0 x0 z2,
    View.ld_unit_lit (S := S64x1024) inb_S64x1024_S64x1024_0_0 x3 z2]
theorem out12_eq : out0_12 x0 x1 x2 x3 x4 x5 x6 x7 x8 = k0_pay6 x0 x4 := by
  unfold out0_12
  rw [View.canon_cons_unit_lit (S := S4x128x64) inb_S4x128x64_S4x128x64_0_0_0 _ _ z3, View.ld_unit_lit (S := S512x1024) inb_S512x1024_S512x1024_0_0 x0 z2,
    View.ld_unit_lit (S := S64x1024) inb_S64x1024_S64x1024_0_0 x4 z2]

theorem emb_of {i : Fin 3 → ℕ} {w : Fin 32} (e : i = ![(pt w).val, 0, 0]) (s : Fin 128) (k : Fin 64) :
    i 0 * 4 + 1 * (pl w).val = w.val ∧ i 1 * 128 + 1 * s.val = s.val ∧ i 2 * 64 + 1 * k.val = k.val := by
  subst e
  refine ⟨?_, ?_, ?_⟩
  · show w.val / 4 * 4 + 1 * (w.val % 4) = w.val; omega
  · show 0 * 128 + 1 * s.val = s.val; omega
  · show 0 * 64 + 1 * k.val = k.val; omega

theorem emb9 (w : Fin 32) (s : Fin 128) (k : Fin 64) : ((cfg0.win 9).blk (pt w)).view.emb (ix3 (pl w) s k) = ix3 w s k := by
  have e := emb_of (idx_out (pt w)).1 s k
  funext a; apply Fin.ext
  match a with
  | ⟨0, _⟩ => exact e.1
  | ⟨1, _⟩ => exact e.2.1
  | ⟨2, _⟩ => exact e.2.2
theorem disjoint9 : ∀ t t' : Fin cfg0.N, (cfg0.win 9).flush t = true → (cfg0.win 9).flush t' = true → t ≠ t' →
    Disjoint ((cfg0.win 9).blk t).view.set ((cfg0.win 9).blk t').view.set := fun t t' _ _ hne =>
  (cfg0.win 9).disjoint_blk fun h => hne (Fin.ext (congrFun ((idx_out t).1.symm.trans (h.trans (idx_out t').1)) 0))
theorem emb10 (w : Fin 32) (s : Fin 128) (k : Fin 64) : ((cfg0.win 10).blk (pt w)).view.emb (ix3 (pl w) s k) = ix3 w s k := by
  have e := emb_of (idx_out (pt w)).2.1 s k
  funext a; apply Fin.ext
  match a with
  | ⟨0, _⟩ => exact e.1
  | ⟨1, _⟩ => exact e.2.1
  | ⟨2, _⟩ => exact e.2.2
theorem disjoint10 : ∀ t t' : Fin cfg0.N, (cfg0.win 10).flush t = true → (cfg0.win 10).flush t' = true → t ≠ t' →
    Disjoint ((cfg0.win 10).blk t).view.set ((cfg0.win 10).blk t').view.set := fun t t' _ _ hne =>
  (cfg0.win 10).disjoint_blk fun h => hne (Fin.ext (congrFun ((idx_out t).2.1.symm.trans (h.trans (idx_out t').2.1)) 0))
theorem emb11 (w : Fin 32) (s : Fin 128) (k : Fin 64) : ((cfg0.win 11).blk (pt w)).view.emb (ix3 (pl w) s k) = ix3 w s k := by
  have e := emb_of (idx_out (pt w)).2.2.1 s k
  funext a; apply Fin.ext
  match a with
  | ⟨0, _⟩ => exact e.1
  | ⟨1, _⟩ => exact e.2.1
  | ⟨2, _⟩ => exact e.2.2
theorem disjoint11 : ∀ t t' : Fin cfg0.N, (cfg0.win 11).flush t = true → (cfg0.win 11).flush t' = true → t ≠ t' →
    Disjoint ((cfg0.win 11).blk t).view.set ((cfg0.win 11).blk t').view.set := fun t t' _ _ hne =>
  (cfg0.win 11).disjoint_blk fun h => hne (Fin.ext (congrFun ((idx_out t).2.2.1.symm.trans (h.trans (idx_out t').2.2.1)) 0))
theorem emb12 (w : Fin 32) (s : Fin 128) (k : Fin 64) : ((cfg0.win 12).blk (pt w)).view.emb (ix3 (pl w) s k) = ix3 w s k := by
  have e := emb_of (idx_out (pt w)).2.2.2 s k
  funext a; apply Fin.ext
  match a with
  | ⟨0, _⟩ => exact e.1
  | ⟨1, _⟩ => exact e.2.1
  | ⟨2, _⟩ => exact e.2.2
theorem disjoint12 : ∀ t t' : Fin cfg0.N, (cfg0.win 12).flush t = true → (cfg0.win 12).flush t' = true → t ≠ t' →
    Disjoint ((cfg0.win 12).blk t).view.set ((cfg0.win 12).blk t').view.set := fun t t' _ _ hne =>
  (cfg0.win 12).disjoint_blk fun h => hne (Fin.ext (congrFun ((idx_out t).2.2.2.symm.trans (h.trans (idx_out t').2.2.2)) 0))

theorem read9 (w : Fin 32) (s : Fin 128) (k : Fin 64) :
    ((dats m 0 c).arrAt 9 cfg0.N (ix3 w s k) : EReal)
      = (k0_pay3 (iblk m c 0 (pt w)) (iblk m c 1 (pt w)) (iblk m c 5 (pt w)) (iblk m c 2 (pt w)) (iblk m c 6 (pt w)) : FVec Ideal S4x128x64 .f32) (ix3 (pl w) s k) := by
  have b := congrFun ((dats m 0 c).read_blk_arrAt_eq_flushed 9 disjoint9 cfg0.N (pt w) (pt w).isLt (flush0_9 (pt w))) (ix3 (pl w) s k)
  rw [show (dats m 0 c).flushed 9 (pt w) = (cfg0.win 9).cut (grid0.coords (pt w)) ((dats m 0 c).after 9 (pt w)) from rfl, after0_9, out9_eq] at b
  rw [← emb9 w s k]
  exact b

theorem read10 (w : Fin 32) (s : Fin 128) (k : Fin 64) :
    ((dats m 0 c).arrAt 10 cfg0.N (ix3 w s k) : EReal)
      = (k0_pay4 (iblk m c 0 (pt w)) (iblk m c 1 (pt w)) (iblk m c 5 (pt w)) (iblk m c 2 (pt w)) (iblk m c 6 (pt w)) : FVec Ideal S4x128x64 .f32) (ix3 (pl w) s k) := by
  have b := congrFun ((dats m 0 c).read_blk_arrAt_eq_flushed 10 disjoint10 cfg0.N (pt w) (pt w).isLt (flush0_10 (pt w))) (ix3 (pl w) s k)
  rw [show (dats m 0 c).flushed 10 (pt w) = (cfg0.win 10).cut (grid0.coords (pt w)) ((dats m 0 c).after 10 (pt w)) from rfl, after0_10, out10_eq] at b
  rw [← emb10 w s k]
  exact b

theorem read11 (w : Fin 32) (s : Fin 128) (k : Fin 64) :
    ((dats m 0 c).arrAt 11 cfg0.N (ix3 w s k) : EReal)
      = (k0_pay5 (iblk m c 0 (pt w)) (iblk m c 3 (pt w)) : FVec Ideal S4x128x64 .f32) (ix3 (pl w) s k) := by
  have b := congrFun ((dats m 0 c).read_blk_arrAt_eq_flushed 11 disjoint11 cfg0.N (pt w) (pt w).isLt (flush0_11 (pt w))) (ix3 (pl w) s k)
  rw [show (dats m 0 c).flushed 11 (pt w) = (cfg0.win 11).cut (grid0.coords (pt w)) ((dats m 0 c).after 11 (pt w)) from rfl, after0_11, out11_eq] at b
  rw [← emb11 w s k]
  exact b

theorem read12 (w : Fin 32) (s : Fin 128) (k : Fin 64) :
    ((dats m 0 c).arrAt 12 cfg0.N (ix3 w s k) : EReal)
      = (k0_pay6 (iblk m c 0 (pt w)) (iblk m c 4 (pt w)) : FVec Ideal S4x128x64 .f32) (ix3 (pl w) s k) := by
  have b := congrFun ((dats m 0 c).read_blk_arrAt_eq_flushed 12 disjoint12 cfg0.N (pt w) (pt w).isLt (flush0_12 (pt w))) (ix3 (pl w) s k)
  rw [show (dats m 0 c).flushed 12 (pt w) = (cfg0.win 12).cut (grid0.coords (pt w)) ((dats m 0 c).after 12 (pt w)) from rfl, after0_12, out12_eq] at b
  rw [← emb12 w s k]
  exact b

theorem re_apply (w : Fin 32) (s : Fin 128) (k : Fin 64) :
    ((dats m 0 c).arrAt 9 cfg0.N (ix3 w s k) : EReal)
      = reAt (arg m c main_arg0) (arg m c main_arg5) (arg m c main_arg6) (arg m c main_arg7) (arg m c main_arg8) (row w s) k := by
  have e1 := mag_apply (xb m c w) (iblk m c 1 (pt w)) (iblk m c 5 (pt w)) ⟨128 * (pl w).val + s.val, by omega⟩ k
  have e2 := ang_apply (xb m c w) (iblk m c 2 (pt w)) (iblk m c 6 (pt w)) ⟨128 * (pl w).val + s.val, by omega⟩ k
  rw [blk1, blk5, dot_blk] at e1
  rw [blk2, blk6, dot_blk] at e2
  refine (read9 m c w s k).trans ((pay3_apply (xb m c w) _ _ _ _ (pl w) s k).trans ?_)
  rw [blk1, blk2]
  exact congrArg₂ (fun y z : EReal => y * z) e1 (congrArg Ideal.cos e2)

theorem im_apply (w : Fin 32) (s : Fin 128) (k : Fin 64) :
    ((dats m 0 c).arrAt 10 cfg0.N (ix3 w s k) : EReal)
      = imAt (arg m c main_arg0) (arg m c main_arg5) (arg m c main_arg6) (arg m c main_arg7) (arg m c main_arg8) (row w s) k := by
  have e1 := mag_apply (xb m c w) (iblk m c 1 (pt w)) (iblk m c 5 (pt w)) ⟨128 * (pl w).val + s.val, by omega⟩ k
  have e2 := ang_apply (xb m c w) (iblk m c 2 (pt w)) (iblk m c 6 (pt w)) ⟨128 * (pl w).val + s.val, by omega⟩ k
  rw [blk1, blk5, dot_blk] at e1
  rw [blk2, blk6, dot_blk] at e2
  refine (read10 m c w s k).trans ((pay4_apply (xb m c w) _ _ _ _ (pl w) s k).trans ?_)
  rw [blk1, blk2]
  exact congrArg₂ (fun y z : EReal => y * z) e1 (congrArg Ideal.sin e2)

theorem ure_apply (w : Fin 32) (s : Fin 128) (k : Fin 64) :
    ((dats m 0 c).arrAt 11 cfg0.N (ix3 w s k) : EReal) = dotAt (arg m c main_arg0) (arg m c main_arg1) (row w s) k := by
  refine (read11 m c w s k).trans ((pay5_apply (xb m c w) _ (pl w) s k).trans ?_)
  rw [blk3]
  exact dot_blk m c _ w s k

theorem uim_apply (w : Fin 32) (s : Fin 128) (k : Fin 64) :
    ((dats m 0 c).arrAt 12 cfg0.N (ix3 w s k) : EReal) = dotAt (arg m c main_arg0) (arg m c main_arg2) (row w s) k := by
  refine (read12 m c w s k).trans ((pay5_apply (xb m c w) _ (pl w) s k).trans ?_)
  rw [blk4]
  exact dot_blk m c _ w s k

end Cert.Proof.Inp
end
-- ==== Proof.InputsRef.lean ====
/-
  The reference of the first TensorCore call, element by element, in the same words as the call's results.
-/
module

public import proofs.«01_k».proof.Proof.Inputs
public import proofs.«01_k».proof.Proof.Gen.InputsReferenceIdeal.Run
public import Idealize.ShloMosaic.Lib.StackMember
public import Idealize.ShloMosaic.Lib.IdealHost

@[expose] public section

noncomputable section

namespace Cert.Proof.InpRef

open Cert.InputsReferenceIdeal Cert.InputsReferenceIdeal.Gen
open Idealize.ShloMosaic Idealize.SL.Sem Cert.Proof.Inp
open Idealize.ShloMosaic.ValueIdx (ix1 ix2 ix3 eq_ix1 eq_ix2 eq_ix3)

variable (x : FVec Ideal S4096x1024 .f32) (a a' : FVec Ideal S64x1024 .f32) (b b' : FVec Ideal S64 .f32)

/-- The product, the logistic function of it with a bias, and the angle, over whole arrays. -/
def dots : FVec Ideal S4096x64 .f32 :=
  Host.dotGeneral dot_S4096x1024_S1024x64_S4096x64_1_0_0_1_n_n none x (transpose S1024x64 [1, 0] a transposes_S64x1024_S1024x64_1_0)
def mags : FVec Ideal S4096x64 .f32 :=
  Host.divf (broadcastInDim S4096x64 ![] bcast_S_S4096x64 (constant S_ .f32 0x3F800000#32)) (addf (broadcastInDim S4096x64 ![] bcast_S_S4096x64 (constant S_ .f32 0x3F800000#32)) (Host.exp (Host.negf (addf (dots x a) (broadcastInDim S4096x64 ![0, 1] bcast_S1x64_S4096x64_0_1 (broadcastInDim S1x64 ![1] bcast_S64_S1x64_1 b))))))
def angs : FVec Ideal S4096x64 .f32 :=
  mulf (mags x a b) (broadcastInDim S4096x64 ![] bcast_S_S4096x64 (constant S_ .f32 0x40C90FDB#32))

theorem dots_apply (r : Fin 4096) (k : Fin 64) : (dots x a (ix2 r k) : EReal) = dotAt x a r k :=
  (StackMember.dotGeneral_plain_apply none x (transpose S1024x64 [1, 0] a transposes_S64x1024_S1024x64_1_0) r k).trans
    (Finset.sum_congr rfl fun h _ => congrArg (fun z : EReal => (x (ix2 r h) : EReal) * z) (ValueIdx.transpose_ix2_apply a _ h k))

theorem bias_apply (r : Fin 4096) (k : Fin 64) :
    (broadcastInDim S4096x64 ![0, 1] bcast_S1x64_S4096x64_0_1 (broadcastInDim S1x64 ![1] bcast_S64_S1x64_1 b) (ix2 r k) : EReal) = b (ix1 k) := by
  refine congrArg b (funext fun i => ?_)
  match i with
  | ⟨0, _⟩ => rfl

theorem mags_apply (r : Fin 4096) (k : Fin 64) : (mags x a b (ix2 r k) : EReal) = magAt x a b r k := by
  have e : (addf (dots x a) (broadcastInDim S4096x64 ![0, 1] bcast_S1x64_S4096x64_0_1 (broadcastInDim S1x64 ![1] bcast_S64_S1x64_1 b)) (ix2 r k) : EReal)
      = dotAt x a r k + b (ix1 k) := congrArg₂ (fun y z : EReal => y + z) (dots_apply x a r k) (bias_apply b r k)
  refine Eq.trans (b := Ideal.div (Ideal.ofBits .f32 0x3F800000#32) (Ideal.ofBits .f32 0x3F800000#32 + Ideal.exp (-(dotAt x a r k + b (ix1 k)))))
    (congrArg (fun y : EReal => Ideal.div (Ideal.ofBits .f32 0x3F800000#32) (Ideal.ofBits .f32 0x3F800000#32 + Ideal.exp (-y))) e) ?_
  rw [Ideal.ofBits_one_f32]
  rfl

theorem angs_apply (r : Fin 4096) (k : Fin 64) : (angs x a b (ix2 r k) : EReal) = angAt x a b r k :=
  congrArg (fun y : EReal => y * Ideal.ofBits .f32 0x40C90FDB#32) (mags_apply x a b r k)

theorem rows_apply (y : FVec Ideal S4096x64 .f32) (w : Fin 32) (s : Fin 128) (k : Fin 64) :
    shapeCast S32x128x64 y shapeCasts_S4096x64_S32x128x64 (ix3 w s k) = y (ix2 (row w s) k) :=
  shapeCast_apply _ _ _ _ (by
    rw [Shape.rowMajor_val_three, Shape.rowMajor_val_two]
    show (128 * w.val + s.val) * 64 + k.val = (w.val * 128 + s.val) * 64 + k.val
    omega)

theorem re_apply (w : Fin 32) (s : Fin 128) (k : Fin 64) :
    (shapeCast S32x128x64 (mulf (mags x a b) (Host.cos (angs x a' b'))) shapeCasts_S4096x64_S32x128x64 (ix3 w s k) : EReal) = reAt x a b a' b' (row w s) k :=
  (rows_apply _ w s k).trans (congrArg₂ (fun y z : EReal => y * z) (mags_apply x a b _ k) (congrArg Ideal.cos (angs_apply x a' b' _ k)))

theorem im_apply (w : Fin 32) (s : Fin 128) (k : Fin 64) :
    (shapeCast S32x128x64 (mulf (mags x a b) (Host.sin (angs x a' b'))) shapeCasts_S4096x64_S32x128x64 (ix3 w s k) : EReal) = imAt x a b a' b' (row w s) k :=
  (rows_apply _ w s k).trans (congrArg₂ (fun y z : EReal => y * z) (mags_apply x a b _ k) (congrArg Ideal.sin (angs_apply x a' b' _ k)))

theorem u_apply (w : Fin 32) (s : Fin 128) (k : Fin 64) :
    (shapeCast S32x128x64 (dots x a) shapeCasts_S4096x64_S32x128x64 (ix3 w s k) : EReal) = dotAt x a (row w s) k :=
  (rows_apply _ w s k).trans (dots_apply x a _ k)

end Cert.Proof.InpRef
end
-- ==== Proof.Places.lean ====
/-
  The place of the greatest among numbers compared in turn, and that a softmax keeps it.
-/
module

public import Idealize.ShloMosaic.PureOps.Ideal
public import Idealize.ShloMosaic.PureOps.Reduce
public import Idealize.ShloMosaic.Lib.SortNet.Extract

@[expose] public section

noncomputable section

namespace Cert.Proof.Places

open Idealize.ShloMosaic

/-- The first place of the greatest among `v 0, …, v m`. -/
def top (v : ℕ → EReal) : ℕ → ℕ
  | 0 => 0
  | m + 1 => if v (top v m) < v (m + 1) then m + 1 else top v m

theorem top_le (v : ℕ → EReal) (m : ℕ) : top v m ≤ m := by
  induction m with
  | zero => exact le_rfl
  | succ m ih => unfold top; split_ifs <;> omega

theorem le_top (v : ℕ → EReal) (m j : ℕ) (h : j ≤ m) : v j ≤ v (top v m) := by
  induction m with
  | zero => rw [Nat.le_zero.mp h]; exact le_rfl
  | succ m ih =>
    unfold top
    split_ifs with c
    · rcases Nat.lt_or_ge j (m + 1) with g | g
      · exact (ih (by omega)).trans c.le
      · rw [show j = m + 1 by omega]
    · rcases Nat.lt_or_ge j (m + 1) with g | g
      · exact ih (by omega)
      · rw [show j = m + 1 by omega]; exact not_lt.mp c

theorem lt_top_of_lt (v : ℕ → EReal) (m j : ℕ) (h : j < top v m) : v j < v (top v m) := by
  induction m with
  | zero => exact absurd h (Nat.not_lt_zero j)
  | succ m ih =>
    unfold top at h ⊢
    split_ifs at h ⊢ with c
    · exact (le_top v m j (by omega)).trans_lt c
    · exact ih h

/-- A float word of a whole number below 64. -/
theorem word (w : BitVec 32) (k e : ℕ) (h : w.extractLsb' 31 1 = 0#1 ∧ (w.extractLsb' 23 8).toNat = 127 + e ∧ e ≤ 5
    ∧ 2 ^ 23 + (w.extractLsb' 0 23).toNat = k * 2 ^ (23 - e)) : Ideal.ofBits .f32 w = ((k : ℝ) : EReal) := by
  obtain ⟨h1, h2, h3, h4⟩ := h
  show Ideal.ieee 8 23 w = _
  unfold Ideal.ieee
  simp only [h1, h2, h4]
  rw [if_neg (by omega), if_neg (by omega)]
  refine congrArg (fun r : ℝ => (r : EReal)) ?_
  have e1 : ((127 + e : ℕ) : ℤ) - (2 ^ (8 - 1) - 1) - ((23 : ℕ) : ℤ) = -((23 - e : ℕ) : ℤ) := by
    rw [Nat.cast_sub (by omega)]; push_cast; ring
  rw [e1, zpow_neg, zpow_natCast]
  push_cast
  show (1 : ℝ) * ((k : ℝ) * 2 ^ (23 - e)) * (2 ^ (23 - e))⁻¹ = k
  rw [one_mul, mul_assoc, mul_inv_cancel₀ (by positivity), mul_one]

/-- A whole number below 64, as a word. -/
theorem toWord (k : ℕ) (h : k < 64) : Ideal.fptosi 32 ((k : ℝ) : EReal) = BitVec.ofNat 32 k := by
  unfold Ideal.fptosi
  rw [Ideal.toIntClamped_coe, if_pos (Nat.cast_nonneg k), Int.floor_natCast,
    min_eq_right (by norm_num; omega), max_eq_right (by norm_num)]
  exact BitVec.ofInt_natCast _ _

/-! ## Softmax -/

/-- The greatest of finitely many. -/
def sup {n : ℕ} (l : Fin n → EReal) : EReal := Finset.univ.fold max ⊥ l

/-- One entry of a softmax. -/
def soft {n : ℕ} (l : Fin n → EReal) (k : Fin n) : EReal :=
  Ideal.div (Ideal.exp (l k - sup l)) (∑ j, Ideal.exp (l j - sup l))

theorem le_sup {n : ℕ} (l : Fin n → EReal) (k : Fin n) : l k ≤ sup l :=
  (Finset.le_fold_max _).mpr (Or.inr ⟨k, Finset.mem_univ k, le_rfl⟩)

theorem sup_le {n : ℕ} {l : Fin n → EReal} {c : EReal} (h : ∀ k, l k ≤ c) : sup l ≤ c :=
  (Finset.fold_max_le _).mpr ⟨bot_le, fun k _ => h k⟩

theorem sup_real {n : ℕ} [NeZero n] (s : Fin n → ℝ) : ∃ r : ℝ, sup (fun k => (s k : EReal)) = r := by
  have h1 : sup (fun k => (s k : EReal)) ≠ ⊥ := fun e => by
    have := le_sup (fun k => (s k : EReal)) 0
    rw [e] at this
    exact absurd (le_bot_iff.mp this) (EReal.coe_ne_bot _)
  have h2 : sup (fun k => (s k : EReal)) ≠ ⊤ :=
    ((Finset.fold_max_lt _).mpr ⟨bot_lt_top, fun k _ => EReal.coe_lt_top (s k)⟩).ne
  exact ⟨_, (EReal.coe_toReal h2 h1).symm⟩

theorem coe_sum {n : ℕ} (t : Finset (Fin n)) (f : Fin n → ℝ) : ((∑ j ∈ t, f j : ℝ) : EReal) = ∑ j ∈ t, (f j : EReal) := by
  induction t using Finset.induction_on with
  | empty => rfl
  | insert a t h ih => rw [Finset.sum_insert h, Finset.sum_insert h, EReal.coe_add, ih]

/-- A softmax of real numbers: real numbers in the same order. -/
theorem soft_real {n : ℕ} [NeZero n] (s : Fin n → ℝ) :
    ∃ p : Fin n → ℝ, (∀ k, soft (fun j => (s j : EReal)) k = p k) ∧ ∀ j k, p j ≤ p k ↔ s j ≤ s k := by
  obtain ⟨r, hr⟩ := sup_real s
  have e : ∀ k, Ideal.exp ((s k : EReal) - (r : EReal)) = ((Real.exp (s k - r) : ℝ) : EReal) := fun k => by
    rw [← EReal.coe_sub]; rfl
  have hz : 0 < ∑ j, Real.exp (s j - r) := Finset.sum_pos (fun j _ => Real.exp_pos _) ⟨0, Finset.mem_univ _⟩
  refine ⟨fun k => Real.exp (s k - r) * (1 / ∑ j, Real.exp (s j - r)), fun k => ?_, fun j k => ?_⟩
  · unfold soft
    rw [hr]
    simp only [e]
    rw [← coe_sum, Ideal.div_coe hz.ne', ← EReal.coe_mul]
  · rw [mul_le_mul_iff_left₀ (one_div_pos.mpr hz), Real.exp_le_exp, sub_le_sub_iff_right]

/-! ## The reference's way: the least of the places that hold the greatest -/

/-- The least place at which `p` is its greatest, as a word. -/
def least (p : Fin 64 → EReal) : BitVec 32 :=
  Finset.univ.fold IntOp.minsi 2147483647#32 fun k => if p k = sup p then BitVec.ofNat 32 k.val else 64#32

theorem le_minsi (c : BitVec 32) {x y : BitVec 32} : c.toInt ≤ (IntOp.minsi x y).toInt ↔ c.toInt ≤ x.toInt ∧ c.toInt ≤ y.toInt := by
  rw [SortNet.toInt_minsi]; exact le_min_iff

theorem toInt_ofNat (k : ℕ) (h : k < 64) : (BitVec.ofNat 32 k).toInt = k := by
  have e : (BitVec.ofNat 32 k).toNat = k := by rw [BitVec.toNat_ofNat]; omega
  rw [BitVec.toInt_eq_toNat_of_lt (by omega), e]

theorem least_eq (p : Fin 64 → EReal) (k : Fin 64) (h1 : ∀ j, p j ≤ p k) (h2 : ∀ j, j < k → p j < p k) :
    least p = BitVec.ofNat 32 k.val := by
  have hs : sup p = p k := le_antisymm (sup_le h1) (le_sup p k)
  have hf : ∀ c : BitVec 32, c.toInt ≤ (least p).toInt ↔ _ := fun c =>
    Finset.fold_op_rel_iff_and (op := IntOp.minsi) (r := fun x y : BitVec 32 => x.toInt ≤ y.toInt) (fun {x y z} => le_minsi x)
  apply BitVec.eq_of_toInt_eq
  refine le_antisymm ?_ ((hf _).mpr ⟨?_, fun j _ => ?_⟩)
  · have := ((hf (least p)).mp le_rfl).2 k (Finset.mem_univ k)
    rwa [if_pos hs.symm] at this
  · rw [toInt_ofNat _ k.isLt]; have := k.isLt; show (k.val : ℤ) ≤ 2147483647; omega
  · rw [toInt_ofNat _ k.isLt]
    split_ifs with c
    · rw [toInt_ofNat _ j.isLt]
      rcases lt_or_ge j k with g | g
      · exact absurd (c.trans hs) (h2 j g).ne
      · exact_mod_cast g
    · have := k.isLt; show (k.val : ℤ) ≤ 64; omega

/-- The greatest of a softmax's entries stands where the greatest of the numbers stands. -/
theorem least_soft (v : ℕ → EReal) (s : Fin 64 → ℝ) (h : ∀ k : Fin 64, v k.val = s k) :
    least (soft fun k : Fin 64 => v k.val) = BitVec.ofNat 32 (top v 63) := by
  obtain ⟨p, hp, ho⟩ := soft_real s
  have e : (soft fun k : Fin 64 => v k.val) = fun k => (p k : EReal) := by
    rw [show (fun k : Fin 64 => v k.val) = fun k => (s k : EReal) from funext h]; exact funext hp
  have ht := top_le v 63
  rw [e]
  refine least_eq _ ⟨top v 63, by omega⟩ (fun j => ?_) (fun j g => ?_)
  · have := le_top v 63 j.val (by omega)
    rw [h j, h ⟨top v 63, by omega⟩] at this
    exact EReal.coe_le_coe_iff.mpr ((ho _ _).mpr (EReal.coe_le_coe_iff.mp this))
  · have := lt_top_of_lt v 63 j.val g
    rw [h j, h ⟨top v 63, by omega⟩] at this
    exact EReal.coe_lt_coe_iff.mpr (lt_of_not_ge fun c => absurd (EReal.coe_lt_coe_iff.mp this) (not_lt.mpr ((ho _ _).mp c)))

end Cert.Proof.Places
end
-- ==== Proof.Index.lean ====
/-
  The first TensorCore call's index words at exact values: for each row and column, the first place of the greatest of
  64 sums. The sums are products of the dictionary's matrices with a softmax.
-/
module

public import proofs.«01_k».proof.Proof.Places
public import proofs.«01_k».proof.Proof.Gen.IndexIdeal.Frame
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.Pipeline.ValueKit.Basic

@[expose] public section

noncomputable section

namespace Cert.Proof.Idx

open Cert.IndexIdeal Cert.IndexIdeal.Gen Cert.Proof.Places
open Idealize.ShloMosaic Idealize.ShloMosaic.TcCoe Idealize.SL.Sem
open Idealize.ShloMosaic.ValueIdx (ix1 ix2 ix3 eq_ix1 eq_ix2 eq_ix3)

/-! ## Comparing in turn -/

/-- The numbers compared at one place of a block. -/
def col (y : FVec Ideal S64x64x512 .f32) (n : Fin 64) (t : Fin 512) (m : ℕ) : EReal :=
  y (ix3 (⟨m % 64, Nat.mod_lt _ (by decide)⟩ : Fin 64) n t)

/-- `w` is slice `m` of `y`; `b` holds the greatest of the slices up to `m`, and `i` its place. -/
def Is (y : FVec Ideal S64x64x512 .f32) (m : ℕ) (w : FVec Ideal S64x512 .f32) : Prop := ∀ n t, (w (ix2 n t) : EReal) = col y n t m
def Best (y : FVec Ideal S64x64x512 .f32) (m : ℕ) (b : FVec Ideal S64x512 .f32) : Prop :=
  ∀ n t, (b (ix2 n t) : EReal) = col y n t (top (col y n t) m)
def At (y : FVec Ideal S64x64x512 .f32) (m : ℕ) (i : FVec Ideal S64x512 .f32) : Prop :=
  ∀ n t, (i (ix2 n t) : EReal) = ((top (col y n t) m : ℝ) : EReal)

section chain
variable {y : FVec Ideal S64x64x512 .f32} {m : ℕ} {u : IVec S64x512 1} {w b i q : FVec Ideal S64x512 .f32}

theorem sl (m : ℕ) (hm : m < 64) (h : S64x64x512.Slices ![m, 0, 0] S1x64x512) :
    Is y m (shapeCast S64x512 (extractStridedSlice S1x64x512 ![m, 0, 0] y h) shapeCasts_S1x64x512_S64x512) := fun n t => by
  refine (ValueIdx.shapeCast_1ab_ab_apply _ _ n t).trans (extractStridedSlice_apply _ y h _ _ fun a => ?_)
  match a with
  | ⟨0, _⟩ => exact Nat.mod_eq_of_lt hm
  | ⟨1, _⟩ => exact (Nat.zero_add _).symm
  | ⟨2, _⟩ => exact (Nat.zero_add _).symm

theorem base (h : Is y 0 b) : Best y 0 b := h

theorem baseI : At y 0 (broadcast S64x512 (Scalar.ofBits .f32 0x00000000#32)) := fun n t =>
  (show Ideal.ofBits .f32 0x00000000#32 = 0 by simp [Ideal.ofBits, Ideal.ieee]).trans (by simp [top])

theorem sel_apply (hu : u = cmpf .ogt w b) (a c : FVec Ideal S64x512 .f32) (j : S64x512.Idx) :
    (select u a c j : EReal) = if (b j : EReal) < w j then a j else c j := by
  subst hu
  show (if BitVec.ofBool (decide ((b j : EReal) < w j)) = 1 then (a j : EReal) else c j) = _
  by_cases h : (b j : EReal) < w j
  · rw [if_pos h, decide_eq_true h]; exact if_pos (by decide)
  · rw [if_neg h, decide_eq_false h]; exact if_neg (by decide)

theorem step (hu : u = cmpf .ogt w b) (hw : Is y (m + 1) w) (hb : Best y m b) : Best y (m + 1) (select u w b) := fun n t => by
  rw [sel_apply hu, hw n t, hb n t, top]
  split_ifs <;> rfl

theorem stepI (hu : u = cmpf .ogt w b) (hw : Is y (m + 1) w) (hb : Best y m b) (hi : At y m i) {k : BitVec 32}
    (hk : k.extractLsb' 31 1 = 0#1 ∧ (k.extractLsb' 23 8).toNat = 127 + Nat.log2 (m + 1) ∧ Nat.log2 (m + 1) ≤ 5
      ∧ 2 ^ 23 + (k.extractLsb' 0 23).toNat = (m + 1) * 2 ^ (23 - Nat.log2 (m + 1))) :
    At y (m + 1) (select u (broadcast S64x512 (Scalar.ofBits .f32 k)) i) := fun n t => by
  rw [sel_apply hu, hw n t, hb n t, hi n t, top]
  split_ifs
  · exact word k (m + 1) _ hk
  · rfl

variable (v0 : Vec Ideal S512x1024 .f32) (v33 : Vec Ideal S6x1024 .f32) (v44 : Vec Ideal S4096x6 .f32)

theorem best3 : Best (k0_pay7 v0 v33 v44) 3 (k0_pay17 v0 v33 v44) := by
  repeat refine step rfl (sl _ (by decide) _) ?_
  exact base (sl 0 (by decide) _)
theorem at3 : At (k0_pay7 v0 v33 v44) 3 (k0_pay18 v0 v33 v44) := by
  repeat refine stepI rfl (sl _ (by decide) _) (by (repeat refine step rfl (sl _ (by decide) _) ?_); exact base (sl 0 (by decide) _)) ?_ (by decide)
  exact baseI

theorem best12 (hu : u = cmpf .ogt q b) (hq : Is y 4 q) (hb : Best y 3 b) : Best y 12 (k0_pay45 y b q u) := by
  repeat refine step rfl (sl _ (by decide) _) ?_
  exact step hu hq hb
theorem at12 (hu : u = cmpf .ogt q b) (hq : Is y 4 q) (hb : Best y 3 b) (hi : At y 3 i) : At y 12 (k0_pay46 y b i q u) := by
  repeat refine stepI rfl (sl _ (by decide) _) (by (repeat refine step rfl (sl _ (by decide) _) ?_); exact step hu hq hb) ?_ (by decide)
  exact stepI hu hq hb hi (by decide)

theorem best20 (hb : Best y 12 b) : Best y 20 (k0_pay70 y b) := by
  repeat refine step rfl (sl _ (by decide) _) ?_
  exact hb
theorem best21 (hb : Best y 12 b) : Best y 21 (k0_pay74 y b) := step rfl (sl 21 (by decide) _) (best20 hb)
theorem at20 (hb : Best y 12 b) (hi : At y 12 i) : At y 20 (k0_pay71 y b i) := by
  repeat refine stepI rfl (sl _ (by decide) _) (by (repeat refine step rfl (sl _ (by decide) _) ?_); exact hb) ?_ (by decide)
  exact hi

theorem best29 (hb : Best y 21 b) : Best y 29 (k0_pay98 y b) := by
  repeat refine step rfl (sl _ (by decide) _) ?_
  exact hb
theorem at29 (hu : u = cmpf .ogt w q) (hw : Is y 21 w) (hq : Best y 20 q) (hb : Best y 21 b) (hi : At y 20 i) : At y 29 (k0_pay99 y i u b) := by
  repeat refine stepI rfl (sl _ (by decide) _) (by (repeat refine step rfl (sl _ (by decide) _) ?_); exact hb) ?_ (by decide)
  exact stepI hu hw hq hi (by decide)

theorem sl30 : Is y 30 (k0_pay101 (k0_pay100 y)) := sl 30 (by decide) slices_S64x64x512_o30_0_0_S1x64x512
theorem best37 (hb : Best y 29 b) : Best y 37 (k0_pay124 y b (k0_pay100 y)) := by
  iterate 7 refine step rfl (sl _ (by decide) _) ?_
  exact step rfl sl30 hb
theorem best38 (hb : Best y 29 b) : Best y 38 (k0_pay128 y b (k0_pay100 y)) := step rfl (sl 38 (by decide) _) (best37 hb)
theorem at37 (hb : Best y 29 b) (hi : At y 29 i) : At y 37 (k0_pay125 y b i (k0_pay100 y)) := by
  have h30 : Best y 30 (k0_pay103 b (k0_pay100 y)) := step rfl sl30 hb
  iterate 7 refine stepI rfl (sl _ (by decide) _) (by (repeat refine step rfl (sl _ (by decide) _) ?_); exact h30) ?_ (by decide)
  exact stepI rfl sl30 hb hi (by decide)

theorem best46 (hb : Best y 38 b) : Best y 46 (k0_pay152 y b) := by
  repeat refine step rfl (sl _ (by decide) _) ?_
  exact hb
theorem at46 (hu : u = cmpf .ogt w q) (hw : Is y 38 w) (hq : Best y 37 q) (hb : Best y 38 b) (hi : At y 37 i) :
    At y 46 (k0_pay153 y i u b (Scalar.ofBits .f32 0x42180000#32)) := by
  repeat refine stepI rfl (sl _ (by decide) _) (by (repeat refine step rfl (sl _ (by decide) _) ?_); exact hb) ?_ (by decide)
  exact stepI hu hw hq hi (by decide)

theorem best54 (hb : Best y 46 b) : Best y 54 (k0_pay177 y b (k0_pay154 y)) := by
  repeat refine step rfl (sl _ (by decide) _) ?_
  exact hb
theorem best55 (hb : Best y 46 b) : Best y 55 (k0_pay181 y b (k0_pay154 y)) := step rfl (sl 55 (by decide) _) (best54 hb)
theorem at54 (hb : Best y 46 b) (hi : At y 46 i) : At y 54 (k0_pay178 y b i (k0_pay154 y)) := by
  repeat refine stepI rfl (sl _ (by decide) _) (by (repeat refine step rfl (sl _ (by decide) _) ?_); exact hb) ?_ (by decide)
  exact hi

theorem word_apply (hi : At y 63 i) (p : Fin 4) (s : Fin 128) (n : Fin 64) :
    shapeCast S4x128x64 (fptosi 32 (transpose S512x64 [1, 0] i transposes_S64x512_p1_0_S512x64)) shapeCasts_S512x64_S4x128x64 (ix3 p s n)
      = BitVec.ofNat 32 (top (col y n (⟨128 * p.val + s.val, by omega⟩ : Fin 512)) 63) := by
  refine (shapeCast_apply _ _ _ (ix2 (⟨128 * p.val + s.val, by omega⟩ : Fin 512) n) (by
    rw [Shape.rowMajor_val_three, Shape.rowMajor_val_two]
    show (128 * p.val + s.val) * 64 + n.val = (p.val * 128 + s.val) * 64 + n.val
    omega)).trans ?_
  refine (congrArg (Ideal.fptosi 32) ((ValueIdx.transpose_ix2_apply i _ _ n).trans (hi n _))).trans (toWord _ ?_)
  have := top_le (col y n (⟨128 * p.val + s.val, by omega⟩ : Fin 512)) 63
  omega

theorem at63 (hu : u = cmpf .ogt w q) (hw : Is y 55 w) (hq : Best y 54 q) (hb : Best y 55 b) (hi : At y 54 i) (p : Fin 4) (s : Fin 128) (n : Fin 64) :
    k0_pay183 y i u b (k0_pay182 (F := Ideal)) (ix3 p s n) = BitVec.ofNat 32 (top (col y n (⟨128 * p.val + s.val, by omega⟩ : Fin 512)) 63) := by
  refine word_apply ?_ p s n
  repeat refine stepI rfl (sl _ (by decide) _) (by (repeat refine step rfl (sl _ (by decide) _) ?_); exact hb) ?_ (by decide)
  exact stepI hu hw hq hi (by decide)

end chain

/-! ## One block's words -/

theorem z2 : ∀ a : Fin 2, (![0, 0] : Fin 2 → ℕ) a = 0 := by decide
theorem z3 : ∀ a : Fin 3, (![0, 0, 0] : Fin 3 → ℕ) a = 0 := by decide

section out
variable (x0 : Vec Ideal S512x1024 .f32) (x1 x2 x3 x4 : Vec Ideal S64x1024 .f32) (x5 x6 : Vec Ideal S1x64 .f32) (x7 : Vec Ideal S6x1024 .f32) (x8 : Vec Ideal S4096x6 .f32)

theorem pay184_eq : k0_pay184 x0 x1 x2 x3 x4 x5 x6 x7 x8 = k0_pay7 x0 x7 x8 := by
  unfold k0_pay184
  rw [View.ld_unit_lit (S := S512x1024) inb_S512x1024_S512x1024_0_0 x0 z2, View.ld_unit_lit (S := S6x1024) inb_S6x1024_S6x1024_0_0 x7 z2,
    View.ld_unit_lit (S := S4096x6) inb_S4096x6_S4096x6_0_0 x8 z2]

theorem out13_apply (p : Fin 4) (s : Fin 128) (n : Fin 64) :
    out0_13 x0 x1 x2 x3 x4 x5 x6 x7 x8 (ix3 p s n) = BitVec.ofNat 32 (top (col (k0_pay7 x0 x7 x8) n (⟨128 * p.val + s.val, by omega⟩ : Fin 512)) 63) := by
  unfold out0_13
  rw [View.canon_cons_unit_lit (S := S4x128x64) inb_S4x128x64_S4x128x64_0_0_0 _ _ z3, ← pay184_eq x0 x1 x2 x3 x4 x5 x6 x7 x8]
  generalize hY : k0_pay184 x0 x1 x2 x3 x4 x5 x6 x7 x8 = Y
  have b3 : Best Y 3 (k0_pay185 x0 x1 x2 x3 x4 x5 x6 x7 x8) := hY ▸ best3 _ _ _
  have i3 : At Y 3 (k0_pay18 (View.ld x0 r0_0) (View.ld x7 r0_4) (View.ld x8 r0_5)) := hY ▸ at3 _ _ _
  have q4 : Is Y 4 (k0_pay186 x0 x1 x2 x3 x4 x5 x6 x7 x8) := hY ▸ sl 4 (by decide) slices_S64x64x512_o4_0_0_S1x64x512
  have e187 : k0_pay187 x0 x1 x2 x3 x4 x5 x6 x7 x8 = cmpf .ogt (k0_pay186 x0 x1 x2 x3 x4 x5 x6 x7 x8) (k0_pay185 x0 x1 x2 x3 x4 x5 x6 x7 x8) := rfl
  have e191 : k0_pay191 x0 x1 x2 x3 x4 x5 x6 x7 x8 = k0_pay100 Y := hY ▸ rfl
  have e194 : k0_pay194 x0 x1 x2 x3 x4 x5 x6 x7 x8 = k0_pay154 Y := hY ▸ rfl
  have b12 : Best Y 12 (k0_pay188 x0 x1 x2 x3 x4 x5 x6 x7 x8) := by have h := best12 e187 q4 b3; rw [← hY] at h ⊢; exact h
  have b21 : Best Y 21 (k0_pay189 x0 x1 x2 x3 x4 x5 x6 x7 x8) := by have h := best21 b12; rw [← hY] at h ⊢; exact h
  have b29 : Best Y 29 (k0_pay190 x0 x1 x2 x3 x4 x5 x6 x7 x8) := by have h := best29 b21; rw [← hY] at h ⊢; exact h
  have b38 : Best Y 38 (k0_pay192 x0 x1 x2 x3 x4 x5 x6 x7 x8) := by have h := best38 b29; rw [← hY] at h ⊢; exact h
  have b46 : Best Y 46 (k0_pay193 x0 x1 x2 x3 x4 x5 x6 x7 x8) := by have h := best46 b38; rw [← hY] at h ⊢; exact h
  rw [e191, e194]
  have i12 := at12 e187 q4 b3 i3
  have i29 := at29 (u := k0_pay73 Y (k0_pay188 x0 x1 x2 x3 x4 x5 x6 x7 x8)) rfl (sl 21 (by decide) _) (best20 b12) b21 (at20 b12 i12)
  have i46 := at46 (u := k0_pay127 Y (k0_pay190 x0 x1 x2 x3 x4 x5 x6 x7 x8) (k0_pay100 Y)) rfl (sl 38 (by decide) _) (best37 b29) b38 (at37 b29 i29)
  exact at63 rfl (sl 55 (by decide) _) (best54 b46) (best55 b46) (at54 b46 i46) p s n

end out

section sums
variable (v0 : FVec Ideal S512x1024 .f32) (v33 : FVec Ideal S6x1024 .f32) (v44 : FVec Ideal S4096x6 .f32)

theorem spread_apply (v : FVec Ideal S512 .f32) (t : Fin 512) (k : Fin 6) :
    broadcastTo S512x6 (shapeCast S512x1 v shapeCasts_S512_S512x1) broadcasts_S512x1_S512x6 (ix2 t k) = v (ix1 t) := by
  refine (congrArg (shapeCast S512x1 v shapeCasts_S512_S512x1) (?_ : _ = ix2 t (0 : Fin 1))).trans (ValueIdx.shapeCast_a_a1_apply v _ t 0)
  funext a; apply Fin.ext
  match a with
  | ⟨0, _⟩ => rfl
  | ⟨1, _⟩ => rfl

theorem lift_eq (t : Fin 512) (k : Fin 6) : reduces_S512x6_S512.lift (ix1 t) k = ix2 t k := by
  funext a; apply Fin.ext
  match a with
  | ⟨0, _⟩ => rfl
  | ⟨1, _⟩ => rfl

theorem ninf : Ideal.ofBits .f32 0xFF800000#32 = ⊥ := by simp [Ideal.ofBits, Ideal.ieee]

/-- The softmax of a block's rows. -/
theorem soft_apply (l : FVec Ideal S512x6 .f32) (t : Fin 512) (k : Fin 6) (e : FVec Ideal S512x6 .f32)
    (he : e = exp (subf l (broadcastTo S512x6 (shapeCast S512x1 (multiReduction .maximumf [1] S512 l 0xFF800000#32 reduces_S512x6_S512 (.inl rfl) rfl) shapeCasts_S512_S512x1) broadcasts_S512x1_S512x6))) :
    (divf e (broadcastTo S512x6 (shapeCast S512x1 (multiReduction .add [1] S512 e 0x00000000#32 reduces_S512x6_S512 (.inl rfl) rfl) shapeCasts_S512_S512x1) broadcasts_S512x1_S512x6) (ix2 t k) : EReal)
      = soft (fun k => (l (ix2 t k) : EReal)) k := by
  have hm : (multiReduction .maximumf [1] S512 l 0xFF800000#32 reduces_S512x6_S512 (.inl rfl) rfl (ix1 t) : EReal) = sup fun k => (l (ix2 t k) : EReal) := by
    refine (Ideal.multiReduction_maximumf_single l _ reduces_S512x6_S512 _ _ _).trans ?_
    rw [show (FloatOps.ofBits (F := Ideal) .f32 0xFF800000#32 : EReal) = ⊥ from ninf]
    exact congrArg (fun g : Fin 6 → EReal => Finset.univ.fold max ⊥ g) (funext fun k => congrArg l (lift_eq t k))
  have hexp : ∀ k, (e (ix2 t k) : EReal) = Ideal.exp ((l (ix2 t k) : EReal) - sup fun k => (l (ix2 t k) : EReal)) := fun k => by
    rw [he]
    exact congrArg (fun z : EReal => Ideal.exp ((l (ix2 t k) : EReal) - z)) ((spread_apply _ t k).trans hm)
  refine congrArg₂ Ideal.div (hexp k) ((spread_apply _ t k).trans ?_)
  refine (Ideal.multiReduction_add_single e _ reduces_S512x6_S512 _ _ _).trans (Finset.sum_congr rfl fun j _ => ?_)
  exact (congrArg e (lift_eq t j)).trans (hexp j)

theorem pay7_apply (q n : Fin 64) (t : Fin 512) :
    (k0_pay7 (F := Ideal) v0 v33 v44 (ix3 q n t) : EReal)
      = ∑ k : Fin 6, (v44 (ix2 (⟨64 * q.val + n.val, by omega⟩ : Fin 4096) k) : EReal) * soft (fun k => ∑ h : Fin 1024, (v0 (ix2 t h) : EReal) * v33 (ix2 k h)) k := by
  unfold k0_pay7
  refine (shapeCast_apply _ _ _ (ix2 (⟨64 * q.val + n.val, by omega⟩ : Fin 4096) t) (by
    rw [Shape.rowMajor_val_three, Shape.rowMajor_val_two]
    show (64 * q.val + n.val) * 512 + t.val = (q.val * 64 + n.val) * 512 + t.val
    omega)).trans ?_
  refine (Ideal.matmul_transposedRhs_apply none _ _ (constant S4096x512 .f32 0x00000000#32) _ t).trans ?_
  rw [show (constant (F := Ideal) S4096x512 .f32 0x00000000#32 (ix2 (⟨64 * q.val + n.val, by omega⟩ : Fin 4096) t) : EReal) = 0 from Ideal.ofBits_zero_f32]
  refine (zero_add _).trans (Finset.sum_congr rfl fun k _ => ?_)
  refine congrArg₂ (fun y z : EReal => y * z) (shapeCast_apply v44 shapeCasts_S4096x6_S4096x6 _ _ rfl) ((soft_apply _ t k _ rfl).trans ?_)
  refine congrArg (fun g : Fin 6 → EReal => soft g k) (funext fun j => ?_)
  refine (Ideal.matmul_transposedRhs_apply none v0 v33 (constant S512x6 .f32 0x00000000#32) t j).trans ?_
  rw [show (constant (F := Ideal) S512x6 .f32 0x00000000#32 (ix2 t j) : EReal) = 0 from Ideal.ofBits_zero_f32]
  exact zero_add _

end sums

/-! ## Where a block's elements lie -/

/-- Row `s` of chunk `w` in the flat arrays. -/
abbrev row (w : Fin 32) (s : Fin 128) : Fin 4096 := ⟨128 * w.val + s.val, by omega⟩

/-- A row's mixture of the dictionary's matrices. -/
def permAt (x : S4096x1024.Idx → EReal) (d : S6x64x64.Idx → EReal) (g : S6x1024.Idx → EReal) (r : Fin 4096) (n : Fin 64) (q : ℕ) : EReal :=
  ∑ k : Fin 6, d (ix3 k (⟨q % 64, Nat.mod_lt _ (by decide)⟩ : Fin 64) n) * soft (fun k => ∑ h : Fin 1024, x (ix2 r h) * g (ix2 k h)) k

theorem idx_x : ∀ t : Fin grid0.N, win0_0.index t = ![t.val, 0] := by decide +kernel
theorem idx_out : ∀ t : Fin grid0.N, win0_13.index t = ![t.val, 0, 0] := by decide +kernel
theorem idx_whole : ∀ t : Fin grid0.N, win0_7.index t = ![0, 0] ∧ win0_8.index t = ![0, 0] := by decide +kernel

/-- The grid's point of chunk `w`, and the chunk's place in its block. -/
def pt (w : Fin 32) : Fin cfg0.N := ⟨w.val / 4, by rw [show cfg0.N = 8 from N_0]; omega⟩
def pl (w : Fin 32) : Fin 4 := ⟨w.val % 4, by omega⟩

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem blk0 (w : Fin 32) (s : Fin 128) (h : Fin 1024) :
    iblk m c 0 (pt w) (ix2 (⟨128 * (pl w).val + s.val, by omega⟩ : Fin 512) h) = arg m c main_arg0 (ix2 (row w s) h) := by
  refine Eq.trans (congrArg (V m c main_arg0) (funext fun a => Fin.ext ?_)) (congrFun (V_main_arg0 m c) _)
  have e := idx_x (pt w)
  match a with
  | ⟨0, _⟩ => show win0_0.index (pt w) 0 * 512 + 1 * (128 * (w.val % 4) + s.val) = 128 * w.val + s.val; rw [e]; show w.val / 4 * 512 + 1 * (128 * (w.val % 4) + s.val) = 128 * w.val + s.val; omega
  | ⟨1, _⟩ => show win0_0.index (pt w) 1 * 1024 + 1 * h.val = h.val; rw [e]; show 0 * 1024 + 1 * h.val = h.val; omega

theorem blk7 (t : Fin cfg0.N) : iblk m c 7 t = arg m c main_arg4 := by
  refine funext fun y => Eq.trans (congrArg (V m c main_arg4) (funext fun a => Fin.ext ?_)) (congrFun (V_main_arg4 m c) y)
  have e := (idx_whole t).1
  match a with
  | ⟨0, _⟩ => show win0_7.index t 0 * 6 + 1 * (y 0).val = (y 0).val; rw [e]; show 0 * 6 + 1 * (y 0).val = (y 0).val; omega
  | ⟨1, _⟩ => show win0_7.index t 1 * 1024 + 1 * (y 1).val = (y 1).val; rw [e]; show 0 * 1024 + 1 * (y 1).val = (y 1).val; omega

theorem V_dict (q n : Fin 64) (k : Fin 6) : V m c main_v3 (ix2 (⟨64 * q.val + n.val, by omega⟩ : Fin 4096) k) = arg m c main_arg3 (ix3 k q n) := by
  have e : V m c main_v3 = transpose S4096x6 [1, 0] (shapeCast S6x4096 (arg m c main_arg3 : FVec Ideal S6x64x64 .f32) shapeCasts_S6x64x64_S6x4096) transposes_S6x4096_S4096x6_1_0 := rfl
  rw [e]
  exact (ValueIdx.transpose_ix2_apply _ _ _ k).trans (shapeCast_apply _ _ _ (ix3 k q n) (by
    rw [Shape.rowMajor_val_three, Shape.rowMajor_val_two]
    show (k.val * 64 + q.val) * 64 + n.val = k.val * 4096 + (64 * q.val + n.val)
    omega))

theorem blk8 (t : Fin cfg0.N) (q n : Fin 64) (k : Fin 6) :
    iblk m c 8 t (ix2 (⟨64 * q.val + n.val, by omega⟩ : Fin 4096) k) = arg m c main_arg3 (ix3 k q n) := by
  refine Eq.trans (congrArg (V m c main_v3) (funext fun a => Fin.ext ?_)) (V_dict m c q n k)
  have e := (idx_whole t).2
  match a with
  | ⟨0, _⟩ => show win0_8.index t 0 * 4096 + 1 * (64 * q.val + n.val) = 64 * q.val + n.val; rw [e]; show 0 * 4096 + 1 * (64 * q.val + n.val) = 64 * q.val + n.val; omega
  | ⟨1, _⟩ => show win0_8.index t 1 * 6 + 1 * k.val = k.val; rw [e]; show 0 * 6 + 1 * k.val = k.val; omega

theorem emb13 (w : Fin 32) (s : Fin 128) (n : Fin 64) : ((cfg0.win 13).blk (pt w)).view.emb (ix3 (pl w) s n) = ix3 w s n := by
  have e := idx_out (pt w)
  funext a; apply Fin.ext
  match a with
  | ⟨0, _⟩ => show win0_13.index (pt w) 0 * 4 + 1 * (w.val % 4) = w.val; rw [e]; show w.val / 4 * 4 + 1 * (w.val % 4) = w.val; omega
  | ⟨1, _⟩ => show win0_13.index (pt w) 1 * 128 + 1 * s.val = s.val; rw [e]; show 0 * 128 + 1 * s.val = s.val; omega
  | ⟨2, _⟩ => show win0_13.index (pt w) 2 * 64 + 1 * n.val = n.val; rw [e]; show 0 * 64 + 1 * n.val = n.val; omega
theorem disjoint13 : ∀ t t' : Fin cfg0.N, (cfg0.win 13).flush t = true → (cfg0.win 13).flush t' = true → t ≠ t' →
    Disjoint ((cfg0.win 13).blk t).view.set ((cfg0.win 13).blk t').view.set := fun t t' _ _ hne =>
  (cfg0.win 13).disjoint_blk fun h => hne (Fin.ext (congrFun ((idx_out t).symm.trans (h.trans (idx_out t'))) 0))

theorem read13 (w : Fin 32) (s : Fin 128) (n : Fin 64) :
    (dats m 0 c).arrAt 13 cfg0.N (ix3 w s n)
      = BitVec.ofNat 32 (top (col (k0_pay7 (iblk m c 0 (pt w)) (iblk m c 7 (pt w)) (iblk m c 8 (pt w))) n (⟨128 * (pl w).val + s.val, by omega⟩ : Fin 512)) 63) := by
  have b := congrFun ((dats m 0 c).read_blk_arrAt_eq_flushed 13 disjoint13 cfg0.N (pt w) (pt w).isLt (flush0_13 (pt w))) (ix3 (pl w) s n)
  rw [show (dats m 0 c).flushed 13 (pt w) = (cfg0.win 13).cut (grid0.coords (pt w)) ((dats m 0 c).after 13 (pt w)) from rfl, after0_13] at b
  rw [← emb13 w s n]
  exact b.trans (out13_apply _ _ _ _ _ _ _ _ _ (pl w) s n)

theorem index_apply (w : Fin 32) (s : Fin 128) (n : Fin 64) :
    (dats m 0 c).arrAt 13 cfg0.N (ix3 w s n)
      = BitVec.ofNat 32 (top (permAt (arg m c main_arg0) (arg m c main_arg3) (arg m c main_arg4) (row w s) n) 63) := by
  refine (read13 m c w s n).trans (congrArg (fun v => BitVec.ofNat 32 (top v 63)) (funext fun q => ?_))
  refine (pay7_apply _ _ _ _ n _).trans (Finset.sum_congr rfl fun k _ => ?_)
  refine congrArg₂ (fun y z : EReal => y * z) (blk8 m c (pt w) _ n k) (congrArg (fun g : Fin 6 → EReal => soft g k) (funext fun j => Finset.sum_congr rfl fun h _ => ?_))
  exact congrArg₂ (fun y z : EReal => y * z) (blk0 m c w s h) (congrFun (blk7 m c (pt w)) (ix2 j h))

end Cert.Proof.Idx
end
-- ==== Proof.IndexRef.lean ====
/-
  The reference of the first TensorCore call's index words, element by element, in the same words as the call's.
-/
module

public import proofs.«01_k».proof.Proof.Index
public import proofs.«01_k».proof.Proof.Gen.IndexReferenceIdeal.Run
public import Idealize.ShloMosaic.Lib.StackMember
public import Idealize.ShloMosaic.Lib.IdealHost

@[expose] public section

noncomputable section

namespace Cert.Proof.IdxRef

open Cert.IndexReferenceIdeal Cert.IndexReferenceIdeal.Gen
open Idealize.ShloMosaic Idealize.SL.Sem Cert.Proof.Idx Cert.Proof.Places
open Idealize.ShloMosaic.ValueIdx (ix1 ix2 ix3 eq_ix1 eq_ix2 eq_ix3)

/-! ## A softmax over the second axis of a matrix, and of a stack -/

theorem h2 : S4096x6.Reduces [(1 : Fin 2)] S4096 := by decide
theorem h3 : S4096x64x64.Reduces [(1 : Fin 3)] S4096x64 := by decide

theorem lift2 (r : Fin 4096) (k : Fin 6) : h2.lift (ix1 r) k = ix2 r k := by
  funext a; apply Fin.ext
  match a with
  | ⟨0, _⟩ => rfl
  | ⟨1, _⟩ => rfl
theorem lift3 (r : Fin 4096) (n q : Fin 64) : h3.lift (ix2 r n) q = ix3 r q n := by
  funext a; apply Fin.ext
  match a with
  | ⟨0, _⟩ => rfl
  | ⟨1, _⟩ => rfl
  | ⟨2, _⟩ => rfl

def top2 (l : FVec Ideal S4096x6 .f32) : FVec Ideal S4096 .f32 :=
  Host.reduce FloatOps.maximumf l (constant S_ .f32 0xFF800000#32) reducesTo_S4096x6_S4096_d1 h_S_
def exp2 (l : FVec Ideal S4096x6 .f32) : FVec Ideal S4096x6 .f32 :=
  Host.exp (subf l (broadcastInDim S4096x6 ![0, 1] bcast_S4096x1_S4096x6_0_1 (broadcastInDim S4096x1 ![0] bcast_S4096_S4096x1_0 (maximumf (broadcastInDim S4096 ![] bcast_S_S4096 (constant S_ .f32 0xFF800000#32)) (top2 l)))))
def soft2 (l : FVec Ideal S4096x6 .f32) : FVec Ideal S4096x6 .f32 :=
  Host.divf (exp2 l) (broadcastInDim S4096x6 ![0, 1] bcast_S4096x1_S4096x6_0_1 (broadcastInDim S4096x1 ![0] bcast_S4096_S4096x1_0 (Host.reduceAdd (exp2 l) (constant S_ .f32 0x00000000#32) reducesTo_S4096x6_S4096_d1 h_S_)))

def top3 (l : FVec Ideal S4096x64x64 .f32) : FVec Ideal S4096x64 .f32 :=
  Host.reduce FloatOps.maximumf l (constant S_ .f32 0xFF800000#32) reducesTo_S4096x64x64_S4096x64_d1 h_S_
def all3 (v : FVec Ideal S4096x64 .f32) : FVec Ideal S4096x64x64 .f32 :=
  broadcastInDim S4096x64x64 ![0, 1, 2] bcast_S4096x1x64_S4096x64x64_0_1_2 (broadcastInDim S4096x1x64 ![0, 2] bcast_S4096x64_S4096x1x64_0_2 v)
def exp3 (l : FVec Ideal S4096x64x64 .f32) : FVec Ideal S4096x64x64 .f32 :=
  Host.exp (subf l (all3 (maximumf (broadcastInDim S4096x64 ![] bcast_S_S4096x64 (constant S_ .f32 0xFF800000#32)) (top3 l))))
def soft3 (l : FVec Ideal S4096x64x64 .f32) : FVec Ideal S4096x64x64 .f32 :=
  Host.divf (exp3 l) (all3 (Host.reduceAdd (exp3 l) (constant S_ .f32 0x00000000#32) reducesTo_S4096x64x64_S4096x64_d1 h_S_))

theorem max_bot (y : EReal) : max (Ideal.ofBits .f32 0xFF800000#32) y = y := by rw [ninf]; exact max_eq_right bot_le

theorem top2_apply (l : FVec Ideal S4096x6 .f32) (r : Fin 4096) : (top2 l (ix1 r) : EReal) = sup fun k => (l (ix2 r k) : EReal) := by
  refine (Host.reduce_eq_fold_single (max : EReal → EReal → EReal) l (constant (F := Ideal) S_ .f32 0xFF800000#32) reducesTo_S4096x6_S4096_d1 h2 h_S_ (ix1 r)).trans ?_
  rw [show (constant (F := Ideal) S_ .f32 0xFF800000#32 (Shape.Idx.first h_S_) : EReal) = ⊥ from ninf]
  exact congrArg (fun g : Fin 6 → EReal => Finset.univ.fold max ⊥ g) (funext fun k => congrArg l (lift2 r k))

theorem top3_apply (l : FVec Ideal S4096x64x64 .f32) (r : Fin 4096) (n : Fin 64) : (top3 l (ix2 r n) : EReal) = sup fun q => (l (ix3 r q n) : EReal) := by
  refine (Host.reduce_eq_fold_single (max : EReal → EReal → EReal) l (constant (F := Ideal) S_ .f32 0xFF800000#32) reducesTo_S4096x64x64_S4096x64_d1 h3 h_S_ (ix2 r n)).trans ?_
  rw [show (constant (F := Ideal) S_ .f32 0xFF800000#32 (Shape.Idx.first h_S_) : EReal) = ⊥ from ninf]
  exact congrArg (fun g : Fin 64 → EReal => Finset.univ.fold max ⊥ g) (funext fun k => congrArg l (lift3 r n k))

theorem row2 (v : FVec Ideal S4096 .f32) (r : Fin 4096) (k : Fin 6) :
    (broadcastInDim S4096x6 ![0, 1] bcast_S4096x1_S4096x6_0_1 (broadcastInDim S4096x1 ![0] bcast_S4096_S4096x1_0 v) (ix2 r k) : EReal) = v (ix1 r) := by
  refine congrArg v (funext fun i => ?_)
  match i with
  | ⟨0, _⟩ => rfl
theorem all3_apply (v : FVec Ideal S4096x64 .f32) (r : Fin 4096) (q n : Fin 64) : (all3 v (ix3 r q n) : EReal) = v (ix2 r n) := by
  refine congrArg v (funext fun i => ?_)
  match i with
  | ⟨0, _⟩ => rfl
  | ⟨1, _⟩ => rfl

theorem capped2 (v : FVec Ideal S4096 .f32) (i : S4096.Idx) : (maximumf (broadcastInDim S4096 ![] bcast_S_S4096 (constant S_ .f32 0xFF800000#32)) v i : EReal) = v i :=
  max_bot (v i)
theorem capped3 (v : FVec Ideal S4096x64 .f32) (i : S4096x64.Idx) : (maximumf (broadcastInDim S4096x64 ![] bcast_S_S4096x64 (constant S_ .f32 0xFF800000#32)) v i : EReal) = v i :=
  max_bot (v i)
theorem expsub2 (l v : FVec Ideal S4096x6 .f32) (i : S4096x6.Idx) : (Host.exp (subf l v) i : EReal) = Ideal.exp ((l i : EReal) - v i) := rfl
theorem expsub3 (l v : FVec Ideal S4096x64x64 .f32) (i : S4096x64x64.Idx) : (Host.exp (subf l v) i : EReal) = Ideal.exp ((l i : EReal) - v i) := rfl

theorem exp2_apply (l : FVec Ideal S4096x6 .f32) (r : Fin 4096) (k : Fin 6) :
    (exp2 l (ix2 r k) : EReal) = Ideal.exp ((l (ix2 r k) : EReal) - sup fun k => (l (ix2 r k) : EReal)) := by
  unfold exp2
  rw [expsub2, row2, capped2, top2_apply]
theorem exp3_apply (l : FVec Ideal S4096x64x64 .f32) (r : Fin 4096) (q n : Fin 64) :
    (exp3 l (ix3 r q n) : EReal) = Ideal.exp ((l (ix3 r q n) : EReal) - sup fun q => (l (ix3 r q n) : EReal)) := by
  unfold exp3
  rw [expsub3, all3_apply, capped3, top3_apply]

theorem soft2_apply (l : FVec Ideal S4096x6 .f32) (r : Fin 4096) (k : Fin 6) : (soft2 l (ix2 r k) : EReal) = soft (fun k => (l (ix2 r k) : EReal)) k := by
  refine congrArg₂ Ideal.div (exp2_apply l r k) ((row2 _ r k).trans ((Ideal.hostReduceAdd_single reducesTo_S4096x6_S4096_d1 h2 (exp2 l) _ (ix1 r)).trans ?_))
  rw [show (constant (F := Ideal) S_ .f32 0x00000000#32 (Shape.Idx.first h_S_) : EReal) = 0 from Ideal.ofBits_zero_f32]
  exact (zero_add _).trans (Finset.sum_congr rfl fun j _ => (congrArg (exp2 l) (lift2 r j)).trans (exp2_apply l r j))
theorem soft3_apply (l : FVec Ideal S4096x64x64 .f32) (r : Fin 4096) (q n : Fin 64) :
    (soft3 l (ix3 r q n) : EReal) = soft (fun q => (l (ix3 r q n) : EReal)) q := by
  refine congrArg₂ Ideal.div (exp3_apply l r q n) ((all3_apply _ r q n).trans ((Ideal.hostReduceAdd_single reducesTo_S4096x64x64_S4096x64_d1 h3 (exp3 l) _ (ix2 r n)).trans ?_))
  rw [show (constant (F := Ideal) S_ .f32 0x00000000#32 (Shape.Idx.first h_S_) : EReal) = 0 from Ideal.ofBits_zero_f32]
  exact (zero_add _).trans (Finset.sum_congr rfl fun j _ => (congrArg (exp3 l) (lift3 r n j)).trans (exp3_apply l r j n))

/-! ## The least place of the greatest entry -/

def words (p : FVec Ideal S4096x64x64 .f32) : IVec S4096x64x64 32 :=
  select (cmpf .oeq p (all3 (top3 p))) (iotaInDim S4096x64x64 32 1) (broadcastInDim S4096x64x64 ![] bcast_S_S4096x64x64 (constantI S_ 32 64#32))
def leasts (p : FVec Ideal S4096x64x64 .f32) : IVec S4096x64 32 :=
  Host.reduce IntOp.minsi (words p) (constantI S_ 32 2147483647#32) reducesTo_S4096x64x64_S4096x64_d1 h_S_

theorem words_apply (p : FVec Ideal S4096x64x64 .f32) (r : Fin 4096) (q n : Fin 64) :
    words p (ix3 r q n) = if (p (ix3 r q n) : EReal) = sup (fun q => (p (ix3 r q n) : EReal)) then BitVec.ofNat 32 q.val else 64#32 := by
  have e : (all3 (top3 p) (ix3 r q n) : EReal) = sup (fun q => (p (ix3 r q n) : EReal)) := (all3_apply _ r q n).trans (top3_apply p r n)
  rw [← e]
  show (if BitVec.ofBool (decide ((p (ix3 r q n) : EReal) = all3 (top3 p) (ix3 r q n))) = 1 then BitVec.ofNat 32 q.val else 64#32) = _
  by_cases h : (p (ix3 r q n) : EReal) = all3 (top3 p) (ix3 r q n)
  · rw [if_pos h, decide_eq_true h]; exact if_pos (by decide)
  · rw [if_neg h, decide_eq_false h]; exact if_neg (by decide)

theorem leasts_apply (p : FVec Ideal S4096x64x64 .f32) (r : Fin 4096) (n : Fin 64) : leasts p (ix2 r n) = least fun q => (p (ix3 r q n) : EReal) :=
  (Host.reduce_eq_fold_single IntOp.minsi (words p) (constantI S_ 32 2147483647#32) reducesTo_S4096x64x64_S4096x64_d1 h3 h_S_ (ix2 r n)).trans
    (congrArg (fun g : Fin 64 → BitVec 32 => Finset.univ.fold IntOp.minsi 2147483647#32 g) (funext fun q => (congrArg (words p) (lift3 r n q)).trans (words_apply p r q n)))

/-! ## The whole -/

variable (x : FVec Ideal S4096x1024 .f32) (d : FVec Ideal S6x64x64 .f32) (g : FVec Ideal S6x1024 .f32)

def logits : FVec Ideal S4096x6 .f32 :=
  Host.dotGeneral dot_S4096x1024_S1024x6_S4096x6_1_0_0_1_n_n none x (transpose S1024x6 [1, 0] g transposes_S6x1024_S1024x6_1_0)
def perms : FVec Ideal S4096x64x64 .f32 :=
  Host.dotGeneral dot_S4096x6_S6x64x64_S4096x64x64_1_0_0_12_n_n none (soft2 (logits x g)) d
def indices : IVec S32x128x64 32 := shapeCast S32x128x64 (leasts (soft3 (perms x d g))) shapeCasts_S4096x64_S32x128x64

theorem logits_apply (r : Fin 4096) (k : Fin 6) : (logits x g (ix2 r k) : EReal) = ∑ h : Fin 1024, (x (ix2 r h) : EReal) * g (ix2 k h) :=
  (StackMember.dotGeneral_plain_apply none x (transpose S1024x6 [1, 0] g transposes_S6x1024_S1024x6_1_0) r k).trans
    (Finset.sum_congr rfl fun h _ => congrArg (fun z : EReal => (x (ix2 r h) : EReal) * z) (ValueIdx.transpose_ix2_apply g _ h k))

theorem mix_apply (u : FVec Ideal S4096x6 .f32) (r : Fin 4096) (q n : Fin 64) :
    (Host.dotGeneral dot_S4096x6_S6x64x64_S4096x64x64_1_0_0_12_n_n none u d (ix3 r q n) : EReal) = ∑ k : Fin 6, (u (ix2 r k) : EReal) * d (ix3 k q n) := by
  show FloatOps.dotGeneral _ none _ u d (ix3 r q n) = _
  rw [Ideal.dotGeneral_apply, ← Equiv.sum_comp (ValueIdx.contrEquiv1 dot_S4096x6_S6x64x64_S4096x64x64_1_0_0_12_n_n 6 rfl rfl).symm]
  refine Finset.sum_congr rfl fun k _ => ?_
  have hk := ValueIdx.contrEquiv1_symm_val dot_S4096x6_S6x64x64_S4096x64x64_1_0_0_12_n_n 6 rfl rfl k
  have e1 : dot_S4096x6_S6x64x64_S4096x64x64_1_0_0_12_n_n.lhsIdx (ix3 r q n) ((ValueIdx.contrEquiv1 _ 6 rfl rfl).symm k) = ix2 r k := by
    funext a; apply Fin.ext
    match a with
    | ⟨0, _⟩ => rfl
    | ⟨1, _⟩ => exact hk
  have e2 : dot_S4096x6_S6x64x64_S4096x64x64_1_0_0_12_n_n.rhsIdx (ix3 r q n) ((ValueIdx.contrEquiv1 _ 6 rfl rfl).symm k) = ix3 k q n := by
    funext a; apply Fin.ext
    match a with
    | ⟨0, _⟩ => exact hk
    | ⟨1, _⟩ => rfl
    | ⟨2, _⟩ => rfl
  rw [e1, e2]

theorem perms_apply (r : Fin 4096) (q n : Fin 64) : (perms x d g (ix3 r q n) : EReal) = permAt x d g r n q.val := by
  refine (mix_apply d _ r q n).trans (Finset.sum_congr rfl fun k _ => (mul_comm _ _).trans ?_)
  refine congrArg₂ (fun y z : EReal => y * z) (congrArg (fun i : Fin 64 => d (ix3 k i n)) (Fin.ext (Nat.mod_eq_of_lt q.isLt).symm)) ((soft2_apply _ r k).trans ?_)
  exact congrArg (fun f : Fin 6 → EReal => soft f k) (funext fun j => logits_apply x g r j)

/-- With real entries the mixture is real. -/
theorem permAt_real (hx : ∀ i, ∃ y : ℝ, (x i : EReal) = y) (hd : ∀ i, ∃ y : ℝ, (d i : EReal) = y) (hg : ∀ i, ∃ y : ℝ, (g i : EReal) = y)
    (r : Fin 4096) (n : Fin 64) (q : ℕ) : ∃ y : ℝ, permAt x d g r n q = y := by
  choose x' ex using hx
  choose d' ed using hd
  choose g' eg using hg
  have e : (fun k : Fin 6 => ∑ h : Fin 1024, (x (ix2 r h) : EReal) * g (ix2 k h)) = fun k => ((∑ h : Fin 1024, x' (ix2 r h) * g' (ix2 k h) : ℝ) : EReal) :=
    funext fun k => (Finset.sum_congr rfl fun h _ => by rw [ex, eg, EReal.coe_mul]).trans (coe_sum _ _).symm
  obtain ⟨p, hp, -⟩ := soft_real fun k : Fin 6 => ∑ h : Fin 1024, x' (ix2 r h) * g' (ix2 k h)
  refine ⟨∑ k : Fin 6, d' (ix3 k (⟨q % 64, Nat.mod_lt _ (by decide)⟩ : Fin 64) n) * p k, ?_⟩
  refine Eq.trans (Finset.sum_congr rfl fun k _ => ?_) (coe_sum _ _).symm
  rw [e, hp, ed, EReal.coe_mul]

theorem indices_apply (hx : ∀ i, ∃ y : ℝ, (x i : EReal) = y) (hd : ∀ i, ∃ y : ℝ, (d i : EReal) = y) (hg : ∀ i, ∃ y : ℝ, (g i : EReal) = y)
    (w : Fin 32) (s : Fin 128) (n : Fin 64) : indices x d g (ix3 w s n) = BitVec.ofNat 32 (top (permAt x d g (row w s) n) 63) := by
  have h := permAt_real x d g hx hd hg (row w s) n
  choose v hv using h
  refine (shapeCast_apply _ _ _ (ix2 (row w s) n) (by
    rw [Shape.rowMajor_val_three, Shape.rowMajor_val_two]
    show (128 * w.val + s.val) * 64 + n.val = (w.val * 128 + s.val) * 64 + n.val
    omega)).trans ((leasts_apply _ _ n).trans ?_)
  refine Eq.trans (congrArg least (funext fun q => (soft3_apply _ _ q n).trans ?_)) (least_soft (permAt x d g (row w s) n) (fun q => v q.val) fun q => hv q.val)
  exact congrArg (fun f : Fin 64 → EReal => soft f q) (funext fun j => perms_apply x d g _ j n)

/-- The reference's result as launched. -/
theorem res_eq (m : (ℓ : Loc nD τ sig) → Buf (Elt Ideal) ℓ) (c : Dev nD) :
    Value.res_out0 m c = indices (m ((c.tc : Thread nD τ).loc main_arg0)) (m ((c.tc : Thread nD τ).loc main_arg3)) (m ((c.tc : Thread nD τ).loc main_arg4)) := by
  unfold Value.res_out0 Value.res_main_v32
  rfl

end Cert.Proof.IdxRef
end
-- ==== Proof.IndexPre.lean ====
/-
  The precondition of the index words, decoded: `x`, the dictionary and the selector hold real numbers.
-/
module

public import proofs.«01_k».proof.Proof.Named
public import proofs.«01_k».proof.Proof.Gen.Pre_finite_inputs

@[expose] public section

noncomputable section

namespace Cert.Proof.Rows

open Idealize.ShloMosaic

/-- If the conjunction over a whole array holds, it holds at every place. -/
theorem all_of_reduce {s u : Shape} {axes : List (Fin s.rank)} (x : s.Idx → BitVec 1) (init : u.Idx → BitVec 1) (h : s.ReducesTo axes Cert.Pre_finite_inputs.S_)
    (hu : 0 < u.numel) (j : Cert.Pre_finite_inputs.S_.Idx) (e : Host.reduce IntOp.andi x init h hu j = 1#1) (i : s.Idx) : x i = 1#1 := by
  rw [Host.reduce_eq_fold] at e
  have hf := (Finset.fold_op_rel_iff_and (op := IntOp.andi (w := 1)) (r := fun _ y : BitVec 1 => y = 1#1)
    (fun {_ y z} => ⟨andi_eq_one, fun p => by rw [p.1, p.2]; rfl⟩) (c := 1#1)).mp e
  exact hf.2 i (Finset.mem_filter.mpr ⟨Finset.mem_univ i, funext fun a => absurd a.isLt (Nat.not_lt_zero _)⟩)

theorem real_of_finite {v : EReal} (h : v ≠ ⊤ ∧ v ≠ ⊥) : ∃ y : ℝ, v = y := ⟨v.toReal, (EReal.coe_toReal h.1 h.2).symm⟩

theorem finite_inputs {x : Cert.Pre_finite_inputs.S4096x1024.Idx → Ideal .f32} {b1 b2 w1 w2 : Cert.Pre_finite_inputs.S64x1024.Idx → Ideal .f32}
    {d : Cert.Pre_finite_inputs.S6x64x64.Idx → Ideal .f32} {g : Cert.Pre_finite_inputs.S6x1024.Idx → Ideal .f32} {c1 c2 : Cert.Pre_finite_inputs.S64.Idx → Ideal .f32}
    (h : Cert.Pre_finite_inputs.fn (F := Ideal) x b1 b2 d g w1 c1 w2 c2 = fun _ => 1#1) :
    (∀ i, ∃ y : ℝ, (x i : EReal) = y) ∧ (∀ i, ∃ y : ℝ, (d i : EReal) = y) ∧ (∀ i, ∃ y : ℝ, (g i : EReal) = y) := by
  obtain ⟨e, eg⟩ := andi_eq_one (congrFun h (fun a => absurd a.isLt (Nat.not_lt_zero _)))
  obtain ⟨ex, ed⟩ := andi_eq_one e
  exact ⟨fun i => real_of_finite (finite_of_lt (all_of_reduce _ _ _ _ _ ex i)), fun i => real_of_finite (finite_of_lt (all_of_reduce _ _ _ _ _ ed i)),
    fun i => real_of_finite (finite_of_lt (all_of_reduce _ _ _ _ _ eg i))⟩

end Cert.Proof.Rows
end
-- ==== Proof.lean ====
/-
  The proof of `Cert.Claim`: the frames of the kernel, of the idealized kernel and of the reference, and the equation
  between the idealized kernel and the reference. It must end in `theorem Cert.Proof.claim : Cert.Claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Launch
public import proofs.«01_k».proof.Proof.Gen.KernelIdeal.Points
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_named_states
public import proofs.«01_k».proof.Proof.Gen.Pre_named_states_finite
public import proofs.«01_k».proof.Proof.Gen.Inputs.Frame
public import proofs.«01_k».proof.Proof.Gen.InputsIdeal.Frame
public import proofs.«01_k».proof.Proof.Gen.InputsReferenceIdeal.Run
public import proofs.«01_k».proof.Proof.Gen.Pre_finite_inputs
public import proofs.«01_k».proof.Proof.Gen.Index.Frame
public import proofs.«01_k».proof.Proof.Gen.IndexIdeal.Frame
public import proofs.«01_k».proof.Proof.Gen.IndexReferenceIdeal.Run
public import proofs.«01_k».proof.Proof.Launch
public import proofs.«01_k».proof.Proof.IdealValue
public import proofs.«01_k».proof.Proof.Ref
public import proofs.«01_k».proof.Proof.Named
public import proofs.«01_k».proof.Proof.InputsRef
public import proofs.«01_k».proof.Proof.IndexRef
public import proofs.«01_k».proof.Proof.IndexPre
public import Idealize.ShloMosaic.Adequacy
public import Idealize.ShloMosaic.Init

@[expose] public section

noncomputable section

namespace Cert.Proof

open Idealize.ShloMosaic Idealize.SL.Sem Cert.Proof.Rows
open Idealize.ShloMosaic.ValueIdx (ix1 ix2 ix3 eq_ix1 eq_ix2 eq_ix3)

instance {φ : FTy} : Nonempty (Bits φ) := ⟨(0 : BitVec _)⟩

/-- Every run of the kernel ends with the arguments unchanged and every semaphore at zero. -/
theorem frame_p : Cert.quiescent_Kernel := fun m g hpre =>
  (θ_run Cert.Kernel.defs _ _).mono (fun _ h => ⟨fun c => K.fin_args (h.1 c), h.2⟩)
    (K.run_main (F := Bits) m g fun d w r k => named (hpre d) (ix3 w r k))

theorem frame_pi : Cert.quiescent_KernelIdeal := fun m g hpre =>
  (θ_run Cert.KernelIdeal.defs _ _).mono (fun _ h => ⟨fun c => KI.fin_args (h.1 c), h.2⟩)
    (KI.run_main (F := Ideal) m g fun d w r k => named (hpre d) (ix3 w r k))

/-- The same at exact values, the index words named and the floats finite. -/
theorem frame_pi_finite : Cert.quiescent_KernelIdeal_pre_named_states_finite := fun m g hpre =>
  (θ_run Cert.KernelIdeal.defs _ _).mono (fun _ h => ⟨fun c => KI.fin_args (h.1 c), h.2⟩)
    (KI.run_main (F := Ideal) m g fun d w r k => (named_finite (hpre d) (ix3 w r k)).1)

/-- Every run of the reference ends with the arguments unchanged; it declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_r_finite : Cert.quiescent_ReferenceIdeal_pre_named_states_finite := fun m g _ => frame_r m g trivial

/-- At exact values, arguments whose index words name states and whose diagonals and inputs are finite give the reference's result. -/
theorem algebraic : Cert.algebraic_KernelIdeal_ReferenceIdeal_pre_named_states_finite := by
  intro m g m' g' hpre hargs
  refine ⟨fun c => KI.resO m c, ?_, ?_⟩
  · exact (θ_run Cert.KernelIdeal.defs _ _).mono (fun _ h c => ⟨(h.1 c).2, KI.fin_args (h.1 c)⟩)
      (KI.run_main (F := Ideal) m g fun d w r k => (named_finite (hpre d) (ix3 w r k)).1)
  · refine (θ_run Cert.ReferenceIdeal.defs _ _).mono (fun _ h c => ?_) (Cert.ReferenceIdeal.Value.run (F := Ideal) m' g')
    obtain ⟨q, d, u, hA⟩ := exists_args (fun x => (named_finite (hpre c) x).1) (fun x => (named_finite (hpre c) x).2)
    have hk : ∀ w s k, IsC (KI.resR m c (ix3 w s k)) (KI.resI m c (ix3 w s k)) (run q d u (fun _ => 0) (128 * w.val + s.val + 1) k) := KI.hid_isC hA
    obtain ⟨e0, e1, e2, e3, e4, e5, e6, e7, e8⟩ := hargs c
    rw [← e0, ← e1, ← e2, ← e3, ← e4] at hA
    have hr := Ref.result_apply m' c hA _ _ hk
    rw [e5, e6, e7, e8] at hr
    refine ⟨(h c).1.trans (funext fun x => ?_), (h c).2⟩
    obtain ⟨w, s, hh, rfl⟩ : ∃ w s hh, x = ix2 (KI.flat w s) hh := by
      have b : (x 0).val < 4096 := (x 0).isLt
      refine ⟨⟨(x 0).val / 128, by omega⟩, ⟨(x 0).val % 128, by omega⟩, x 1, (eq_ix2 x).trans (congrArg (fun r : Fin 4096 => ix2 r (x 1)) (Fin.ext ?_))⟩
      show (x 0).val = 128 * ((x 0).val / 128) + (x 0).val % 128
      omega
    exact (hr w s hh).trans (KI.resO_apply c m w s hh).symm

/-- The call that makes the diagonal and Bu: every run ends with the arguments unchanged and every semaphore at zero. -/
theorem frame_p1 : Cert.quiescent_Inputs := fun m g _ => Cert.Inputs.Gen.frame m g

theorem frame_pi1 : Cert.quiescent_InputsIdeal := fun m g _ => Cert.InputsIdeal.Gen.frame m g

theorem frame_r1 : Cert.quiescent_InputsReferenceIdeal := fun m g _ =>
  (θ_run Cert.InputsReferenceIdeal.defs _ _).mono (fun r h => ⟨fun c => (h c).2.2.2.2, sem_eq_zero_of_no_sems (by decide) r.2⟩)
    (Cert.InputsReferenceIdeal.Value.run (F := Ideal) m g)

/-- At exact values its four float results are the reference's. -/
theorem algebraic1 : Cert.algebraic_InputsIdeal_InputsReferenceIdeal := by
  intro m g m' g' _ hargs
  refine ⟨fun c => (Cert.InputsIdeal.Gen.dats m 0 c).arrAt 9 Cert.InputsIdeal.cfg0.N, fun c => (Cert.InputsIdeal.Gen.dats m 0 c).arrAt 10 Cert.InputsIdeal.cfg0.N,
    fun c => (Cert.InputsIdeal.Gen.dats m 0 c).arrAt 11 Cert.InputsIdeal.cfg0.N, fun c => (Cert.InputsIdeal.Gen.dats m 0 c).arrAt 12 Cert.InputsIdeal.cfg0.N, ?_, ?_⟩
  · exact (θ_run Cert.InputsIdeal.defs _ _).mono (fun _ h c => ⟨(h.1 c).1 9, (h.1 c).1 10, (h.1 c).1 11, (h.1 c).1 12, h.2 c⟩)
      (θ_run_and (Cert.InputsIdeal.Gen.run_main (F := Ideal) m g) (Cert.InputsIdeal.Gen.unchanged (F := Ideal) m g))
  · refine (θ_run Cert.InputsReferenceIdeal.defs _ _).mono (fun _ h c => ?_) (Cert.InputsReferenceIdeal.Value.run (F := Ideal) m' g')
    obtain ⟨e0, e1, e2, e3, e4, e5, e6, e7, e8⟩ := hargs c
    obtain ⟨h0, h1, h2, h3, h4⟩ := h c
    rw [e0, e5, e6, e7, e8] at h0 h1
    rw [e0, e1] at h2
    rw [e0, e2] at h3
    refine ⟨h0.trans (funext fun x => ?_), h1.trans (funext fun x => ?_), h2.trans (funext fun x => ?_), h3.trans (funext fun x => ?_), h4⟩
    · rw [eq_ix3 x]; exact (InpRef.re_apply _ _ _ _ _ (x 0) (x 1) (x 2)).trans (Inp.re_apply m c (x 0) (x 1) (x 2)).symm
    · rw [eq_ix3 x]; exact (InpRef.im_apply _ _ _ _ _ (x 0) (x 1) (x 2)).trans (Inp.im_apply m c (x 0) (x 1) (x 2)).symm
    · rw [eq_ix3 x]; exact (InpRef.u_apply _ _ (x 0) (x 1) (x 2)).trans (Inp.ure_apply m c (x 0) (x 1) (x 2)).symm
    · rw [eq_ix3 x]; exact (InpRef.u_apply _ _ (x 0) (x 1) (x 2)).trans (Inp.uim_apply m c (x 0) (x 1) (x 2)).symm

/-- The same call, returning its index words: every run ends with the arguments unchanged and every semaphore at zero. -/
theorem frame_p2 : Cert.quiescent_Index := fun m g _ => Cert.Index.Gen.frame m g

theorem frame_pi2 : Cert.quiescent_IndexIdeal := fun m g _ => Cert.IndexIdeal.Gen.frame m g

theorem frame_pi2_finite : Cert.quiescent_IndexIdeal_pre_finite_inputs := fun m g _ => Cert.IndexIdeal.Gen.frame m g

theorem frame_r2 : Cert.quiescent_IndexReferenceIdeal := fun m g _ =>
  (θ_run Cert.IndexReferenceIdeal.defs _ _).mono (fun r h => ⟨fun c => (h c).2, sem_eq_zero_of_no_sems (by decide) r.2⟩)
    (Cert.IndexReferenceIdeal.Value.run (F := Ideal) m g)

theorem frame_r2_finite : Cert.quiescent_IndexReferenceIdeal_pre_finite_inputs := fun m g _ => frame_r2 m g trivial

/-- At exact values, with finite `x`, dictionary and selector, the index words are the reference's. -/
theorem algebraic2 : Cert.algebraic_IndexIdeal_IndexReferenceIdeal_pre_finite_inputs := by
  intro m g m' g' hpre hargs
  refine ⟨fun c => (Cert.IndexIdeal.Gen.dats m 0 c).arrAt 13 Cert.IndexIdeal.cfg0.N, ?_, ?_⟩
  · exact (θ_run Cert.IndexIdeal.defs _ _).mono (fun _ h c => ⟨(h.1 c).1 13, h.2 c⟩)
      (θ_run_and (Cert.IndexIdeal.Gen.run_main (F := Ideal) m g) (Cert.IndexIdeal.Gen.unchanged (F := Ideal) m g))
  · refine (θ_run Cert.IndexReferenceIdeal.defs _ _).mono (fun _ h c => ?_) (Cert.IndexReferenceIdeal.Value.run (F := Ideal) m' g')
    obtain ⟨e0, e1, e2, e3, e4, e5, e6, e7, e8⟩ := hargs c
    obtain ⟨fx, fd, fg⟩ := finite_inputs (hpre c)
    have h0 := (h c).1.trans (IdxRef.res_eq m' c)
    rw [e0, e3, e4] at h0
    refine ⟨h0.trans (funext fun x => ?_), (h c).2⟩
    rw [eq_ix3 x]
    exact (IdxRef.indices_apply _ _ _ fx fd fg (x 0) (x 1) (x 2)).trans (Idx.index_apply m c (x 0) (x 1) (x 2)).symm

theorem claim : Cert.Claim := ⟨Cert.Kernel.Gen.facts, Cert.KernelIdeal.Gen.facts, Cert.ReferenceIdeal.Gen.facts,
  Cert.Inputs.Gen.facts, Cert.InputsIdeal.Gen.facts, Cert.InputsReferenceIdeal.Gen.facts,
  Cert.Index.Gen.facts, Cert.IndexIdeal.Gen.facts, Cert.IndexReferenceIdeal.Gen.facts, Cert.Pre_named_states.Gen.facts, Cert.Pre_named_states_finite.Gen.facts, Cert.Pre_finite_inputs.Gen.facts,
  frame_p, frame_pi, frame_pi_finite, frame_r, frame_r_finite, frame_p1, frame_pi1, frame_r1,
  frame_p2, frame_pi2, frame_pi2_finite, frame_r2, frame_r2_finite, trivial, algebraic, trivial, algebraic1, trivial, algebraic2⟩

end Cert.Proof

end
